-- ==== Defs.lean ====
def Pre_AttnC (m : (ℓ : Loc Cert.AttnC.nD Cert.AttnC.τ Cert.AttnC.sig) → Buf (Elt Bits) ℓ) : Prop :=
  True

def Pre_AttnCIdeal (m : (ℓ : Loc Cert.AttnCIdeal.nD Cert.AttnCIdeal.τ Cert.AttnCIdeal.sig) → Buf (Elt Ideal) ℓ) : Prop :=
  True

def Pre_AttnCIdeal_finite_scores [hPre_finite_scores : Cert.Pre_finite_scores.Facts] (m : (ℓ : Loc Cert.AttnCIdeal.nD Cert.AttnCIdeal.τ Cert.AttnCIdeal.sig) → Buf (Elt Ideal) ℓ) : Prop :=
  ∀ c : Dev Cert.AttnCIdeal.nD,
    (Cert.Pre_finite_scores.fn (F := Ideal) (m ((c.tc : Thread Cert.AttnCIdeal.nD Cert.AttnCIdeal.τ).loc Cert.AttnCIdeal.main_arg0)) (m ((c.tc : Thread Cert.AttnCIdeal.nD Cert.AttnCIdeal.τ).loc Cert.AttnCIdeal.main_arg1))).1 = (fun _ => 1#1)
    ∧ (Cert.Pre_finite_scores.fn (F := Ideal) (m ((c.tc : Thread Cert.AttnCIdeal.nD Cert.AttnCIdeal.τ).loc Cert.AttnCIdeal.main_arg0)) (m ((c.tc : Thread Cert.AttnCIdeal.nD Cert.AttnCIdeal.τ).loc Cert.AttnCIdeal.main_arg1))).2 = (fun _ => 1#1)

def Pre_AttnCRefIdeal (m : (ℓ : Loc Cert.AttnCRefIdeal.nD Cert.AttnCRefIdeal.τ Cert.AttnCRefIdeal.sig) → Buf (Elt Ideal) ℓ) : Prop :=
  True

def Pre_AttnCRefIdeal_finite_scores [hPre_finite_scores : Cert.Pre_finite_scores.Facts] (m : (ℓ : Loc Cert.AttnCRefIdeal.nD Cert.AttnCRefIdeal.τ Cert.AttnCRefIdeal.sig) → Buf (Elt Ideal) ℓ) : Prop :=
  ∀ c : Dev Cert.AttnCRefIdeal.nD,
    (Cert.Pre_finite_scores.fn (F := Ideal) (m ((c.tc : Thread Cert.AttnCRefIdeal.nD Cert.AttnCRefIdeal.τ).loc Cert.AttnCRefIdeal.main_arg0)) (m ((c.tc : Thread Cert.AttnCRefIdeal.nD Cert.AttnCRefIdeal.τ).loc Cert.AttnCRefIdeal.main_arg1))).1 = (fun _ => 1#1)
    ∧ (Cert.Pre_finite_scores.fn (F := Ideal) (m ((c.tc : Thread Cert.AttnCRefIdeal.nD Cert.AttnCRefIdeal.τ).loc Cert.AttnCRefIdeal.main_arg0)) (m ((c.tc : Thread Cert.AttnCRefIdeal.nD Cert.AttnCRefIdeal.τ).loc Cert.AttnCRefIdeal.main_arg1))).2 = (fun _ => 1#1)

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite_scores_sink [hPre_finite_scores_sink : Cert.Pre_finite_scores_sink.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite_scores_sink.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).1 = (fun _ => 1#1)
    ∧ (Cert.Pre_finite_scores_sink.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).2.1 = (fun _ => 1#1)
    ∧ (Cert.Pre_finite_scores_sink.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).2.2.1 = (fun _ => 1#1)
    ∧ (Cert.Pre_finite_scores_sink.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).2.2.2 = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite_scores_sink [hPre_finite_scores_sink : Cert.Pre_finite_scores_sink.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite_scores_sink.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).1 = (fun _ => 1#1)
    ∧ (Cert.Pre_finite_scores_sink.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).2.1 = (fun _ => 1#1)
    ∧ (Cert.Pre_finite_scores_sink.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).2.2.1 = (fun _ => 1#1)
    ∧ (Cert.Pre_finite_scores_sink.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_PostMid (m : (ℓ : Loc Cert.PostMid.nD Cert.PostMid.τ Cert.PostMid.sig) → Buf (Elt Bits) ℓ) : Prop :=
  True

def Pre_PostMidIdeal (m : (ℓ : Loc Cert.PostMidIdeal.nD Cert.PostMidIdeal.τ Cert.PostMidIdeal.sig) → Buf (Elt Ideal) ℓ) : Prop :=
  True

def Pre_PostMidRefIdeal (m : (ℓ : Loc Cert.PostMidRefIdeal.nD Cert.PostMidRefIdeal.τ Cert.PostMidRefIdeal.sig) → Buf (Elt Ideal) ℓ) : Prop :=
  True

def Pre_PostLast (m : (ℓ : Loc Cert.PostLast.nD Cert.PostLast.τ Cert.PostLast.sig) → Buf (Elt Bits) ℓ) : Prop :=
  True

def Pre_PostLastIdeal (m : (ℓ : Loc Cert.PostLastIdeal.nD Cert.PostLastIdeal.τ Cert.PostLastIdeal.sig) → Buf (Elt Ideal) ℓ) : Prop :=
  True

def Pre_PostLastRefIdeal (m : (ℓ : Loc Cert.PostLastRefIdeal.nD Cert.PostLastRefIdeal.τ Cert.PostLastRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_SampleC (m : (ℓ : Loc Cert.SampleC.nD Cert.SampleC.τ Cert.SampleC.sig) → Buf (Elt Bits) ℓ) : Prop :=
  True

def Pre_SampleCIdeal (m : (ℓ : Loc Cert.SampleCIdeal.nD Cert.SampleCIdeal.τ Cert.SampleCIdeal.sig) → Buf (Elt Ideal) ℓ) : Prop :=
  True

def Pre_SampleCIdeal_finite_sample_c [hPre_finite_sample_c : Cert.Pre_finite_sample_c.Facts] (m : (ℓ : Loc Cert.SampleCIdeal.nD Cert.SampleCIdeal.τ Cert.SampleCIdeal.sig) → Buf (Elt Ideal) ℓ) : Prop :=
  ∀ c : Dev Cert.SampleCIdeal.nD,
    (Cert.Pre_finite_sample_c.fn (F := Ideal) (m ((c.tc : Thread Cert.SampleCIdeal.nD Cert.SampleCIdeal.τ).loc Cert.SampleCIdeal.main_arg0)) (m ((c.tc : Thread Cert.SampleCIdeal.nD Cert.SampleCIdeal.τ).loc Cert.SampleCIdeal.main_arg1)) (m ((c.tc : Thread Cert.SampleCIdeal.nD Cert.SampleCIdeal.τ).loc Cert.SampleCIdeal.main_arg2)) (m ((c.tc : Thread Cert.SampleCIdeal.nD Cert.SampleCIdeal.τ).loc Cert.SampleCIdeal.main_arg3))).1 = (fun _ => 1#1)
    ∧ (Cert.Pre_finite_sample_c.fn (F := Ideal) (m ((c.tc : Thread Cert.SampleCIdeal.nD Cert.SampleCIdeal.τ).loc Cert.SampleCIdeal.main_arg0)) (m ((c.tc : Thread Cert.SampleCIdeal.nD Cert.SampleCIdeal.τ).loc Cert.SampleCIdeal.main_arg1)) (m ((c.tc : Thread Cert.SampleCIdeal.nD Cert.SampleCIdeal.τ).loc Cert.SampleCIdeal.main_arg2)) (m ((c.tc : Thread Cert.SampleCIdeal.nD Cert.SampleCIdeal.τ).loc Cert.SampleCIdeal.main_arg3))).2.1 = (fun _ => 1#1)
    ∧ (Cert.Pre_finite_sample_c.fn (F := Ideal) (m ((c.tc : Thread Cert.SampleCIdeal.nD Cert.SampleCIdeal.τ).loc Cert.SampleCIdeal.main_arg0)) (m ((c.tc : Thread Cert.SampleCIdeal.nD Cert.SampleCIdeal.τ).loc Cert.SampleCIdeal.main_arg1)) (m ((c.tc : Thread Cert.SampleCIdeal.nD Cert.SampleCIdeal.τ).loc Cert.SampleCIdeal.main_arg2)) (m ((c.tc : Thread Cert.SampleCIdeal.nD Cert.SampleCIdeal.τ).loc Cert.SampleCIdeal.main_arg3))).2.2 = (fun _ => 1#1)

def Pre_SampleCRefIdeal (m : (ℓ : Loc Cert.SampleCRefIdeal.nD Cert.SampleCRefIdeal.τ Cert.SampleCRefIdeal.sig) → Buf (Elt Ideal) ℓ) : Prop :=
  True

def Pre_SampleCRefIdeal_finite_sample_c [hPre_finite_sample_c : Cert.Pre_finite_sample_c.Facts] (m : (ℓ : Loc Cert.SampleCRefIdeal.nD Cert.SampleCRefIdeal.τ Cert.SampleCRefIdeal.sig) → Buf (Elt Ideal) ℓ) : Prop :=
  ∀ c : Dev Cert.SampleCRefIdeal.nD,
    (Cert.Pre_finite_sample_c.fn (F := Ideal) (m ((c.tc : Thread Cert.SampleCRefIdeal.nD Cert.SampleCRefIdeal.τ).loc Cert.SampleCRefIdeal.main_arg0)) (m ((c.tc : Thread Cert.SampleCRefIdeal.nD Cert.SampleCRefIdeal.τ).loc Cert.SampleCRefIdeal.main_arg1)) (m ((c.tc : Thread Cert.SampleCRefIdeal.nD Cert.SampleCRefIdeal.τ).loc Cert.SampleCRefIdeal.main_arg2)) (m ((c.tc : Thread Cert.SampleCRefIdeal.nD Cert.SampleCRefIdeal.τ).loc Cert.SampleCRefIdeal.main_arg3))).1 = (fun _ => 1#1)
    ∧ (Cert.Pre_finite_sample_c.fn (F := Ideal) (m ((c.tc : Thread Cert.SampleCRefIdeal.nD Cert.SampleCRefIdeal.τ).loc Cert.SampleCRefIdeal.main_arg0)) (m ((c.tc : Thread Cert.SampleCRefIdeal.nD Cert.SampleCRefIdeal.τ).loc Cert.SampleCRefIdeal.main_arg1)) (m ((c.tc : Thread Cert.SampleCRefIdeal.nD Cert.SampleCRefIdeal.τ).loc Cert.SampleCRefIdeal.main_arg2)) (m ((c.tc : Thread Cert.SampleCRefIdeal.nD Cert.SampleCRefIdeal.τ).loc Cert.SampleCRefIdeal.main_arg3))).2.1 = (fun _ => 1#1)
    ∧ (Cert.Pre_finite_sample_c.fn (F := Ideal) (m ((c.tc : Thread Cert.SampleCRefIdeal.nD Cert.SampleCRefIdeal.τ).loc Cert.SampleCRefIdeal.main_arg0)) (m ((c.tc : Thread Cert.SampleCRefIdeal.nD Cert.SampleCRefIdeal.τ).loc Cert.SampleCRefIdeal.main_arg1)) (m ((c.tc : Thread Cert.SampleCRefIdeal.nD Cert.SampleCRefIdeal.τ).loc Cert.SampleCRefIdeal.main_arg2)) (m ((c.tc : Thread Cert.SampleCRefIdeal.nD Cert.SampleCRefIdeal.τ).loc Cert.SampleCRefIdeal.main_arg3))).2.2 = (fun _ => 1#1)

def Pre_SampleA (m : (ℓ : Loc Cert.SampleA.nD Cert.SampleA.τ Cert.SampleA.sig) → Buf (Elt Bits) ℓ) : Prop :=
  True

def Pre_SampleAIdeal (m : (ℓ : Loc Cert.SampleAIdeal.nD Cert.SampleAIdeal.τ Cert.SampleAIdeal.sig) → Buf (Elt Ideal) ℓ) : Prop :=
  True

def Pre_SampleAIdeal_finite_sample_a [hPre_finite_sample_a : Cert.Pre_finite_sample_a.Facts] (m : (ℓ : Loc Cert.SampleAIdeal.nD Cert.SampleAIdeal.τ Cert.SampleAIdeal.sig) → Buf (Elt Ideal) ℓ) : Prop :=
  ∀ c : Dev Cert.SampleAIdeal.nD,
    (Cert.Pre_finite_sample_a.fn (F := Ideal) (m ((c.tc : Thread Cert.SampleAIdeal.nD Cert.SampleAIdeal.τ).loc Cert.SampleAIdeal.main_arg0)) (m ((c.tc : Thread Cert.SampleAIdeal.nD Cert.SampleAIdeal.τ).loc Cert.SampleAIdeal.main_arg1)) (m ((c.tc : Thread Cert.SampleAIdeal.nD Cert.SampleAIdeal.τ).loc Cert.SampleAIdeal.main_arg2)) (m ((c.tc : Thread Cert.SampleAIdeal.nD Cert.SampleAIdeal.τ).loc Cert.SampleAIdeal.main_arg3)) (m ((c.tc : Thread Cert.SampleAIdeal.nD Cert.SampleAIdeal.τ).loc Cert.SampleAIdeal.main_arg4))).1 = (fun _ => 1#1)
    ∧ (Cert.Pre_finite_sample_a.fn (F := Ideal) (m ((c.tc : Thread Cert.SampleAIdeal.nD Cert.SampleAIdeal.τ).loc Cert.SampleAIdeal.main_arg0)) (m ((c.tc : Thread Cert.SampleAIdeal.nD Cert.SampleAIdeal.τ).loc Cert.SampleAIdeal.main_arg1)) (m ((c.tc : Thread Cert.SampleAIdeal.nD Cert.SampleAIdeal.τ).loc Cert.SampleAIdeal.main_arg2)) (m ((c.tc : Thread Cert.SampleAIdeal.nD Cert.SampleAIdeal.τ).loc Cert.SampleAIdeal.main_arg3)) (m ((c.tc : Thread Cert.SampleAIdeal.nD Cert.SampleAIdeal.τ).loc Cert.SampleAIdeal.main_arg4))).2.1 = (fun _ => 1#1)
    ∧ (Cert.Pre_finite_sample_a.fn (F := Ideal) (m ((c.tc : Thread Cert.SampleAIdeal.nD Cert.SampleAIdeal.τ).loc Cert.SampleAIdeal.main_arg0)) (m ((c.tc : Thread Cert.SampleAIdeal.nD Cert.SampleAIdeal.τ).loc Cert.SampleAIdeal.main_arg1)) (m ((c.tc : Thread Cert.SampleAIdeal.nD Cert.SampleAIdeal.τ).loc Cert.SampleAIdeal.main_arg2)) (m ((c.tc : Thread Cert.SampleAIdeal.nD Cert.SampleAIdeal.τ).loc Cert.SampleAIdeal.main_arg3)) (m ((c.tc : Thread Cert.SampleAIdeal.nD Cert.SampleAIdeal.τ).loc Cert.SampleAIdeal.main_arg4))).2.2.1 = (fun _ => 1#1)
    ∧ (Cert.Pre_finite_sample_a.fn (F := Ideal) (m ((c.tc : Thread Cert.SampleAIdeal.nD Cert.SampleAIdeal.τ).loc Cert.SampleAIdeal.main_arg0)) (m ((c.tc : Thread Cert.SampleAIdeal.nD Cert.SampleAIdeal.τ).loc Cert.SampleAIdeal.main_arg1)) (m ((c.tc : Thread Cert.SampleAIdeal.nD Cert.SampleAIdeal.τ).loc Cert.SampleAIdeal.main_arg2)) (m ((c.tc : Thread Cert.SampleAIdeal.nD Cert.SampleAIdeal.τ).loc Cert.SampleAIdeal.main_arg3)) (m ((c.tc : Thread Cert.SampleAIdeal.nD Cert.SampleAIdeal.τ).loc Cert.SampleAIdeal.main_arg4))).2.2.2.1 = (fun _ => 1#1)
    ∧ (Cert.Pre_finite_sample_a.fn (F := Ideal) (m ((c.tc : Thread Cert.SampleAIdeal.nD Cert.SampleAIdeal.τ).loc Cert.SampleAIdeal.main_arg0)) (m ((c.tc : Thread Cert.SampleAIdeal.nD Cert.SampleAIdeal.τ).loc Cert.SampleAIdeal.main_arg1)) (m ((c.tc : Thread Cert.SampleAIdeal.nD Cert.SampleAIdeal.τ).loc Cert.SampleAIdeal.main_arg2)) (m ((c.tc : Thread Cert.SampleAIdeal.nD Cert.SampleAIdeal.τ).loc Cert.SampleAIdeal.main_arg3)) (m ((c.tc : Thread Cert.SampleAIdeal.nD Cert.SampleAIdeal.τ).loc Cert.SampleAIdeal.main_arg4))).2.2.2.2 = (fun _ => 1#1)

def Pre_SampleARefIdeal (m : (ℓ : Loc Cert.SampleARefIdeal.nD Cert.SampleARefIdeal.τ Cert.SampleARefIdeal.sig) → Buf (Elt Ideal) ℓ) : Prop :=
  True

def Pre_SampleARefIdeal_finite_sample_a [hPre_finite_sample_a : Cert.Pre_finite_sample_a.Facts] (m : (ℓ : Loc Cert.SampleARefIdeal.nD Cert.SampleARefIdeal.τ Cert.SampleARefIdeal.sig) → Buf (Elt Ideal) ℓ) : Prop :=
  ∀ c : Dev Cert.SampleARefIdeal.nD,
    (Cert.Pre_finite_sample_a.fn (F := Ideal) (m ((c.tc : Thread Cert.SampleARefIdeal.nD Cert.SampleARefIdeal.τ).loc Cert.SampleARefIdeal.main_arg0)) (m ((c.tc : Thread Cert.SampleARefIdeal.nD Cert.SampleARefIdeal.τ).loc Cert.SampleARefIdeal.main_arg1)) (m ((c.tc : Thread Cert.SampleARefIdeal.nD Cert.SampleARefIdeal.τ).loc Cert.SampleARefIdeal.main_arg2)) (m ((c.tc : Thread Cert.SampleARefIdeal.nD Cert.SampleARefIdeal.τ).loc Cert.SampleARefIdeal.main_arg3)) (m ((c.tc : Thread Cert.SampleARefIdeal.nD Cert.SampleARefIdeal.τ).loc Cert.SampleARefIdeal.main_arg4))).1 = (fun _ => 1#1)
    ∧ (Cert.Pre_finite_sample_a.fn (F := Ideal) (m ((c.tc : Thread Cert.SampleARefIdeal.nD Cert.SampleARefIdeal.τ).loc Cert.SampleARefIdeal.main_arg0)) (m ((c.tc : Thread Cert.SampleARefIdeal.nD Cert.SampleARefIdeal.τ).loc Cert.SampleARefIdeal.main_arg1)) (m ((c.tc : Thread Cert.SampleARefIdeal.nD Cert.SampleARefIdeal.τ).loc Cert.SampleARefIdeal.main_arg2)) (m ((c.tc : Thread Cert.SampleARefIdeal.nD Cert.SampleARefIdeal.τ).loc Cert.SampleARefIdeal.main_arg3)) (m ((c.tc : Thread Cert.SampleARefIdeal.nD Cert.SampleARefIdeal.τ).loc Cert.SampleARefIdeal.main_arg4))).2.1 = (fun _ => 1#1)
    ∧ (Cert.Pre_finite_sample_a.fn (F := Ideal) (m ((c.tc : Thread Cert.SampleARefIdeal.nD Cert.SampleARefIdeal.τ).loc Cert.SampleARefIdeal.main_arg0)) (m ((c.tc : Thread Cert.SampleARefIdeal.nD Cert.SampleARefIdeal.τ).loc Cert.SampleARefIdeal.main_arg1)) (m ((c.tc : Thread Cert.SampleARefIdeal.nD Cert.SampleARefIdeal.τ).loc Cert.SampleARefIdeal.main_arg2)) (m ((c.tc : Thread Cert.SampleARefIdeal.nD Cert.SampleARefIdeal.τ).loc Cert.SampleARefIdeal.main_arg3)) (m ((c.tc : Thread Cert.SampleARefIdeal.nD Cert.SampleARefIdeal.τ).loc Cert.SampleARefIdeal.main_arg4))).2.2.1 = (fun _ => 1#1)
    ∧ (Cert.Pre_finite_sample_a.fn (F := Ideal) (m ((c.tc : Thread Cert.SampleARefIdeal.nD Cert.SampleARefIdeal.τ).loc Cert.SampleARefIdeal.main_arg0)) (m ((c.tc : Thread Cert.SampleARefIdeal.nD Cert.SampleARefIdeal.τ).loc Cert.SampleARefIdeal.main_arg1)) (m ((c.tc : Thread Cert.SampleARefIdeal.nD Cert.SampleARefIdeal.τ).loc Cert.SampleARefIdeal.main_arg2)) (m ((c.tc : Thread Cert.SampleARefIdeal.nD Cert.SampleARefIdeal.τ).loc Cert.SampleARefIdeal.main_arg3)) (m ((c.tc : Thread Cert.SampleARefIdeal.nD Cert.SampleARefIdeal.τ).loc Cert.SampleARefIdeal.main_arg4))).2.2.2.1 = (fun _ => 1#1)
    ∧ (Cert.Pre_finite_sample_a.fn (F := Ideal) (m ((c.tc : Thread Cert.SampleARefIdeal.nD Cert.SampleARefIdeal.τ).loc Cert.SampleARefIdeal.main_arg0)) (m ((c.tc : Thread Cert.SampleARefIdeal.nD Cert.SampleARefIdeal.τ).loc Cert.SampleARefIdeal.main_arg1)) (m ((c.tc : Thread Cert.SampleARefIdeal.nD Cert.SampleARefIdeal.τ).loc Cert.SampleARefIdeal.main_arg2)) (m ((c.tc : Thread Cert.SampleARefIdeal.nD Cert.SampleARefIdeal.τ).loc Cert.SampleARefIdeal.main_arg3)) (m ((c.tc : Thread Cert.SampleARefIdeal.nD Cert.SampleARefIdeal.τ).loc Cert.SampleARefIdeal.main_arg4))).2.2.2.2 = (fun _ => 1#1)

def Pre_PromptConv (m : (ℓ : Loc Cert.PromptConv.nD Cert.PromptConv.τ Cert.PromptConv.sig) → Buf (Elt Bits) ℓ) : Prop :=
  True

def Pre_PromptConvIdeal (m : (ℓ : Loc Cert.PromptConvIdeal.nD Cert.PromptConvIdeal.τ Cert.PromptConvIdeal.sig) → Buf (Elt Ideal) ℓ) : Prop :=
  True

def Pre_PromptConvRefIdeal (m : (ℓ : Loc Cert.PromptConvRefIdeal.nD Cert.PromptConvRefIdeal.τ Cert.PromptConvRefIdeal.sig) → Buf (Elt Ideal) ℓ) : Prop :=
  True

def quiescent_AttnC [hAttnC : Cert.AttnC.Facts] : Prop :=
  ∀ (m : (ℓ : Loc Cert.AttnC.nD Cert.AttnC.τ Cert.AttnC.sig) → Buf (Elt Bits) ℓ) (g : Dev Cert.AttnC.nD → PrngReg), Pre_AttnC m →
    θ_run (Cert.AttnC.defs (F := Bits)) (onTc (τ := Cert.AttnC.τ) (Cert.AttnC.main (F := Bits))) ⟨m, fun _ => 0, g⟩ (fun r => (∀ c : Dev Cert.AttnC.nD,
      r.2.mem ((c.tc : Thread Cert.AttnC.nD Cert.AttnC.τ).loc Cert.AttnC.main_arg0) = m ((c.tc : Thread Cert.AttnC.nD Cert.AttnC.τ).loc Cert.AttnC.main_arg0)
      ∧ r.2.mem ((c.tc : Thread Cert.AttnC.nD Cert.AttnC.τ).loc Cert.AttnC.main_arg1) = m ((c.tc : Thread Cert.AttnC.nD Cert.AttnC.τ).loc Cert.AttnC.main_arg1))
      ∧ r.2.sem = fun _ => 0)

def quiescent_AttnCIdeal [hAttnCIdeal : Cert.AttnCIdeal.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
      ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1))
      ∧ r.2.sem = fun _ => 0)

def quiescent_AttnCIdeal_pre_finite_scores [hAttnCIdeal : Cert.AttnCIdeal.Facts] [hPre_finite_scores : Cert.Pre_finite_scores.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal_finite_scores m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
      ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1))
      ∧ r.2.sem = fun _ => 0)

def quiescent_AttnCRefIdeal [hAttnCRefIdeal : Cert.AttnCRefIdeal.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1))
      ∧ r.2.sem = fun _ => 0)

def quiescent_AttnCRefIdeal_pre_finite_scores [hAttnCRefIdeal : Cert.AttnCRefIdeal.Facts] [hPre_finite_scores : Cert.Pre_finite_scores.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal_finite_scores m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ r.2.sem = fun _ => 0)

def quiescent_AttnAIdeal_pre_finite_scores_sink [hAttnAIdeal : Cert.AttnAIdeal.Facts] [hPre_finite_scores_sink : Cert.Pre_finite_scores_sink.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite_scores_sink m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2))
      ∧ r.2.sem = fun _ => 0)

def quiescent_AttnARefIdeal_pre_finite_scores_sink [hAttnARefIdeal : Cert.AttnARefIdeal.Facts] [hPre_finite_scores_sink : Cert.Pre_finite_scores_sink.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite_scores_sink m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_PostMid [hPostMid : Cert.PostMid.Facts] : Prop :=
  ∀ (m : (ℓ : Loc Cert.PostMid.nD Cert.PostMid.τ Cert.PostMid.sig) → Buf (Elt Bits) ℓ) (g : Dev Cert.PostMid.nD → PrngReg), Pre_PostMid m →
    θ_run (Cert.PostMid.defs (F := Bits)) (onTc (τ := Cert.PostMid.τ) (Cert.PostMid.main (F := Bits))) ⟨m, fun _ => 0, g⟩ (fun r => (∀ c : Dev Cert.PostMid.nD,
      r.2.mem ((c.tc : Thread Cert.PostMid.nD Cert.PostMid.τ).loc Cert.PostMid.main_arg0) = m ((c.tc : Thread Cert.PostMid.nD Cert.PostMid.τ).loc Cert.PostMid.main_arg0)
      ∧ r.2.mem ((c.tc : Thread Cert.PostMid.nD Cert.PostMid.τ).loc Cert.PostMid.main_arg1) = m ((c.tc : Thread Cert.PostMid.nD Cert.PostMid.τ).loc Cert.PostMid.main_arg1)
      ∧ r.2.mem ((c.tc : Thread Cert.PostMid.nD Cert.PostMid.τ).loc Cert.PostMid.main_arg2) = m ((c.tc : Thread Cert.PostMid.nD Cert.PostMid.τ).loc Cert.PostMid.main_arg2)
      ∧ r.2.mem ((c.tc : Thread Cert.PostMid.nD Cert.PostMid.τ).loc Cert.PostMid.main_arg3) = m ((c.tc : Thread Cert.PostMid.nD Cert.PostMid.τ).loc Cert.PostMid.main_arg3)
      ∧ r.2.mem ((c.tc : Thread Cert.PostMid.nD Cert.PostMid.τ).loc Cert.PostMid.main_arg4) = m ((c.tc : Thread Cert.PostMid.nD Cert.PostMid.τ).loc Cert.PostMid.main_arg4)
      ∧ r.2.mem ((c.tc : Thread Cert.PostMid.nD Cert.PostMid.τ).loc Cert.PostMid.main_arg5) = m ((c.tc : Thread Cert.PostMid.nD Cert.PostMid.τ).loc Cert.PostMid.main_arg5)
      ∧ r.2.mem ((c.tc : Thread Cert.PostMid.nD Cert.PostMid.τ).loc Cert.PostMid.main_arg6) = m ((c.tc : Thread Cert.PostMid.nD Cert.PostMid.τ).loc Cert.PostMid.main_arg6)
      ∧ r.2.mem ((c.tc : Thread Cert.PostMid.nD Cert.PostMid.τ).loc Cert.PostMid.main_arg7) = m ((c.tc : Thread Cert.PostMid.nD Cert.PostMid.τ).loc Cert.PostMid.main_arg7)
      ∧ r.2.mem ((c.tc : Thread Cert.PostMid.nD Cert.PostMid.τ).loc Cert.PostMid.main_arg8) = m ((c.tc : Thread Cert.PostMid.nD Cert.PostMid.τ).loc Cert.PostMid.main_arg8))
      ∧ r.2.sem = fun _ => 0)

def quiescent_PostMidIdeal [hPostMidIdeal : Cert.PostMidIdeal.Facts] : Prop :=
  ∀ (m : (ℓ : Loc Cert.PostMidIdeal.nD Cert.PostMidIdeal.τ Cert.PostMidIdeal.sig) → Buf (Elt Ideal) ℓ) (g : Dev Cert.PostMidIdeal.nD → PrngReg), Pre_PostMidIdeal m →
    θ_run (Cert.PostMidIdeal.defs (F := Ideal)) (onTc (τ := Cert.PostMidIdeal.τ) (Cert.PostMidIdeal.main (F := Ideal))) ⟨m, fun _ => 0, g⟩ (fun r => (∀ c : Dev Cert.PostMidIdeal.nD,
      r.2.mem ((c.tc : Thread Cert.PostMidIdeal.nD Cert.PostMidIdeal.τ).loc Cert.PostMidIdeal.main_arg0) = m ((c.tc : Thread Cert.PostMidIdeal.nD Cert.PostMidIdeal.τ).loc Cert.PostMidIdeal.main_arg0)
      ∧ r.2.mem ((c.tc : Thread Cert.PostMidIdeal.nD Cert.PostMidIdeal.τ).loc Cert.PostMidIdeal.main_arg1) = m ((c.tc : Thread Cert.PostMidIdeal.nD Cert.PostMidIdeal.τ).loc Cert.PostMidIdeal.main_arg1)
      ∧ r.2.mem ((c.tc : Thread Cert.PostMidIdeal.nD Cert.PostMidIdeal.τ).loc Cert.PostMidIdeal.main_arg2) = m ((c.tc : Thread Cert.PostMidIdeal.nD Cert.PostMidIdeal.τ).loc Cert.PostMidIdeal.main_arg2)
      ∧ r.2.mem ((c.tc : Thread Cert.PostMidIdeal.nD Cert.PostMidIdeal.τ).loc Cert.PostMidIdeal.main_arg3) = m ((c.tc : Thread Cert.PostMidIdeal.nD Cert.PostMidIdeal.τ).loc Cert.PostMidIdeal.main_arg3)
      ∧ r.2.mem ((c.tc : Thread Cert.PostMidIdeal.nD Cert.PostMidIdeal.τ).loc Cert.PostMidIdeal.main_arg4) = m ((c.tc : Thread Cert.PostMidIdeal.nD Cert.PostMidIdeal.τ).loc Cert.PostMidIdeal.main_arg4)
      ∧ r.2.mem ((c.tc : Thread Cert.PostMidIdeal.nD Cert.PostMidIdeal.τ).loc Cert.PostMidIdeal.main_arg5) = m ((c.tc : Thread Cert.PostMidIdeal.nD Cert.PostMidIdeal.τ).loc Cert.PostMidIdeal.main_arg5)
      ∧ r.2.mem ((c.tc : Thread Cert.PostMidIdeal.nD Cert.PostMidIdeal.τ).loc Cert.PostMidIdeal.main_arg6) = m ((c.tc : Thread Cert.PostMidIdeal.nD Cert.PostMidIdeal.τ).loc Cert.PostMidIdeal.main_arg6)
      ∧ r.2.mem ((c.tc : Thread Cert.PostMidIdeal.nD Cert.PostMidIdeal.τ).loc Cert.PostMidIdeal.main_arg7) = m ((c.tc : Thread Cert.PostMidIdeal.nD Cert.PostMidIdeal.τ).loc Cert.PostMidIdeal.main_arg7)
      ∧ r.2.mem ((c.tc : Thread Cert.PostMidIdeal.nD Cert.PostMidIdeal.τ).loc Cert.PostMidIdeal.main_arg8) = m ((c.tc : Thread Cert.PostMidIdeal.nD Cert.PostMidIdeal.τ).loc Cert.PostMidIdeal.main_arg8))
      ∧ r.2.sem = fun _ => 0)

def quiescent_PostMidRefIdeal [hPostMidRefIdeal : Cert.PostMidRefIdeal.Facts] : Prop :=
  ∀ (m : (ℓ : Loc Cert.PostMidRefIdeal.nD Cert.PostMidRefIdeal.τ Cert.PostMidRefIdeal.sig) → Buf (Elt Ideal) ℓ) (g : Dev Cert.PostMidRefIdeal.nD → PrngReg), Pre_PostMidRefIdeal m →
    θ_run (Cert.PostMidRefIdeal.defs (F := Ideal)) (onTc (τ := Cert.PostMidRefIdeal.τ) (Cert.PostMidRefIdeal.main (F := Ideal))) ⟨m, fun _ => 0, g⟩ (fun r => (∀ c : Dev Cert.PostMidRefIdeal.nD,
      r.2.mem ((c.tc : Thread Cert.PostMidRefIdeal.nD Cert.PostMidRefIdeal.τ).loc Cert.PostMidRefIdeal.main_arg0) = m ((c.tc : Thread Cert.PostMidRefIdeal.nD Cert.PostMidRefIdeal.τ).loc Cert.PostMidRefIdeal.main_arg0)
      ∧ r.2.mem ((c.tc : Thread Cert.PostMidRefIdeal.nD Cert.PostMidRefIdeal.τ).loc Cert.PostMidRefIdeal.main_arg1) = m ((c.tc : Thread Cert.PostMidRefIdeal.nD Cert.PostMidRefIdeal.τ).loc Cert.PostMidRefIdeal.main_arg1)
      ∧ r.2.mem ((c.tc : Thread Cert.PostMidRefIdeal.nD Cert.PostMidRefIdeal.τ).loc Cert.PostMidRefIdeal.main_arg2) = m ((c.tc : Thread Cert.PostMidRefIdeal.nD Cert.PostMidRefIdeal.τ).loc Cert.PostMidRefIdeal.main_arg2)
      ∧ r.2.mem ((c.tc : Thread Cert.PostMidRefIdeal.nD Cert.PostMidRefIdeal.τ).loc Cert.PostMidRefIdeal.main_arg3) = m ((c.tc : Thread Cert.PostMidRefIdeal.nD Cert.PostMidRefIdeal.τ).loc Cert.PostMidRefIdeal.main_arg3)
      ∧ r.2.mem ((c.tc : Thread Cert.PostMidRefIdeal.nD Cert.PostMidRefIdeal.τ).loc Cert.PostMidRefIdeal.main_arg4) = m ((c.tc : Thread Cert.PostMidRefIdeal.nD Cert.PostMidRefIdeal.τ).loc Cert.PostMidRefIdeal.main_arg4)
      ∧ r.2.mem ((c.tc : Thread Cert.PostMidRefIdeal.nD Cert.PostMidRefIdeal.τ).loc Cert.PostMidRefIdeal.main_arg5) = m ((c.tc : Thread Cert.PostMidRefIdeal.nD Cert.PostMidRefIdeal.τ).loc Cert.PostMidRefIdeal.main_arg5)
      ∧ r.2.mem ((c.tc : Thread Cert.PostMidRefIdeal.nD Cert.PostMidRefIdeal.τ).loc Cert.PostMidRefIdeal.main_arg6) = m ((c.tc : Thread Cert.PostMidRefIdeal.nD Cert.PostMidRefIdeal.τ).loc Cert.PostMidRefIdeal.main_arg6)
      ∧ r.2.mem ((c.tc : Thread Cert.PostMidRefIdeal.nD Cert.PostMidRefIdeal.τ).loc Cert.PostMidRefIdeal.main_arg7) = m ((c.tc : Thread Cert.PostMidRefIdeal.nD Cert.PostMidRefIdeal.τ).loc Cert.PostMidRefIdeal.main_arg7)
      ∧ r.2.mem ((c.tc : Thread Cert.PostMidRefIdeal.nD Cert.PostMidRefIdeal.τ).loc Cert.PostMidRefIdeal.main_arg8) = m ((c.tc : Thread Cert.PostMidRefIdeal.nD Cert.PostMidRefIdeal.τ).loc Cert.PostMidRefIdeal.main_arg8))
      ∧ r.2.sem = fun _ => 0)

def quiescent_PostLast [hPostLast : Cert.PostLast.Facts] : Prop :=
  ∀ (m : (ℓ : Loc Cert.PostLast.nD Cert.PostLast.τ Cert.PostLast.sig) → Buf (Elt Bits) ℓ) (g : Dev Cert.PostLast.nD → PrngReg), Pre_PostLast m →
    θ_run (Cert.PostLast.defs (F := Bits)) (onTc (τ := Cert.PostLast.τ) (Cert.PostLast.main (F := Bits))) ⟨m, fun _ => 0, g⟩ (fun r => (∀ c : Dev Cert.PostLast.nD,
      r.2.mem ((c.tc : Thread Cert.PostLast.nD Cert.PostLast.τ).loc Cert.PostLast.main_arg0) = m ((c.tc : Thread Cert.PostLast.nD Cert.PostLast.τ).loc Cert.PostLast.main_arg0)
      ∧ r.2.mem ((c.tc : Thread Cert.PostLast.nD Cert.PostLast.τ).loc Cert.PostLast.main_arg1) = m ((c.tc : Thread Cert.PostLast.nD Cert.PostLast.τ).loc Cert.PostLast.main_arg1)
      ∧ r.2.mem ((c.tc : Thread Cert.PostLast.nD Cert.PostLast.τ).loc Cert.PostLast.main_arg2) = m ((c.tc : Thread Cert.PostLast.nD Cert.PostLast.τ).loc Cert.PostLast.main_arg2)
      ∧ r.2.mem ((c.tc : Thread Cert.PostLast.nD Cert.PostLast.τ).loc Cert.PostLast.main_arg3) = m ((c.tc : Thread Cert.PostLast.nD Cert.PostLast.τ).loc Cert.PostLast.main_arg3)
      ∧ r.2.mem ((c.tc : Thread Cert.PostLast.nD Cert.PostLast.τ).loc Cert.PostLast.main_arg4) = m ((c.tc : Thread Cert.PostLast.nD Cert.PostLast.τ).loc Cert.PostLast.main_arg4)
      ∧ r.2.mem ((c.tc : Thread Cert.PostLast.nD Cert.PostLast.τ).loc Cert.PostLast.main_arg5) = m ((c.tc : Thread Cert.PostLast.nD Cert.PostLast.τ).loc Cert.PostLast.main_arg5)
      ∧ r.2.mem ((c.tc : Thread Cert.PostLast.nD Cert.PostLast.τ).loc Cert.PostLast.main_arg6) = m ((c.tc : Thread Cert.PostLast.nD Cert.PostLast.τ).loc Cert.PostLast.main_arg6)
      ∧ r.2.mem ((c.tc : Thread Cert.PostLast.nD Cert.PostLast.τ).loc Cert.PostLast.main_arg7) = m ((c.tc : Thread Cert.PostLast.nD Cert.PostLast.τ).loc Cert.PostLast.main_arg7)
      ∧ r.2.mem ((c.tc : Thread Cert.PostLast.nD Cert.PostLast.τ).loc Cert.PostLast.main_arg8) = m ((c.tc : Thread Cert.PostLast.nD Cert.PostLast.τ).loc Cert.PostLast.main_arg8))
      ∧ r.2.sem = fun _ => 0)

def quiescent_PostLastIdeal [hPostLastIdeal : Cert.PostLastIdeal.Facts] : Prop :=
  ∀ (m : (ℓ : Loc Cert.PostLastIdeal.nD Cert.PostLastIdeal.τ Cert.PostLastIdeal.sig) → Buf (Elt Ideal) ℓ) (g : Dev Cert.PostLastIdeal.nD → PrngReg), Pre_PostLastIdeal m →
    θ_run (Cert.PostLastIdeal.defs (F := Ideal)) (onTc (τ := Cert.PostLastIdeal.τ) (Cert.PostLastIdeal.main (F := Ideal))) ⟨m, fun _ => 0, g⟩ (fun r => (∀ c : Dev Cert.PostLastIdeal.nD,
      r.2.mem ((c.tc : Thread Cert.PostLastIdeal.nD Cert.PostLastIdeal.τ).loc Cert.PostLastIdeal.main_arg0) = m ((c.tc : Thread Cert.PostLastIdeal.nD Cert.PostLastIdeal.τ).loc Cert.PostLastIdeal.main_arg0)
      ∧ r.2.mem ((c.tc : Thread Cert.PostLastIdeal.nD Cert.PostLastIdeal.τ).loc Cert.PostLastIdeal.main_arg1) = m ((c.tc : Thread Cert.PostLastIdeal.nD Cert.PostLastIdeal.τ).loc Cert.PostLastIdeal.main_arg1)
      ∧ r.2.mem ((c.tc : Thread Cert.PostLastIdeal.nD Cert.PostLastIdeal.τ).loc Cert.PostLastIdeal.main_arg2) = m ((c.tc : Thread Cert.PostLastIdeal.nD Cert.PostLastIdeal.τ).loc Cert.PostLastIdeal.main_arg2)
      ∧ r.2.mem ((c.tc : Thread Cert.PostLastIdeal.nD Cert.PostLastIdeal.τ).loc Cert.PostLastIdeal.main_arg3) = m ((c.tc : Thread Cert.PostLastIdeal.nD Cert.PostLastIdeal.τ).loc Cert.PostLastIdeal.main_arg3)
      ∧ r.2.mem ((c.tc : Thread Cert.PostLastIdeal.nD Cert.PostLastIdeal.τ).loc Cert.PostLastIdeal.main_arg4) = m ((c.tc : Thread Cert.PostLastIdeal.nD Cert.PostLastIdeal.τ).loc Cert.PostLastIdeal.main_arg4)
      ∧ r.2.mem ((c.tc : Thread Cert.PostLastIdeal.nD Cert.PostLastIdeal.τ).loc Cert.PostLastIdeal.main_arg5) = m ((c.tc : Thread Cert.PostLastIdeal.nD Cert.PostLastIdeal.τ).loc Cert.PostLastIdeal.main_arg5)
      ∧ r.2.mem ((c.tc : Thread Cert.PostLastIdeal.nD Cert.PostLastIdeal.τ).loc Cert.PostLastIdeal.main_arg6) = m ((c.tc : Thread Cert.PostLastIdeal.nD Cert.PostLastIdeal.τ).loc Cert.PostLastIdeal.main_arg6)
      ∧ r.2.mem ((c.tc : Thread Cert.PostLastIdeal.nD Cert.PostLastIdeal.τ).loc Cert.PostLastIdeal.main_arg7) = m ((c.tc : Thread Cert.PostLastIdeal.nD Cert.PostLastIdeal.τ).loc Cert.PostLastIdeal.main_arg7)
      ∧ r.2.mem ((c.tc : Thread Cert.PostLastIdeal.nD Cert.PostLastIdeal.τ).loc Cert.PostLastIdeal.main_arg8) = m ((c.tc : Thread Cert.PostLastIdeal.nD Cert.PostLastIdeal.τ).loc Cert.PostLastIdeal.main_arg8))
      ∧ r.2.sem = fun _ => 0)

def quiescent_PostLastRefIdeal [hPostLastRefIdeal : Cert.PostLastRefIdeal.Facts] : Prop :=
  ∀ (m : (ℓ : Loc Cert.PostLastRefIdeal.nD Cert.PostLastRefIdeal.τ Cert.PostLastRefIdeal.sig) → Buf (Elt Ideal) ℓ) (g : Dev Cert.PostLastRefIdeal.nD → PrngReg), Pre_PostLastRefIdeal m →
    θ_run (Cert.PostLastRefIdeal.defs (F := Ideal)) (onTc (τ := Cert.PostLastRefIdeal.τ) (Cert.PostLastRefIdeal.main (F := Ideal))) ⟨m, fun _ => 0, g⟩ (fun r => (∀ c : Dev Cert.PostLastRefIdeal.nD,
      r.2.mem ((c.tc : Thread Cert.PostLastRefIdeal.nD Cert.PostLastRefIdeal.τ).loc Cert.PostLastRefIdeal.main_arg0) = m ((c.tc : Thread Cert.PostLastRefIdeal.nD Cert.PostLastRefIdeal.τ).loc Cert.PostLastRefIdeal.main_arg0)
      ∧ r.2.mem ((c.tc : Thread Cert.PostLastRefIdeal.nD Cert.PostLastRefIdeal.τ).loc Cert.PostLastRefIdeal.main_arg1) = m ((c.tc : Thread Cert.PostLastRefIdeal.nD Cert.PostLastRefIdeal.τ).loc Cert.PostLastRefIdeal.main_arg1)
      ∧ r.2.mem ((c.tc : Thread Cert.PostLastRefIdeal.nD Cert.PostLastRefIdeal.τ).loc Cert.PostLastRefIdeal.main_arg2) = m ((c.tc : Thread Cert.PostLastRefIdeal.nD Cert.PostLastRefIdeal.τ).loc Cert.PostLastRefIdeal.main_arg2)
      ∧ r.2.mem ((c.tc : Thread Cert.PostLastRefIdeal.nD Cert.PostLastRefIdeal.τ).loc Cert.PostLastRefIdeal.main_arg3) = m ((c.tc : Thread Cert.PostLastRefIdeal.nD Cert.PostLastRefIdeal.τ).loc Cert.PostLastRefIdeal.main_arg3)
      ∧ r.2.mem ((c.tc : Thread Cert.PostLastRefIdeal.nD Cert.PostLastRefIdeal.τ).loc Cert.PostLastRefIdeal.main_arg4) = m ((c.tc : Thread Cert.PostLastRefIdeal.nD Cert.PostLastRefIdeal.τ).loc Cert.PostLastRefIdeal.main_arg4)
      ∧ r.2.mem ((c.tc : Thread Cert.PostLastRefIdeal.nD Cert.PostLastRefIdeal.τ).loc Cert.PostLastRefIdeal.main_arg5) = m ((c.tc : Thread Cert.PostLastRefIdeal.nD Cert.PostLastRefIdeal.τ).loc Cert.PostLastRefIdeal.main_arg5)
      ∧ r.2.mem ((c.tc : Thread Cert.PostLastRefIdeal.nD Cert.PostLastRefIdeal.τ).loc Cert.PostLastRefIdeal.main_arg6) = m ((c.tc : Thread Cert.PostLastRefIdeal.nD Cert.PostLastRefIdeal.τ).loc Cert.PostLastRefIdeal.main_arg6)
      ∧ r.2.mem ((c.tc : Thread Cert.PostLastRefIdeal.nD Cert.PostLastRefIdeal.τ).loc Cert.PostLastRefIdeal.main_arg7) = m ((c.tc : Thread Cert.PostLastRefIdeal.nD Cert.PostLastRefIdeal.τ).loc Cert.PostLastRefIdeal.main_arg7)
      ∧ r.2.mem ((c.tc : Thread Cert.PostLastRefIdeal.nD Cert.PostLastRefIdeal.τ).loc Cert.PostLastRefIdeal.main_arg8) = m ((c.tc : Thread Cert.PostLastRefIdeal.nD Cert.PostLastRefIdeal.τ).loc Cert.PostLastRefIdeal.main_arg8))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_SampleC [hSampleC : Cert.SampleC.Facts] : Prop :=
  ∀ (m : (ℓ : Loc Cert.SampleC.nD Cert.SampleC.τ Cert.SampleC.sig) → Buf (Elt Bits) ℓ) (g : Dev Cert.SampleC.nD → PrngReg), Pre_SampleC m →
    θ_run (Cert.SampleC.defs (F := Bits)) (onTc (τ := Cert.SampleC.τ) (Cert.SampleC.main (F := Bits))) ⟨m, fun _ => 0, g⟩ (fun r => (∀ c : Dev Cert.SampleC.nD,
      r.2.mem ((c.tc : Thread Cert.SampleC.nD Cert.SampleC.τ).loc Cert.SampleC.main_arg0) = m ((c.tc : Thread Cert.SampleC.nD Cert.SampleC.τ).loc Cert.SampleC.main_arg0)
      ∧ r.2.mem ((c.tc : Thread Cert.SampleC.nD Cert.SampleC.τ).loc Cert.SampleC.main_arg1) = m ((c.tc : Thread Cert.SampleC.nD Cert.SampleC.τ).loc Cert.SampleC.main_arg1)
      ∧ r.2.mem ((c.tc : Thread Cert.SampleC.nD Cert.SampleC.τ).loc Cert.SampleC.main_arg2) = m ((c.tc : Thread Cert.SampleC.nD Cert.SampleC.τ).loc Cert.SampleC.main_arg2)
      ∧ r.2.mem ((c.tc : Thread Cert.SampleC.nD Cert.SampleC.τ).loc Cert.SampleC.main_arg3) = m ((c.tc : Thread Cert.SampleC.nD Cert.SampleC.τ).loc Cert.SampleC.main_arg3))
      ∧ r.2.sem = fun _ => 0)

def quiescent_SampleCIdeal [hSampleCIdeal : Cert.SampleCIdeal.Facts] : Prop :=
  ∀ (m : (ℓ : Loc Cert.SampleCIdeal.nD Cert.SampleCIdeal.τ Cert.SampleCIdeal.sig) → Buf (Elt Ideal) ℓ) (g : Dev Cert.SampleCIdeal.nD → PrngReg), Pre_SampleCIdeal m →
    θ_run (Cert.SampleCIdeal.defs (F := Ideal)) (onTc (τ := Cert.SampleCIdeal.τ) (Cert.SampleCIdeal.main (F := Ideal))) ⟨m, fun _ => 0, g⟩ (fun r => (∀ c : Dev Cert.SampleCIdeal.nD,
      r.2.mem ((c.tc : Thread Cert.SampleCIdeal.nD Cert.SampleCIdeal.τ).loc Cert.SampleCIdeal.main_arg0) = m ((c.tc : Thread Cert.SampleCIdeal.nD Cert.SampleCIdeal.τ).loc Cert.SampleCIdeal.main_arg0)
      ∧ r.2.mem ((c.tc : Thread Cert.SampleCIdeal.nD Cert.SampleCIdeal.τ).loc Cert.SampleCIdeal.main_arg1) = m ((c.tc : Thread Cert.SampleCIdeal.nD Cert.SampleCIdeal.τ).loc Cert.SampleCIdeal.main_arg1)
      ∧ r.2.mem ((c.tc : Thread Cert.SampleCIdeal.nD Cert.SampleCIdeal.τ).loc Cert.SampleCIdeal.main_arg2) = m ((c.tc : Thread Cert.SampleCIdeal.nD Cert.SampleCIdeal.τ).loc Cert.SampleCIdeal.main_arg2)
      ∧ r.2.mem ((c.tc : Thread Cert.SampleCIdeal.nD Cert.SampleCIdeal.τ).loc Cert.SampleCIdeal.main_arg3) = m ((c.tc : Thread Cert.SampleCIdeal.nD Cert.SampleCIdeal.τ).loc Cert.SampleCIdeal.main_arg3))
      ∧ r.2.sem = fun _ => 0)

def quiescent_SampleCIdeal_pre_finite_sample_c [hSampleCIdeal : Cert.SampleCIdeal.Facts] [hPre_finite_sample_c : Cert.Pre_finite_sample_c.Facts] : Prop :=
  ∀ (m : (ℓ : Loc Cert.SampleCIdeal.nD Cert.SampleCIdeal.τ Cert.SampleCIdeal.sig) → Buf (Elt Ideal) ℓ) (g : Dev Cert.SampleCIdeal.nD → PrngReg), Pre_SampleCIdeal_finite_sample_c m →
    θ_run (Cert.SampleCIdeal.defs (F := Ideal)) (onTc (τ := Cert.SampleCIdeal.τ) (Cert.SampleCIdeal.main (F := Ideal))) ⟨m, fun _ => 0, g⟩ (fun r => (∀ c : Dev Cert.SampleCIdeal.nD,
      r.2.mem ((c.tc : Thread Cert.SampleCIdeal.nD Cert.SampleCIdeal.τ).loc Cert.SampleCIdeal.main_arg0) = m ((c.tc : Thread Cert.SampleCIdeal.nD Cert.SampleCIdeal.τ).loc Cert.SampleCIdeal.main_arg0)
      ∧ r.2.mem ((c.tc : Thread Cert.SampleCIdeal.nD Cert.SampleCIdeal.τ).loc Cert.SampleCIdeal.main_arg1) = m ((c.tc : Thread Cert.SampleCIdeal.nD Cert.SampleCIdeal.τ).loc Cert.SampleCIdeal.main_arg1)
      ∧ r.2.mem ((c.tc : Thread Cert.SampleCIdeal.nD Cert.SampleCIdeal.τ).loc Cert.SampleCIdeal.main_arg2) = m ((c.tc : Thread Cert.SampleCIdeal.nD Cert.SampleCIdeal.τ).loc Cert.SampleCIdeal.main_arg2)
      ∧ r.2.mem ((c.tc : Thread Cert.SampleCIdeal.nD Cert.SampleCIdeal.τ).loc Cert.SampleCIdeal.main_arg3) = m ((c.tc : Thread Cert.SampleCIdeal.nD Cert.SampleCIdeal.τ).loc Cert.SampleCIdeal.main_arg3))
      ∧ r.2.sem = fun _ => 0)

def quiescent_SampleCRefIdeal [hSampleCRefIdeal : Cert.SampleCRefIdeal.Facts] : Prop :=
  ∀ (m : (ℓ : Loc Cert.SampleCRefIdeal.nD Cert.SampleCRefIdeal.τ Cert.SampleCRefIdeal.sig) → Buf (Elt Ideal) ℓ) (g : Dev Cert.SampleCRefIdeal.nD → PrngReg), Pre_SampleCRefIdeal m →
    θ_run (Cert.SampleCRefIdeal.defs (F := Ideal)) (onTc (τ := Cert.SampleCRefIdeal.τ) (Cert.SampleCRefIdeal.main (F := Ideal))) ⟨m, fun _ => 0, g⟩ (fun r => (∀ c : Dev Cert.SampleCRefIdeal.nD,
      r.2.mem ((c.tc : Thread Cert.SampleCRefIdeal.nD Cert.SampleCRefIdeal.τ).loc Cert.SampleCRefIdeal.main_arg0) = m ((c.tc : Thread Cert.SampleCRefIdeal.nD Cert.SampleCRefIdeal.τ).loc Cert.SampleCRefIdeal.main_arg0)
      ∧ r.2.mem ((c.tc : Thread Cert.SampleCRefIdeal.nD Cert.SampleCRefIdeal.τ).loc Cert.SampleCRefIdeal.main_arg1) = m ((c.tc : Thread Cert.SampleCRefIdeal.nD Cert.SampleCRefIdeal.τ).loc Cert.SampleCRefIdeal.main_arg1)
      ∧ r.2.mem ((c.tc : Thread Cert.SampleCRefIdeal.nD Cert.SampleCRefIdeal.τ).loc Cert.SampleCRefIdeal.main_arg2) = m ((c.tc : Thread Cert.SampleCRefIdeal.nD Cert.SampleCRefIdeal.τ).loc Cert.SampleCRefIdeal.main_arg2)
      ∧ r.2.mem ((c.tc : Thread Cert.SampleCRefIdeal.nD Cert.SampleCRefIdeal.τ).loc Cert.SampleCRefIdeal.main_arg3) = m ((c.tc : Thread Cert.SampleCRefIdeal.nD Cert.SampleCRefIdeal.τ).loc Cert.SampleCRefIdeal.main_arg3))
      ∧ r.2.sem = fun _ => 0)

def quiescent_SampleCRefIdeal_pre_finite_sample_c [hSampleCRefIdeal : Cert.SampleCRefIdeal.Facts] [hPre_finite_sample_c : Cert.Pre_finite_sample_c.Facts] : Prop :=
  ∀ (m : (ℓ : Loc Cert.SampleCRefIdeal.nD Cert.SampleCRefIdeal.τ Cert.SampleCRefIdeal.sig) → Buf (Elt Ideal) ℓ) (g : Dev Cert.SampleCRefIdeal.nD → PrngReg), Pre_SampleCRefIdeal_finite_sample_c m →
    θ_run (Cert.SampleCRefIdeal.defs (F := Ideal)) (onTc (τ := Cert.SampleCRefIdeal.τ) (Cert.SampleCRefIdeal.main (F := Ideal))) ⟨m, fun _ => 0, g⟩ (fun r => (∀ c : Dev Cert.SampleCRefIdeal.nD,
      r.2.mem ((c.tc : Thread Cert.SampleCRefIdeal.nD Cert.SampleCRefIdeal.τ).loc Cert.SampleCRefIdeal.main_arg0) = m ((c.tc : Thread Cert.SampleCRefIdeal.nD Cert.SampleCRefIdeal.τ).loc Cert.SampleCRefIdeal.main_arg0)
      ∧ r.2.mem ((c.tc : Thread Cert.SampleCRefIdeal.nD Cert.SampleCRefIdeal.τ).loc Cert.SampleCRefIdeal.main_arg1) = m ((c.tc : Thread Cert.SampleCRefIdeal.nD Cert.SampleCRefIdeal.τ).loc Cert.SampleCRefIdeal.main_arg1)
      ∧ r.2.mem ((c.tc : Thread Cert.SampleCRefIdeal.nD Cert.SampleCRefIdeal.τ).loc Cert.SampleCRefIdeal.main_arg2) = m ((c.tc : Thread Cert.SampleCRefIdeal.nD Cert.SampleCRefIdeal.τ).loc Cert.SampleCRefIdeal.main_arg2)
      ∧ r.2.mem ((c.tc : Thread Cert.SampleCRefIdeal.nD Cert.SampleCRefIdeal.τ).loc Cert.SampleCRefIdeal.main_arg3) = m ((c.tc : Thread Cert.SampleCRefIdeal.nD Cert.SampleCRefIdeal.τ).loc Cert.SampleCRefIdeal.main_arg3))
      ∧ r.2.sem = fun _ => 0)

def quiescent_SampleA [hSampleA : Cert.SampleA.Facts] : Prop :=
  ∀ (m : (ℓ : Loc Cert.SampleA.nD Cert.SampleA.τ Cert.SampleA.sig) → Buf (Elt Bits) ℓ) (g : Dev Cert.SampleA.nD → PrngReg), Pre_SampleA m →
    θ_run (Cert.SampleA.defs (F := Bits)) (onTc (τ := Cert.SampleA.τ) (Cert.SampleA.main (F := Bits))) ⟨m, fun _ => 0, g⟩ (fun r => (∀ c : Dev Cert.SampleA.nD,
      r.2.mem ((c.tc : Thread Cert.SampleA.nD Cert.SampleA.τ).loc Cert.SampleA.main_arg0) = m ((c.tc : Thread Cert.SampleA.nD Cert.SampleA.τ).loc Cert.SampleA.main_arg0)
      ∧ r.2.mem ((c.tc : Thread Cert.SampleA.nD Cert.SampleA.τ).loc Cert.SampleA.main_arg1) = m ((c.tc : Thread Cert.SampleA.nD Cert.SampleA.τ).loc Cert.SampleA.main_arg1)
      ∧ r.2.mem ((c.tc : Thread Cert.SampleA.nD Cert.SampleA.τ).loc Cert.SampleA.main_arg2) = m ((c.tc : Thread Cert.SampleA.nD Cert.SampleA.τ).loc Cert.SampleA.main_arg2)
      ∧ r.2.mem ((c.tc : Thread Cert.SampleA.nD Cert.SampleA.τ).loc Cert.SampleA.main_arg3) = m ((c.tc : Thread Cert.SampleA.nD Cert.SampleA.τ).loc Cert.SampleA.main_arg3)
      ∧ r.2.mem ((c.tc : Thread Cert.SampleA.nD Cert.SampleA.τ).loc Cert.SampleA.main_arg4) = m ((c.tc : Thread Cert.SampleA.nD Cert.SampleA.τ).loc Cert.SampleA.main_arg4))
      ∧ r.2.sem = fun _ => 0)

def quiescent_SampleAIdeal [hSampleAIdeal : Cert.SampleAIdeal.Facts] : Prop :=
  ∀ (m : (ℓ : Loc Cert.SampleAIdeal.nD Cert.SampleAIdeal.τ Cert.SampleAIdeal.sig) → Buf (Elt Ideal) ℓ) (g : Dev Cert.SampleAIdeal.nD → PrngReg), Pre_SampleAIdeal m →
    θ_run (Cert.SampleAIdeal.defs (F := Ideal)) (onTc (τ := Cert.SampleAIdeal.τ) (Cert.SampleAIdeal.main (F := Ideal))) ⟨m, fun _ => 0, g⟩ (fun r => (∀ c : Dev Cert.SampleAIdeal.nD,
      r.2.mem ((c.tc : Thread Cert.SampleAIdeal.nD Cert.SampleAIdeal.τ).loc Cert.SampleAIdeal.main_arg0) = m ((c.tc : Thread Cert.SampleAIdeal.nD Cert.SampleAIdeal.τ).loc Cert.SampleAIdeal.main_arg0)
      ∧ r.2.mem ((c.tc : Thread Cert.SampleAIdeal.nD Cert.SampleAIdeal.τ).loc Cert.SampleAIdeal.main_arg1) = m ((c.tc : Thread Cert.SampleAIdeal.nD Cert.SampleAIdeal.τ).loc Cert.SampleAIdeal.main_arg1)
      ∧ r.2.mem ((c.tc : Thread Cert.SampleAIdeal.nD Cert.SampleAIdeal.τ).loc Cert.SampleAIdeal.main_arg2) = m ((c.tc : Thread Cert.SampleAIdeal.nD Cert.SampleAIdeal.τ).loc Cert.SampleAIdeal.main_arg2)
      ∧ r.2.mem ((c.tc : Thread Cert.SampleAIdeal.nD Cert.SampleAIdeal.τ).loc Cert.SampleAIdeal.main_arg3) = m ((c.tc : Thread Cert.SampleAIdeal.nD Cert.SampleAIdeal.τ).loc Cert.SampleAIdeal.main_arg3)
      ∧ r.2.mem ((c.tc : Thread Cert.SampleAIdeal.nD Cert.SampleAIdeal.τ).loc Cert.SampleAIdeal.main_arg4) = m ((c.tc : Thread Cert.SampleAIdeal.nD Cert.SampleAIdeal.τ).loc Cert.SampleAIdeal.main_arg4))
      ∧ r.2.sem = fun _ => 0)

def quiescent_SampleAIdeal_pre_finite_sample_a [hSampleAIdeal : Cert.SampleAIdeal.Facts] [hPre_finite_sample_a : Cert.Pre_finite_sample_a.Facts] : Prop :=
  ∀ (m : (ℓ : Loc Cert.SampleAIdeal.nD Cert.SampleAIdeal.τ Cert.SampleAIdeal.sig) → Buf (Elt Ideal) ℓ) (g : Dev Cert.SampleAIdeal.nD → PrngReg), Pre_SampleAIdeal_finite_sample_a m →
    θ_run (Cert.SampleAIdeal.defs (F := Ideal)) (onTc (τ := Cert.SampleAIdeal.τ) (Cert.SampleAIdeal.main (F := Ideal))) ⟨m, fun _ => 0, g⟩ (fun r => (∀ c : Dev Cert.SampleAIdeal.nD,
      r.2.mem ((c.tc : Thread Cert.SampleAIdeal.nD Cert.SampleAIdeal.τ).loc Cert.SampleAIdeal.main_arg0) = m ((c.tc : Thread Cert.SampleAIdeal.nD Cert.SampleAIdeal.τ).loc Cert.SampleAIdeal.main_arg0)
      ∧ r.2.mem ((c.tc : Thread Cert.SampleAIdeal.nD Cert.SampleAIdeal.τ).loc Cert.SampleAIdeal.main_arg1) = m ((c.tc : Thread Cert.SampleAIdeal.nD Cert.SampleAIdeal.τ).loc Cert.SampleAIdeal.main_arg1)
      ∧ r.2.mem ((c.tc : Thread Cert.SampleAIdeal.nD Cert.SampleAIdeal.τ).loc Cert.SampleAIdeal.main_arg2) = m ((c.tc : Thread Cert.SampleAIdeal.nD Cert.SampleAIdeal.τ).loc Cert.SampleAIdeal.main_arg2)
      ∧ r.2.mem ((c.tc : Thread Cert.SampleAIdeal.nD Cert.SampleAIdeal.τ).loc Cert.SampleAIdeal.main_arg3) = m ((c.tc : Thread Cert.SampleAIdeal.nD Cert.SampleAIdeal.τ).loc Cert.SampleAIdeal.main_arg3)
      ∧ r.2.mem ((c.tc : Thread Cert.SampleAIdeal.nD Cert.SampleAIdeal.τ).loc Cert.SampleAIdeal.main_arg4) = m ((c.tc : Thread Cert.SampleAIdeal.nD Cert.SampleAIdeal.τ).loc Cert.SampleAIdeal.main_arg4))
      ∧ r.2.sem = fun _ => 0)

def quiescent_SampleARefIdeal [hSampleARefIdeal : Cert.SampleARefIdeal.Facts] : Prop :=
  ∀ (m : (ℓ : Loc Cert.SampleARefIdeal.nD Cert.SampleARefIdeal.τ Cert.SampleARefIdeal.sig) → Buf (Elt Ideal) ℓ) (g : Dev Cert.SampleARefIdeal.nD → PrngReg), Pre_SampleARefIdeal m →
    θ_run (Cert.SampleARefIdeal.defs (F := Ideal)) (onTc (τ := Cert.SampleARefIdeal.τ) (Cert.SampleARefIdeal.main (F := Ideal))) ⟨m, fun _ => 0, g⟩ (fun r => (∀ c : Dev Cert.SampleARefIdeal.nD,
      r.2.mem ((c.tc : Thread Cert.SampleARefIdeal.nD Cert.SampleARefIdeal.τ).loc Cert.SampleARefIdeal.main_arg0) = m ((c.tc : Thread Cert.SampleARefIdeal.nD Cert.SampleARefIdeal.τ).loc Cert.SampleARefIdeal.main_arg0)
      ∧ r.2.mem ((c.tc : Thread Cert.SampleARefIdeal.nD Cert.SampleARefIdeal.τ).loc Cert.SampleARefIdeal.main_arg1) = m ((c.tc : Thread Cert.SampleARefIdeal.nD Cert.SampleARefIdeal.τ).loc Cert.SampleARefIdeal.main_arg1)
      ∧ r.2.mem ((c.tc : Thread Cert.SampleARefIdeal.nD Cert.SampleARefIdeal.τ).loc Cert.SampleARefIdeal.main_arg2) = m ((c.tc : Thread Cert.SampleARefIdeal.nD Cert.SampleARefIdeal.τ).loc Cert.SampleARefIdeal.main_arg2)
      ∧ r.2.mem ((c.tc : Thread Cert.SampleARefIdeal.nD Cert.SampleARefIdeal.τ).loc Cert.SampleARefIdeal.main_arg3) = m ((c.tc : Thread Cert.SampleARefIdeal.nD Cert.SampleARefIdeal.τ).loc Cert.SampleARefIdeal.main_arg3)
      ∧ r.2.mem ((c.tc : Thread Cert.SampleARefIdeal.nD Cert.SampleARefIdeal.τ).loc Cert.SampleARefIdeal.main_arg4) = m ((c.tc : Thread Cert.SampleARefIdeal.nD Cert.SampleARefIdeal.τ).loc Cert.SampleARefIdeal.main_arg4))
      ∧ r.2.sem = fun _ => 0)

def quiescent_SampleARefIdeal_pre_finite_sample_a [hSampleARefIdeal : Cert.SampleARefIdeal.Facts] [hPre_finite_sample_a : Cert.Pre_finite_sample_a.Facts] : Prop :=
  ∀ (m : (ℓ : Loc Cert.SampleARefIdeal.nD Cert.SampleARefIdeal.τ Cert.SampleARefIdeal.sig) → Buf (Elt Ideal) ℓ) (g : Dev Cert.SampleARefIdeal.nD → PrngReg), Pre_SampleARefIdeal_finite_sample_a m →
    θ_run (Cert.SampleARefIdeal.defs (F := Ideal)) (onTc (τ := Cert.SampleARefIdeal.τ) (Cert.SampleARefIdeal.main (F := Ideal))) ⟨m, fun _ => 0, g⟩ (fun r => (∀ c : Dev Cert.SampleARefIdeal.nD,
      r.2.mem ((c.tc : Thread Cert.SampleARefIdeal.nD Cert.SampleARefIdeal.τ).loc Cert.SampleARefIdeal.main_arg0) = m ((c.tc : Thread Cert.SampleARefIdeal.nD Cert.SampleARefIdeal.τ).loc Cert.SampleARefIdeal.main_arg0)
      ∧ r.2.mem ((c.tc : Thread Cert.SampleARefIdeal.nD Cert.SampleARefIdeal.τ).loc Cert.SampleARefIdeal.main_arg1) = m ((c.tc : Thread Cert.SampleARefIdeal.nD Cert.SampleARefIdeal.τ).loc Cert.SampleARefIdeal.main_arg1)
      ∧ r.2.mem ((c.tc : Thread Cert.SampleARefIdeal.nD Cert.SampleARefIdeal.τ).loc Cert.SampleARefIdeal.main_arg2) = m ((c.tc : Thread Cert.SampleARefIdeal.nD Cert.SampleARefIdeal.τ).loc Cert.SampleARefIdeal.main_arg2)
      ∧ r.2.mem ((c.tc : Thread Cert.SampleARefIdeal.nD Cert.SampleARefIdeal.τ).loc Cert.SampleARefIdeal.main_arg3) = m ((c.tc : Thread Cert.SampleARefIdeal.nD Cert.SampleARefIdeal.τ).loc Cert.SampleARefIdeal.main_arg3)
      ∧ r.2.mem ((c.tc : Thread Cert.SampleARefIdeal.nD Cert.SampleARefIdeal.τ).loc Cert.SampleARefIdeal.main_arg4) = m ((c.tc : Thread Cert.SampleARefIdeal.nD Cert.SampleARefIdeal.τ).loc Cert.SampleARefIdeal.main_arg4))
      ∧ r.2.sem = fun _ => 0)

def quiescent_PromptConv [hPromptConv : Cert.PromptConv.Facts] : Prop :=
  ∀ (m : (ℓ : Loc Cert.PromptConv.nD Cert.PromptConv.τ Cert.PromptConv.sig) → Buf (Elt Bits) ℓ) (g : Dev Cert.PromptConv.nD → PrngReg), Pre_PromptConv m →
    θ_run (Cert.PromptConv.defs (F := Bits)) (onTc (τ := Cert.PromptConv.τ) (Cert.PromptConv.main (F := Bits))) ⟨m, fun _ => 0, g⟩ (fun r => (∀ c : Dev Cert.PromptConv.nD,
      r.2.mem ((c.tc : Thread Cert.PromptConv.nD Cert.PromptConv.τ).loc Cert.PromptConv.main_arg0) = m ((c.tc : Thread Cert.PromptConv.nD Cert.PromptConv.τ).loc Cert.PromptConv.main_arg0)
      ∧ r.2.mem ((c.tc : Thread Cert.PromptConv.nD Cert.PromptConv.τ).loc Cert.PromptConv.main_arg1) = m ((c.tc : Thread Cert.PromptConv.nD Cert.PromptConv.τ).loc Cert.PromptConv.main_arg1)
      ∧ r.2.mem ((c.tc : Thread Cert.PromptConv.nD Cert.PromptConv.τ).loc Cert.PromptConv.main_arg2) = m ((c.tc : Thread Cert.PromptConv.nD Cert.PromptConv.τ).loc Cert.PromptConv.main_arg2)
      ∧ r.2.mem ((c.tc : Thread Cert.PromptConv.nD Cert.PromptConv.τ).loc Cert.PromptConv.main_arg3) = m ((c.tc : Thread Cert.PromptConv.nD Cert.PromptConv.τ).loc Cert.PromptConv.main_arg3)
      ∧ r.2.mem ((c.tc : Thread Cert.PromptConv.nD Cert.PromptConv.τ).loc Cert.PromptConv.main_arg4) = m ((c.tc : Thread Cert.PromptConv.nD Cert.PromptConv.τ).loc Cert.PromptConv.main_arg4))
      ∧ r.2.sem = fun _ => 0)

def quiescent_PromptConvIdeal [hPromptConvIdeal : Cert.PromptConvIdeal.Facts] : Prop :=
  ∀ (m : (ℓ : Loc Cert.PromptConvIdeal.nD Cert.PromptConvIdeal.τ Cert.PromptConvIdeal.sig) → Buf (Elt Ideal) ℓ) (g : Dev Cert.PromptConvIdeal.nD → PrngReg), Pre_PromptConvIdeal m →
    θ_run (Cert.PromptConvIdeal.defs (F := Ideal)) (onTc (τ := Cert.PromptConvIdeal.τ) (Cert.PromptConvIdeal.main (F := Ideal))) ⟨m, fun _ => 0, g⟩ (fun r => (∀ c : Dev Cert.PromptConvIdeal.nD,
      r.2.mem ((c.tc : Thread Cert.PromptConvIdeal.nD Cert.PromptConvIdeal.τ).loc Cert.PromptConvIdeal.main_arg0) = m ((c.tc : Thread Cert.PromptConvIdeal.nD Cert.PromptConvIdeal.τ).loc Cert.PromptConvIdeal.main_arg0)
      ∧ r.2.mem ((c.tc : Thread Cert.PromptConvIdeal.nD Cert.PromptConvIdeal.τ).loc Cert.PromptConvIdeal.main_arg1) = m ((c.tc : Thread Cert.PromptConvIdeal.nD Cert.PromptConvIdeal.τ).loc Cert.PromptConvIdeal.main_arg1)
      ∧ r.2.mem ((c.tc : Thread Cert.PromptConvIdeal.nD Cert.PromptConvIdeal.τ).loc Cert.PromptConvIdeal.main_arg2) = m ((c.tc : Thread Cert.PromptConvIdeal.nD Cert.PromptConvIdeal.τ).loc Cert.PromptConvIdeal.main_arg2)
      ∧ r.2.mem ((c.tc : Thread Cert.PromptConvIdeal.nD Cert.PromptConvIdeal.τ).loc Cert.PromptConvIdeal.main_arg3) = m ((c.tc : Thread Cert.PromptConvIdeal.nD Cert.PromptConvIdeal.τ).loc Cert.PromptConvIdeal.main_arg3)
      ∧ r.2.mem ((c.tc : Thread Cert.PromptConvIdeal.nD Cert.PromptConvIdeal.τ).loc Cert.PromptConvIdeal.main_arg4) = m ((c.tc : Thread Cert.PromptConvIdeal.nD Cert.PromptConvIdeal.τ).loc Cert.PromptConvIdeal.main_arg4))
      ∧ r.2.sem = fun _ => 0)

def quiescent_PromptConvRefIdeal [hPromptConvRefIdeal : Cert.PromptConvRefIdeal.Facts] : Prop :=
  ∀ (m : (ℓ : Loc Cert.PromptConvRefIdeal.nD Cert.PromptConvRefIdeal.τ Cert.PromptConvRefIdeal.sig) → Buf (Elt Ideal) ℓ) (g : Dev Cert.PromptConvRefIdeal.nD → PrngReg), Pre_PromptConvRefIdeal m →
    θ_run (Cert.PromptConvRefIdeal.defs (F := Ideal)) (onTc (τ := Cert.PromptConvRefIdeal.τ) (Cert.PromptConvRefIdeal.main (F := Ideal))) ⟨m, fun _ => 0, g⟩ (fun r => (∀ c : Dev Cert.PromptConvRefIdeal.nD,
      r.2.mem ((c.tc : Thread Cert.PromptConvRefIdeal.nD Cert.PromptConvRefIdeal.τ).loc Cert.PromptConvRefIdeal.main_arg0) = m ((c.tc : Thread Cert.PromptConvRefIdeal.nD Cert.PromptConvRefIdeal.τ).loc Cert.PromptConvRefIdeal.main_arg0)
      ∧ r.2.mem ((c.tc : Thread Cert.PromptConvRefIdeal.nD Cert.PromptConvRefIdeal.τ).loc Cert.PromptConvRefIdeal.main_arg1) = m ((c.tc : Thread Cert.PromptConvRefIdeal.nD Cert.PromptConvRefIdeal.τ).loc Cert.PromptConvRefIdeal.main_arg1)
      ∧ r.2.mem ((c.tc : Thread Cert.PromptConvRefIdeal.nD Cert.PromptConvRefIdeal.τ).loc Cert.PromptConvRefIdeal.main_arg2) = m ((c.tc : Thread Cert.PromptConvRefIdeal.nD Cert.PromptConvRefIdeal.τ).loc Cert.PromptConvRefIdeal.main_arg2)
      ∧ r.2.mem ((c.tc : Thread Cert.PromptConvRefIdeal.nD Cert.PromptConvRefIdeal.τ).loc Cert.PromptConvRefIdeal.main_arg3) = m ((c.tc : Thread Cert.PromptConvRefIdeal.nD Cert.PromptConvRefIdeal.τ).loc Cert.PromptConvRefIdeal.main_arg3)
      ∧ r.2.mem ((c.tc : Thread Cert.PromptConvRefIdeal.nD Cert.PromptConvRefIdeal.τ).loc Cert.PromptConvRefIdeal.main_arg4) = m ((c.tc : Thread Cert.PromptConvRefIdeal.nD Cert.PromptConvRefIdeal.τ).loc Cert.PromptConvRefIdeal.main_arg4))
      ∧ r.2.sem = fun _ => 0)

def preserves_AttnC_AttnCIdeal : Prop :=
  IdealRules.named_const.Statement Cert.AttnCIdeal.κ "mask" .f32 0xF149F2CA#32 ⊥

def algebraic_AttnCIdeal_AttnCRefIdeal_pre_finite_scores [hAttnCIdeal : Cert.AttnCIdeal.Facts] [hAttnCRefIdeal : Cert.AttnCRefIdeal.Facts] [hPre_finite_scores : Cert.Pre_finite_scores.Facts] : Prop :=
  ∀ (m : (ℓ : Loc Cert.AttnCIdeal.nD Cert.AttnCIdeal.τ Cert.AttnCIdeal.sig) → Buf (Elt Ideal) ℓ) (g : Dev Cert.AttnCIdeal.nD → PrngReg)
    (m' : (ℓ : Loc Cert.AttnCRefIdeal.nD Cert.AttnCRefIdeal.τ Cert.AttnCRefIdeal.sig) → Buf (Elt Ideal) ℓ) (g' : Dev Cert.AttnCRefIdeal.nD → PrngReg), Pre_AttnCIdeal_finite_scores m →
    (∀ c : Dev Cert.AttnCIdeal.nD,
      m' ((c.tc : Thread Cert.AttnCRefIdeal.nD Cert.AttnCRefIdeal.τ).loc Cert.AttnCRefIdeal.main_arg0) = m ((c.tc : Thread Cert.AttnCIdeal.nD Cert.AttnCIdeal.τ).loc Cert.AttnCIdeal.main_arg0)
      ∧ m' ((c.tc : Thread Cert.AttnCRefIdeal.nD Cert.AttnCRefIdeal.τ).loc Cert.AttnCRefIdeal.main_arg1) = m ((c.tc : Thread Cert.AttnCIdeal.nD Cert.AttnCIdeal.τ).loc Cert.AttnCIdeal.main_arg1)) →
    ∃ (v0 : (c : Dev Cert.AttnCIdeal.nD) → Buf (Elt Ideal) ((c.tc : Thread Cert.AttnCIdeal.nD Cert.AttnCIdeal.τ).loc Cert.AttnCIdeal.main_v0)),
      θ_run (Cert.AttnCIdeal.defs (F := Ideal)) (onTc (τ := Cert.AttnCIdeal.τ) (Cert.AttnCIdeal.main (F := Ideal))) ⟨m, fun _ => 0, g⟩ (fun r => ∀ c : Dev Cert.AttnCIdeal.nD,
          r.2.mem ((c.tc : Thread Cert.AttnCIdeal.nD Cert.AttnCIdeal.τ).loc Cert.AttnCIdeal.main_v0) = v0 c
          ∧ r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
          ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1))
      ∧ θ_run (Cert.AttnCRefIdeal.defs (F := Ideal)) (onTc (τ := Cert.AttnCRefIdeal.τ) (Cert.AttnCRefIdeal.main (F := Ideal))) ⟨m', fun _ => 0, g'⟩ (fun r => ∀ c : Dev Cert.AttnCRefIdeal.nD,
          r.2.mem ((c.tc : Thread Cert.AttnCRefIdeal.nD Cert.AttnCRefIdeal.τ).loc Cert.AttnCRefIdeal.main_v65) = v0 c
          ∧ r.2.mem ((c.tc : Thread Cert.AttnCRefIdeal.nD Cert.AttnCRefIdeal.τ).loc Cert.AttnCRefIdeal.main_arg0) = m' ((c.tc : Thread Cert.AttnCRefIdeal.nD Cert.AttnCRefIdeal.τ).loc Cert.AttnCRefIdeal.main_arg0)
          ∧ r.2.mem ((c.tc : Thread Cert.AttnCRefIdeal.nD Cert.AttnCRefIdeal.τ).loc Cert.AttnCRefIdeal.main_arg1) = m' ((c.tc : Thread Cert.AttnCRefIdeal.nD Cert.AttnCRefIdeal.τ).loc Cert.AttnCRefIdeal.main_arg1))

def preserves_AttnA_AttnAIdeal : Prop :=
  IdealRules.named_const.Statement Cert.AttnAIdeal.κ "mask" .f32 0xF149F2CA#32 ⊥

def algebraic_AttnAIdeal_AttnARefIdeal_pre_finite_scores_sink [hAttnAIdeal : Cert.AttnAIdeal.Facts] [hAttnARefIdeal : Cert.AttnARefIdeal.Facts] [hPre_finite_scores_sink : Cert.Pre_finite_scores_sink.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite_scores_sink m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)
      ∧ m' ((c.tc : Thread Cert.AttnARefIdeal.nD Cert.AttnARefIdeal.τ).loc Cert.AttnARefIdeal.main_arg2) = m ((c.tc : Thread Cert.AttnAIdeal.nD Cert.AttnAIdeal.τ).loc Cert.AttnAIdeal.main_arg2)) →
    ∃ (v0 : (c : Dev Cert.AttnAIdeal.nD) → Buf (Elt Ideal) ((c.tc : Thread Cert.AttnAIdeal.nD Cert.AttnAIdeal.τ).loc Cert.AttnAIdeal.main_v1)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v1) = v0 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
          ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v63) = v0 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_PostMid_PostMidIdeal : Prop :=
  True

def algebraic_PostMidIdeal_PostMidRefIdeal [hPostMidIdeal : Cert.PostMidIdeal.Facts] [hPostMidRefIdeal : Cert.PostMidRefIdeal.Facts] : Prop :=
  ∀ (m : (ℓ : Loc Cert.PostMidIdeal.nD Cert.PostMidIdeal.τ Cert.PostMidIdeal.sig) → Buf (Elt Ideal) ℓ) (g : Dev Cert.PostMidIdeal.nD → PrngReg)
    (m' : (ℓ : Loc Cert.PostMidRefIdeal.nD Cert.PostMidRefIdeal.τ Cert.PostMidRefIdeal.sig) → Buf (Elt Ideal) ℓ) (g' : Dev Cert.PostMidRefIdeal.nD → PrngReg), Pre_PostMidIdeal m →
    (∀ c : Dev Cert.PostMidIdeal.nD,
      m' ((c.tc : Thread Cert.PostMidRefIdeal.nD Cert.PostMidRefIdeal.τ).loc Cert.PostMidRefIdeal.main_arg0) = m ((c.tc : Thread Cert.PostMidIdeal.nD Cert.PostMidIdeal.τ).loc Cert.PostMidIdeal.main_arg0)
      ∧ m' ((c.tc : Thread Cert.PostMidRefIdeal.nD Cert.PostMidRefIdeal.τ).loc Cert.PostMidRefIdeal.main_arg1) = m ((c.tc : Thread Cert.PostMidIdeal.nD Cert.PostMidIdeal.τ).loc Cert.PostMidIdeal.main_arg1)
      ∧ m' ((c.tc : Thread Cert.PostMidRefIdeal.nD Cert.PostMidRefIdeal.τ).loc Cert.PostMidRefIdeal.main_arg2) = m ((c.tc : Thread Cert.PostMidIdeal.nD Cert.PostMidIdeal.τ).loc Cert.PostMidIdeal.main_arg2)
      ∧ m' ((c.tc : Thread Cert.PostMidRefIdeal.nD Cert.PostMidRefIdeal.τ).loc Cert.PostMidRefIdeal.main_arg3) = m ((c.tc : Thread Cert.PostMidIdeal.nD Cert.PostMidIdeal.τ).loc Cert.PostMidIdeal.main_arg3)
      ∧ m' ((c.tc : Thread Cert.PostMidRefIdeal.nD Cert.PostMidRefIdeal.τ).loc Cert.PostMidRefIdeal.main_arg4) = m ((c.tc : Thread Cert.PostMidIdeal.nD Cert.PostMidIdeal.τ).loc Cert.PostMidIdeal.main_arg4)
      ∧ m' ((c.tc : Thread Cert.PostMidRefIdeal.nD Cert.PostMidRefIdeal.τ).loc Cert.PostMidRefIdeal.main_arg5) = m ((c.tc : Thread Cert.PostMidIdeal.nD Cert.PostMidIdeal.τ).loc Cert.PostMidIdeal.main_arg5)
      ∧ m' ((c.tc : Thread Cert.PostMidRefIdeal.nD Cert.PostMidRefIdeal.τ).loc Cert.PostMidRefIdeal.main_arg6) = m ((c.tc : Thread Cert.PostMidIdeal.nD Cert.PostMidIdeal.τ).loc Cert.PostMidIdeal.main_arg6)
      ∧ m' ((c.tc : Thread Cert.PostMidRefIdeal.nD Cert.PostMidRefIdeal.τ).loc Cert.PostMidRefIdeal.main_arg7) = m ((c.tc : Thread Cert.PostMidIdeal.nD Cert.PostMidIdeal.τ).loc Cert.PostMidIdeal.main_arg7)
      ∧ m' ((c.tc : Thread Cert.PostMidRefIdeal.nD Cert.PostMidRefIdeal.τ).loc Cert.PostMidRefIdeal.main_arg8) = m ((c.tc : Thread Cert.PostMidIdeal.nD Cert.PostMidIdeal.τ).loc Cert.PostMidIdeal.main_arg8)) →
    ∃ (v0 : (c : Dev Cert.PostMidIdeal.nD) → Buf (Elt Ideal) ((c.tc : Thread Cert.PostMidIdeal.nD Cert.PostMidIdeal.τ).loc Cert.PostMidIdeal.main_v6)),
      θ_run (Cert.PostMidIdeal.defs (F := Ideal)) (onTc (τ := Cert.PostMidIdeal.τ) (Cert.PostMidIdeal.main (F := Ideal))) ⟨m, fun _ => 0, g⟩ (fun r => ∀ c : Dev Cert.PostMidIdeal.nD,
          r.2.mem ((c.tc : Thread Cert.PostMidIdeal.nD Cert.PostMidIdeal.τ).loc Cert.PostMidIdeal.main_v6) = v0 c
          ∧ r.2.mem ((c.tc : Thread Cert.PostMidIdeal.nD Cert.PostMidIdeal.τ).loc Cert.PostMidIdeal.main_arg0) = m ((c.tc : Thread Cert.PostMidIdeal.nD Cert.PostMidIdeal.τ).loc Cert.PostMidIdeal.main_arg0)
          ∧ r.2.mem ((c.tc : Thread Cert.PostMidIdeal.nD Cert.PostMidIdeal.τ).loc Cert.PostMidIdeal.main_arg1) = m ((c.tc : Thread Cert.PostMidIdeal.nD Cert.PostMidIdeal.τ).loc Cert.PostMidIdeal.main_arg1)
          ∧ r.2.mem ((c.tc : Thread Cert.PostMidIdeal.nD Cert.PostMidIdeal.τ).loc Cert.PostMidIdeal.main_arg2) = m ((c.tc : Thread Cert.PostMidIdeal.nD Cert.PostMidIdeal.τ).loc Cert.PostMidIdeal.main_arg2)
          ∧ r.2.mem ((c.tc : Thread Cert.PostMidIdeal.nD Cert.PostMidIdeal.τ).loc Cert.PostMidIdeal.main_arg3) = m ((c.tc : Thread Cert.PostMidIdeal.nD Cert.PostMidIdeal.τ).loc Cert.PostMidIdeal.main_arg3)
          ∧ r.2.mem ((c.tc : Thread Cert.PostMidIdeal.nD Cert.PostMidIdeal.τ).loc Cert.PostMidIdeal.main_arg4) = m ((c.tc : Thread Cert.PostMidIdeal.nD Cert.PostMidIdeal.τ).loc Cert.PostMidIdeal.main_arg4)
          ∧ r.2.mem ((c.tc : Thread Cert.PostMidIdeal.nD Cert.PostMidIdeal.τ).loc Cert.PostMidIdeal.main_arg5) = m ((c.tc : Thread Cert.PostMidIdeal.nD Cert.PostMidIdeal.τ).loc Cert.PostMidIdeal.main_arg5)
          ∧ r.2.mem ((c.tc : Thread Cert.PostMidIdeal.nD Cert.PostMidIdeal.τ).loc Cert.PostMidIdeal.main_arg6) = m ((c.tc : Thread Cert.PostMidIdeal.nD Cert.PostMidIdeal.τ).loc Cert.PostMidIdeal.main_arg6)
          ∧ r.2.mem ((c.tc : Thread Cert.PostMidIdeal.nD Cert.PostMidIdeal.τ).loc Cert.PostMidIdeal.main_arg7) = m ((c.tc : Thread Cert.PostMidIdeal.nD Cert.PostMidIdeal.τ).loc Cert.PostMidIdeal.main_arg7)
          ∧ r.2.mem ((c.tc : Thread Cert.PostMidIdeal.nD Cert.PostMidIdeal.τ).loc Cert.PostMidIdeal.main_arg8) = m ((c.tc : Thread Cert.PostMidIdeal.nD Cert.PostMidIdeal.τ).loc Cert.PostMidIdeal.main_arg8))
      ∧ θ_run (Cert.PostMidRefIdeal.defs (F := Ideal)) (onTc (τ := Cert.PostMidRefIdeal.τ) (Cert.PostMidRefIdeal.main (F := Ideal))) ⟨m', fun _ => 0, g'⟩ (fun r => ∀ c : Dev Cert.PostMidRefIdeal.nD,
          r.2.mem ((c.tc : Thread Cert.PostMidRefIdeal.nD Cert.PostMidRefIdeal.τ).loc Cert.PostMidRefIdeal.main_v21) = v0 c
          ∧ r.2.mem ((c.tc : Thread Cert.PostMidRefIdeal.nD Cert.PostMidRefIdeal.τ).loc Cert.PostMidRefIdeal.main_arg0) = m' ((c.tc : Thread Cert.PostMidRefIdeal.nD Cert.PostMidRefIdeal.τ).loc Cert.PostMidRefIdeal.main_arg0)
          ∧ r.2.mem ((c.tc : Thread Cert.PostMidRefIdeal.nD Cert.PostMidRefIdeal.τ).loc Cert.PostMidRefIdeal.main_arg1) = m' ((c.tc : Thread Cert.PostMidRefIdeal.nD Cert.PostMidRefIdeal.τ).loc Cert.PostMidRefIdeal.main_arg1)
          ∧ r.2.mem ((c.tc : Thread Cert.PostMidRefIdeal.nD Cert.PostMidRefIdeal.τ).loc Cert.PostMidRefIdeal.main_arg2) = m' ((c.tc : Thread Cert.PostMidRefIdeal.nD Cert.PostMidRefIdeal.τ).loc Cert.PostMidRefIdeal.main_arg2)
          ∧ r.2.mem ((c.tc : Thread Cert.PostMidRefIdeal.nD Cert.PostMidRefIdeal.τ).loc Cert.PostMidRefIdeal.main_arg3) = m' ((c.tc : Thread Cert.PostMidRefIdeal.nD Cert.PostMidRefIdeal.τ).loc Cert.PostMidRefIdeal.main_arg3)
          ∧ r.2.mem ((c.tc : Thread Cert.PostMidRefIdeal.nD Cert.PostMidRefIdeal.τ).loc Cert.PostMidRefIdeal.main_arg4) = m' ((c.tc : Thread Cert.PostMidRefIdeal.nD Cert.PostMidRefIdeal.τ).loc Cert.PostMidRefIdeal.main_arg4)
          ∧ r.2.mem ((c.tc : Thread Cert.PostMidRefIdeal.nD Cert.PostMidRefIdeal.τ).loc Cert.PostMidRefIdeal.main_arg5) = m' ((c.tc : Thread Cert.PostMidRefIdeal.nD Cert.PostMidRefIdeal.τ).loc Cert.PostMidRefIdeal.main_arg5)
          ∧ r.2.mem ((c.tc : Thread Cert.PostMidRefIdeal.nD Cert.PostMidRefIdeal.τ).loc Cert.PostMidRefIdeal.main_arg6) = m' ((c.tc : Thread Cert.PostMidRefIdeal.nD Cert.PostMidRefIdeal.τ).loc Cert.PostMidRefIdeal.main_arg6)
          ∧ r.2.mem ((c.tc : Thread Cert.PostMidRefIdeal.nD Cert.PostMidRefIdeal.τ).loc Cert.PostMidRefIdeal.main_arg7) = m' ((c.tc : Thread Cert.PostMidRefIdeal.nD Cert.PostMidRefIdeal.τ).loc Cert.PostMidRefIdeal.main_arg7)
          ∧ r.2.mem ((c.tc : Thread Cert.PostMidRefIdeal.nD Cert.PostMidRefIdeal.τ).loc Cert.PostMidRefIdeal.main_arg8) = m' ((c.tc : Thread Cert.PostMidRefIdeal.nD Cert.PostMidRefIdeal.τ).loc Cert.PostMidRefIdeal.main_arg8))

def preserves_PostLast_PostLastIdeal : Prop :=
  True

def algebraic_PostLastIdeal_PostLastRefIdeal [hPostLastIdeal : Cert.PostLastIdeal.Facts] [hPostLastRefIdeal : Cert.PostLastRefIdeal.Facts] : Prop :=
  ∀ (m : (ℓ : Loc Cert.PostLastIdeal.nD Cert.PostLastIdeal.τ Cert.PostLastIdeal.sig) → Buf (Elt Ideal) ℓ) (g : Dev Cert.PostLastIdeal.nD → PrngReg)
    (m' : (ℓ : Loc Cert.PostLastRefIdeal.nD Cert.PostLastRefIdeal.τ Cert.PostLastRefIdeal.sig) → Buf (Elt Ideal) ℓ) (g' : Dev Cert.PostLastRefIdeal.nD → PrngReg), Pre_PostLastIdeal m →
    (∀ c : Dev Cert.PostLastIdeal.nD,
      m' ((c.tc : Thread Cert.PostLastRefIdeal.nD Cert.PostLastRefIdeal.τ).loc Cert.PostLastRefIdeal.main_arg0) = m ((c.tc : Thread Cert.PostLastIdeal.nD Cert.PostLastIdeal.τ).loc Cert.PostLastIdeal.main_arg0)
      ∧ m' ((c.tc : Thread Cert.PostLastRefIdeal.nD Cert.PostLastRefIdeal.τ).loc Cert.PostLastRefIdeal.main_arg1) = m ((c.tc : Thread Cert.PostLastIdeal.nD Cert.PostLastIdeal.τ).loc Cert.PostLastIdeal.main_arg1)
      ∧ m' ((c.tc : Thread Cert.PostLastRefIdeal.nD Cert.PostLastRefIdeal.τ).loc Cert.PostLastRefIdeal.main_arg2) = m ((c.tc : Thread Cert.PostLastIdeal.nD Cert.PostLastIdeal.τ).loc Cert.PostLastIdeal.main_arg2)
      ∧ m' ((c.tc : Thread Cert.PostLastRefIdeal.nD Cert.PostLastRefIdeal.τ).loc Cert.PostLastRefIdeal.main_arg3) = m ((c.tc : Thread Cert.PostLastIdeal.nD Cert.PostLastIdeal.τ).loc Cert.PostLastIdeal.main_arg3)
      ∧ m' ((c.tc : Thread Cert.PostLastRefIdeal.nD Cert.PostLastRefIdeal.τ).loc Cert.PostLastRefIdeal.main_arg4) = m ((c.tc : Thread Cert.PostLastIdeal.nD Cert.PostLastIdeal.τ).loc Cert.PostLastIdeal.main_arg4)
      ∧ m' ((c.tc : Thread Cert.PostLastRefIdeal.nD Cert.PostLastRefIdeal.τ).loc Cert.PostLastRefIdeal.main_arg5) = m ((c.tc : Thread Cert.PostLastIdeal.nD Cert.PostLastIdeal.τ).loc Cert.PostLastIdeal.main_arg5)
      ∧ m' ((c.tc : Thread Cert.PostLastRefIdeal.nD Cert.PostLastRefIdeal.τ).loc Cert.PostLastRefIdeal.main_arg6) = m ((c.tc : Thread Cert.PostLastIdeal.nD Cert.PostLastIdeal.τ).loc Cert.PostLastIdeal.main_arg6)
      ∧ m' ((c.tc : Thread Cert.PostLastRefIdeal.nD Cert.PostLastRefIdeal.τ).loc Cert.PostLastRefIdeal.main_arg7) = m ((c.tc : Thread Cert.PostLastIdeal.nD Cert.PostLastIdeal.τ).loc Cert.PostLastIdeal.main_arg7)
      ∧ m' ((c.tc : Thread Cert.PostLastRefIdeal.nD Cert.PostLastRefIdeal.τ).loc Cert.PostLastRefIdeal.main_arg8) = m ((c.tc : Thread Cert.PostLastIdeal.nD Cert.PostLastIdeal.τ).loc Cert.PostLastIdeal.main_arg8)) →
    ∃ (v0 : (c : Dev Cert.PostLastIdeal.nD) → Buf (Elt Ideal) ((c.tc : Thread Cert.PostLastIdeal.nD Cert.PostLastIdeal.τ).loc Cert.PostLastIdeal.main_v6)),
      θ_run (Cert.PostLastIdeal.defs (F := Ideal)) (onTc (τ := Cert.PostLastIdeal.τ) (Cert.PostLastIdeal.main (F := Ideal))) ⟨m, fun _ => 0, g⟩ (fun r => ∀ c : Dev Cert.PostLastIdeal.nD,
          r.2.mem ((c.tc : Thread Cert.PostLastIdeal.nD Cert.PostLastIdeal.τ).loc Cert.PostLastIdeal.main_v6) = v0 c
          ∧ r.2.mem ((c.tc : Thread Cert.PostLastIdeal.nD Cert.PostLastIdeal.τ).loc Cert.PostLastIdeal.main_arg0) = m ((c.tc : Thread Cert.PostLastIdeal.nD Cert.PostLastIdeal.τ).loc Cert.PostLastIdeal.main_arg0)
          ∧ r.2.mem ((c.tc : Thread Cert.PostLastIdeal.nD Cert.PostLastIdeal.τ).loc Cert.PostLastIdeal.main_arg1) = m ((c.tc : Thread Cert.PostLastIdeal.nD Cert.PostLastIdeal.τ).loc Cert.PostLastIdeal.main_arg1)
          ∧ r.2.mem ((c.tc : Thread Cert.PostLastIdeal.nD Cert.PostLastIdeal.τ).loc Cert.PostLastIdeal.main_arg2) = m ((c.tc : Thread Cert.PostLastIdeal.nD Cert.PostLastIdeal.τ).loc Cert.PostLastIdeal.main_arg2)
          ∧ r.2.mem ((c.tc : Thread Cert.PostLastIdeal.nD Cert.PostLastIdeal.τ).loc Cert.PostLastIdeal.main_arg3) = m ((c.tc : Thread Cert.PostLastIdeal.nD Cert.PostLastIdeal.τ).loc Cert.PostLastIdeal.main_arg3)
          ∧ r.2.mem ((c.tc : Thread Cert.PostLastIdeal.nD Cert.PostLastIdeal.τ).loc Cert.PostLastIdeal.main_arg4) = m ((c.tc : Thread Cert.PostLastIdeal.nD Cert.PostLastIdeal.τ).loc Cert.PostLastIdeal.main_arg4)
          ∧ r.2.mem ((c.tc : Thread Cert.PostLastIdeal.nD Cert.PostLastIdeal.τ).loc Cert.PostLastIdeal.main_arg5) = m ((c.tc : Thread Cert.PostLastIdeal.nD Cert.PostLastIdeal.τ).loc Cert.PostLastIdeal.main_arg5)
          ∧ r.2.mem ((c.tc : Thread Cert.PostLastIdeal.nD Cert.PostLastIdeal.τ).loc Cert.PostLastIdeal.main_arg6) = m ((c.tc : Thread Cert.PostLastIdeal.nD Cert.PostLastIdeal.τ).loc Cert.PostLastIdeal.main_arg6)
          ∧ r.2.mem ((c.tc : Thread Cert.PostLastIdeal.nD Cert.PostLastIdeal.τ).loc Cert.PostLastIdeal.main_arg7) = m ((c.tc : Thread Cert.PostLastIdeal.nD Cert.PostLastIdeal.τ).loc Cert.PostLastIdeal.main_arg7)
          ∧ r.2.mem ((c.tc : Thread Cert.PostLastIdeal.nD Cert.PostLastIdeal.τ).loc Cert.PostLastIdeal.main_arg8) = m ((c.tc : Thread Cert.PostLastIdeal.nD Cert.PostLastIdeal.τ).loc Cert.PostLastIdeal.main_arg8))
      ∧ θ_run (Cert.PostLastRefIdeal.defs (F := Ideal)) (onTc (τ := Cert.PostLastRefIdeal.τ) (Cert.PostLastRefIdeal.main (F := Ideal))) ⟨m', fun _ => 0, g'⟩ (fun r => ∀ c : Dev Cert.PostLastRefIdeal.nD,
          r.2.mem ((c.tc : Thread Cert.PostLastRefIdeal.nD Cert.PostLastRefIdeal.τ).loc Cert.PostLastRefIdeal.main_v34) = v0 c
          ∧ r.2.mem ((c.tc : Thread Cert.PostLastRefIdeal.nD Cert.PostLastRefIdeal.τ).loc Cert.PostLastRefIdeal.main_arg0) = m' ((c.tc : Thread Cert.PostLastRefIdeal.nD Cert.PostLastRefIdeal.τ).loc Cert.PostLastRefIdeal.main_arg0)
          ∧ r.2.mem ((c.tc : Thread Cert.PostLastRefIdeal.nD Cert.PostLastRefIdeal.τ).loc Cert.PostLastRefIdeal.main_arg1) = m' ((c.tc : Thread Cert.PostLastRefIdeal.nD Cert.PostLastRefIdeal.τ).loc Cert.PostLastRefIdeal.main_arg1)
          ∧ r.2.mem ((c.tc : Thread Cert.PostLastRefIdeal.nD Cert.PostLastRefIdeal.τ).loc Cert.PostLastRefIdeal.main_arg2) = m' ((c.tc : Thread Cert.PostLastRefIdeal.nD Cert.PostLastRefIdeal.τ).loc Cert.PostLastRefIdeal.main_arg2)
          ∧ r.2.mem ((c.tc : Thread Cert.PostLastRefIdeal.nD Cert.PostLastRefIdeal.τ).loc Cert.PostLastRefIdeal.main_arg3) = m' ((c.tc : Thread Cert.PostLastRefIdeal.nD Cert.PostLastRefIdeal.τ).loc Cert.PostLastRefIdeal.main_arg3)
          ∧ r.2.mem ((c.tc : Thread Cert.PostLastRefIdeal.nD Cert.PostLastRefIdeal.τ).loc Cert.PostLastRefIdeal.main_arg4) = m' ((c.tc : Thread Cert.PostLastRefIdeal.nD Cert.PostLastRefIdeal.τ).loc Cert.PostLastRefIdeal.main_arg4)
          ∧ r.2.mem ((c.tc : Thread Cert.PostLastRefIdeal.nD Cert.PostLastRefIdeal.τ).loc Cert.PostLastRefIdeal.main_arg5) = m' ((c.tc : Thread Cert.PostLastRefIdeal.nD Cert.PostLastRefIdeal.τ).loc Cert.PostLastRefIdeal.main_arg5)
          ∧ r.2.mem ((c.tc : Thread Cert.PostLastRefIdeal.nD Cert.PostLastRefIdeal.τ).loc Cert.PostLastRefIdeal.main_arg6) = m' ((c.tc : Thread Cert.PostLastRefIdeal.nD Cert.PostLastRefIdeal.τ).loc Cert.PostLastRefIdeal.main_arg6)
          ∧ r.2.mem ((c.tc : Thread Cert.PostLastRefIdeal.nD Cert.PostLastRefIdeal.τ).loc Cert.PostLastRefIdeal.main_arg7) = m' ((c.tc : Thread Cert.PostLastRefIdeal.nD Cert.PostLastRefIdeal.τ).loc Cert.PostLastRefIdeal.main_arg7)
          ∧ r.2.mem ((c.tc : Thread Cert.PostLastRefIdeal.nD Cert.PostLastRefIdeal.τ).loc Cert.PostLastRefIdeal.main_arg8) = m' ((c.tc : Thread Cert.PostLastRefIdeal.nD Cert.PostLastRefIdeal.τ).loc Cert.PostLastRefIdeal.main_arg8))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v3_0)) (v1 : (c : Dev Cert.ConvIdeal.nD) → Buf (Elt Ideal) ((c.tc : Thread Cert.ConvIdeal.nD Cert.ConvIdeal.τ).loc Cert.ConvIdeal.main_v3_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_0) = v0 c
          ∧ r.2.mem ((c.tc : Thread Cert.ConvIdeal.nD Cert.ConvIdeal.τ).loc Cert.ConvIdeal.main_v3_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v107) = v0 c
          ∧ r.2.mem ((c.tc : Thread Cert.ConvRefIdeal.nD Cert.ConvRefIdeal.τ).loc Cert.ConvRefIdeal.main_v108) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_SampleC_SampleCIdeal : Prop :=
  True

def algebraic_SampleCIdeal_SampleCRefIdeal_pre_finite_sample_c [hSampleCIdeal : Cert.SampleCIdeal.Facts] [hSampleCRefIdeal : Cert.SampleCRefIdeal.Facts] [hPre_finite_sample_c : Cert.Pre_finite_sample_c.Facts] : Prop :=
  ∀ (m : (ℓ : Loc Cert.SampleCIdeal.nD Cert.SampleCIdeal.τ Cert.SampleCIdeal.sig) → Buf (Elt Ideal) ℓ) (g : Dev Cert.SampleCIdeal.nD → PrngReg)
    (m' : (ℓ : Loc Cert.SampleCRefIdeal.nD Cert.SampleCRefIdeal.τ Cert.SampleCRefIdeal.sig) → Buf (Elt Ideal) ℓ) (g' : Dev Cert.SampleCRefIdeal.nD → PrngReg), Pre_SampleCIdeal_finite_sample_c m →
    (∀ c : Dev Cert.SampleCIdeal.nD,
      m' ((c.tc : Thread Cert.SampleCRefIdeal.nD Cert.SampleCRefIdeal.τ).loc Cert.SampleCRefIdeal.main_arg0) = m ((c.tc : Thread Cert.SampleCIdeal.nD Cert.SampleCIdeal.τ).loc Cert.SampleCIdeal.main_arg0)
      ∧ m' ((c.tc : Thread Cert.SampleCRefIdeal.nD Cert.SampleCRefIdeal.τ).loc Cert.SampleCRefIdeal.main_arg1) = m ((c.tc : Thread Cert.SampleCIdeal.nD Cert.SampleCIdeal.τ).loc Cert.SampleCIdeal.main_arg1)
      ∧ m' ((c.tc : Thread Cert.SampleCRefIdeal.nD Cert.SampleCRefIdeal.τ).loc Cert.SampleCRefIdeal.main_arg2) = m ((c.tc : Thread Cert.SampleCIdeal.nD Cert.SampleCIdeal.τ).loc Cert.SampleCIdeal.main_arg2)
      ∧ m' ((c.tc : Thread Cert.SampleCRefIdeal.nD Cert.SampleCRefIdeal.τ).loc Cert.SampleCRefIdeal.main_arg3) = m ((c.tc : Thread Cert.SampleCIdeal.nD Cert.SampleCIdeal.τ).loc Cert.SampleCIdeal.main_arg3)) →
    ∃ (v0 : (c : Dev Cert.SampleCIdeal.nD) → Buf (Elt Ideal) ((c.tc : Thread Cert.SampleCIdeal.nD Cert.SampleCIdeal.τ).loc Cert.SampleCIdeal.main_v2)),
      θ_run (Cert.SampleCIdeal.defs (F := Ideal)) (onTc (τ := Cert.SampleCIdeal.τ) (Cert.SampleCIdeal.main (F := Ideal))) ⟨m, fun _ => 0, g⟩ (fun r => ∀ c : Dev Cert.SampleCIdeal.nD,
          r.2.mem ((c.tc : Thread Cert.SampleCIdeal.nD Cert.SampleCIdeal.τ).loc Cert.SampleCIdeal.main_v2) = v0 c
          ∧ r.2.mem ((c.tc : Thread Cert.SampleCIdeal.nD Cert.SampleCIdeal.τ).loc Cert.SampleCIdeal.main_arg0) = m ((c.tc : Thread Cert.SampleCIdeal.nD Cert.SampleCIdeal.τ).loc Cert.SampleCIdeal.main_arg0)
          ∧ r.2.mem ((c.tc : Thread Cert.SampleCIdeal.nD Cert.SampleCIdeal.τ).loc Cert.SampleCIdeal.main_arg1) = m ((c.tc : Thread Cert.SampleCIdeal.nD Cert.SampleCIdeal.τ).loc Cert.SampleCIdeal.main_arg1)
          ∧ r.2.mem ((c.tc : Thread Cert.SampleCIdeal.nD Cert.SampleCIdeal.τ).loc Cert.SampleCIdeal.main_arg2) = m ((c.tc : Thread Cert.SampleCIdeal.nD Cert.SampleCIdeal.τ).loc Cert.SampleCIdeal.main_arg2)
          ∧ r.2.mem ((c.tc : Thread Cert.SampleCIdeal.nD Cert.SampleCIdeal.τ).loc Cert.SampleCIdeal.main_arg3) = m ((c.tc : Thread Cert.SampleCIdeal.nD Cert.SampleCIdeal.τ).loc Cert.SampleCIdeal.main_arg3))
      ∧ θ_run (Cert.SampleCRefIdeal.defs (F := Ideal)) (onTc (τ := Cert.SampleCRefIdeal.τ) (Cert.SampleCRefIdeal.main (F := Ideal))) ⟨m', fun _ => 0, g'⟩ (fun r => ∀ c : Dev Cert.SampleCRefIdeal.nD,
          r.2.mem ((c.tc : Thread Cert.SampleCRefIdeal.nD Cert.SampleCRefIdeal.τ).loc Cert.SampleCRefIdeal.main_v28) = v0 c
          ∧ r.2.mem ((c.tc : Thread Cert.SampleCRefIdeal.nD Cert.SampleCRefIdeal.τ).loc Cert.SampleCRefIdeal.main_arg0) = m' ((c.tc : Thread Cert.SampleCRefIdeal.nD Cert.SampleCRefIdeal.τ).loc Cert.SampleCRefIdeal.main_arg0)
          ∧ r.2.mem ((c.tc : Thread Cert.SampleCRefIdeal.nD Cert.SampleCRefIdeal.τ).loc Cert.SampleCRefIdeal.main_arg1) = m' ((c.tc : Thread Cert.SampleCRefIdeal.nD Cert.SampleCRefIdeal.τ).loc Cert.SampleCRefIdeal.main_arg1)
          ∧ r.2.mem ((c.tc : Thread Cert.SampleCRefIdeal.nD Cert.SampleCRefIdeal.τ).loc Cert.SampleCRefIdeal.main_arg2) = m' ((c.tc : Thread Cert.SampleCRefIdeal.nD Cert.SampleCRefIdeal.τ).loc Cert.SampleCRefIdeal.main_arg2)
          ∧ r.2.mem ((c.tc : Thread Cert.SampleCRefIdeal.nD Cert.SampleCRefIdeal.τ).loc Cert.SampleCRefIdeal.main_arg3) = m' ((c.tc : Thread Cert.SampleCRefIdeal.nD Cert.SampleCRefIdeal.τ).loc Cert.SampleCRefIdeal.main_arg3))

def preserves_SampleA_SampleAIdeal : Prop :=
  True

def algebraic_SampleAIdeal_SampleARefIdeal_pre_finite_sample_a [hSampleAIdeal : Cert.SampleAIdeal.Facts] [hSampleARefIdeal : Cert.SampleARefIdeal.Facts] [hPre_finite_sample_a : Cert.Pre_finite_sample_a.Facts] : Prop :=
  ∀ (m : (ℓ : Loc Cert.SampleAIdeal.nD Cert.SampleAIdeal.τ Cert.SampleAIdeal.sig) → Buf (Elt Ideal) ℓ) (g : Dev Cert.SampleAIdeal.nD → PrngReg)
    (m' : (ℓ : Loc Cert.SampleARefIdeal.nD Cert.SampleARefIdeal.τ Cert.SampleARefIdeal.sig) → Buf (Elt Ideal) ℓ) (g' : Dev Cert.SampleARefIdeal.nD → PrngReg), Pre_SampleAIdeal_finite_sample_a m →
    (∀ c : Dev Cert.SampleAIdeal.nD,
      m' ((c.tc : Thread Cert.SampleARefIdeal.nD Cert.SampleARefIdeal.τ).loc Cert.SampleARefIdeal.main_arg0) = m ((c.tc : Thread Cert.SampleAIdeal.nD Cert.SampleAIdeal.τ).loc Cert.SampleAIdeal.main_arg0)
      ∧ m' ((c.tc : Thread Cert.SampleARefIdeal.nD Cert.SampleARefIdeal.τ).loc Cert.SampleARefIdeal.main_arg1) = m ((c.tc : Thread Cert.SampleAIdeal.nD Cert.SampleAIdeal.τ).loc Cert.SampleAIdeal.main_arg1)
      ∧ m' ((c.tc : Thread Cert.SampleARefIdeal.nD Cert.SampleARefIdeal.τ).loc Cert.SampleARefIdeal.main_arg2) = m ((c.tc : Thread Cert.SampleAIdeal.nD Cert.SampleAIdeal.τ).loc Cert.SampleAIdeal.main_arg2)
      ∧ m' ((c.tc : Thread Cert.SampleARefIdeal.nD Cert.SampleARefIdeal.τ).loc Cert.SampleARefIdeal.main_arg3) = m ((c.tc : Thread Cert.SampleAIdeal.nD Cert.SampleAIdeal.τ).loc Cert.SampleAIdeal.main_arg3)
      ∧ m' ((c.tc : Thread Cert.SampleARefIdeal.nD Cert.SampleARefIdeal.τ).loc Cert.SampleARefIdeal.main_arg4) = m ((c.tc : Thread Cert.SampleAIdeal.nD Cert.SampleAIdeal.τ).loc Cert.SampleAIdeal.main_arg4)) →
    ∃ (v0 : (c : Dev Cert.SampleAIdeal.nD) → Buf (Elt Ideal) ((c.tc : Thread Cert.SampleAIdeal.nD Cert.SampleAIdeal.τ).loc Cert.SampleAIdeal.main_v3)),
      θ_run (Cert.SampleAIdeal.defs (F := Ideal)) (onTc (τ := Cert.SampleAIdeal.τ) (Cert.SampleAIdeal.main (F := Ideal))) ⟨m, fun _ => 0, g⟩ (fun r => ∀ c : Dev Cert.SampleAIdeal.nD,
          r.2.mem ((c.tc : Thread Cert.SampleAIdeal.nD Cert.SampleAIdeal.τ).loc Cert.SampleAIdeal.main_v3) = v0 c
          ∧ r.2.mem ((c.tc : Thread Cert.SampleAIdeal.nD Cert.SampleAIdeal.τ).loc Cert.SampleAIdeal.main_arg0) = m ((c.tc : Thread Cert.SampleAIdeal.nD Cert.SampleAIdeal.τ).loc Cert.SampleAIdeal.main_arg0)
          ∧ r.2.mem ((c.tc : Thread Cert.SampleAIdeal.nD Cert.SampleAIdeal.τ).loc Cert.SampleAIdeal.main_arg1) = m ((c.tc : Thread Cert.SampleAIdeal.nD Cert.SampleAIdeal.τ).loc Cert.SampleAIdeal.main_arg1)
          ∧ r.2.mem ((c.tc : Thread Cert.SampleAIdeal.nD Cert.SampleAIdeal.τ).loc Cert.SampleAIdeal.main_arg2) = m ((c.tc : Thread Cert.SampleAIdeal.nD Cert.SampleAIdeal.τ).loc Cert.SampleAIdeal.main_arg2)
          ∧ r.2.mem ((c.tc : Thread Cert.SampleAIdeal.nD Cert.SampleAIdeal.τ).loc Cert.SampleAIdeal.main_arg3) = m ((c.tc : Thread Cert.SampleAIdeal.nD Cert.SampleAIdeal.τ).loc Cert.SampleAIdeal.main_arg3)
          ∧ r.2.mem ((c.tc : Thread Cert.SampleAIdeal.nD Cert.SampleAIdeal.τ).loc Cert.SampleAIdeal.main_arg4) = m ((c.tc : Thread Cert.SampleAIdeal.nD Cert.SampleAIdeal.τ).loc Cert.SampleAIdeal.main_arg4))
      ∧ θ_run (Cert.SampleARefIdeal.defs (F := Ideal)) (onTc (τ := Cert.SampleARefIdeal.τ) (Cert.SampleARefIdeal.main (F := Ideal))) ⟨m', fun _ => 0, g'⟩ (fun r => ∀ c : Dev Cert.SampleARefIdeal.nD,
          r.2.mem ((c.tc : Thread Cert.SampleARefIdeal.nD Cert.SampleARefIdeal.τ).loc Cert.SampleARefIdeal.main_v38) = v0 c
          ∧ r.2.mem ((c.tc : Thread Cert.SampleARefIdeal.nD Cert.SampleARefIdeal.τ).loc Cert.SampleARefIdeal.main_arg0) = m' ((c.tc : Thread Cert.SampleARefIdeal.nD Cert.SampleARefIdeal.τ).loc Cert.SampleARefIdeal.main_arg0)
          ∧ r.2.mem ((c.tc : Thread Cert.SampleARefIdeal.nD Cert.SampleARefIdeal.τ).loc Cert.SampleARefIdeal.main_arg1) = m' ((c.tc : Thread Cert.SampleARefIdeal.nD Cert.SampleARefIdeal.τ).loc Cert.SampleARefIdeal.main_arg1)
          ∧ r.2.mem ((c.tc : Thread Cert.SampleARefIdeal.nD Cert.SampleARefIdeal.τ).loc Cert.SampleARefIdeal.main_arg2) = m' ((c.tc : Thread Cert.SampleARefIdeal.nD Cert.SampleARefIdeal.τ).loc Cert.SampleARefIdeal.main_arg2)
          ∧ r.2.mem ((c.tc : Thread Cert.SampleARefIdeal.nD Cert.SampleARefIdeal.τ).loc Cert.SampleARefIdeal.main_arg3) = m' ((c.tc : Thread Cert.SampleARefIdeal.nD Cert.SampleARefIdeal.τ).loc Cert.SampleARefIdeal.main_arg3)
          ∧ r.2.mem ((c.tc : Thread Cert.SampleARefIdeal.nD Cert.SampleARefIdeal.τ).loc Cert.SampleARefIdeal.main_arg4) = m' ((c.tc : Thread Cert.SampleARefIdeal.nD Cert.SampleARefIdeal.τ).loc Cert.SampleARefIdeal.main_arg4))

def preserves_PromptConv_PromptConvIdeal : Prop :=
  True

def algebraic_PromptConvIdeal_PromptConvRefIdeal [hPromptConvIdeal : Cert.PromptConvIdeal.Facts] [hPromptConvRefIdeal : Cert.PromptConvRefIdeal.Facts] : Prop :=
  ∀ (m : (ℓ : Loc Cert.PromptConvIdeal.nD Cert.PromptConvIdeal.τ Cert.PromptConvIdeal.sig) → Buf (Elt Ideal) ℓ) (g : Dev Cert.PromptConvIdeal.nD → PrngReg)
    (m' : (ℓ : Loc Cert.PromptConvRefIdeal.nD Cert.PromptConvRefIdeal.τ Cert.PromptConvRefIdeal.sig) → Buf (Elt Ideal) ℓ) (g' : Dev Cert.PromptConvRefIdeal.nD → PrngReg), Pre_PromptConvIdeal m →
    (∀ c : Dev Cert.PromptConvIdeal.nD,
      m' ((c.tc : Thread Cert.PromptConvRefIdeal.nD Cert.PromptConvRefIdeal.τ).loc Cert.PromptConvRefIdeal.main_arg0) = m ((c.tc : Thread Cert.PromptConvIdeal.nD Cert.PromptConvIdeal.τ).loc Cert.PromptConvIdeal.main_arg0)
      ∧ m' ((c.tc : Thread Cert.PromptConvRefIdeal.nD Cert.PromptConvRefIdeal.τ).loc Cert.PromptConvRefIdeal.main_arg1) = m ((c.tc : Thread Cert.PromptConvIdeal.nD Cert.PromptConvIdeal.τ).loc Cert.PromptConvIdeal.main_arg1)
      ∧ m' ((c.tc : Thread Cert.PromptConvRefIdeal.nD Cert.PromptConvRefIdeal.τ).loc Cert.PromptConvRefIdeal.main_arg2) = m ((c.tc : Thread Cert.PromptConvIdeal.nD Cert.PromptConvIdeal.τ).loc Cert.PromptConvIdeal.main_arg2)
      ∧ m' ((c.tc : Thread Cert.PromptConvRefIdeal.nD Cert.PromptConvRefIdeal.τ).loc Cert.PromptConvRefIdeal.main_arg3) = m ((c.tc : Thread Cert.PromptConvIdeal.nD Cert.PromptConvIdeal.τ).loc Cert.PromptConvIdeal.main_arg3)
      ∧ m' ((c.tc : Thread Cert.PromptConvRefIdeal.nD Cert.PromptConvRefIdeal.τ).loc Cert.PromptConvRefIdeal.main_arg4) = m ((c.tc : Thread Cert.PromptConvIdeal.nD Cert.PromptConvIdeal.τ).loc Cert.PromptConvIdeal.main_arg4)) →
    ∃ (v0 : (c : Dev Cert.PromptConvIdeal.nD) → Buf (Elt Ideal) ((c.tc : Thread Cert.PromptConvIdeal.nD Cert.PromptConvIdeal.τ).loc Cert.PromptConvIdeal.main_v3_0)) (v1 : (c : Dev Cert.PromptConvIdeal.nD) → Buf (Elt Ideal) ((c.tc : Thread Cert.PromptConvIdeal.nD Cert.PromptConvIdeal.τ).loc Cert.PromptConvIdeal.main_v3_1)),
      θ_run (Cert.PromptConvIdeal.defs (F := Ideal)) (onTc (τ := Cert.PromptConvIdeal.τ) (Cert.PromptConvIdeal.main (F := Ideal))) ⟨m, fun _ => 0, g⟩ (fun r => ∀ c : Dev Cert.PromptConvIdeal.nD,
          r.2.mem ((c.tc : Thread Cert.PromptConvIdeal.nD Cert.PromptConvIdeal.τ).loc Cert.PromptConvIdeal.main_v3_0) = v0 c
          ∧ r.2.mem ((c.tc : Thread Cert.PromptConvIdeal.nD Cert.PromptConvIdeal.τ).loc Cert.PromptConvIdeal.main_v3_1) = v1 c
          ∧ r.2.mem ((c.tc : Thread Cert.PromptConvIdeal.nD Cert.PromptConvIdeal.τ).loc Cert.PromptConvIdeal.main_arg0) = m ((c.tc : Thread Cert.PromptConvIdeal.nD Cert.PromptConvIdeal.τ).loc Cert.PromptConvIdeal.main_arg0)
          ∧ r.2.mem ((c.tc : Thread Cert.PromptConvIdeal.nD Cert.PromptConvIdeal.τ).loc Cert.PromptConvIdeal.main_arg1) = m ((c.tc : Thread Cert.PromptConvIdeal.nD Cert.PromptConvIdeal.τ).loc Cert.PromptConvIdeal.main_arg1)
          ∧ r.2.mem ((c.tc : Thread Cert.PromptConvIdeal.nD Cert.PromptConvIdeal.τ).loc Cert.PromptConvIdeal.main_arg2) = m ((c.tc : Thread Cert.PromptConvIdeal.nD Cert.PromptConvIdeal.τ).loc Cert.PromptConvIdeal.main_arg2)
          ∧ r.2.mem ((c.tc : Thread Cert.PromptConvIdeal.nD Cert.PromptConvIdeal.τ).loc Cert.PromptConvIdeal.main_arg3) = m ((c.tc : Thread Cert.PromptConvIdeal.nD Cert.PromptConvIdeal.τ).loc Cert.PromptConvIdeal.main_arg3)
          ∧ r.2.mem ((c.tc : Thread Cert.PromptConvIdeal.nD Cert.PromptConvIdeal.τ).loc Cert.PromptConvIdeal.main_arg4) = m ((c.tc : Thread Cert.PromptConvIdeal.nD Cert.PromptConvIdeal.τ).loc Cert.PromptConvIdeal.main_arg4))
      ∧ θ_run (Cert.PromptConvRefIdeal.defs (F := Ideal)) (onTc (τ := Cert.PromptConvRefIdeal.τ) (Cert.PromptConvRefIdeal.main (F := Ideal))) ⟨m', fun _ => 0, g'⟩ (fun r => ∀ c : Dev Cert.PromptConvRefIdeal.nD,
          r.2.mem ((c.tc : Thread Cert.PromptConvRefIdeal.nD Cert.PromptConvRefIdeal.τ).loc Cert.PromptConvRefIdeal.main_v108) = v0 c
          ∧ r.2.mem ((c.tc : Thread Cert.PromptConvRefIdeal.nD Cert.PromptConvRefIdeal.τ).loc Cert.PromptConvRefIdeal.main_v109) = v1 c
          ∧ r.2.mem ((c.tc : Thread Cert.PromptConvRefIdeal.nD Cert.PromptConvRefIdeal.τ).loc Cert.PromptConvRefIdeal.main_arg0) = m' ((c.tc : Thread Cert.PromptConvRefIdeal.nD Cert.PromptConvRefIdeal.τ).loc Cert.PromptConvRefIdeal.main_arg0)
          ∧ r.2.mem ((c.tc : Thread Cert.PromptConvRefIdeal.nD Cert.PromptConvRefIdeal.τ).loc Cert.PromptConvRefIdeal.main_arg1) = m' ((c.tc : Thread Cert.PromptConvRefIdeal.nD Cert.PromptConvRefIdeal.τ).loc Cert.PromptConvRefIdeal.main_arg1)
          ∧ r.2.mem ((c.tc : Thread Cert.PromptConvRefIdeal.nD Cert.PromptConvRefIdeal.τ).loc Cert.PromptConvRefIdeal.main_arg2) = m' ((c.tc : Thread Cert.PromptConvRefIdeal.nD Cert.PromptConvRefIdeal.τ).loc Cert.PromptConvRefIdeal.main_arg2)
          ∧ r.2.mem ((c.tc : Thread Cert.PromptConvRefIdeal.nD Cert.PromptConvRefIdeal.τ).loc Cert.PromptConvRefIdeal.main_arg3) = m' ((c.tc : Thread Cert.PromptConvRefIdeal.nD Cert.PromptConvRefIdeal.τ).loc Cert.PromptConvRefIdeal.main_arg3)
          ∧ r.2.mem ((c.tc : Thread Cert.PromptConvRefIdeal.nD Cert.PromptConvRefIdeal.τ).loc Cert.PromptConvRefIdeal.main_arg4) = m' ((c.tc : Thread Cert.PromptConvRefIdeal.nD Cert.PromptConvRefIdeal.τ).loc Cert.PromptConvRefIdeal.main_arg4))

def Claim : Prop :=
  ∃ (hAttnC : Cert.AttnC.Facts) (hAttnCIdeal : Cert.AttnCIdeal.Facts) (hAttnCRefIdeal : Cert.AttnCRefIdeal.Facts) (hAttnA : Cert.AttnA.Facts) (hAttnAIdeal : Cert.AttnAIdeal.Facts) (hAttnARefIdeal : Cert.AttnARefIdeal.Facts) (hProj : Cert.Proj.Facts) (hProjIdeal : Cert.ProjIdeal.Facts) (hProjRefIdeal : Cert.ProjRefIdeal.Facts) (hPostMid : Cert.PostMid.Facts) (hPostMidIdeal : Cert.PostMidIdeal.Facts) (hPostMidRefIdeal : Cert.PostMidRefIdeal.Facts) (hPostLast : Cert.PostLast.Facts) (hPostLastIdeal : Cert.PostLastIdeal.Facts) (hPostLastRefIdeal : Cert.PostLastRefIdeal.Facts) (hConv : Cert.Conv.Facts) (hConvIdeal : Cert.ConvIdeal.Facts) (hConvRefIdeal : Cert.ConvRefIdeal.Facts) (hSampleC : Cert.SampleC.Facts) (hSampleCIdeal : Cert.SampleCIdeal.Facts) (hSampleCRefIdeal : Cert.SampleCRefIdeal.Facts) (hSampleA : Cert.SampleA.Facts) (hSampleAIdeal : Cert.SampleAIdeal.Facts) (hSampleARefIdeal : Cert.SampleARefIdeal.Facts) (hPromptConv : Cert.PromptConv.Facts) (hPromptConvIdeal : Cert.PromptConvIdeal.Facts) (hPromptConvRefIdeal : Cert.PromptConvRefIdeal.Facts) (hPre_finite_scores : Cert.Pre_finite_scores.Facts) (hPre_finite_scores_sink : Cert.Pre_finite_scores_sink.Facts) (hPre_finite_sample_c : Cert.Pre_finite_sample_c.Facts) (hPre_finite_sample_a : Cert.Pre_finite_sample_a.Facts),
    quiescent_AttnC (hAttnC := hAttnC)
    ∧ quiescent_AttnCIdeal (hAttnCIdeal := hAttnCIdeal)
    ∧ quiescent_AttnCIdeal_pre_finite_scores (hAttnCIdeal := hAttnCIdeal) (hPre_finite_scores := hPre_finite_scores)
    ∧ quiescent_AttnCRefIdeal (hAttnCRefIdeal := hAttnCRefIdeal)
    ∧ quiescent_AttnCRefIdeal_pre_finite_scores (hAttnCRefIdeal := hAttnCRefIdeal) (hPre_finite_scores := hPre_finite_scores)
    ∧ quiescent_AttnA (hAttnA := hAttnA)
    ∧ quiescent_AttnAIdeal (hAttnAIdeal := hAttnAIdeal)
    ∧ quiescent_AttnAIdeal_pre_finite_scores_sink (hAttnAIdeal := hAttnAIdeal) (hPre_finite_scores_sink := hPre_finite_scores_sink)
    ∧ quiescent_AttnARefIdeal (hAttnARefIdeal := hAttnARefIdeal)
    ∧ quiescent_AttnARefIdeal_pre_finite_scores_sink (hAttnARefIdeal := hAttnARefIdeal) (hPre_finite_scores_sink := hPre_finite_scores_sink)
    ∧ quiescent_Proj (hProj := hProj)
    ∧ quiescent_ProjIdeal (hProjIdeal := hProjIdeal)
    ∧ quiescent_ProjRefIdeal (hProjRefIdeal := hProjRefIdeal)
    ∧ quiescent_PostMid (hPostMid := hPostMid)
    ∧ quiescent_PostMidIdeal (hPostMidIdeal := hPostMidIdeal)
    ∧ quiescent_PostMidRefIdeal (hPostMidRefIdeal := hPostMidRefIdeal)
    ∧ quiescent_PostLast (hPostLast := hPostLast)
    ∧ quiescent_PostLastIdeal (hPostLastIdeal := hPostLastIdeal)
    ∧ quiescent_PostLastRefIdeal (hPostLastRefIdeal := hPostLastRefIdeal)
    ∧ quiescent_Conv (hConv := hConv)
    ∧ quiescent_ConvIdeal (hConvIdeal := hConvIdeal)
    ∧ quiescent_ConvRefIdeal (hConvRefIdeal := hConvRefIdeal)
    ∧ quiescent_SampleC (hSampleC := hSampleC)
    ∧ quiescent_SampleCIdeal (hSampleCIdeal := hSampleCIdeal)
    ∧ quiescent_SampleCIdeal_pre_finite_sample_c (hSampleCIdeal := hSampleCIdeal) (hPre_finite_sample_c := hPre_finite_sample_c)
    ∧ quiescent_SampleCRefIdeal (hSampleCRefIdeal := hSampleCRefIdeal)
    ∧ quiescent_SampleCRefIdeal_pre_finite_sample_c (hSampleCRefIdeal := hSampleCRefIdeal) (hPre_finite_sample_c := hPre_finite_sample_c)
    ∧ quiescent_SampleA (hSampleA := hSampleA)
    ∧ quiescent_SampleAIdeal (hSampleAIdeal := hSampleAIdeal)
    ∧ quiescent_SampleAIdeal_pre_finite_sample_a (hSampleAIdeal := hSampleAIdeal) (hPre_finite_sample_a := hPre_finite_sample_a)
    ∧ quiescent_SampleARefIdeal (hSampleARefIdeal := hSampleARefIdeal)
    ∧ quiescent_SampleARefIdeal_pre_finite_sample_a (hSampleARefIdeal := hSampleARefIdeal) (hPre_finite_sample_a := hPre_finite_sample_a)
    ∧ quiescent_PromptConv (hPromptConv := hPromptConv)
    ∧ quiescent_PromptConvIdeal (hPromptConvIdeal := hPromptConvIdeal)
    ∧ quiescent_PromptConvRefIdeal (hPromptConvRefIdeal := hPromptConvRefIdeal)
    ∧ preserves_AttnC_AttnCIdeal
    ∧ algebraic_AttnCIdeal_AttnCRefIdeal_pre_finite_scores (hAttnCIdeal := hAttnCIdeal) (hAttnCRefIdeal := hAttnCRefIdeal) (hPre_finite_scores := hPre_finite_scores)
    ∧ preserves_AttnA_AttnAIdeal
    ∧ algebraic_AttnAIdeal_AttnARefIdeal_pre_finite_scores_sink (hAttnAIdeal := hAttnAIdeal) (hAttnARefIdeal := hAttnARefIdeal) (hPre_finite_scores_sink := hPre_finite_scores_sink)
    ∧ preserves_Proj_ProjIdeal
    ∧ algebraic_ProjIdeal_ProjRefIdeal (hProjIdeal := hProjIdeal) (hProjRefIdeal := hProjRefIdeal)
    ∧ preserves_PostMid_PostMidIdeal
    ∧ algebraic_PostMidIdeal_PostMidRefIdeal (hPostMidIdeal := hPostMidIdeal) (hPostMidRefIdeal := hPostMidRefIdeal)
    ∧ preserves_PostLast_PostLastIdeal
    ∧ algebraic_PostLastIdeal_PostLastRefIdeal (hPostLastIdeal := hPostLastIdeal) (hPostLastRefIdeal := hPostLastRefIdeal)
    ∧ preserves_Conv_ConvIdeal
    ∧ algebraic_ConvIdeal_ConvRefIdeal (hConvIdeal := hConvIdeal) (hConvRefIdeal := hConvRefIdeal)
    ∧ preserves_SampleC_SampleCIdeal
    ∧ algebraic_SampleCIdeal_SampleCRefIdeal_pre_finite_sample_c (hSampleCIdeal := hSampleCIdeal) (hSampleCRefIdeal := hSampleCRefIdeal) (hPre_finite_sample_c := hPre_finite_sample_c)
    ∧ preserves_SampleA_SampleAIdeal
    ∧ algebraic_SampleAIdeal_SampleARefIdeal_pre_finite_sample_a (hSampleAIdeal := hSampleAIdeal) (hSampleARefIdeal := hSampleARefIdeal) (hPre_finite_sample_a := hPre_finite_sample_a)
    ∧ preserves_PromptConv_PromptConvIdeal
    ∧ algebraic_PromptConvIdeal_PromptConvRefIdeal (hPromptConvIdeal := hPromptConvIdeal) (hPromptConvRefIdeal := hPromptConvRefIdeal)
-- ==== Pre_finite_sample_a.lean ====
abbrev S32x64x2560 : Shape := ⟨3, ![32, 64, 2560]⟩
abbrev S32x128x2x64 : Shape := ⟨4, ![32, 128, 2, 64]⟩
abbrev S8x64x192 : Shape := ⟨3, ![8, 64, 192]⟩
abbrev S8 : Shape := ⟨1, ![8]⟩
abbrev S32x64x512 : Shape := ⟨3, ![32, 64, 512]⟩
abbrev S_ : Shape := ⟨0, ![]⟩
abbrev S32x64x128 : Shape := ⟨3, ![32, 64, 128]⟩

class Facts : Prop where
  slices_S32x64x2560_S32x64x512_0_0_0 : S32x64x2560.Slices ![0, 0, 0] S32x64x512
  bcast_S_S32x64x512 : S_.BroadcastsInDim S32x64x512 (![] : Fin 0 → Fin S32x64x512.rank)
  slices_S32x64x2560_S32x64x128_0_0_2048 : S32x64x2560.Slices ![0, 0, 2048] S32x64x128
  bcast_S_S32x64x128 : S_.BroadcastsInDim S32x64x128 (![] : Fin 0 → Fin S32x64x128.rank)
  bcast_S_S32x128x2x64 : S_.BroadcastsInDim S32x128x2x64 (![] : Fin 0 → Fin S32x128x2x64.rank)
  bcast_S_S8x64x192 : S_.BroadcastsInDim S8x64x192 (![] : Fin 0 → Fin S8x64x192.rank)
  bcast_S_S8 : S_.BroadcastsInDim S8 (![] : Fin 0 → Fin S8.rank)

variable [Facts]

def fn {F : FTy → Type} [FloatOps F] (main_arg0 : FVec F S32x64x2560 .f32) (main_arg1 : FVec F S32x128x2x64 .f32) (main_arg2 : FVec F S32x128x2x64 .f32) (main_arg3 : FVec F S8x64x192 .f32) (main_arg4 : FVec F S8 .f32) : IVec S32x64x512 1 × IVec S32x64x128 1 × IVec S32x128x2x64 1 × IVec S8x64x192 1 × IVec S8 1 :=
  let main_v0 : FVec F S32x64x512 .f32 := (extractStridedSlice S32x64x512 ![0, 0, 0] · slices_S32x64x2560_S32x64x512_0_0_0) main_arg0
  let main_v1 : FVec F S32x64x512 .f32 := Host.absf main_v0
  let main_cst : FVec F S_ .f32 := constant S_ .f32 0x7F800000#32
  let main_v2 : FVec F S32x64x512 .f32 := broadcastInDim S32x64x512 ![] bcast_S_S32x64x512 main_cst
  let main_v3 : IVec S32x64x512 1 := cmpf .olt main_v1 main_v2
  let main_v4 : FVec F S32x64x128 .f32 := (extractStridedSlice S32x64x128 ![0, 0, 2048] · slices_S32x64x2560_S32x64x128_0_0_2048) main_arg0
  let main_v5 : FVec F S32x64x128 .f32 := Host.absf main_v4
  let main_cst_0 : FVec F S_ .f32 := constant S_ .f32 0x7F800000#32
  let main_v6 : FVec F S32x64x128 .f32 := broadcastInDim S32x64x128 ![] bcast_S_S32x64x128 main_cst_0
  let main_v7 : IVec S32x64x128 1 := cmpf .olt main_v5 main_v6
  let main_v8 : FVec F S32x128x2x64 .f32 := Host.absf main_arg1
  let main_cst_1 : FVec F S_ .f32 := constant S_ .f32 0x7F800000#32
  let main_v9 : FVec F S32x128x2x64 .f32 := broadcastInDim S32x128x2x64 ![] bcast_S_S32x128x2x64 main_cst_1
  let main_v10 : IVec S32x128x2x64 1 := cmpf .olt main_v8 main_v9
  let main_v11 : FVec F S8x64x192 .f32 := Host.absf main_arg3
  let main_cst_2 : FVec F S_ .f32 := constant S_ .f32 0x7F800000#32
  let main_v12 : FVec F S8x64x192 .f32 := broadcastInDim S8x64x192 ![] bcast_S_S8x64x192 main_cst_2
  let main_v13 : IVec S8x64x192 1 := cmpf .olt main_v11 main_v12
  let main_v14 : FVec F S8 .f32 := Host.absf main_arg4
  let main_cst_3 : FVec F S_ .f32 := constant S_ .f32 0x7F800000#32
  let main_v15 : FVec F S8 .f32 := broadcastInDim S8 ![] bcast_S_S8 main_cst_3
  let main_v16 : IVec S8 1 := cmpf .olt main_v14 main_v15
  (main_v3, main_v7, main_v10, main_v13, main_v16)
-- ==== Pre_finite_sample_c.lean ====
abbrev S32x64x2560 : Shape := ⟨3, ![32, 64, 2560]⟩
abbrev S32x512x8x64 : Shape := ⟨4, ![32, 512, 8, 64]⟩
abbrev S8x64x576 : Shape := ⟨3, ![8, 64, 576]⟩
abbrev S32x64x1024 : Shape := ⟨3, ![32, 64, 1024]⟩
abbrev S_ : Shape := ⟨0, ![]⟩

class Facts : Prop where
  slices_S32x64x2560_S32x64x1024_0_0_0 : S32x64x2560.Slices ![0, 0, 0] S32x64x1024
  bcast_S_S32x64x1024 : S_.BroadcastsInDim S32x64x1024 (![] : Fin 0 → Fin S32x64x1024.rank)
  bcast_S_S32x512x8x64 : S_.BroadcastsInDim S32x512x8x64 (![] : Fin 0 → Fin S32x512x8x64.rank)
  bcast_S_S8x64x576 : S_.BroadcastsInDim S8x64x576 (![] : Fin 0 → Fin S8x64x576.rank)

variable [Facts]

def fn {F : FTy → Type} [FloatOps F] (main_arg0 : FVec F S32x64x2560 .f32) (main_arg1 : FVec F S32x512x8x64 .f32) (main_arg2 : FVec F S32x512x8x64 .f32) (main_arg3 : FVec F S8x64x576 .f32) : IVec S32x64x1024 1 × IVec S32x512x8x64 1 × IVec S8x64x576 1 :=
  let main_v0 : FVec F S32x64x1024 .f32 := (extractStridedSlice S32x64x1024 ![0, 0, 0] · slices_S32x64x2560_S32x64x1024_0_0_0) main_arg0
  let main_v1 : FVec F S32x64x1024 .f32 := Host.absf main_v0
  let main_cst : FVec F S_ .f32 := constant S_ .f32 0x7F800000#32
  let main_v2 : FVec F S32x64x1024 .f32 := broadcastInDim S32x64x1024 ![] bcast_S_S32x64x1024 main_cst
  let main_v3 : IVec S32x64x1024 1 := cmpf .olt main_v1 main_v2
  let main_v4 : FVec F S32x512x8x64 .f32 := Host.absf main_arg1
  let main_cst_0 : FVec F S_ .f32 := constant S_ .f32 0x7F800000#32
  let main_v5 : FVec F S32x512x8x64 .f32 := broadcastInDim S32x512x8x64 ![] bcast_S_S32x512x8x64 main_cst_0
  let main_v6 : IVec S32x512x8x64 1 := cmpf .olt main_v4 main_v5
  let main_v7 : FVec F S8x64x576 .f32 := Host.absf main_arg3
  let main_cst_1 : FVec F S_ .f32 := constant S_ .f32 0x7F800000#32
  let main_v8 : FVec F S8x64x576 .f32 := broadcastInDim S8x64x576 ![] bcast_S_S8x64x576 main_cst_1
  let main_v9 : IVec S8x64x576 1 := cmpf .olt main_v7 main_v8
  (main_v3, main_v6, main_v9)
-- ==== Pre_finite_scores.lean ====
abbrev S2x8192x2560 : Shape := ⟨3, ![2, 8192, 2560]⟩
abbrev S8x64x576 : Shape := ⟨3, ![8, 64, 576]⟩
abbrev S2x8192x1024 : Shape := ⟨3, ![2, 8192, 1024]⟩
abbrev S_ : Shape := ⟨0, ![]⟩

class Facts : Prop where
  slices_S2x8192x2560_S2x8192x1024_0_0_0 : S2x8192x2560.Slices ![0, 0, 0] S2x8192x1024
  bcast_S_S2x8192x1024 : S_.BroadcastsInDim S2x8192x1024 (![] : Fin 0 → Fin S2x8192x1024.rank)
  bcast_S_S8x64x576 : S_.BroadcastsInDim S8x64x576 (![] : Fin 0 → Fin S8x64x576.rank)

variable [Facts]

def fn {F : FTy → Type} [FloatOps F] (main_arg0 : FVec F S2x8192x2560 .f32) (main_arg1 : FVec F S8x64x576 .f32) : IVec S2x8192x1024 1 × IVec S8x64x576 1 :=
  let main_v0 : FVec F S2x8192x1024 .f32 := (extractStridedSlice S2x8192x1024 ![0, 0, 0] · slices_S2x8192x2560_S2x8192x1024_0_0_0) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_v4 : FVec F S8x64x576 .f32 := Host.absf main_arg1
  let main_cst_0 : FVec F S_ .f32 := constant S_ .f32 0x7F800000#32
  let main_v5 : FVec F S8x64x576 .f32 := broadcastInDim S8x64x576 ![] bcast_S_S8x64x576 main_cst_0
  let main_v6 : IVec S8x64x576 1 := cmpf .olt main_v4 main_v5
  (main_v3, main_v6)
-- ==== Pre_finite_scores_sink.lean ====
abbrev S2x8192x2560 : Shape := ⟨3, ![2, 8192, 2560]⟩
abbrev S8x64x192 : Shape := ⟨3, ![8, 64, 192]⟩
abbrev S8 : Shape := ⟨1, ![8]⟩
abbrev S2x8192x512 : Shape := ⟨3, ![2, 8192, 512]⟩
abbrev S_ : Shape := ⟨0, ![]⟩
abbrev S2x8192x128 : Shape := ⟨3, ![2, 8192, 128]⟩

class Facts : Prop where
  slices_S2x8192x2560_S2x8192x512_0_0_0 : S2x8192x2560.Slices ![0, 0, 0] S2x8192x512
  bcast_S_S2x8192x512 : S_.BroadcastsInDim S2x8192x512 (![] : Fin 0 → Fin S2x8192x512.rank)
  slices_S2x8192x2560_S2x8192x128_0_0_2048 : S2x8192x2560.Slices ![0, 0, 2048] S2x8192x128
  bcast_S_S2x8192x128 : S_.BroadcastsInDim S2x8192x128 (![] : Fin 0 → Fin S2x8192x128.rank)
  bcast_S_S8x64x192 : S_.BroadcastsInDim S8x64x192 (![] : Fin 0 → Fin S8x64x192.rank)
  bcast_S_S8 : S_.BroadcastsInDim S8 (![] : Fin 0 → Fin S8.rank)

variable [Facts]

def fn {F : FTy → Type} [FloatOps F] (main_arg0 : FVec F S2x8192x2560 .f32) (main_arg1 : FVec F S8x64x192 .f32) (main_arg2 : FVec F S8 .f32) : IVec S2x8192x512 1 × IVec S2x8192x128 1 × IVec S8x64x192 1 × IVec S8 1 :=
  let main_v0 : FVec F S2x8192x512 .f32 := (extractStridedSlice S2x8192x512 ![0, 0, 0] · slices_S2x8192x2560_S2x8192x512_0_0_0) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_v4 : FVec F S2x8192x128 .f32 := (extractStridedSlice S2x8192x128 ![0, 0, 2048] · slices_S2x8192x2560_S2x8192x128_0_0_2048) main_arg0
  let main_v5 : FVec F S2x8192x128 .f32 := Host.absf main_v4
  let main_cst_0 : FVec F S_ .f32 := constant S_ .f32 0x7F800000#32
  let main_v6 : FVec F S2x8192x128 .f32 := broadcastInDim S2x8192x128 ![] bcast_S_S2x8192x128 main_cst_0
  let main_v7 : IVec S2x8192x128 1 := cmpf .olt main_v5 main_v6
  let main_v8 : FVec F S8x64x192 .f32 := Host.absf main_arg1
  let main_cst_1 : FVec F S_ .f32 := constant S_ .f32 0x7F800000#32
  let main_v9 : FVec F S8x64x192 .f32 := broadcastInDim S8x64x192 ![] bcast_S_S8x64x192 main_cst_1
  let main_v10 : IVec S8x64x192 1 := cmpf .olt main_v8 main_v9
  let main_v11 : FVec F S8 .f32 := Host.absf main_arg2
  let main_cst_2 : FVec F S_ .f32 := constant S_ .f32 0x7F800000#32
  let main_v12 : FVec F S8 .f32 := broadcastInDim S8 ![] bcast_S_S8 main_cst_2
  let main_v13 : IVec S8 1 := cmpf .olt main_v11 main_v12
  (main_v3, main_v7, main_v10, main_v13)
-- ==== AttnC.lean ====
abbrev S2x8192x2560 : Shape := ⟨3, ![2, 8192, 2560]⟩
abbrev S8x64x576 : Shape := ⟨3, ![8, 64, 576]⟩
abbrev S2x8192x512 : Shape := ⟨3, ![2, 8192, 512]⟩
abbrev S1x64x512 : Shape := ⟨3, ![1, 64, 512]⟩
abbrev S64x512 : Shape := ⟨2, ![64, 512]⟩
abbrev S576x512 : Shape := ⟨2, ![576, 512]⟩
abbrev S64x576 : Shape := ⟨2, ![64, 576]⟩
abbrev S64x64 : Shape := ⟨2, ![64, 64]⟩
abbrev S576x64 : Shape := ⟨2, ![576, 64]⟩
abbrev S1x64x576 : Shape := ⟨3, ![1, 64, 576]⟩
abbrev S64 : Shape := ⟨1, ![64]⟩
abbrev S64x1 : Shape := ⟨2, ![64, 1]⟩
abbrev S1x64x64 : Shape := ⟨3, ![1, 64, 64]⟩

abbrev nBuf : Space → Nat
  | .hbm => 3
  | .vmem => 41
  | .smem => 0
  | _ => 0

abbrev bufTy : (tb : Table) → Fin (tcTables nBuf tb) → BufTy
  | .hbm, ⟨0, _⟩ => ⟨S2x8192x2560, .f32⟩
  | .hbm, ⟨1, _⟩ => ⟨S8x64x576, .f32⟩
  | .hbm, ⟨2, _⟩ => ⟨S2x8192x512, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | .local _ .vmem, ⟨18, _⟩ => ⟨S1x64x512, .f32⟩
  | .local _ .vmem, ⟨19, _⟩ => ⟨S1x64x512, .f32⟩
  | .local _ .vmem, ⟨20, _⟩ => ⟨S1x64x512, .f32⟩
  | .local _ .vmem, ⟨21, _⟩ => ⟨S1x64x512, .f32⟩
  | .local _ .vmem, ⟨22, _⟩ => ⟨S1x64x512, .f32⟩
  | .local _ .vmem, ⟨23, _⟩ => ⟨S1x64x512, .f32⟩
  | .local _ .vmem, ⟨24, _⟩ => ⟨S1x64x512, .f32⟩
  | .local _ .vmem, ⟨25, _⟩ => ⟨S1x64x512, .f32⟩
  | .local _ .vmem, ⟨26, _⟩ => ⟨S1x64x512, .f32⟩
  | .local _ .vmem, ⟨27, _⟩ => ⟨S1x64x512, .f32⟩
  | .local _ .vmem, ⟨28, _⟩ => ⟨S1x64x512, .f32⟩
  | .local _ .vmem, ⟨29, _⟩ => ⟨S1x64x512, .f32⟩
  | .local _ .vmem, ⟨30, _⟩ => ⟨S1x64x512, .f32⟩
  | .local _ .vmem, ⟨31, _⟩ => ⟨S1x64x512, .f32⟩
  | .local _ .vmem, ⟨32, _⟩ => ⟨S1x64x512, .f32⟩
  | .local _ .vmem, ⟨33, _⟩ => ⟨S1x64x512, .f32⟩
  | .local _ .vmem, ⟨34, _⟩ => ⟨S1x64x512, .f32⟩
  | .local _ .vmem, ⟨35, _⟩ => ⟨S1x64x512, .f32⟩
  | .local _ .vmem, ⟨36, _⟩ => ⟨S1x64x512, .f32⟩
  | .local _ .vmem, ⟨37, _⟩ => ⟨S1x64x512, .f32⟩
  | .local _ .vmem, ⟨38, _⟩ => ⟨S8x64x576, .f32⟩
  | .local _ .vmem, ⟨39, _⟩ => ⟨S1x64x512, .f32⟩
  | .local _ .vmem, ⟨40, _⟩ => ⟨S1x64x512, .f32⟩
  | _, _ => ⟨S2x8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg20_0 : Ref sig .tc := ⟨.vmem, 39, rfl⟩
abbrev cc0_stg20_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.addi v0 c0_i32
  let c0_i32_0 : BitVec 32 := 0#32
  let v2 : BitVec 32 := Scalar.maxsi v1 c0_i32_0
  let c1_i32 : BitVec 32 := 1#32
  let c0_i32_1 : BitVec 32 := 0#32
  ![arg0.toNat, v2.toNat, c1_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c1_i32 : BitVec 32 := 1#32
  let v1 : BitVec 32 := Scalar.addi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c2_i32 : BitVec 32 := 2#32
  let v1 : BitVec 32 := Scalar.addi v0 c2_i32
  let c0_i32 : BitVec 32 := 0#32
  let v2 : BitVec 32 := Scalar.maxsi v1 c0_i32
  let c1_i32 : BitVec 32 := 1#32
  let c0_i32_0 : BitVec 32 := 0#32
  ![arg0.toNat, v2.toNat, c1_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c3_i32 : BitVec 32 := 3#32
  let v1 : BitVec 32 := Scalar.addi v0 c3_i32
  let c0_i32 : BitVec 32 := 0#32
  let v2 : BitVec 32 := Scalar.maxsi v1 c0_i32
  let c1_i32 : BitVec 32 := 1#32
  let c0_i32_0 : BitVec 32 := 0#32
  ![arg0.toNat, v2.toNat, c1_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c4_i32 : BitVec 32 := 4#32
  let v1 : BitVec 32 := Scalar.addi v0 c4_i32
  let c0_i32 : BitVec 32 := 0#32
  let v2 : BitVec 32 := Scalar.maxsi v1 c0_i32
  let c1_i32 : BitVec 32 := 1#32
  let c0_i32_0 : BitVec 32 := 0#32
  ![arg0.toNat, v2.toNat, c1_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c5_i32 : BitVec 32 := 5#32
  let v1 : BitVec 32 := Scalar.addi v0 c5_i32
  let c0_i32 : BitVec 32 := 0#32
  let v2 : BitVec 32 := Scalar.maxsi v1 c0_i32
  let c1_i32 : BitVec 32 := 1#32
  let c0_i32_0 : BitVec 32 := 0#32
  ![arg0.toNat, v2.toNat, c1_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c6_i32 : BitVec 32 := 6#32
  let v1 : BitVec 32 := Scalar.addi v0 c6_i32
  let c0_i32 : BitVec 32 := 0#32
  let v2 : BitVec 32 := Scalar.maxsi v1 c0_i32
  let c1_i32 : BitVec 32 := 1#32
  let c0_i32_0 : BitVec 32 := 0#32
  ![arg0.toNat, v2.toNat, c1_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c7_i32 : BitVec 32 := 7#32
  let v1 : BitVec 32 := Scalar.addi v0 c7_i32
  let c0_i32 : BitVec 32 := 0#32
  let v2 : BitVec 32 := Scalar.maxsi v1 c0_i32
  let c1_i32 : BitVec 32 := 1#32
  let c0_i32_0 : BitVec 32 := 0#32
  ![arg0.toNat, v2.toNat, c1_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c8_i32_0 : BitVec 32 := 8#32
  let v1 : BitVec 32 := Scalar.addi v0 c8_i32_0
  let c0_i32 : BitVec 32 := 0#32
  let v2 : BitVec 32 := Scalar.maxsi v1 c0_i32
  let c1_i32 : BitVec 32 := 1#32
  let c0_i32_1 : BitVec 32 := 0#32
  ![arg0.toNat, v2.toNat, c1_i32.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.addi v0 c0_i32
  let c0_i32_0 : BitVec 32 := 0#32
  let v2 : BitVec 32 := Scalar.maxsi v1 c0_i32_0
  let c2_i32 : BitVec 32 := 2#32
  let c0_i32_1 : BitVec 32 := 0#32
  ![arg0.toNat, v2.toNat, c2_i32.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c1_i32 : BitVec 32 := 1#32
  let v1 : BitVec 32 := Scalar.addi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c2_i32 : BitVec 32 := 2#32
  let v1 : BitVec 32 := Scalar.addi v0 c2_i32
  let c0_i32 : BitVec 32 := 0#32
  let v2 : BitVec 32 := Scalar.maxsi v1 c0_i32
  let c2_i32_0 : BitVec 32 := 2#32
  let c0_i32_1 : BitVec 32 := 0#32
  ![arg0.toNat, v2.toNat, c2_i32_0.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c3_i32 : BitVec 32 := 3#32
  let v1 : BitVec 32 := Scalar.addi v0 c3_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c4_i32 : BitVec 32 := 4#32
  let v1 : BitVec 32 := Scalar.addi v0 c4_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c5_i32 : BitVec 32 := 5#32
  let v1 : BitVec 32 := Scalar.addi v0 c5_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_16 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c6_i32 : BitVec 32 := 6#32
  let v1 : BitVec 32 := Scalar.addi v0 c6_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_17 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c7_i32 : BitVec 32 := 7#32
  let v1 : BitVec 32 := Scalar.addi v0 c7_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_18 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c8_i32_0 : BitVec 32 := 8#32
  let v1 : BitVec 32 := Scalar.addi v0 c8_i32_0
  let c0_i32 : BitVec 32 := 0#32
  let v2 : BitVec 32 := Scalar.maxsi v1 c0_i32
  let c2_i32 : BitVec 32 := 2#32
  let c0_i32_1 : BitVec 32 := 0#32
  ![arg0.toNat, v2.toNat, c2_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S8x64x576 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x64x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== AttnCIdeal.lean ====
variable {F : FTy → Type} [FloatOps F] [Named F]
def κ : String → Option EReal := fun
  | "mask" => some ⊥
  | _ => none
-- ==== AttnCRefIdeal.lean ====
abbrev S2x8192x2560 : Shape := ⟨3, ![2, 8192, 2560]⟩
abbrev S8x64x576 : Shape := ⟨3, ![8, 64, 576]⟩
abbrev S2x8192x512 : Shape := ⟨3, ![2, 8192, 512]⟩
abbrev S2x8192x1024 : Shape := ⟨3, ![2, 8192, 1024]⟩
abbrev S2x8192x8x64 : Shape := ⟨4, ![2, 8192, 8, 64]⟩
abbrev S2x128x64x8x64 : Shape := ⟨5, ![2, 128, 64, 8, 64]⟩
abbrev S_ : Shape := ⟨0, ![]⟩
abbrev S2x8704x8x64 : Shape := ⟨4, ![2, 8704, 8, 64]⟩
abbrev S2x136x64x8x64 : Shape := ⟨5, ![2, 136, 64, 8, 64]⟩
abbrev S2x128x576x8x64 : Shape := ⟨5, ![2, 128, 576, 8, 64]⟩
abbrev S128 : Shape := ⟨1, ![128]⟩
abbrev S128x1 : Shape := ⟨2, ![128, 1]⟩
abbrev S576 : Shape := ⟨1, ![576]⟩
abbrev S1x576 : Shape := ⟨2, ![1, 576]⟩
abbrev S128x576 : Shape := ⟨2, ![128, 576]⟩
abbrev S128x1x1x576 : Shape := ⟨4, ![128, 1, 1, 576]⟩
abbrev S2x128x8x64x576 : Shape := ⟨5, ![2, 128, 8, 64, 576]⟩
abbrev S1x1x8x64x576 : Shape := ⟨5, ![1, 1, 8, 64, 576]⟩
abbrev S2x128x8x64 : Shape := ⟨4, ![2, 128, 8, 64]⟩
abbrev S2x128x8x64x1 : Shape := ⟨5, ![2, 128, 8, 64, 1]⟩
abbrev S2x128x8x64x64 : Shape := ⟨5, ![2, 128, 8, 64, 64]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x2560, .f32⟩
  | .hbm, ⟨1, _⟩ => ⟨S8x64x576, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x1024, .f32⟩
  | .hbm, ⟨6, _⟩ => ⟨S2x8192x8x64, .f32⟩
  | .hbm, ⟨7, _⟩ => ⟨S2x8192x8x64, .f32⟩
  | .hbm, ⟨8, _⟩ => ⟨S2x128x64x8x64, .f32⟩
  | .hbm, ⟨9, _⟩ => ⟨S_, .i32⟩
  | .hbm, ⟨10, _⟩ => ⟨S_, .f32⟩
  | .hbm, ⟨11, _⟩ => ⟨S2x8704x8x64, .f32⟩
  | .hbm, ⟨12, _⟩ => ⟨S2x136x64x8x64, .f32⟩
  | .hbm, ⟨13, _⟩ => ⟨S2x128x64x8x64, .f32⟩
  | .hbm, ⟨14, _⟩ => ⟨S2x128x64x8x64, .f32⟩
  | .hbm, ⟨15, _⟩ => ⟨S2x128x64x8x64, .f32⟩
  | .hbm, ⟨16, _⟩ => ⟨S2x128x64x8x64, .f32⟩
  | .hbm, ⟨17, _⟩ => ⟨S2x128x64x8x64, .f32⟩
  | .hbm, ⟨18, _⟩ => ⟨S2x128x64x8x64, .f32⟩
  | .hbm, ⟨19, _⟩ => ⟨S2x128x64x8x64, .f32⟩
  | .hbm, ⟨20, _⟩ => ⟨S2x128x64x8x64, .f32⟩
  | .hbm, ⟨21, _⟩ => ⟨S2x128x64x8x64, .f32⟩
  | .hbm, ⟨22, _⟩ => ⟨S2x128x576x8x64, .f32⟩
  | .hbm, ⟨23, _⟩ => ⟨S_, .i32⟩
  | .hbm, ⟨24, _⟩ => ⟨S_, .f32⟩
  | .hbm, ⟨25, _⟩ => ⟨S2x8704x8x64, .f32⟩
  | .hbm, ⟨26, _⟩ => ⟨S2x136x64x8x64, .f32⟩
  | .hbm, ⟨27, _⟩ => ⟨S2x128x64x8x64, .f32⟩
  | .hbm, ⟨28, _⟩ => ⟨S2x128x64x8x64, .f32⟩
  | .hbm, ⟨29, _⟩ => ⟨S2x128x64x8x64, .f32⟩
  | .hbm, ⟨30, _⟩ => ⟨S2x128x64x8x64, .f32⟩
  | .hbm, ⟨31, _⟩ => ⟨S2x128x64x8x64, .f32⟩
  | .hbm, ⟨32, _⟩ => ⟨S2x128x64x8x64, .f32⟩
  | .hbm, ⟨33, _⟩ => ⟨S2x128x64x8x64, .f32⟩
  | .hbm, ⟨34, _⟩ => ⟨S2x128x64x8x64, .f32⟩
  | .hbm, ⟨35, _⟩ => ⟨S2x128x64x8x64, .f32⟩
  | .hbm, ⟨36, _⟩ => ⟨S2x128x576x8x64, .f32⟩
  | .hbm, ⟨37, _⟩ => ⟨S128, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S576, .i32⟩
  | .hbm, ⟨46, _⟩ => ⟨S1x576, .i32⟩
  | .hbm, ⟨47, _⟩ => ⟨S128x576, .i32⟩
  | .hbm, ⟨48, _⟩ => ⟨S128x576, .i32⟩
  | .hbm, ⟨49, _⟩ => ⟨S128x576, .i32⟩
  | .hbm, ⟨50, _⟩ => ⟨S_, .i32⟩
  | .hbm, ⟨51, _⟩ => ⟨S128x576, .i32⟩
  | .hbm, ⟨52, _⟩ => ⟨S128x576, .i1⟩
  | .hbm, ⟨53, _⟩ => ⟨S128x1x1x576, .i1⟩
  | .hbm, ⟨54, _⟩ => ⟨S2x128x8x64x576, .f32⟩
  | .hbm, ⟨55, _⟩ => ⟨S_, .f32⟩
  | .hbm, ⟨56, _⟩ => ⟨S2x128x8x64x576, .f32⟩
  | .hbm, ⟨57, _⟩ => ⟨S2x128x8x64x576, .f32⟩
  | .hbm, ⟨58, _⟩ => ⟨S1x1x8x64x576, .f32⟩
  | .hbm, ⟨59, _⟩ => ⟨S2x128x8x64x576, .f32⟩
  | .hbm, ⟨60, _⟩ => ⟨S2x128x8x64x576, .f32⟩
  | .hbm, ⟨61, _⟩ => ⟨S_, .f32⟩
  | .hbm, ⟨62, _⟩ => ⟨S_, .f32⟩
  | .hbm, ⟨63, _⟩ => ⟨S2x128x8x64x576, .i1⟩
  | .hbm, ⟨64, _⟩ => ⟨S2x128x8x64x576, .f32⟩
  | .hbm, ⟨65, _⟩ => ⟨S2x128x8x64x576, .f32⟩
  | .hbm, ⟨66, _⟩ => ⟨S_, .f32⟩
  | .hbm, ⟨67, _⟩ => ⟨S2x128x8x64, .f32⟩
  | .hbm, ⟨68, _⟩ => ⟨S_, .f32⟩
  | .hbm, ⟨69, _⟩ => ⟨S2x128x8x64, .f32⟩
  | .hbm, ⟨70, _⟩ => ⟨S2x128x8x64, .f32⟩
  | .hbm, ⟨71, _⟩ => ⟨S2x128x8x64x1, .f32⟩
  | .hbm, ⟨72, _⟩ => ⟨S2x128x8x64x576, .f32⟩
  | .hbm, ⟨73, _⟩ => ⟨S2x128x8x64x576, .f32⟩
  | .hbm, ⟨74, _⟩ => ⟨S2x128x8x64x576, .f32⟩
  | .hbm, ⟨75, _⟩ => ⟨S_, .f32⟩
  | .hbm, ⟨76, _⟩ => ⟨S2x128x8x64, .f32⟩
  | .hbm, ⟨77, _⟩ => ⟨S2x128x8x64x1, .f32⟩
  | .hbm, ⟨78, _⟩ => ⟨S2x128x8x64x576, .f32⟩
  | .hbm, ⟨79, _⟩ => ⟨S2x128x8x64x576, .f32⟩
  | .hbm, ⟨80, _⟩ => ⟨S2x128x8x64x64, .f32⟩
  | .hbm, ⟨81, _⟩ => ⟨S2x128x64x8x64, .f32⟩
  | .hbm, ⟨82, _⟩ => ⟨S2x8192x512, .f32⟩
  | _, _ => ⟨S2x8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_call1_v0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_1 : Ref sig .tc := ⟨.hbm, 39, rfl⟩
abbrev main_v33 : Ref sig .tc := ⟨.hbm, 40, rfl⟩
abbrev main_v34 : Ref sig .tc := ⟨.hbm, 41, rfl⟩
abbrev main_c_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_4 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== AttnA.lean ====
abbrev S2x8192x2560 : Shape := ⟨3, ![2, 8192, 2560]⟩
abbrev S8x64x192 : Shape := ⟨3, ![8, 64, 192]⟩
abbrev S8 : Shape := ⟨1, ![8]⟩
abbrev S8x1 : Shape := ⟨2, ![8, 1]⟩
abbrev S2x8192x512 : Shape := ⟨3, ![2, 8192, 512]⟩
abbrev S1x64x512 : Shape := ⟨3, ![1, 64, 512]⟩
abbrev S1x64x128 : Shape := ⟨3, ![1, 64, 128]⟩
abbrev S64x512 : Shape := ⟨2, ![64, 512]⟩
abbrev S64x128 : Shape := ⟨2, ![64, 128]⟩
abbrev S192x128 : Shape := ⟨2, ![192, 128]⟩
abbrev S64x192 : Shape := ⟨2, ![64, 192]⟩
abbrev S64x64 : Shape := ⟨2, ![64, 64]⟩
abbrev S192x64 : Shape := ⟨2, ![192, 64]⟩
abbrev S1x64x192 : Shape := ⟨3, ![1, 64, 192]⟩
abbrev S64 : Shape := ⟨1, ![64]⟩
abbrev S64x1 : Shape := ⟨2, ![64, 1]⟩
abbrev S1x1 : Shape := ⟨2, ![1, 1]⟩
abbrev S1x64x64 : Shape := ⟨3, ![1, 64, 64]⟩

abbrev nBuf : Space → Nat
  | .hbm => 5
  | .vmem => 18
  | .smem => 0
  | _ => 0

abbrev bufTy : (tb : Table) → Fin (tcTables nBuf tb) → BufTy
  | .hbm, ⟨0, _⟩ => ⟨S2x8192x2560, .f32⟩
  | .hbm, ⟨1, _⟩ => ⟨S8x64x192, .f32⟩
  | .hbm, ⟨2, _⟩ => ⟨S8, .f32⟩
  | .hbm, ⟨3, _⟩ => ⟨S8x1, .f32⟩
  | .hbm, ⟨4, _⟩ => ⟨S2x8192x512, .f32⟩
  | .local _ .vmem, ⟨0, _⟩ => ⟨S1x64x512, .f32⟩
  | .local _ .vmem, ⟨1, _⟩ => ⟨S1x64x512, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S8x64x192, .f32⟩
  | .local _ .vmem, ⟨15, _⟩ => ⟨S8x1, .f32⟩
  | .local _ .vmem, ⟨16, _⟩ => ⟨S1x64x512, .f32⟩
  | .local _ .vmem, ⟨17, _⟩ => ⟨S1x64x512, .f32⟩
  | _, _ => ⟨S2x8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c16_i32 : BitVec 32 := 16#32
  let c0_i32_1 : BitVec 32 := 0#32
  ![arg0.toNat, v2.toNat, c16_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c16_i32 : BitVec 32 := 16#32
  let c0_i32_0 : BitVec 32 := 0#32
  ![arg0.toNat, v2.toNat, c16_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c16_i32 : BitVec 32 := 16#32
  let c0_i32_1 : BitVec 32 := 0#32
  ![arg0.toNat, v2.toNat, c16_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c17_i32 : BitVec 32 := 17#32
  let c0_i32_1 : BitVec 32 := 0#32
  ![arg0.toNat, v2.toNat, c17_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c17_i32 : BitVec 32 := 17#32
  let c0_i32_0 : BitVec 32 := 0#32
  ![arg0.toNat, v2.toNat, c17_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c17_i32 : BitVec 32 := 17#32
  let c0_i32_1 : BitVec 32 := 0#32
  ![arg0.toNat, v2.toNat, c17_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x64x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnAIdeal.lean ====
variable {F : FTy → Type} [FloatOps F] [Named F]
def κ : String → Option EReal := fun
  | "mask" => some ⊥
  | _ => none
-- ==== AttnARefIdeal.lean ====
abbrev S2x8192x2560 : Shape := ⟨3, ![2, 8192, 2560]⟩
abbrev S8x64x192 : Shape := ⟨3, ![8, 64, 192]⟩
abbrev S8 : Shape := ⟨1, ![8]⟩
abbrev S2x8192x512 : Shape := ⟨3, ![2, 8192, 512]⟩
abbrev S2x8192x128 : Shape := ⟨3, ![2, 8192, 128]⟩
abbrev S2x8192x2x64 : Shape := ⟨4, ![2, 8192, 2, 64]⟩
abbrev S2x8192x2x4x64 : Shape := ⟨5, ![2, 8192, 2, 4, 64]⟩
abbrev S2x8192x8x64 : Shape := ⟨4, ![2, 8192, 8, 64]⟩
abbrev S2x128x64x8x64 : Shape := ⟨5, ![2, 128, 64, 8, 64]⟩
abbrev S_ : Shape := ⟨0, ![]⟩
abbrev S2x8320x8x64 : Shape := ⟨4, ![2, 8320, 8, 64]⟩
abbrev S2x130x64x8x64 : Shape := ⟨5, ![2, 130, 64, 8, 64]⟩
abbrev S2x128x192x8x64 : Shape := ⟨5, ![2, 128, 192, 8, 64]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S128x1x1x192 : Shape := ⟨4, ![128, 1, 1, 192]⟩
abbrev S2x128x8x64x192 : Shape := ⟨5, ![2, 128, 8, 64, 192]⟩
abbrev S1x1x8x64x192 : Shape := ⟨5, ![1, 1, 8, 64, 192]⟩
abbrev S8x1x1 : Shape := ⟨3, ![8, 1, 1]⟩
abbrev S2x128x8x64 : Shape := ⟨4, ![2, 128, 8, 64]⟩
abbrev S2x128x8x64x1 : Shape := ⟨5, ![2, 128, 8, 64, 1]⟩
abbrev S1x1x8x1x1 : Shape := ⟨5, ![1, 1, 8, 1, 1]⟩
abbrev S2x128x8x64x64 : Shape := ⟨5, ![2, 128, 8, 64, 64]⟩

abbrev nBuf : Space → Nat
  | .hbm => 81
  | .vmem => 0
  | .smem => 0
  | _ => 0

abbrev bufTy : (tb : Table) → Fin (tcTables nBuf tb) → BufTy
  | .hbm, ⟨0, _⟩ => ⟨S2x8192x2560, .f32⟩
  | .hbm, ⟨1, _⟩ => ⟨S8x64x192, .f32⟩
  | .hbm, ⟨2, _⟩ => ⟨S8, .f32⟩
  | .hbm, ⟨3, _⟩ => ⟨S2x8192x512, .f32⟩
  | .hbm, ⟨4, _⟩ => ⟨S2x8192x128, .f32⟩
  | .hbm, ⟨5, _⟩ => ⟨S2x8192x2x64, .f32⟩
  | .hbm, ⟨6, _⟩ => ⟨S2x8192x2x4x64, .f32⟩
  | .hbm, ⟨7, _⟩ => ⟨S2x8192x8x64, .f32⟩
  | .hbm, ⟨8, _⟩ => ⟨S2x8192x128, .f32⟩
  | .hbm, ⟨9, _⟩ => ⟨S2x8192x2x64, .f32⟩
  | .hbm, ⟨10, _⟩ => ⟨S2x8192x2x4x64, .f32⟩
  | .hbm, ⟨11, _⟩ => ⟨S2x8192x8x64, .f32⟩
  | .hbm, ⟨12, _⟩ => ⟨S2x128x64x8x64, .f32⟩
  | .hbm, ⟨13, _⟩ => ⟨S_, .i32⟩
  | .hbm, ⟨14, _⟩ => ⟨S_, .f32⟩
  | .hbm, ⟨15, _⟩ => ⟨S2x8320x8x64, .f32⟩
  | .hbm, ⟨16, _⟩ => ⟨S2x130x64x8x64, .f32⟩
  | .hbm, ⟨17, _⟩ => ⟨S2x128x64x8x64, .f32⟩
  | .hbm, ⟨18, _⟩ => ⟨S2x128x64x8x64, .f32⟩
  | .hbm, ⟨19, _⟩ => ⟨S2x128x64x8x64, .f32⟩
  | .hbm, ⟨20, _⟩ => ⟨S2x128x192x8x64, .f32⟩
  | .hbm, ⟨21, _⟩ => ⟨S_, .i32⟩
  | .hbm, ⟨22, _⟩ => ⟨S_, .f32⟩
  | .hbm, ⟨23, _⟩ => ⟨S2x8320x8x64, .f32⟩
  | .hbm, ⟨24, _⟩ => ⟨S2x130x64x8x64, .f32⟩
  | .hbm, ⟨25, _⟩ => ⟨S2x128x64x8x64, .f32⟩
  | .hbm, ⟨26, _⟩ => ⟨S2x128x64x8x64, .f32⟩
  | .hbm, ⟨27, _⟩ => ⟨S2x128x64x8x64, .f32⟩
  | .hbm, ⟨28, _⟩ => ⟨S2x128x192x8x64, .f32⟩
  | .hbm, ⟨29, _⟩ => ⟨S128, .i32⟩
  | .hbm, ⟨30, _⟩ => ⟨S128x1, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S192, .i32⟩
  | .hbm, ⟨38, _⟩ => ⟨S1x192, .i32⟩
  | .hbm, ⟨39, _⟩ => ⟨S128x192, .i32⟩
  | .hbm, ⟨40, _⟩ => ⟨S128x192, .i32⟩
  | .hbm, ⟨41, _⟩ => ⟨S128x192, .i32⟩
  | .hbm, ⟨42, _⟩ => ⟨S_, .i32⟩
  | .hbm, ⟨43, _⟩ => ⟨S128x192, .i32⟩
  | .hbm, ⟨44, _⟩ => ⟨S128x192, .i1⟩
  | .hbm, ⟨45, _⟩ => ⟨S128x1x1x192, .i1⟩
  | .hbm, ⟨46, _⟩ => ⟨S2x128x8x64x192, .f32⟩
  | .hbm, ⟨47, _⟩ => ⟨S_, .f32⟩
  | .hbm, ⟨48, _⟩ => ⟨S2x128x8x64x192, .f32⟩
  | .hbm, ⟨49, _⟩ => ⟨S2x128x8x64x192, .f32⟩
  | .hbm, ⟨50, _⟩ => ⟨S1x1x8x64x192, .f32⟩
  | .hbm, ⟨51, _⟩ => ⟨S2x128x8x64x192, .f32⟩
  | .hbm, ⟨52, _⟩ => ⟨S2x128x8x64x192, .f32⟩
  | .hbm, ⟨53, _⟩ => ⟨S_, .f32⟩
  | .hbm, ⟨54, _⟩ => ⟨S_, .f32⟩
  | .hbm, ⟨55, _⟩ => ⟨S2x128x8x64x192, .i1⟩
  | .hbm, ⟨56, _⟩ => ⟨S2x128x8x64x192, .f32⟩
  | .hbm, ⟨57, _⟩ => ⟨S2x128x8x64x192, .f32⟩
  | .hbm, ⟨58, _⟩ => ⟨S8x1x1, .f32⟩
  | .hbm, ⟨59, _⟩ => ⟨S_, .f32⟩
  | .hbm, ⟨60, _⟩ => ⟨S2x128x8x64, .f32⟩
  | .hbm, ⟨61, _⟩ => ⟨S2x128x8x64x1, .f32⟩
  | .hbm, ⟨62, _⟩ => ⟨S1x1x8x1x1, .f32⟩
  | .hbm, ⟨63, _⟩ => ⟨S2x128x8x64x1, .f32⟩
  | .hbm, ⟨64, _⟩ => ⟨S2x128x8x64x1, .f32⟩
  | .hbm, ⟨65, _⟩ => ⟨S2x128x8x64x192, .f32⟩
  | .hbm, ⟨66, _⟩ => ⟨S2x128x8x64x192, .f32⟩
  | .hbm, ⟨67, _⟩ => ⟨S2x128x8x64x192, .f32⟩
  | .hbm, ⟨68, _⟩ => ⟨S_, .f32⟩
  | .hbm, ⟨69, _⟩ => ⟨S2x128x8x64, .f32⟩
  | .hbm, ⟨70, _⟩ => ⟨S2x128x8x64x1, .f32⟩
  | .hbm, ⟨71, _⟩ => ⟨S1x1x8x1x1, .f32⟩
  | .hbm, ⟨72, _⟩ => ⟨S2x128x8x64x1, .f32⟩
  | .hbm, ⟨73, _⟩ => ⟨S2x128x8x64x1, .f32⟩
  | .hbm, ⟨74, _⟩ => ⟨S2x128x8x64x1, .f32⟩
  | .hbm, ⟨75, _⟩ => ⟨S2x128x8x64x1, .f32⟩
  | .hbm, ⟨76, _⟩ => ⟨S2x128x8x64x192, .f32⟩
  | .hbm, ⟨77, _⟩ => ⟨S2x128x8x64x192, .f32⟩
  | .hbm, ⟨78, _⟩ => ⟨S2x128x8x64x64, .f32⟩
  | .hbm, ⟨79, _⟩ => ⟨S2x128x64x8x64, .f32⟩
  | .hbm, ⟨80, _⟩ => ⟨S2x8192x512, .f32⟩
  | _, _ => ⟨S2x8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_call1_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x2560 : Shape := ⟨2, ![1024, 2560]⟩
abbrev S1x1024 : Shape := ⟨2, ![1, 1024]⟩
abbrev S16384x2560 : Shape := ⟨2, ![16384, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S1024x2560, .bf16⟩
  | .hbm, ⟨4, _⟩ => ⟨S1x1024, .f32⟩
  | .hbm, ⟨5, _⟩ => ⟨S16384x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x2560, .f32⟩
  | .local _ .vmem, ⟨5, _⟩ => ⟨S512x2560, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S16384x1024 : Shape := ⟨2, ![16384, 1024]⟩
abbrev S1024 : Shape := ⟨1, ![1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2560, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== PostMid.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x1024, .bf16⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1024, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1408x1024, .bf16⟩
  | .local _ .vmem, ⟨13, _⟩ => ⟨S1408x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PostMidRefIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== PostLast.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x1024, .bf16⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1024, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1408x1024, .bf16⟩
  | .local _ .vmem, ⟨13, _⟩ => ⟨S1408x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PostLastRefIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Conv.lean ====
abbrev S32x64x2560 : Shape := ⟨3, ![32, 64, 2560]⟩
abbrev S32x30x512 : Shape := ⟨3, ![32, 30, 512]⟩
abbrev S31x512 : Shape := ⟨2, ![31, 512]⟩
abbrev S512 : Shape := ⟨1, ![512]⟩
abbrev S1x512 : Shape := ⟨2, ![1, 512]⟩
abbrev S32x64x512 : Shape := ⟨3, ![32, 64, 512]⟩
abbrev S1x64x512 : Shape := ⟨3, ![1, 64, 512]⟩
abbrev S1x30x512 : Shape := ⟨3, ![1, 30, 512]⟩
abbrev S96x512 : Shape := ⟨2, ![96, 512]⟩
abbrev S2x512 : Shape := ⟨2, ![2, 512]⟩
abbrev S30x512 : Shape := ⟨2, ![30, 512]⟩
abbrev S64x512 : Shape := ⟨2, ![64, 512]⟩
abbrev S64 : Shape := ⟨1, ![64]⟩
abbrev S64x1 : Shape := ⟨2, ![64, 1]⟩

abbrev nBuf : Space → Nat
  | .hbm => 11
  | .vmem => 15
  | .smem => 0
  | _ => 0

abbrev bufTy : (tb : Table) → Fin (tcTables nBuf tb) → BufTy
  | .hbm, ⟨0, _⟩ => ⟨S32x64x2560, .f32⟩
  | .hbm, ⟨1, _⟩ => ⟨S32x30x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S32x64x512, .f32⟩
  | .hbm, ⟨10, _⟩ => ⟨S32x30x512, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x30x512, .f32⟩
  | .local _ .vmem, ⟨5, _⟩ => ⟨S1x30x512, .f32⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x64x512, .f32⟩
  | .local _ .vmem, ⟨11, _⟩ => ⟨S1x64x512, .f32⟩
  | .local _ .vmem, ⟨12, _⟩ => ⟨S1x30x512, .f32⟩
  | .local _ .vmem, ⟨13, _⟩ => ⟨S1x30x512, .f32⟩
  | .local _ .vmem, ⟨14, _⟩ => ⟨S96x512, .f32⟩
  | _, _ => ⟨S32x64x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x30x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x30x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvRefIdeal.lean ====
abbrev S32x64x2560 : Shape := ⟨3, ![32, 64, 2560]⟩
abbrev S32x30x512 : Shape := ⟨3, ![32, 30, 512]⟩
abbrev S31x512 : Shape := ⟨2, ![31, 512]⟩
abbrev S512 : Shape := ⟨1, ![512]⟩
abbrev S32x64x1024 : Shape := ⟨3, ![32, 64, 1024]⟩
abbrev S32x64x512 : Shape := ⟨3, ![32, 64, 512]⟩
abbrev S_ : Shape := ⟨0, ![]⟩
abbrev S32x94x512 : Shape := ⟨3, ![32, 94, 512]⟩
abbrev S1x32x64x512 : Shape := ⟨4, ![1, 32, 64, 512]⟩
abbrev S16x32x64x512 : Shape := ⟨4, ![16, 32, 64, 512]⟩
abbrev S15x32x64x512 : Shape := ⟨4, ![15, 32, 64, 512]⟩
abbrev S31x32x64x512 : Shape := ⟨4, ![31, 32, 64, 512]⟩
abbrev S31x1x1x512 : Shape := ⟨4, ![31, 1, 1, 512]⟩
abbrev S1x1x512 : Shape := ⟨3, ![1, 1, 512]⟩
abbrev S32x64 : Shape := ⟨2, ![32, 64]⟩
abbrev S32x64x1 : Shape := ⟨3, ![32, 64, 1]⟩

abbrev nBuf : Space → Nat
  | .hbm => 131
  | .vmem => 0
  | .smem => 0
  | _ => 0

abbrev hbmTy0_0 (i : Nat) : BufTy := match i % 128 with
  | 0 => ⟨S32x64x2560, .f32⟩
  | 1 => ⟨S32x30x512, .f32⟩
  | 2 => ⟨S31x512, .f32⟩
  | 3 => ⟨S512, .f32⟩
  | 4 => ⟨S512, .f32⟩
  | 5 => ⟨S512, .f32⟩
  | 6 => ⟨S32x64x1024, .f32⟩
  | 7 => ⟨S32x64x512, .f32⟩
  | 8 => ⟨S32x64x512, .f32⟩
  | 9 => ⟨S32x64x512, .f32⟩
  | 10 => ⟨S32x64x512, .f32⟩
  | 11 => ⟨S_, .f32⟩
  | 12 => ⟨S32x64x512, .f32⟩
  | 13 => ⟨S32x64x512, .f32⟩
  | 14 => ⟨S_, .f32⟩
  | 15 => ⟨S32x64x512, .f32⟩
  | 16 => ⟨S32x64x512, .f32⟩
  | 17 => ⟨S32x64x512, .f32⟩
  | 18 => ⟨S32x94x512, .f32⟩
  | 19 => ⟨S32x64x512, .f32⟩
  | 20 => ⟨S32x64x512, .f32⟩
  | 21 => ⟨S32x64x512, .f32⟩
  | 22 => ⟨S32x64x512, .f32⟩
  | 23 => ⟨S32x64x512, .f32⟩
  | 24 => ⟨S32x64x512, .f32⟩
  | 25 => ⟨S32x64x512, .f32⟩
  | 26 => ⟨S32x64x512, .f32⟩
  | 27 => ⟨S32x64x512, .f32⟩
  | 28 => ⟨S32x64x512, .f32⟩
  | 29 => ⟨S32x64x512, .f32⟩
  | 30 => ⟨S32x64x512, .f32⟩
  | 31 => ⟨S32x64x512, .f32⟩
  | 32 => ⟨S32x64x512, .f32⟩
  | 33 => ⟨S32x64x512, .f32⟩
  | 34 => ⟨S32x64x512, .f32⟩
  | 35 => ⟨S32x64x512, .f32⟩
  | 36 => ⟨S32x64x512, .f32⟩
  | 37 => ⟨S32x64x512, .f32⟩
  | 38 => ⟨S32x64x512, .f32⟩
  | 39 => ⟨S32x64x512, .f32⟩
  | 40 => ⟨S32x64x512, .f32⟩
  | 41 => ⟨S32x64x512, .f32⟩
  | 42 => ⟨S32x64x512, .f32⟩
  | 43 => ⟨S32x64x512, .f32⟩
  | 44 => ⟨S32x64x512, .f32⟩
  | 45 => ⟨S32x64x512, .f32⟩
  | 46 => ⟨S32x64x512, .f32⟩
  | 47 => ⟨S32x64x512, .f32⟩
  | 48 => ⟨S32x64x512, .f32⟩
  | 49 => ⟨S32x64x512, .f32⟩
  | 50 => ⟨S1x32x64x512, .f32⟩
  | 51 => ⟨S1x32x64x512, .f32⟩
  | 52 => ⟨S1x32x64x512, .f32⟩
  | 53 => ⟨S1x32x64x512, .f32⟩
  | 54 => ⟨S1x32x64x512, .f32⟩
  | 55 => ⟨S1x32x64x512, .f32⟩
  | 56 => ⟨S1x32x64x512, .f32⟩
  | 57 => ⟨S1x32x64x512, .f32⟩
  | 58 => ⟨S1x32x64x512, .f32⟩
  | 59 => ⟨S1x32x64x512, .f32⟩
  | 60 => ⟨S1x32x64x512, .f32⟩
  | 61 => ⟨S1x32x64x512, .f32⟩
  | 62 => ⟨S1x32x64x512, .f32⟩
  | 63 => ⟨S1x32x64x512, .f32⟩
  | 64 => ⟨S1x32x64x512, .f32⟩
  | 65 => ⟨S1x32x64x512, .f32⟩
  | 66 => ⟨S1x32x64x512, .f32⟩
  | 67 => ⟨S1x32x64x512, .f32⟩
  | 68 => ⟨S1x32x64x512, .f32⟩
  | 69 => ⟨S1x32x64x512, .f32⟩
  | 70 => ⟨S1x32x64x512, .f32⟩
  | 71 => ⟨S1x32x64x512, .f32⟩
  | 72 => ⟨S1x32x64x512, .f32⟩
  | 73 => ⟨S1x32x64x512, .f32⟩
  | 74 => ⟨S1x32x64x512, .f32⟩
  | 75 => ⟨S1x32x64x512, .f32⟩
  | 76 => ⟨S1x32x64x512, .f32⟩
  | 77 => ⟨S1x32x64x512, .f32⟩
  | 78 => ⟨S1x32x64x512, .f32⟩
  | 79 => ⟨S1x32x64x512, .f32⟩
  | 80 => ⟨S1x32x64x512, .f32⟩
  | 81 => ⟨S16x32x64x512, .f32⟩
  | 82 => ⟨S15x32x64x512, .f32⟩
  | 83 => ⟨S31x32x64x512, .f32⟩
  | 84 => ⟨S31x1x1x512, .f32⟩
  | 85 => ⟨S31x32x64x512, .f32⟩
  | 86 => ⟨S31x32x64x512, .f32⟩
  | 87 => ⟨S_, .f32⟩
  | 88 => ⟨S32x64x512, .f32⟩
  | 89 => ⟨S1x1x512, .f32⟩
  | 90 => ⟨S32x64x512, .f32⟩
  | 91 => ⟨S32x64x512, .f32⟩
  | 92 => ⟨S_, .f32⟩
  | 93 => ⟨S32x64, .f32⟩
  | 94 => ⟨S32x64x1, .f32⟩
  | 95 => ⟨S_, .f32⟩
  | 96 => ⟨S32x64x1, .f32⟩
  | 97 => ⟨S32x64x1, .f32⟩
  | 98 => ⟨S32x64x512, .f32⟩
  | 99 => ⟨S32x64x512, .f32⟩
  | 100 => ⟨S32x64x512, .f32⟩
  | 101 => ⟨S_, .f32⟩
  | 102 => ⟨S32x64, .f32⟩
  | 103 => ⟨S32x64x1, .f32⟩
  | 104 => ⟨S_, .f32⟩
  | 105 => ⟨S32x64x1, .f32⟩
  | 106 => ⟨S32x64x1, .f32⟩
  | 107 => ⟨S32x64x512, .f32⟩
  | 108 => ⟨S32x64x512, .f32⟩
  | 109 => ⟨S_, .f32⟩
  | 110 => ⟨S32x64x1, .f32⟩
  | 111 => ⟨S32x64x1, .f32⟩
  | 112 => ⟨S32x64x1, .f32⟩
  | 113 => ⟨S32x64x512, .f32⟩
  | 114 => ⟨S32x64x512, .f32⟩
  | 115 => ⟨S1x1x512, .f32⟩
  | 116 => ⟨S32x64x512, .f32⟩
  | 117 => ⟨S32x64x512, .f32⟩
  | 118 => ⟨S1x1x512, .f32⟩
  | 119 => ⟨S32x64x512, .f32⟩
  | 120 => ⟨S32x64x512, .f32⟩
  | 121 => ⟨S32x64x512, .f32⟩
  | 122 => ⟨S32x64x512, .f32⟩
  | 123 => ⟨S_, .f32⟩
  | 124 => ⟨S32x64x512, .f32⟩
  | 125 => ⟨S32x64x512, .f32⟩
  | 126 => ⟨S_, .f32⟩
  | 127 => ⟨S32x64x512, .f32⟩
  | _ => ⟨S32x64x2560, .f32⟩

abbrev hbmTy0_1 (i : Nat) : BufTy := match i % 128 with
  | 0 => ⟨S32x64x512, .f32⟩
  | 1 => ⟨S32x64x512, .f32⟩
  | 2 => ⟨S32x30x512, .f32⟩
  | _ => ⟨S32x64x2560, .f32⟩

abbrev hbmTy (i : Nat) : BufTy := match i / 128 with
  | 0 => hbmTy0_0 i
  | 1 => hbmTy0_1 i
  | _ => ⟨S32x64x2560, .f32⟩

abbrev bufTy : (tb : Table) → Fin (tcTables nBuf tb) → BufTy
  | .hbm, ⟨i, _⟩ => hbmTy i
  | _, _ => ⟨S32x64x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_cst_1 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_2 : Ref sig .tc := ⟨.hbm, 92, rfl⟩
abbrev main_v83 : Ref sig .tc := ⟨.hbm, 93, rfl⟩
abbrev main_v84 : Ref sig .tc := ⟨.hbm, 94, rfl⟩
abbrev main_cst_3 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_4 : Ref sig .tc := ⟨.hbm, 101, rfl⟩
abbrev main_v90 : Ref sig .tc := ⟨.hbm, 102, rfl⟩
abbrev main_v91 : Ref sig .tc := ⟨.hbm, 103, rfl⟩
abbrev main_cst_5 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_6 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_call0_v0 : Ref sig .tc := ⟨.hbm, 121, rfl⟩
abbrev main_call0_v1 : Ref sig .tc := ⟨.hbm, 122, rfl⟩
abbrev main_call0_cst : Ref sig .tc := ⟨.hbm, 123, rfl⟩
abbrev main_call0_v2 : Ref sig .tc := ⟨.hbm, 124, rfl⟩
abbrev main_call0_v3 : Ref sig .tc := ⟨.hbm, 125, rfl⟩
abbrev main_call0_cst_0 : Ref sig .tc := ⟨.hbm, 126, rfl⟩
abbrev main_call0_v4 : Ref sig .tc := ⟨.hbm, 127, rfl⟩
abbrev main_call0_v5 : Ref sig .tc := ⟨.hbm, 128, rfl⟩
abbrev main_v107 : Ref sig .tc := ⟨.hbm, 129, rfl⟩
abbrev main_v108 : Ref sig .tc := ⟨.hbm, 130, rfl⟩

abbrev nD : Nat := 1
abbrev τ : Topo := Topo.v7x

variable {F : FTy → Type} [FloatOps F]
-- ==== SampleC.lean ====
abbrev S32x64x2560 : Shape := ⟨3, ![32, 64, 2560]⟩
abbrev S32x512x8x64 : Shape := ⟨4, ![32, 512, 8, 64]⟩
abbrev S8x64x576 : Shape := ⟨3, ![8, 64, 576]⟩
abbrev S32x512x512 : Shape := ⟨3, ![32, 512, 512]⟩
abbrev S32x64x512 : Shape := ⟨3, ![32, 64, 512]⟩
abbrev S1x64x512 : Shape := ⟨3, ![1, 64, 512]⟩
abbrev S64x512 : Shape := ⟨2, ![64, 512]⟩
abbrev S576x512 : Shape := ⟨2, ![576, 512]⟩
abbrev S64x64 : Shape := ⟨2, ![64, 64]⟩
abbrev S576x64 : Shape := ⟨2, ![576, 64]⟩
abbrev S64x576 : Shape := ⟨2, ![64, 576]⟩
abbrev S1x64x576 : Shape := ⟨3, ![1, 64, 576]⟩
abbrev S64 : Shape := ⟨1, ![64]⟩
abbrev S64x1 : Shape := ⟨2, ![64, 1]⟩
abbrev S1x64x64 : Shape := ⟨3, ![1, 64, 64]⟩

abbrev nBuf : Space → Nat
  | .hbm => 7
  | .vmem => 41
  | .smem => 0
  | _ => 0

abbrev bufTy : (tb : Table) → Fin (tcTables nBuf tb) → BufTy
  | .hbm, ⟨0, _⟩ => ⟨S32x64x2560, .f32⟩
  | .hbm, ⟨1, _⟩ => ⟨S32x512x8x64, .f32⟩
  | .hbm, ⟨2, _⟩ => ⟨S32x512x8x64, .f32⟩
  | .hbm, ⟨3, _⟩ => ⟨S8x64x576, .f32⟩
  | .hbm, ⟨4, _⟩ => ⟨S32x512x512, .f32⟩
  | .hbm, ⟨5, _⟩ => ⟨S32x512x512, .f32⟩
  | .hbm, ⟨6, _⟩ => ⟨S32x64x512, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | .local _ .vmem, ⟨18, _⟩ => ⟨S1x64x512, .f32⟩
  | .local _ .vmem, ⟨19, _⟩ => ⟨S1x64x512, .f32⟩
  | .local _ .vmem, ⟨20, _⟩ => ⟨S1x64x512, .f32⟩
  | .local _ .vmem, ⟨21, _⟩ => ⟨S1x64x512, .f32⟩
  | .local _ .vmem, ⟨22, _⟩ => ⟨S1x64x512, .f32⟩
  | .local _ .vmem, ⟨23, _⟩ => ⟨S1x64x512, .f32⟩
  | .local _ .vmem, ⟨24, _⟩ => ⟨S1x64x512, .f32⟩
  | .local _ .vmem, ⟨25, _⟩ => ⟨S1x64x512, .f32⟩
  | .local _ .vmem, ⟨26, _⟩ => ⟨S1x64x512, .f32⟩
  | .local _ .vmem, ⟨27, _⟩ => ⟨S1x64x512, .f32⟩
  | .local _ .vmem, ⟨28, _⟩ => ⟨S1x64x512, .f32⟩
  | .local _ .vmem, ⟨29, _⟩ => ⟨S1x64x512, .f32⟩
  | .local _ .vmem, ⟨30, _⟩ => ⟨S1x64x512, .f32⟩
  | .local _ .vmem, ⟨31, _⟩ => ⟨S1x64x512, .f32⟩
  | .local _ .vmem, ⟨32, _⟩ => ⟨S1x64x512, .f32⟩
  | .local _ .vmem, ⟨33, _⟩ => ⟨S1x64x512, .f32⟩
  | .local _ .vmem, ⟨34, _⟩ => ⟨S1x64x512, .f32⟩
  | .local _ .vmem, ⟨35, _⟩ => ⟨S1x64x512, .f32⟩
  | .local _ .vmem, ⟨36, _⟩ => ⟨S1x64x512, .f32⟩
  | .local _ .vmem, ⟨37, _⟩ => ⟨S1x64x512, .f32⟩
  | .local _ .vmem, ⟨38, _⟩ => ⟨S8x64x576, .f32⟩
  | .local _ .vmem, ⟨39, _⟩ => ⟨S1x64x512, .f32⟩
  | .local _ .vmem, ⟨40, _⟩ => ⟨S1x64x512, .f32⟩
  | _, _ => ⟨S32x64x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg20_0 : Ref sig .tc := ⟨.vmem, 39, rfl⟩
abbrev cc0_stg20_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg0.toNat, c4_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg0.toNat, c5_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![arg0.toNat, c6_i32.toNat, c0_i32.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![arg0.toNat, c7_i32.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, c0_i32.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg0.toNat, c4_i32.toNat, c0_i32.toNat]

def cc0_transform_15 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg0.toNat, c5_i32.toNat, c0_i32.toNat]

def cc0_transform_16 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![arg0.toNat, c6_i32.toNat, c0_i32.toNat]

def cc0_transform_17 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![arg0.toNat, c7_i32.toNat, c0_i32.toNat]

def cc0_transform_18 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S8x64x576 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x64x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== SampleCRefIdeal.lean ====
abbrev S32x64x2560 : Shape := ⟨3, ![32, 64, 2560]⟩
abbrev S32x512x8x64 : Shape := ⟨4, ![32, 512, 8, 64]⟩
abbrev S8x64x576 : Shape := ⟨3, ![8, 64, 576]⟩
abbrev S32x64x512 : Shape := ⟨3, ![32, 64, 512]⟩
abbrev S32x64x1024 : Shape := ⟨3, ![32, 64, 1024]⟩
abbrev S32x64x8x64 : Shape := ⟨4, ![32, 64, 8, 64]⟩
abbrev S32x576x8x64 : Shape := ⟨4, ![32, 576, 8, 64]⟩
abbrev S32x8x64x576 : Shape := ⟨4, ![32, 8, 64, 576]⟩
abbrev S_ : Shape := ⟨0, ![]⟩
abbrev S1x8x64x576 : Shape := ⟨4, ![1, 8, 64, 576]⟩
abbrev S32x8x64 : Shape := ⟨3, ![32, 8, 64]⟩
abbrev S32x8x64x1 : Shape := ⟨4, ![32, 8, 64, 1]⟩
abbrev S32x8x64x64 : Shape := ⟨4, ![32, 8, 64, 64]⟩

abbrev nBuf : Space → Nat
  | .hbm => 37
  | .vmem => 0
  | .smem => 0
  | _ => 0

abbrev bufTy : (tb : Table) → Fin (tcTables nBuf tb) → BufTy
  | .hbm, ⟨0, _⟩ => ⟨S32x64x2560, .f32⟩
  | .hbm, ⟨1, _⟩ => ⟨S32x512x8x64, .f32⟩
  | .hbm, ⟨2, _⟩ => ⟨S32x512x8x64, .f32⟩
  | .hbm, ⟨3, _⟩ => ⟨S8x64x576, .f32⟩
  | .hbm, ⟨4, _⟩ => ⟨S32x64x512, .f32⟩
  | .hbm, ⟨5, _⟩ => ⟨S32x64x512, .f32⟩
  | .hbm, ⟨6, _⟩ => ⟨S32x64x512, .f32⟩
  | .hbm, ⟨7, _⟩ => ⟨S32x64x1024, .f32⟩
  | .hbm, ⟨8, _⟩ => ⟨S32x64x8x64, .f32⟩
  | .hbm, ⟨9, _⟩ => ⟨S32x576x8x64, .f32⟩
  | .hbm, ⟨10, _⟩ => ⟨S32x64x8x64, .f32⟩
  | .hbm, ⟨11, _⟩ => ⟨S32x576x8x64, .f32⟩
  | .hbm, ⟨12, _⟩ => ⟨S32x64x8x64, .f32⟩
  | .hbm, ⟨13, _⟩ => ⟨S32x8x64x576, .f32⟩
  | .hbm, ⟨14, _⟩ => ⟨S_, .f32⟩
  | .hbm, ⟨15, _⟩ => ⟨S32x8x64x576, .f32⟩
  | .hbm, ⟨16, _⟩ => ⟨S32x8x64x576, .f32⟩
  | .hbm, ⟨17, _⟩ => ⟨S1x8x64x576, .f32⟩
  | .hbm, ⟨18, _⟩ => ⟨S32x8x64x576, .f32⟩
  | .hbm, ⟨19, _⟩ => ⟨S32x8x64x576, .f32⟩
  | .hbm, ⟨20, _⟩ => ⟨S_, .f32⟩
  | .hbm, ⟨21, _⟩ => ⟨S32x8x64, .f32⟩
  | .hbm, ⟨22, _⟩ => ⟨S_, .f32⟩
  | .hbm, ⟨23, _⟩ => ⟨S32x8x64, .f32⟩
  | .hbm, ⟨24, _⟩ => ⟨S32x8x64, .f32⟩
  | .hbm, ⟨25, _⟩ => ⟨S32x8x64x1, .f32⟩
  | .hbm, ⟨26, _⟩ => ⟨S32x8x64x576, .f32⟩
  | .hbm, ⟨27, _⟩ => ⟨S32x8x64x576, .f32⟩
  | .hbm, ⟨28, _⟩ => ⟨S32x8x64x576, .f32⟩
  | .hbm, ⟨29, _⟩ => ⟨S_, .f32⟩
  | .hbm, ⟨30, _⟩ => ⟨S32x8x64, .f32⟩
  | .hbm, ⟨31, _⟩ => ⟨S32x8x64x1, .f32⟩
  | .hbm, ⟨32, _⟩ => ⟨S32x8x64x576, .f32⟩
  | .hbm, ⟨33, _⟩ => ⟨S32x8x64x576, .f32⟩
  | .hbm, ⟨34, _⟩ => ⟨S32x8x64x64, .f32⟩
  | .hbm, ⟨35, _⟩ => ⟨S32x64x8x64, .f32⟩
  | .hbm, ⟨36, _⟩ => ⟨S32x64x512, .f32⟩
  | _, _ => ⟨S32x64x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== SampleA.lean ====
abbrev S32x64x2560 : Shape := ⟨3, ![32, 64, 2560]⟩
abbrev S32x128x2x64 : Shape := ⟨4, ![32, 128, 2, 64]⟩
abbrev S8x64x192 : Shape := ⟨3, ![8, 64, 192]⟩
abbrev S8 : Shape := ⟨1, ![8]⟩
abbrev S32x128x128 : Shape := ⟨3, ![32, 128, 128]⟩
abbrev S8x1 : Shape := ⟨2, ![8, 1]⟩
abbrev S32x64x512 : Shape := ⟨3, ![32, 64, 512]⟩
abbrev S1x64x512 : Shape := ⟨3, ![1, 64, 512]⟩
abbrev S1x64x128 : Shape := ⟨3, ![1, 64, 128]⟩
abbrev S64x512 : Shape := ⟨2, ![64, 512]⟩
abbrev S64x128 : Shape := ⟨2, ![64, 128]⟩
abbrev S192x128 : Shape := ⟨2, ![192, 128]⟩
abbrev S64x64 : Shape := ⟨2, ![64, 64]⟩
abbrev S192x64 : Shape := ⟨2, ![192, 64]⟩
abbrev S64x192 : Shape := ⟨2, ![64, 192]⟩
abbrev S1x64x192 : Shape := ⟨3, ![1, 64, 192]⟩
abbrev S64 : Shape := ⟨1, ![64]⟩
abbrev S64x1 : Shape := ⟨2, ![64, 1]⟩
abbrev S1x1 : Shape := ⟨2, ![1, 1]⟩
abbrev S1x64x64 : Shape := ⟨3, ![1, 64, 64]⟩

abbrev nBuf : Space → Nat
  | .hbm => 9
  | .vmem => 18
  | .smem => 0
  | _ => 0

abbrev bufTy : (tb : Table) → Fin (tcTables nBuf tb) → BufTy
  | .hbm, ⟨0, _⟩ => ⟨S32x64x2560, .f32⟩
  | .hbm, ⟨1, _⟩ => ⟨S32x128x2x64, .f32⟩
  | .hbm, ⟨2, _⟩ => ⟨S32x128x2x64, .f32⟩
  | .hbm, ⟨3, _⟩ => ⟨S8x64x192, .f32⟩
  | .hbm, ⟨4, _⟩ => ⟨S8, .f32⟩
  | .hbm, ⟨5, _⟩ => ⟨S32x128x128, .f32⟩
  | .hbm, ⟨6, _⟩ => ⟨S32x128x128, .f32⟩
  | .hbm, ⟨7, _⟩ => ⟨S8x1, .f32⟩
  | .hbm, ⟨8, _⟩ => ⟨S32x64x512, .f32⟩
  | .local _ .vmem, ⟨0, _⟩ => ⟨S1x64x512, .f32⟩
  | .local _ .vmem, ⟨1, _⟩ => ⟨S1x64x512, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S8x64x192, .f32⟩
  | .local _ .vmem, ⟨15, _⟩ => ⟨S8x1, .f32⟩
  | .local _ .vmem, ⟨16, _⟩ => ⟨S1x64x512, .f32⟩
  | .local _ .vmem, ⟨17, _⟩ => ⟨S1x64x512, .f32⟩
  | _, _ => ⟨S32x64x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, arg1.toNat, c17_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x64x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SampleARefIdeal.lean ====
abbrev S32x64x2560 : Shape := ⟨3, ![32, 64, 2560]⟩
abbrev S32x128x2x64 : Shape := ⟨4, ![32, 128, 2, 64]⟩
abbrev S8x64x192 : Shape := ⟨3, ![8, 64, 192]⟩
abbrev S8 : Shape := ⟨1, ![8]⟩
abbrev S32x64x512 : Shape := ⟨3, ![32, 64, 512]⟩
abbrev S32x64x8x64 : Shape := ⟨4, ![32, 64, 8, 64]⟩
abbrev S32x64x128 : Shape := ⟨3, ![32, 64, 128]⟩
abbrev S32x64x2x64 : Shape := ⟨4, ![32, 64, 2, 64]⟩
abbrev S32x192x2x64 : Shape := ⟨4, ![32, 192, 2, 64]⟩
abbrev S32x192x2x4x64 : Shape := ⟨5, ![32, 192, 2, 4, 64]⟩
abbrev S32x192x8x64 : Shape := ⟨4, ![32, 192, 8, 64]⟩
abbrev S32x8x64x192 : Shape := ⟨4, ![32, 8, 64, 192]⟩
abbrev S_ : Shape := ⟨0, ![]⟩
abbrev S1x8x64x192 : Shape := ⟨4, ![1, 8, 64, 192]⟩
abbrev S8x1x1 : Shape := ⟨3, ![8, 1, 1]⟩
abbrev S32x8x64 : Shape := ⟨3, ![32, 8, 64]⟩
abbrev S32x8x64x1 : Shape := ⟨4, ![32, 8, 64, 1]⟩
abbrev S1x8x1x1 : Shape := ⟨4, ![1, 8, 1, 1]⟩
abbrev S32x8x64x64 : Shape := ⟨4, ![32, 8, 64, 64]⟩

abbrev nBuf : Space → Nat
  | .hbm => 47
  | .vmem => 0
  | .smem => 0
  | _ => 0

abbrev bufTy : (tb : Table) → Fin (tcTables nBuf tb) → BufTy
  | .hbm, ⟨0, _⟩ => ⟨S32x64x2560, .f32⟩
  | .hbm, ⟨1, _⟩ => ⟨S32x128x2x64, .f32⟩
  | .hbm, ⟨2, _⟩ => ⟨S32x128x2x64, .f32⟩
  | .hbm, ⟨3, _⟩ => ⟨S8x64x192, .f32⟩
  | .hbm, ⟨4, _⟩ => ⟨S8, .f32⟩
  | .hbm, ⟨5, _⟩ => ⟨S32x64x512, .f32⟩
  | .hbm, ⟨6, _⟩ => ⟨S32x64x8x64, .f32⟩
  | .hbm, ⟨7, _⟩ => ⟨S32x64x128, .f32⟩
  | .hbm, ⟨8, _⟩ => ⟨S32x64x2x64, .f32⟩
  | .hbm, ⟨9, _⟩ => ⟨S32x192x2x64, .f32⟩
  | .hbm, ⟨10, _⟩ => ⟨S32x192x2x4x64, .f32⟩
  | .hbm, ⟨11, _⟩ => ⟨S32x192x8x64, .f32⟩
  | .hbm, ⟨12, _⟩ => ⟨S32x64x128, .f32⟩
  | .hbm, ⟨13, _⟩ => ⟨S32x64x2x64, .f32⟩
  | .hbm, ⟨14, _⟩ => ⟨S32x192x2x64, .f32⟩
  | .hbm, ⟨15, _⟩ => ⟨S32x192x2x4x64, .f32⟩
  | .hbm, ⟨16, _⟩ => ⟨S32x192x8x64, .f32⟩
  | .hbm, ⟨17, _⟩ => ⟨S32x8x64x192, .f32⟩
  | .hbm, ⟨18, _⟩ => ⟨S_, .f32⟩
  | .hbm, ⟨19, _⟩ => ⟨S32x8x64x192, .f32⟩
  | .hbm, ⟨20, _⟩ => ⟨S32x8x64x192, .f32⟩
  | .hbm, ⟨21, _⟩ => ⟨S1x8x64x192, .f32⟩
  | .hbm, ⟨22, _⟩ => ⟨S32x8x64x192, .f32⟩
  | .hbm, ⟨23, _⟩ => ⟨S32x8x64x192, .f32⟩
  | .hbm, ⟨24, _⟩ => ⟨S8x1x1, .f32⟩
  | .hbm, ⟨25, _⟩ => ⟨S_, .f32⟩
  | .hbm, ⟨26, _⟩ => ⟨S32x8x64, .f32⟩
  | .hbm, ⟨27, _⟩ => ⟨S32x8x64x1, .f32⟩
  | .hbm, ⟨28, _⟩ => ⟨S1x8x1x1, .f32⟩
  | .hbm, ⟨29, _⟩ => ⟨S32x8x64x1, .f32⟩
  | .hbm, ⟨30, _⟩ => ⟨S32x8x64x1, .f32⟩
  | .hbm, ⟨31, _⟩ => ⟨S32x8x64x192, .f32⟩
  | .hbm, ⟨32, _⟩ => ⟨S32x8x64x192, .f32⟩
  | .hbm, ⟨33, _⟩ => ⟨S32x8x64x192, .f32⟩
  | .hbm, ⟨34, _⟩ => ⟨S_, .f32⟩
  | .hbm, ⟨35, _⟩ => ⟨S32x8x64, .f32⟩
  | .hbm, ⟨36, _⟩ => ⟨S32x8x64x1, .f32⟩
  | .hbm, ⟨37, _⟩ => ⟨S1x8x1x1, .f32⟩
  | .hbm, ⟨38, _⟩ => ⟨S32x8x64x1, .f32⟩
  | .hbm, ⟨39, _⟩ => ⟨S32x8x64x1, .f32⟩
  | .hbm, ⟨40, _⟩ => ⟨S32x8x64x1, .f32⟩
  | .hbm, ⟨41, _⟩ => ⟨S32x8x64x1, .f32⟩
  | .hbm, ⟨42, _⟩ => ⟨S32x8x64x192, .f32⟩
  | .hbm, ⟨43, _⟩ => ⟨S32x8x64x192, .f32⟩
  | .hbm, ⟨44, _⟩ => ⟨S32x8x64x64, .f32⟩
  | .hbm, ⟨45, _⟩ => ⟨S32x64x8x64, .f32⟩
  | .hbm, ⟨46, _⟩ => ⟨S32x64x512, .f32⟩
  | _, _ => ⟨S32x64x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== PromptConv.lean ====
abbrev S2x8192x2560 : Shape := ⟨3, ![2, 8192, 2560]⟩
abbrev S31x512 : Shape := ⟨2, ![31, 512]⟩
abbrev S512 : Shape := ⟨1, ![512]⟩
abbrev S1x512 : Shape := ⟨2, ![1, 512]⟩
abbrev S2x8192x512 : Shape := ⟨3, ![2, 8192, 512]⟩
abbrev S2x30x512 : Shape := ⟨3, ![2, 30, 512]⟩
abbrev S1x512x512 : Shape := ⟨3, ![1, 512, 512]⟩
abbrev S1x32x512 : Shape := ⟨3, ![1, 32, 512]⟩
abbrev S1x30x512 : Shape := ⟨3, ![1, 30, 512]⟩
abbrev S544x512 : Shape := ⟨2, ![544, 512]⟩
abbrev S32x512 : Shape := ⟨2, ![32, 512]⟩
abbrev S512x512 : Shape := ⟨2, ![512, 512]⟩
abbrev S64x512 : Shape := ⟨2, ![64, 512]⟩
abbrev S64 : Shape := ⟨1, ![64]⟩
abbrev S64x1 : Shape := ⟨2, ![64, 1]⟩
abbrev S1x64x512 : Shape := ⟨3, ![1, 64, 512]⟩
abbrev S30x512 : Shape := ⟨2, ![30, 512]⟩

abbrev nBuf : Space → Nat
  | .hbm => 10
  | .vmem => 17
  | .smem => 0
  | _ => 0

abbrev bufTy : (tb : Table) → Fin (tcTables nBuf tb) → BufTy
  | .hbm, ⟨0, _⟩ => ⟨S2x8192x2560, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S2x8192x512, .f32⟩
  | .hbm, ⟨9, _⟩ => ⟨S2x30x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x32x512, .f32⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | .local _ .vmem, ⟨8, _⟩ => ⟨S31x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512x512, .f32⟩
  | .local _ .vmem, ⟨13, _⟩ => ⟨S1x512x512, .f32⟩
  | .local _ .vmem, ⟨14, _⟩ => ⟨S1x30x512, .f32⟩
  | .local _ .vmem, ⟨15, _⟩ => ⟨S1x30x512, .f32⟩
  | .local _ .vmem, ⟨16, _⟩ => ⟨S544x512, .f32⟩
  | _, _ => ⟨S2x8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x30x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PromptConvRefIdeal.lean ====
abbrev S2x8192x2560 : Shape := ⟨3, ![2, 8192, 2560]⟩
abbrev S31x512 : Shape := ⟨2, ![31, 512]⟩
abbrev S512 : Shape := ⟨1, ![512]⟩
abbrev S_ : Shape := ⟨0, ![]⟩
abbrev S2x30x512 : Shape := ⟨3, ![2, 30, 512]⟩
abbrev S2x8192x1024 : Shape := ⟨3, ![2, 8192, 1024]⟩
abbrev S2x8192x512 : Shape := ⟨3, ![2, 8192, 512]⟩
abbrev S2x8222x512 : Shape := ⟨3, ![2, 8222, 512]⟩
abbrev S1x2x8192x512 : Shape := ⟨4, ![1, 2, 8192, 512]⟩
abbrev S16x2x8192x512 : Shape := ⟨4, ![16, 2, 8192, 512]⟩
abbrev S15x2x8192x512 : Shape := ⟨4, ![15, 2, 8192, 512]⟩
abbrev S31x2x8192x512 : Shape := ⟨4, ![31, 2, 8192, 512]⟩
abbrev S31x1x1x512 : Shape := ⟨4, ![31, 1, 1, 512]⟩
abbrev S1x1x512 : Shape := ⟨3, ![1, 1, 512]⟩
abbrev S2x8192 : Shape := ⟨2, ![2, 8192]⟩
abbrev S2x8192x1 : Shape := ⟨3, ![2, 8192, 1]⟩

abbrev nBuf : Space → Nat
  | .hbm => 132
  | .vmem => 0
  | .smem => 0
  | _ => 0

abbrev hbmTy0_0 (i : Nat) : BufTy := match i % 128 with
  | 0 => ⟨S2x8192x2560, .f32⟩
  | 1 => ⟨S31x512, .f32⟩
  | 2 => ⟨S512, .f32⟩
  | 3 => ⟨S512, .f32⟩
  | 4 => ⟨S512, .f32⟩
  | 5 => ⟨S_, .f32⟩
  | 6 => ⟨S2x30x512, .f32⟩
  | 7 => ⟨S2x8192x1024, .f32⟩
  | 8 => ⟨S2x8192x512, .f32⟩
  | 9 => ⟨S2x8192x512, .f32⟩
  | 10 => ⟨S2x8192x512, .f32⟩
  | 11 => ⟨S2x8192x512, .f32⟩
  | 12 => ⟨S_, .f32⟩
  | 13 => ⟨S2x8192x512, .f32⟩
  | 14 => ⟨S2x8192x512, .f32⟩
  | 15 => ⟨S_, .f32⟩
  | 16 => ⟨S2x8192x512, .f32⟩
  | 17 => ⟨S2x8192x512, .f32⟩
  | 18 => ⟨S2x8192x512, .f32⟩
  | 19 => ⟨S2x8222x512, .f32⟩
  | 20 => ⟨S2x8192x512, .f32⟩
  | 21 => ⟨S2x8192x512, .f32⟩
  | 22 => ⟨S2x8192x512, .f32⟩
  | 23 => ⟨S2x8192x512, .f32⟩
  | 24 => ⟨S2x8192x512, .f32⟩
  | 25 => ⟨S2x8192x512, .f32⟩
  | 26 => ⟨S2x8192x512, .f32⟩
  | 27 => ⟨S2x8192x512, .f32⟩
  | 28 => ⟨S2x8192x512, .f32⟩
  | 29 => ⟨S2x8192x512, .f32⟩
  | 30 => ⟨S2x8192x512, .f32⟩
  | 31 => ⟨S2x8192x512, .f32⟩
  | 32 => ⟨S2x8192x512, .f32⟩
  | 33 => ⟨S2x8192x512, .f32⟩
  | 34 => ⟨S2x8192x512, .f32⟩
  | 35 => ⟨S2x8192x512, .f32⟩
  | 36 => ⟨S2x8192x512, .f32⟩
  | 37 => ⟨S2x8192x512, .f32⟩
  | 38 => ⟨S2x8192x512, .f32⟩
  | 39 => ⟨S2x8192x512, .f32⟩
  | 40 => ⟨S2x8192x512, .f32⟩
  | 41 => ⟨S2x8192x512, .f32⟩
  | 42 => ⟨S2x8192x512, .f32⟩
  | 43 => ⟨S2x8192x512, .f32⟩
  | 44 => ⟨S2x8192x512, .f32⟩
  | 45 => ⟨S2x8192x512, .f32⟩
  | 46 => ⟨S2x8192x512, .f32⟩
  | 47 => ⟨S2x8192x512, .f32⟩
  | 48 => ⟨S2x8192x512, .f32⟩
  | 49 => ⟨S2x8192x512, .f32⟩
  | 50 => ⟨S2x8192x512, .f32⟩
  | 51 => ⟨S1x2x8192x512, .f32⟩
  | 52 => ⟨S1x2x8192x512, .f32⟩
  | 53 => ⟨S1x2x8192x512, .f32⟩
  | 54 => ⟨S1x2x8192x512, .f32⟩
  | 55 => ⟨S1x2x8192x512, .f32⟩
  | 56 => ⟨S1x2x8192x512, .f32⟩
  | 57 => ⟨S1x2x8192x512, .f32⟩
  | 58 => ⟨S1x2x8192x512, .f32⟩
  | 59 => ⟨S1x2x8192x512, .f32⟩
  | 60 => ⟨S1x2x8192x512, .f32⟩
  | 61 => ⟨S1x2x8192x512, .f32⟩
  | 62 => ⟨S1x2x8192x512, .f32⟩
  | 63 => ⟨S1x2x8192x512, .f32⟩
  | 64 => ⟨S1x2x8192x512, .f32⟩
  | 65 => ⟨S1x2x8192x512, .f32⟩
  | 66 => ⟨S1x2x8192x512, .f32⟩
  | 67 => ⟨S1x2x8192x512, .f32⟩
  | 68 => ⟨S1x2x8192x512, .f32⟩
  | 69 => ⟨S1x2x8192x512, .f32⟩
  | 70 => ⟨S1x2x8192x512, .f32⟩
  | 71 => ⟨S1x2x8192x512, .f32⟩
  | 72 => ⟨S1x2x8192x512, .f32⟩
  | 73 => ⟨S1x2x8192x512, .f32⟩
  | 74 => ⟨S1x2x8192x512, .f32⟩
  | 75 => ⟨S1x2x8192x512, .f32⟩
  | 76 => ⟨S1x2x8192x512, .f32⟩
  | 77 => ⟨S1x2x8192x512, .f32⟩
  | 78 => ⟨S1x2x8192x512, .f32⟩
  | 79 => ⟨S1x2x8192x512, .f32⟩
  | 80 => ⟨S1x2x8192x512, .f32⟩
  | 81 => ⟨S1x2x8192x512, .f32⟩
  | 82 => ⟨S16x2x8192x512, .f32⟩
  | 83 => ⟨S15x2x8192x512, .f32⟩
  | 84 => ⟨S31x2x8192x512, .f32⟩
  | 85 => ⟨S31x1x1x512, .f32⟩
  | 86 => ⟨S31x2x8192x512, .f32⟩
  | 87 => ⟨S31x2x8192x512, .f32⟩
  | 88 => ⟨S_, .f32⟩
  | 89 => ⟨S2x8192x512, .f32⟩
  | 90 => ⟨S1x1x512, .f32⟩
  | 91 => ⟨S2x8192x512, .f32⟩
  | 92 => ⟨S2x8192x512, .f32⟩
  | 93 => ⟨S_, .f32⟩
  | 94 => ⟨S2x8192, .f32⟩
  | 95 => ⟨S2x8192x1, .f32⟩
  | 96 => ⟨S_, .f32⟩
  | 97 => ⟨S2x8192x1, .f32⟩
  | 98 => ⟨S2x8192x1, .f32⟩
  | 99 => ⟨S2x8192x512, .f32⟩
  | 100 => ⟨S2x8192x512, .f32⟩
  | 101 => ⟨S2x8192x512, .f32⟩
  | 102 => ⟨S_, .f32⟩
  | 103 => ⟨S2x8192, .f32⟩
  | 104 => ⟨S2x8192x1, .f32⟩
  | 105 => ⟨S_, .f32⟩
  | 106 => ⟨S2x8192x1, .f32⟩
  | 107 => ⟨S2x8192x1, .f32⟩
  | 108 => ⟨S2x8192x512, .f32⟩
  | 109 => ⟨S2x8192x512, .f32⟩
  | 110 => ⟨S_, .f32⟩
  | 111 => ⟨S2x8192x1, .f32⟩
  | 112 => ⟨S2x8192x1, .f32⟩
  | 113 => ⟨S2x8192x1, .f32⟩
  | 114 => ⟨S2x8192x512, .f32⟩
  | 115 => ⟨S2x8192x512, .f32⟩
  | 116 => ⟨S1x1x512, .f32⟩
  | 117 => ⟨S2x8192x512, .f32⟩
  | 118 => ⟨S2x8192x512, .f32⟩
  | 119 => ⟨S1x1x512, .f32⟩
  | 120 => ⟨S2x8192x512, .f32⟩
  | 121 => ⟨S2x8192x512, .f32⟩
  | 122 => ⟨S2x8192x512, .f32⟩
  | 123 => ⟨S2x8192x512, .f32⟩
  | 124 => ⟨S_, .f32⟩
  | 125 => ⟨S2x8192x512, .f32⟩
  | 126 => ⟨S2x8192x512, .f32⟩
  | 127 => ⟨S_, .f32⟩
  | _ => ⟨S2x8192x2560, .f32⟩

abbrev hbmTy0_1 (i : Nat) : BufTy := match i % 128 with
  | 0 => ⟨S2x8192x512, .f32⟩
  | 1 => ⟨S2x8192x512, .f32⟩
  | 2 => ⟨S2x8192x512, .f32⟩
  | 3 => ⟨S2x30x512, .f32⟩
  | _ => ⟨S2x8192x2560, .f32⟩

abbrev hbmTy (i : Nat) : BufTy := match i / 128 with
  | 0 => hbmTy0_0 i
  | 1 => hbmTy0_1 i
  | _ => ⟨S2x8192x2560, .f32⟩

abbrev bufTy : (tb : Table) → Fin (tcTables nBuf tb) → BufTy
  | .hbm, ⟨i, _⟩ => hbmTy i
  | _, _ => ⟨S2x8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_2 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_cst_3 : Ref sig .tc := ⟨.hbm, 93, rfl⟩
abbrev main_v84 : Ref sig .tc := ⟨.hbm, 94, rfl⟩
abbrev main_v85 : Ref sig .tc := ⟨.hbm, 95, rfl⟩
abbrev main_cst_4 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_cst_5 : Ref sig .tc := ⟨.hbm, 102, rfl⟩
abbrev main_v91 : Ref sig .tc := ⟨.hbm, 103, rfl⟩
abbrev main_v92 : Ref sig .tc := ⟨.hbm, 104, rfl⟩
abbrev main_cst_6 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_7 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_call0_v0 : Ref sig .tc := ⟨.hbm, 122, rfl⟩
abbrev main_call0_v1 : Ref sig .tc := ⟨.hbm, 123, rfl⟩
abbrev main_call0_cst : Ref sig .tc := ⟨.hbm, 124, rfl⟩
abbrev main_call0_v2 : Ref sig .tc := ⟨.hbm, 125, rfl⟩
abbrev main_call0_v3 : Ref sig .tc := ⟨.hbm, 126, rfl⟩
abbrev main_call0_cst_0 : Ref sig .tc := ⟨.hbm, 127, rfl⟩
abbrev main_call0_v4 : Ref sig .tc := ⟨.hbm, 128, rfl⟩
abbrev main_call0_v5 : Ref sig .tc := ⟨.hbm, 129, rfl⟩
abbrev main_v108 : Ref sig .tc := ⟨.hbm, 130, rfl⟩
abbrev main_v109 : Ref sig .tc := ⟨.hbm, 131, rfl⟩

abbrev nD : Nat := 1
abbrev τ : Topo := Topo.v7x

variable {F : FTy → Type} [FloatOps F]
-- ==== Proof.Rms.lean ====
module

public import Idealize.ShloMosaic.Lib.Pipeline.ValueKit
public import Idealize.ShloMosaic.Lib.Pointwise

@[expose] public section

noncomputable section

namespace Cert.Proof

open Idealize.ShloMosaic

/-- One entry of a row of 1024 numbers after the root-mean-square normalization: the entry over the root of the mean square of
    the row (plus the small constant), times its gain. -/
def rmsRow (x g : Fin 1024 → EReal) (k : Fin 1024) : EReal :=
  x k * Ideal.rsqrt (Ideal.div (∑ j, x j * x j) (Ideal.ofBits FTy.f32 1149239296#32) + Ideal.ofBits FTy.f32 897988541#32) * g k

end Cert.Proof

end
-- ==== Proof.ProjValue.lean ====
module

public import proofs.«01_k».proof.Proof.Rms
public import proofs.«01_k».proof.Proof.Gen.ProjIdeal.Value
public import proofs.«01_k».proof.Proof.Gen.ProjRefIdeal.Run
public import proofs.«01_k».proof.Proof.Gen.ProjRefIdeal.Read

@[expose] public section

set_option maxRecDepth 16384

noncomputable section

namespace Cert.Proof.Proj

open Idealize.ShloMosaic Idealize.ShloMosaic.TcCoe Idealize.SL.Sem
open Cert.ProjIdeal Cert.ProjIdeal.Gen

/-- What one block computes: entry `(r, n)` is the normalized row `r` of the block against column `n` of the weights. -/
theorem block_at (x : Vec Ideal S512x1024 .f32) (g : Vec Ideal S1x1024 .f32) (w : Vec Ideal S1024x2560 .bf16) (r : Fin 512) (n : Fin 2560) :
    k0_pay1 x g w (ix2 r n) = ∑ k, rmsRow (fun j => x (ix2 r j)) (fun j => g (ix2 0 j)) k * w (ix2 k n) := by
  pointwise [k0_pay1]
  rfl

/-- What the reference computes: entry `(r, n)` is the normalized row `r` of the input against column `n` of the weights. -/
theorem ref_at (x : Vec Ideal S16384x1024 .f32) (g : Vec Ideal S1024 .f32) (w : Vec Ideal S1024x2560 .f32) (r : Fin 16384) (n : Fin 2560) :
    Cert.ProjRefIdeal.Read.val_main_v13 (F := Ideal) x g w (ix2 r n) = ∑ k, rmsRow (fun j => x (ix2 r j)) (fun j => g (ix1 j)) k * w (ix2 k n) := by
  unfold Cert.ProjRefIdeal.Read.val_main_v13
  pointwise [Cert.ProjRefIdeal.Read.val_main_v12, Cert.ProjRefIdeal.Read.val_main_v11, Cert.ProjRefIdeal.Read.val_main_v10,
    Cert.ProjRefIdeal.Read.val_main_v9, Cert.ProjRefIdeal.Read.val_main_v8, Cert.ProjRefIdeal.Read.val_main_v7,
    Cert.ProjRefIdeal.Read.val_main_v6, Cert.ProjRefIdeal.Read.val_main_v5, Cert.ProjRefIdeal.Read.val_main_v4,
    Cert.ProjRefIdeal.Read.val_main_v3, Cert.ProjRefIdeal.Read.val_main_v2, Cert.ProjRefIdeal.Read.val_main_v1,
    Cert.ProjRefIdeal.Read.val_main_v0, Cert.ProjRefIdeal.Read.val_main_cst, Cert.ProjRefIdeal.Read.val_main_cst_0,
    Cert.ProjRefIdeal.Read.val_main_cst_1]
  rfl

/-- Where the windows lie at grid point `t`: block `t` of the rows, the whole gain, the whole weights, block `t` of the result. -/
theorem idx : ∀ t : Fin grid0.N, win0_0.index t = ![t.val, 0] ∧ win0_1.index t = ![0, 0] ∧ win0_2.index t = ![0, 0] ∧ win0_3.index t = ![t.val, 0] := by
  decide +kernel

variable (m : (ℓ : Loc nD τ sig) → Buf (Elt Ideal) ℓ)

/-- Block `t` of the input is its rows `512 t` to `512 t + 511`. -/
theorem read_x (c : Dev nD) (t : Fin cfg0.grid.N) (ht : t.val < 32) (r : Fin 512) (j : Fin 1024) :
    iblk m c 0 t (ix2 r j) = m ((c : Thread nD τ).loc main_arg0) (ix2 (⟨t.val * 512 + r.val, by omega⟩ : Fin 16384) j) := by
  obtain ⟨h0, -⟩ := idx t
  blk_ext! [iblk, V, h0]

/-- The gain's block is the whole gain. -/
theorem read_g (c : Dev nD) (t : Fin cfg0.grid.N) (j : Fin 1024) :
    iblk m c 1 t (ix2 0 j) = m ((c : Thread nD τ).loc main_arg1) (ix1 j) := by
  obtain ⟨-, h1, -⟩ := idx t
  blk_ext! [iblk, V, h1]

/-- The weights' block is the whole weights. -/
theorem read_w (c : Dev nD) (t : Fin cfg0.grid.N) (k : Fin 1024) (n : Fin 2560) :
    iblk m c 2 t (ix2 k n) = m ((c : Thread nD τ).loc main_arg2) (ix2 k n) := by
  obtain ⟨-, -, h2, -⟩ := idx t
  blk_ext! [iblk, V, h2]

/-- The result array after the whole grid is the reference's value at the three arguments. -/
theorem out_eq (c : Dev nD) : (dats m 0 c).arrAt 3 cfg0.N = Cert.ProjRefIdeal.Read.val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, h3⟩ := idx t
  blk_simp
  rw [after0_3]
  frame_out
  obtain ⟨r, n, rfl⟩ : ∃ (r : Fin 512) (n : Fin 2560), y = ix2 r n := ⟨y 0, y 1, eq_ix2 y⟩
  have ht : t.val < 32 := t.isLt
  have he : ((View.whole main_v2).slice (win0_3.rect t)).emb (ix2 r n) = ix2 (⟨t.val * 512 + r.val, by omega⟩ : Fin 16384) n := by
    blk_ext [h3]
  rw [block_at, he, ref_at]
  simp only [read_x m c t ht, read_g m c t, read_w m c t]

end Cert.Proof.Proj

end
-- ==== Proof.PostRow.lean ====
module

public import proofs.«01_k».proof.Proof.Rms

@[expose] public section

noncomputable section

namespace Cert.Proof

open Idealize.ShloMosaic

/-- One row after the output projection: the residual plus the two halves of the mixed row, each against its half of the
    projection's rows. -/
def projRow (x : Fin 1024 → EReal) (o1 o2 : Fin 512 → EReal) (wo : Fin 1024 → Fin 1024 → EReal) (n : Fin 1024) : EReal :=
  x n + ∑ k : Fin 512, o1 k * wo ⟨k.val, by omega⟩ n + ∑ k : Fin 512, o2 k * wo ⟨512 + k.val, by omega⟩ n

/-- One hidden unit of the gated layer: with `a` the row against the gate's column and `b` the row against the other
    column, `a · σ(a) · b`. -/
def gate (y wg wu : Fin 1024 → EReal) : EReal :=
  (∑ k, y k * wg k) * Ideal.logistic (∑ k, y k * wg k) * ∑ k, y k * wu k

/-- The row of the layer's second part: the projected row plus its normalization sent through the gated layer. -/
def postRow (h g : Fin 1024 → EReal) (wg wu : Fin 1024 → Fin 2816 → EReal) (wd : Fin 2816 → Fin 1024 → EReal) (n : Fin 1024) : EReal :=
  h n + ∑ f, gate (rmsRow h g) (fun k => wg k f) (fun k => wu k f) * wd f n

/-- The residual plus one sum over 1024 entries, the first 512 of them from one row and the rest from another, is the
    projected row. -/
theorem projRow_eq (x : Fin 1024 → EReal) (o1 o2 : Fin 512 → EReal) (wo : Fin 1024 → Fin 1024 → EReal) (n : Fin 1024)
    (s : Fin 1024 → EReal) (h1 : ∀ k : Fin 512, s ⟨k.val, by omega⟩ = o1 k) (h2 : ∀ k : Fin 512, s ⟨512 + k.val, by omega⟩ = o2 k) :
    x n + ∑ k, s k * wo k n = projRow x o1 o2 wo n := by
  unfold projRow
  have hs := Fin.sum_univ_add (a := 512) (b := 512) (fun k => s k * wo k n)
  rw [add_assoc]
  refine congrArg (x n + ·) (hs.trans ?_)
  refine congrArg₂ (· + ·) (Finset.sum_congr rfl fun k _ => ?_) (Finset.sum_congr rfl fun k _ => ?_)
  · exact congrArg (· * _) (h1 k)
  · exact congrArg (· * _) (h2 k)

/-- The part of the gated layer's sum that half `p` of the 2816 hidden units gives. -/
def halfRow (h g : Fin 1024 → EReal) (wg wu : Fin 1024 → Fin 2816 → EReal) (wd : Fin 2816 → Fin 1024 → EReal) (p : ℕ) (hp : p < 2) (n : Fin 1024) : EReal :=
  ∑ f : Fin 1408, gate (rmsRow h g) (fun k => wg k ⟨p * 1408 + f.val, by omega⟩) (fun k => wu k ⟨p * 1408 + f.val, by omega⟩) * wd ⟨p * 1408 + f.val, by omega⟩ n

/-- The same row with the 2816 hidden units summed in two halves of 1408, the first added to zero. -/
theorem postRow_halves (h g : Fin 1024 → EReal) (wg wu : Fin 1024 → Fin 2816 → EReal) (wd : Fin 2816 → Fin 1024 → EReal) (n : Fin 1024) :
    postRow h g wg wu wd n = h n + ((0 + halfRow h g wg wu wd 0 (by omega) n) + halfRow h g wg wu wd 1 (by omega) n) := by
  unfold postRow
  rw [zero_add]
  refine congrArg (h n + ·) ((Fin.sum_univ_add (a := 1408) (b := 1408) fun f : Fin 2816 => gate (rmsRow h g) (fun k => wg k f) (fun k => wu k f) * wd f n).trans ?_)
  refine congrArg₂ (· + ·) (Finset.sum_congr rfl fun f _ => ?_) (Finset.sum_congr rfl fun f _ => ?_)
  · have e : (Fin.castAdd 1408 f : Fin (1408 + 1408)) = (⟨0 * 1408 + f.val, by omega⟩ : Fin 2816) := Fin.ext (by simp)
    rw [e]
  · have e : (Fin.natAdd 1408 f : Fin (1408 + 1408)) = (⟨1 * 1408 + f.val, by omega⟩ : Fin 2816) := Fin.ext (by simp [Nat.add_comm])
    rw [e]

end Cert.Proof

end
-- ==== Proof.PostMidBlock.lean ====
module

public import proofs.«01_k».proof.Proof.PostRow
public import proofs.«01_k».proof.Proof.Gen.PostMidIdeal.Value
public import proofs.«01_k».proof.Proof.Gen.PostMidRefIdeal.Read

@[expose] public section

set_option maxRecDepth 16384

noncomputable section

namespace Cert.Proof.PostMid

open Idealize.ShloMosaic Idealize.ShloMosaic.TcCoe Idealize.SL.Sem

namespace Block

open Cert.PostMidIdeal Cert.PostMidIdeal.Gen

/-- The residual of the first grid step of a row block, at a row and column: x plus both halves' products with the output weights. -/
theorem pay4_at (x : Vec Ideal S512x1024 .f32) (o1 : Vec Ideal S512x512 .f32) (wa : Vec Ideal S512x1024 .bf16) (o2 : Vec Ideal S512x512 .f32) (wb : Vec Ideal S512x1024 .bf16) (r : Fin 512) (n : Fin 1024) :
    k0_pay4 x o1 wa o2 wb (ix2 r n) = x (ix2 r n) + ∑ k, o1 (ix2 r k) * wa (ix2 k n) + ∑ k, o2 (ix2 r k) * wb (ix2 k n) := by
  pointwise [k0_pay4]

/-- The residual is stored as computed. -/
theorem pay5_eq (x : Vec Ideal S512x1024 .f32) (o1 : Vec Ideal S512x512 .f32) (wa : Vec Ideal S512x1024 .bf16) (o2 : Vec Ideal S512x512 .f32) (wb : Vec Ideal S512x1024 .bf16) :
    k0_pay5 x o1 wa o2 wb = k0_pay4 x o1 wa o2 wb := by
  funext j
  idx_vars j
  pointwise [k0_pay5]

/-- The normalised residual of the first grid step, at a row and column: the RMS norm of the residual row times the gain. -/
theorem pay6_at (x : Vec Ideal S512x1024 .f32) (o1 : Vec Ideal S512x512 .f32) (wa : Vec Ideal S512x1024 .bf16) (o2 : Vec Ideal S512x512 .f32) (wb : Vec Ideal S512x1024 .bf16) (g : Vec Ideal S1x1024 .f32) (r : Fin 512) (n : Fin 1024) :
    k0_pay6 x o1 wa o2 wb g (ix2 r n) = rmsRow (fun j => k0_pay4 x o1 wa o2 wb (ix2 r j)) (fun j => g (ix2 0 j)) n := by
  pointwise [k0_pay6]
  rfl

/-- The projected rows, from what the loads read. -/
theorem pay4_row (x : Vec Ideal S512x1024 .f32) (o1 : Vec Ideal S512x512 .f32) (wa : Vec Ideal S512x1024 .bf16) (o2 : Vec Ideal S512x512 .f32) (wb : Vec Ideal S512x1024 .bf16)
    (r : Fin 512) (xr : Fin 1024 → EReal) (p q : Fin 512 → EReal) (wo : Fin 1024 → Fin 1024 → EReal)
    (hx : ∀ n, x (ix2 r n) = xr n) (h1 : ∀ k, o1 (ix2 r k) = p k) (h2 : ∀ k, o2 (ix2 r k) = q k)
    (ha : ∀ (k : Fin 512) n, wa (ix2 k n) = wo ⟨k.val, by omega⟩ n) (hb : ∀ (k : Fin 512) n, wb (ix2 k n) = wo ⟨512 + k.val, by omega⟩ n) :
    (fun n => k0_pay4 x o1 wa o2 wb (ix2 r n)) = projRow xr p q wo := by
  funext n
  rw [pay4_at]
  simp only [hx, h1, h2, ha, hb]
  rfl

/-- One step of the accumulation: half `p` of the hidden units, added to what the accumulator held. -/
theorem pay2_row (y : Vec Ideal S512x1024 .bf16) (wg wu : Vec Ideal S1024x1408 .bf16) (acc : Vec Ideal S512x1024 .f32) (wd : Vec Ideal S1408x1024 .bf16)
    (r : Fin 512) (n : Fin 1024) (h g : Fin 1024 → EReal) (WG WU : Fin 1024 → Fin 2816 → EReal) (WD : Fin 2816 → Fin 1024 → EReal) (p : ℕ) (hp : p < 2) (a : EReal)
    (hy : ∀ k, y (ix2 r k) = rmsRow h g k) (hg : ∀ k (f : Fin 1408), wg (ix2 k f) = WG k ⟨p * 1408 + f.val, by omega⟩)
    (hu : ∀ k (f : Fin 1408), wu (ix2 k f) = WU k ⟨p * 1408 + f.val, by omega⟩) (hd : ∀ (f : Fin 1408) n, wd (ix2 f n) = WD ⟨p * 1408 + f.val, by omega⟩ n)
    (ha : acc (ix2 r n) = a) :
    k0_pay2 y wg wu acc wd (ix2 r n) = a + halfRow h g WG WU WD p hp n := by
  pointwise [k0_pay2]
  simp only [hy, hg, hu, hd, ha]
  rfl

/-- The accumulator starts at zero. -/
theorem pay17_at (r : Fin 512) (n : Fin 1024) : k0_pay1 (F := Ideal) k0_pay7 (ix2 r n) = 0 := by
  pointwise [k0_pay1, k0_pay7]

/-- The result of the last grid step, at a row and column: residual plus accumulator. -/
theorem pay3_at (h a : Vec Ideal S512x1024 .f32) (r : Fin 512) (n : Fin 1024) : k0_pay3 h a (ix2 r n) = h (ix2 r n) + a (ix2 r n) := by
  pointwise [k0_pay3]

end Block

namespace Ref

open Cert.PostMidRefIdeal Cert.PostMidRefIdeal.Read

variable (x : Vec Ideal S16384x1024 .f32) (o1 o2 : Vec Ideal S16384x512 .f32) (wo : Vec Ideal S1024x1024 .f32) (g : Vec Ideal S1024 .f32)
  (wg wu : Vec Ideal S1024x2816 .f32) (wd : Vec Ideal S2816x1024 .f32)

/-- The reference's residual, at a row and column: x plus the product of the joined halves with the output weights. -/
theorem v2_at (r : Fin 16384) (n : Fin 1024) : val_main_v2 (F := Ideal) x o1 o2 wo (ix2 r n) =
    projRow (fun j => x (ix2 r j)) (fun k => o1 (ix2 r k)) (fun k => o2 (ix2 r k)) (fun k n => wo (ix2 k n)) n := by
  pointwise [val_main_v2, val_main_v1]
  refine projRow_eq (fun j => x (ix2 r j)) (fun k => o1 (ix2 r k)) (fun k => o2 (ix2 r k)) (fun k n => wo (ix2 k n)) n (fun k => val_main_v0 (F := Ideal) o1 o2 (ix2 r k)) (fun k => ?_) (fun k => ?_)
  · pointwise [val_main_v0]
  · pointwise [val_main_v0]

/-- The reference's normalised residual, at a row and column. -/
theorem v15_at (r : Fin 16384) (n : Fin 1024) : val_main_v15 (F := Ideal) x o1 o2 wo g (ix2 r n) =
    rmsRow (fun j => val_main_v2 (F := Ideal) x o1 o2 wo (ix2 r j)) (fun j => g (ix1 j)) n := by
  pointwise [val_main_v15, val_main_v14, val_main_v13, val_main_v12, val_main_v11, val_main_v10, val_main_v9, val_main_v8,
    val_main_v7, val_main_v6, val_main_v5, val_main_v4, val_main_v3, val_main_cst, val_main_cst_0, val_main_cst_1]
  rfl

/-- The reference's gated activation, at a row and hidden column: the gate times its sigmoid times the up projection. -/
theorem v19_at (r : Fin 16384) (f : Fin 2816) : val_main_v19 (F := Ideal) x o1 o2 wo g wg wu (ix2 r f) =
    gate (fun k => val_main_v15 (F := Ideal) x o1 o2 wo g (ix2 r k)) (fun k => wg (ix2 k f)) (fun k => wu (ix2 k f)) := by
  pointwise [val_main_v19, val_main_v18, val_main_v17, val_main_v16, val_main_call0_v5, val_main_call0_v4, val_main_call0_cst_0,
    val_main_call0_v3, val_main_call0_v2, val_main_call0_cst, val_main_call0_v1, val_main_call0_v0]
  rfl

/-- The reference's output, at a row and column: residual plus the down projection of the activation. -/
theorem v21_at (r : Fin 16384) (n : Fin 1024) : val_main_v21 (F := Ideal) x o1 o2 wo g wg wu wd (ix2 r n) =
    postRow (fun j => val_main_v2 (F := Ideal) x o1 o2 wo (ix2 r j)) (fun j => g (ix1 j)) (fun k f => wg (ix2 k f)) (fun k f => wu (ix2 k f)) (fun f n => wd (ix2 f n)) n := by
  pointwise [val_main_v21, val_main_v20]
  simp only [v19_at, v15_at]
  rfl

end Ref

end Cert.Proof.PostMid

end
-- ==== Proof.PostMidRun.lean ====
module

public import proofs.«01_k».proof.Proof.PostMidBlock
public import Idealize.ShloMosaic.Lib.Pipeline.ReadBack

@[expose] public section

set_option maxRecDepth 16384

noncomputable section

namespace Cert.Proof.PostMid

open Idealize.ShloMosaic Idealize.ShloMosaic.TcCoe Idealize.SL.Sem
open Cert.PostMidIdeal Cert.PostMidIdeal.Gen

variable (m : (ℓ : Loc nD τ sig) → Buf (Elt Ideal) ℓ)

/-- Where the windows lie at grid point `t`: block `t / 2` of the rows, half `t % 2` of the hidden units, everything else whole. -/
theorem idx : ∀ t : Fin grid0.N, win0_0.index t = ![t.val / 2, 0] ∧ win0_1.index t = ![t.val / 2, 0] ∧ win0_2.index t = ![t.val / 2, 0] ∧
    win0_3.index t = ![0, 0] ∧ win0_4.index t = ![0, 0] ∧ win0_5.index t = ![0, t.val % 2] ∧ win0_6.index t = ![0, t.val % 2] ∧
    win0_7.index t = ![t.val % 2, 0] ∧ win0_8.index t = ![0, 0] ∧ win0_9.index t = ![t.val / 2, 0] := by
  decide +kernel

section Reads

variable (c : Dev nD) (t : Fin cfg0.grid.N) (ht : t.val < 64)

/-- The block of x at grid point t: rows of the point's row block. -/
theorem read_x (r : Fin 512) (n : Fin 1024) : iblk m c 0 t (ix2 r n) = m ((c : Thread nD τ).loc main_arg0) (ix2 (⟨t.val / 2 * 512 + r.val, by omega⟩ : Fin 16384) n) := by
  obtain ⟨h, -⟩ := idx t
  blk_ext! [iblk, V, h]

/-- The block of the first mixer output at grid point t: rows of the point's row block. -/
theorem read_o1 (r : Fin 512) (n : Fin 512) : iblk m c 1 t (ix2 r n) = m ((c : Thread nD τ).loc main_arg1) (ix2 (⟨t.val / 2 * 512 + r.val, by omega⟩ : Fin 16384) n) := by
  obtain ⟨-, h, -⟩ := idx t
  blk_ext! [iblk, V, h]

/-- The block of the second mixer output at grid point t: rows of the point's row block. -/
theorem read_o2 (r : Fin 512) (n : Fin 512) : iblk m c 2 t (ix2 r n) = m ((c : Thread nD τ).loc main_arg2) (ix2 (⟨t.val / 2 * 512 + r.val, by omega⟩ : Fin 16384) n) := by
  obtain ⟨-, -, h, -⟩ := idx t
  blk_ext! [iblk, V, h]

/-- The block of the output weights is the whole array at every grid point. -/
theorem read_wo (k : Fin 1024) (n : Fin 1024) : iblk m c 3 t (ix2 k n) = m ((c : Thread nD τ).loc main_arg3) (ix2 k n) := by
  obtain ⟨-, -, -, h, -⟩ := idx t
  blk_ext! [iblk, V, h]

/-- The upper half of the output weights. -/
theorem read_wa (k : Fin 512) (n : Fin 1024) : View.ld (iblk m c 3 t) (Rect.unit ![0, 0] ![512, 1024] inb_S1024x1024_S512x1024_0_0) (ix2 k n) =
    m ((c : Thread nD τ).loc main_arg3) (ix2 (⟨k.val, by omega⟩ : Fin 1024) n) := by
  refine Eq.trans ?_ (read_wo m c t _ n)
  show iblk m c 3 t _ = _
  blk_ext
  all_goals simp

/-- The lower half of the output weights. -/
theorem read_wb (k : Fin 512) (n : Fin 1024) : View.ld (iblk m c 3 t) (Rect.unit ![512, 0] ![512, 1024] inb_S1024x1024_S512x1024_512_0) (ix2 k n) =
    m ((c : Thread nD τ).loc main_arg3) (ix2 (⟨512 + k.val, by omega⟩ : Fin 1024) n) := by
  refine Eq.trans ?_ (read_wo m c t _ n)
  show iblk m c 3 t _ = _
  blk_ext
  all_goals simp

/-- The block of the norm's gain is the whole row at every grid point. -/
theorem read_g (n : Fin 1024) : iblk m c 4 t (ix2 0 n) = m ((c : Thread nD τ).loc main_arg4) (ix1 n) := by
  obtain ⟨-, -, -, -, h, -⟩ := idx t
  blk_ext! [iblk, V, h]

/-- The block of the gate weights at grid point t: the point's half of the columns. -/
theorem read_wg (k : Fin 1024) (f : Fin 1408) : iblk m c 5 t (ix2 k f) = m ((c : Thread nD τ).loc main_arg5) (ix2 k (⟨t.val % 2 * 1408 + f.val, by omega⟩ : Fin 2816)) := by
  obtain ⟨-, -, -, -, -, h, -⟩ := idx t
  blk_ext! [iblk, V, h]

/-- The block of the up weights at grid point t: the point's half of the columns. -/
theorem read_wu (k : Fin 1024) (f : Fin 1408) : iblk m c 6 t (ix2 k f) = m ((c : Thread nD τ).loc main_arg6) (ix2 k (⟨t.val % 2 * 1408 + f.val, by omega⟩ : Fin 2816)) := by
  obtain ⟨-, -, -, -, -, -, h, -⟩ := idx t
  blk_ext! [iblk, V, h]

/-- The block of the down weights at grid point t: the point's half of the rows. -/
theorem read_wd (f : Fin 1408) (n : Fin 1024) : iblk m c 7 t (ix2 f n) = m ((c : Thread nD τ).loc main_arg7) (ix2 (⟨t.val % 2 * 1408 + f.val, by omega⟩ : Fin 2816) n) := by
  obtain ⟨-, -, -, -, -, -, -, h, -⟩ := idx t
  blk_ext! [iblk, V, h]

end Reads

/-- The row `i` of the projected sum, from the arguments. -/
def hRow (c : Dev nD) (i : Fin 16384) : Fin 1024 → EReal :=
  projRow (fun j => m ((c : Thread nD τ).loc main_arg0) (ix2 i j)) (fun k => m ((c : Thread nD τ).loc main_arg1) (ix2 i k))
    (fun k => m ((c : Thread nD τ).loc main_arg2) (ix2 i k)) (fun k n => m ((c : Thread nD τ).loc main_arg3) (ix2 k n))

/-- The sum over half `p` of the hidden units at row `i`, column `n`. -/
def half (c : Dev nD) (p : ℕ) (hp : p < 2) (i : Fin 16384) (n : Fin 1024) : EReal :=
  halfRow (hRow m c i) (fun j => m ((c : Thread nD τ).loc main_arg4) (ix1 j)) (fun k f => m ((c : Thread nD τ).loc main_arg5) (ix2 k f))
    (fun k f => m ((c : Thread nD τ).loc main_arg6) (ix2 k f)) (fun f n => m ((c : Thread nD τ).loc main_arg7) (ix2 f n)) p hp n

/-- The row of the first scratch array that the first point of a row block leaves: the projected row. -/
theorem scratch_h (c : Dev nD) (t : Fin cfg0.N) (ht : t.val < 64) (h0 : t.val % 2 = 0) (h1 : ¬ t.val % 2 = 1) (r : Fin 512) (n : Fin 1024) :
    (outsAt0 m c t.val t.isLt).2.1 (ix2 r n) = hRow m c ⟨t.val / 2 * 512 + r.val, by omega⟩ n := by
  rw [outsAt0_A m c t h0 h1]
  frame_out
  rw [Block.pay5_eq]
  exact congrFun (Block.pay4_row _ _ _ _ _ r _ _ _ _ (fun n => read_x m c t ht r n) (fun k => read_o1 m c t ht r k) (fun k => read_o2 m c t ht r k)
    (fun k n => read_wa m c t k n) (fun k n => read_wb m c t k n)) n

/-- The row of the second scratch array: the normalized projected row. -/
theorem scratch_xn (c : Dev nD) (t : Fin cfg0.N) (ht : t.val < 64) (h0 : t.val % 2 = 0) (h1 : ¬ t.val % 2 = 1) (r : Fin 512) (n : Fin 1024) :
    (outsAt0 m c t.val t.isLt).2.2.1 (ix2 r n) = rmsRow (hRow m c ⟨t.val / 2 * 512 + r.val, by omega⟩) (fun j => m ((c : Thread nD τ).loc main_arg4) (ix1 j)) n := by
  rw [outsAt0_A m c t h0 h1]
  frame_out
  rw [Block.pay6_at]
  refine congrArg₂ (fun a b => rmsRow a b n) ?_ (funext fun j => read_g m c t j)
  exact Block.pay4_row _ _ _ _ _ r _ _ _ _ (fun n => read_x m c t ht r n) (fun k => read_o1 m c t ht r k) (fun k => read_o2 m c t ht r k)
    (fun k n => read_wa m c t k n) (fun k n => read_wb m c t k n)

/-- The row of the accumulator: the first half of the hidden units' sum. -/
theorem scratch_acc (c : Dev nD) (t : Fin cfg0.N) (ht : t.val < 64) (h0 : t.val % 2 = 0) (h1 : ¬ t.val % 2 = 1) (r : Fin 512) (n : Fin 1024) :
    (outsAt0 m c t.val t.isLt).2.2.2 (ix2 r n) = 0 + half m c (t.val % 2) (by omega) ⟨t.val / 2 * 512 + r.val, by omega⟩ n := by
  rw [outsAt0_A m c t h0 h1]
  frame_out
  refine Block.pay2_row _ _ _ _ _ r n _ _ _ _ _ (t.val % 2) _ 0 (fun k => ?_) (fun k f => read_wg m c t k f) (fun k f => read_wu m c t k f)
    (fun f n => read_wd m c t f n) (Block.pay17_at r n)
  rw [Block.pay6_at]
  refine congrArg₂ (fun a b => rmsRow a b k) ?_ (funext fun j => read_g m c t j)
  exact Block.pay4_row _ _ _ _ _ r _ _ _ _ (fun n => read_x m c t ht r n) (fun k => read_o1 m c t ht r k) (fun k => read_o2 m c t ht r k)
    (fun k n => read_wa m c t k n) (fun k n => read_wb m c t k n)

/-- What the second point of a row block writes out: the projected row plus the two halves. -/
theorem out_odd (c : Dev nD) (t : Fin cfg0.N) (ht : t.val < 64) (h0 : ¬ t.val % 2 = 0) (h1 : t.val % 2 = 1) (r : Fin 512) (n : Fin 1024) :
    (outsAt0 m c t.val t.isLt).1 (ix2 r n) = hRow m c ⟨t.val / 2 * 512 + r.val, by omega⟩ n
      + ((0 + half m c 0 (by omega) ⟨t.val / 2 * 512 + r.val, by omega⟩ n) + half m c 1 (by omega) ⟨t.val / 2 * 512 + r.val, by omega⟩ n) := by
  have hd : (t.val - 1) / 2 = t.val / 2 := by omega
  have hm : (t.val - 1) % 2 = 0 := by omega
  have hm' : ¬ (t.val - 1) % 2 = 1 := by omega
  have hlt : t.val - 1 < 64 := by omega
  have s1 := fun n => scratch_h m c ⟨t.val - 1, hlt⟩ hlt hm hm' r n
  have s2 := fun n => scratch_xn m c ⟨t.val - 1, hlt⟩ hlt hm hm' r n
  have s3 := fun n => scratch_acc m c ⟨t.val - 1, hlt⟩ hlt hm hm' r n
  simp only [hd, hm] at s1 s2 s3
  rw [outsAt0_B m c t h0 h1]
  frame_out
  rw [Block.pay3_at]
  refine congrArg₂ (· + ·) ?_ ?_
  · rw [read_unread_whole]
    exact s1 n
  · refine Block.pay2_row _ _ _ _ _ r n (hRow m c ⟨t.val / 2 * 512 + r.val, by omega⟩) (fun j => m ((c : Thread nD τ).loc main_arg4) (ix1 j)) _ _ _ 1 _ _ (fun k => ?_) (fun k f => ?_) (fun k f => ?_) (fun f n => ?_) ?_
    · rw [read_unread_whole]
      exact s2 k
    · refine (read_wg m c t k f).trans ?_
      simp only [h1]
    · refine (read_wu m c t k f).trans ?_
      simp only [h1]
    · refine (read_wd m c t f n).trans ?_
      simp only [h1]
    · rw [read_unread_whole]
      exact s3 n

/-- The result array after the whole grid is the reference's value at the arguments. -/
theorem out_eq (c : Dev nD) : (dats m 0 c).arrAt 9 cfg0.N = Cert.PostMidRefIdeal.Read.val_main_v21 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  have h9 := (idx t).2.2.2.2.2.2.2.2.2
  have h1 : t.val % 2 = 1 := (by decide +kernel : ∀ t : Fin cfg0.N, (cfg0.win 9).flush t = true → t.val % 2 = 1) t hf
  have ht : t.val < 64 := t.isLt
  blk_simp
  rw [after0_9]
  obtain ⟨r, n, rfl⟩ : ∃ (r : Fin 512) (n : Fin 1024), y = ix2 r n := ⟨y 0, y 1, eq_ix2 y⟩
  have he : ((View.whole main_v6).slice (win0_9.rect t)).emb (ix2 r n) = ix2 (⟨t.val / 2 * 512 + r.val, by omega⟩ : Fin 16384) n := by
    blk_ext [h9]
  rw [out_odd m c t ht (by omega) h1, he, Ref.v21_at]
  simp only [Ref.v2_at]
  rw [postRow_halves]
  rfl

end Cert.Proof.PostMid

end
-- ==== Proof.PostLastBlock.lean ====
module

public import proofs.«01_k».proof.Proof.PostRow
public import proofs.«01_k».proof.Proof.Gen.PostLastIdeal.Value
public import proofs.«01_k».proof.Proof.Gen.PostLastRefIdeal.Read

@[expose] public section

set_option maxRecDepth 16384

noncomputable section

namespace Cert.Proof.PostLast

open Idealize.ShloMosaic Idealize.ShloMosaic.TcCoe Idealize.SL.Sem

namespace Block

open Cert.PostLastIdeal Cert.PostLastIdeal.Gen

/-- The residual of the first grid step of a row block, at a row and column: x plus both halves' products with the output weights. -/
theorem pay4_at (x : Vec Ideal S512x1024 .f32) (o1 : Vec Ideal S512x512 .f32) (wa : Vec Ideal S512x1024 .bf16) (o2 : Vec Ideal S512x512 .f32) (wb : Vec Ideal S512x1024 .bf16) (r : Fin 512) (n : Fin 1024) :
    k0_pay4 x o1 wa o2 wb (ix2 r n) = x (ix2 r n) + ∑ k, o1 (ix2 r k) * wa (ix2 k n) + ∑ k, o2 (ix2 r k) * wb (ix2 k n) := by
  pointwise [k0_pay4]

/-- The residual is stored as computed. -/
theorem pay5_eq (x : Vec Ideal S512x1024 .f32) (o1 : Vec Ideal S512x512 .f32) (wa : Vec Ideal S512x1024 .bf16) (o2 : Vec Ideal S512x512 .f32) (wb : Vec Ideal S512x1024 .bf16) :
    k0_pay5 x o1 wa o2 wb = k0_pay4 x o1 wa o2 wb := by
  funext j
  idx_vars j
  pointwise [k0_pay5]

/-- The normalised residual of the first grid step, at a row and column: the RMS norm of the residual row times the gain. -/
theorem pay6_at (x : Vec Ideal S512x1024 .f32) (o1 : Vec Ideal S512x512 .f32) (wa : Vec Ideal S512x1024 .bf16) (o2 : Vec Ideal S512x512 .f32) (wb : Vec Ideal S512x1024 .bf16) (g : Vec Ideal S1x1024 .f32) (r : Fin 512) (n : Fin 1024) :
    k0_pay6 x o1 wa o2 wb g (ix2 r n) = rmsRow (fun j => k0_pay4 x o1 wa o2 wb (ix2 r j)) (fun j => g (ix2 0 j)) n := by
  pointwise [k0_pay6]
  rfl

/-- The projected rows, from what the loads read. -/
theorem pay4_row (x : Vec Ideal S512x1024 .f32) (o1 : Vec Ideal S512x512 .f32) (wa : Vec Ideal S512x1024 .bf16) (o2 : Vec Ideal S512x512 .f32) (wb : Vec Ideal S512x1024 .bf16)
    (r : Fin 512) (xr : Fin 1024 → EReal) (p q : Fin 512 → EReal) (wo : Fin 1024 → Fin 1024 → EReal)
    (hx : ∀ n, x (ix2 r n) = xr n) (h1 : ∀ k, o1 (ix2 r k) = p k) (h2 : ∀ k, o2 (ix2 r k) = q k)
    (ha : ∀ (k : Fin 512) n, wa (ix2 k n) = wo ⟨k.val, by omega⟩ n) (hb : ∀ (k : Fin 512) n, wb (ix2 k n) = wo ⟨512 + k.val, by omega⟩ n) :
    (fun n => k0_pay4 x o1 wa o2 wb (ix2 r n)) = projRow xr p q wo := by
  funext n
  rw [pay4_at]
  simp only [hx, h1, h2, ha, hb]
  rfl

/-- One step of the accumulation: half `p` of the hidden units, added to what the accumulator held. -/
theorem pay2_row (y : Vec Ideal S512x1024 .bf16) (wg wu : Vec Ideal S1024x1408 .bf16) (acc : Vec Ideal S512x1024 .f32) (wd : Vec Ideal S1408x1024 .bf16)
    (r : Fin 512) (n : Fin 1024) (h g : Fin 1024 → EReal) (WG WU : Fin 1024 → Fin 2816 → EReal) (WD : Fin 2816 → Fin 1024 → EReal) (p : ℕ) (hp : p < 2) (a : EReal)
    (hy : ∀ k, y (ix2 r k) = rmsRow h g k) (hg : ∀ k (f : Fin 1408), wg (ix2 k f) = WG k ⟨p * 1408 + f.val, by omega⟩)
    (hu : ∀ k (f : Fin 1408), wu (ix2 k f) = WU k ⟨p * 1408 + f.val, by omega⟩) (hd : ∀ (f : Fin 1408) n, wd (ix2 f n) = WD ⟨p * 1408 + f.val, by omega⟩ n)
    (ha : acc (ix2 r n) = a) :
    k0_pay2 y wg wu acc wd (ix2 r n) = a + halfRow h g WG WU WD p hp n := by
  pointwise [k0_pay2]
  simp only [hy, hg, hu, hd, ha]
  rfl

/-- The accumulator starts at zero. -/
theorem pay17_at (r : Fin 512) (n : Fin 1024) : k0_pay1 (F := Ideal) k0_pay7 (ix2 r n) = 0 := by
  pointwise [k0_pay1, k0_pay7]

/-- The last step of a row block: the final normalization of the sum of the two stored rows. -/
theorem pay3_at (h a : Vec Ideal S512x1024 .f32) (gf : Vec Ideal S1x1024 .f32) (r : Fin 512) (n : Fin 1024) :
    k0_pay3 h a gf (ix2 r n) = rmsRow (fun j => h (ix2 r j) + a (ix2 r j)) (fun j => gf (ix2 0 j)) n := by
  pointwise [k0_pay3]
  rfl

end Block

namespace Ref

open Cert.PostLastRefIdeal Cert.PostLastRefIdeal.Read

variable (x : Vec Ideal S16384x1024 .f32) (o1 o2 : Vec Ideal S16384x512 .f32) (wo : Vec Ideal S1024x1024 .f32) (g : Vec Ideal S1024 .f32)
  (wg wu : Vec Ideal S1024x2816 .f32) (wd : Vec Ideal S2816x1024 .f32)

/-- The reference's residual, at a row and column: x plus the product of the joined halves with the output weights. -/
theorem v2_at (r : Fin 16384) (n : Fin 1024) : val_main_v2 (F := Ideal) x o1 o2 wo (ix2 r n) =
    projRow (fun j => x (ix2 r j)) (fun k => o1 (ix2 r k)) (fun k => o2 (ix2 r k)) (fun k n => wo (ix2 k n)) n := by
  pointwise [val_main_v2, val_main_v1]
  refine projRow_eq (fun j => x (ix2 r j)) (fun k => o1 (ix2 r k)) (fun k => o2 (ix2 r k)) (fun k n => wo (ix2 k n)) n (fun k => val_main_v0 (F := Ideal) o1 o2 (ix2 r k)) (fun k => ?_) (fun k => ?_)
  · pointwise [val_main_v0]
  · pointwise [val_main_v0]

/-- The reference's normalised residual, at a row and column. -/
theorem v15_at (r : Fin 16384) (n : Fin 1024) : val_main_v15 (F := Ideal) x o1 o2 wo g (ix2 r n) =
    rmsRow (fun j => val_main_v2 (F := Ideal) x o1 o2 wo (ix2 r j)) (fun j => g (ix1 j)) n := by
  pointwise [val_main_v15, val_main_v14, val_main_v13, val_main_v12, val_main_v11, val_main_v10, val_main_v9, val_main_v8,
    val_main_v7, val_main_v6, val_main_v5, val_main_v4, val_main_v3, val_main_cst, val_main_cst_0, val_main_cst_1]
  rfl

/-- The reference's gated activation, at a row and hidden column: the gate times its sigmoid times the up projection. -/
theorem v19_at (r : Fin 16384) (f : Fin 2816) : val_main_v19 (F := Ideal) x o1 o2 wo g wg wu (ix2 r f) =
    gate (fun k => val_main_v15 (F := Ideal) x o1 o2 wo g (ix2 r k)) (fun k => wg (ix2 k f)) (fun k => wu (ix2 k f)) := by
  pointwise [val_main_v19, val_main_v18, val_main_v17, val_main_v16, val_main_call0_v5, val_main_call0_v4, val_main_call0_cst_0,
    val_main_call0_v3, val_main_call0_v2, val_main_call0_cst, val_main_call0_v1, val_main_call0_v0]
  rfl

/-- The reference's output, at a row and column: residual plus the down projection of the activation. -/
theorem v21_at (r : Fin 16384) (n : Fin 1024) : val_main_v21 (F := Ideal) x o1 o2 wo g wg wu wd (ix2 r n) =
    postRow (fun j => val_main_v2 (F := Ideal) x o1 o2 wo (ix2 r j)) (fun j => g (ix1 j)) (fun k f => wg (ix2 k f)) (fun k f => wu (ix2 k f)) (fun f n => wd (ix2 f n)) n := by
  pointwise [val_main_v21, val_main_v20]
  simp only [v19_at, v15_at]
  rfl

/-- The reference's last output, at a row and column: the RMS norm of the row times the final gain. -/
theorem v34_at (gf : Vec Ideal S1024 .f32) (r : Fin 16384) (n : Fin 1024) : val_main_v34 (F := Ideal) x o1 o2 wo g wg wu wd gf (ix2 r n) =
    rmsRow (fun j => val_main_v21 (F := Ideal) x o1 o2 wo g wg wu wd (ix2 r j)) (fun j => gf (ix1 j)) n := by
  pointwise [val_main_v34, val_main_v33, val_main_v32, val_main_v31, val_main_v30, val_main_v29, val_main_v28, val_main_v27,
    val_main_v26, val_main_v25, val_main_v24, val_main_v23, val_main_v22, val_main_cst_2, val_main_cst_3, val_main_cst_4]
  rfl

end Ref

end Cert.Proof.PostLast

end
-- ==== Proof.PostLastRun.lean ====
module

public import proofs.«01_k».proof.Proof.PostLastBlock
public import Idealize.ShloMosaic.Lib.Pipeline.ReadBack

@[expose] public section

set_option maxRecDepth 16384

noncomputable section

namespace Cert.Proof.PostLast

open Idealize.ShloMosaic Idealize.ShloMosaic.TcCoe Idealize.SL.Sem
open Cert.PostLastIdeal Cert.PostLastIdeal.Gen

variable (m : (ℓ : Loc nD τ sig) → Buf (Elt Ideal) ℓ)

/-- Where the windows lie at grid point `t`: block `t / 2` of the rows, half `t % 2` of the hidden units, everything else whole. -/
theorem idx : ∀ t : Fin grid0.N, win0_0.index t = ![t.val / 2, 0] ∧ win0_1.index t = ![t.val / 2, 0] ∧ win0_2.index t = ![t.val / 2, 0] ∧
    win0_3.index t = ![0, 0] ∧ win0_4.index t = ![0, 0] ∧ win0_5.index t = ![0, t.val % 2] ∧ win0_6.index t = ![0, t.val % 2] ∧
    win0_7.index t = ![t.val % 2, 0] ∧ win0_8.index t = ![0, 0] ∧ win0_9.index t = ![t.val / 2, 0] := by
  decide +kernel

section Reads

variable (c : Dev nD) (t : Fin cfg0.grid.N) (ht : t.val < 64)

/-- The block of x at grid point t: rows of the point's row block. -/
theorem read_x (r : Fin 512) (n : Fin 1024) : iblk m c 0 t (ix2 r n) = m ((c : Thread nD τ).loc main_arg0) (ix2 (⟨t.val / 2 * 512 + r.val, by omega⟩ : Fin 16384) n) := by
  obtain ⟨h, -⟩ := idx t
  blk_ext! [iblk, V, h]

/-- The block of the first mixer output at grid point t: rows of the point's row block. -/
theorem read_o1 (r : Fin 512) (n : Fin 512) : iblk m c 1 t (ix2 r n) = m ((c : Thread nD τ).loc main_arg1) (ix2 (⟨t.val / 2 * 512 + r.val, by omega⟩ : Fin 16384) n) := by
  obtain ⟨-, h, -⟩ := idx t
  blk_ext! [iblk, V, h]

/-- The block of the second mixer output at grid point t: rows of the point's row block. -/
theorem read_o2 (r : Fin 512) (n : Fin 512) : iblk m c 2 t (ix2 r n) = m ((c : Thread nD τ).loc main_arg2) (ix2 (⟨t.val / 2 * 512 + r.val, by omega⟩ : Fin 16384) n) := by
  obtain ⟨-, -, h, -⟩ := idx t
  blk_ext! [iblk, V, h]

/-- The block of the output weights is the whole array at every grid point. -/
theorem read_wo (k : Fin 1024) (n : Fin 1024) : iblk m c 3 t (ix2 k n) = m ((c : Thread nD τ).loc main_arg3) (ix2 k n) := by
  obtain ⟨-, -, -, h, -⟩ := idx t
  blk_ext! [iblk, V, h]

/-- The upper half of the output weights. -/
theorem read_wa (k : Fin 512) (n : Fin 1024) : View.ld (iblk m c 3 t) (Rect.unit ![0, 0] ![512, 1024] inb_S1024x1024_S512x1024_0_0) (ix2 k n) =
    m ((c : Thread nD τ).loc main_arg3) (ix2 (⟨k.val, by omega⟩ : Fin 1024) n) := by
  refine Eq.trans ?_ (read_wo m c t _ n)
  show iblk m c 3 t _ = _
  blk_ext
  all_goals simp

/-- The lower half of the output weights. -/
theorem read_wb (k : Fin 512) (n : Fin 1024) : View.ld (iblk m c 3 t) (Rect.unit ![512, 0] ![512, 1024] inb_S1024x1024_S512x1024_512_0) (ix2 k n) =
    m ((c : Thread nD τ).loc main_arg3) (ix2 (⟨512 + k.val, by omega⟩ : Fin 1024) n) := by
  refine Eq.trans ?_ (read_wo m c t _ n)
  show iblk m c 3 t _ = _
  blk_ext
  all_goals simp

/-- The block of the norm's gain is the whole row at every grid point. -/
theorem read_g (n : Fin 1024) : iblk m c 4 t (ix2 0 n) = m ((c : Thread nD τ).loc main_arg4) (ix1 n) := by
  obtain ⟨-, -, -, -, h, -⟩ := idx t
  blk_ext! [iblk, V, h]

/-- The block of the gate weights at grid point t: the point's half of the columns. -/
theorem read_wg (k : Fin 1024) (f : Fin 1408) : iblk m c 5 t (ix2 k f) = m ((c : Thread nD τ).loc main_arg5) (ix2 k (⟨t.val % 2 * 1408 + f.val, by omega⟩ : Fin 2816)) := by
  obtain ⟨-, -, -, -, -, h, -⟩ := idx t
  blk_ext! [iblk, V, h]

/-- The block of the up weights at grid point t: the point's half of the columns. -/
theorem read_wu (k : Fin 1024) (f : Fin 1408) : iblk m c 6 t (ix2 k f) = m ((c : Thread nD τ).loc main_arg6) (ix2 k (⟨t.val % 2 * 1408 + f.val, by omega⟩ : Fin 2816)) := by
  obtain ⟨-, -, -, -, -, -, h, -⟩ := idx t
  blk_ext! [iblk, V, h]

/-- The block of the down weights at grid point t: the point's half of the rows. -/
theorem read_wd (f : Fin 1408) (n : Fin 1024) : iblk m c 7 t (ix2 f n) = m ((c : Thread nD τ).loc main_arg7) (ix2 (⟨t.val % 2 * 1408 + f.val, by omega⟩ : Fin 2816) n) := by
  obtain ⟨-, -, -, -, -, -, -, h, -⟩ := idx t
  blk_ext! [iblk, V, h]

/-- The block of the final gain is the whole row at every grid point. -/
theorem read_gf (n : Fin 1024) : iblk m c 8 t (ix2 0 n) = m ((c : Thread nD τ).loc main_arg8) (ix1 n) := by
  obtain ⟨-, -, -, -, -, -, -, -, h, -⟩ := idx t
  blk_ext! [iblk, V, h]

end Reads

/-- The row `i` of the projected sum, from the arguments. -/
def hRow (c : Dev nD) (i : Fin 16384) : Fin 1024 → EReal :=
  projRow (fun j => m ((c : Thread nD τ).loc main_arg0) (ix2 i j)) (fun k => m ((c : Thread nD τ).loc main_arg1) (ix2 i k))
    (fun k => m ((c : Thread nD τ).loc main_arg2) (ix2 i k)) (fun k n => m ((c : Thread nD τ).loc main_arg3) (ix2 k n))

/-- The sum over half `p` of the hidden units at row `i`, column `n`. -/
def half (c : Dev nD) (p : ℕ) (hp : p < 2) (i : Fin 16384) (n : Fin 1024) : EReal :=
  halfRow (hRow m c i) (fun j => m ((c : Thread nD τ).loc main_arg4) (ix1 j)) (fun k f => m ((c : Thread nD τ).loc main_arg5) (ix2 k f))
    (fun k f => m ((c : Thread nD τ).loc main_arg6) (ix2 k f)) (fun f n => m ((c : Thread nD τ).loc main_arg7) (ix2 f n)) p hp n

/-- The row of the first scratch array that the first point of a row block leaves: the projected row. -/
theorem scratch_h (c : Dev nD) (t : Fin cfg0.N) (ht : t.val < 64) (h0 : t.val % 2 = 0) (h1 : ¬ t.val % 2 = 1) (r : Fin 512) (n : Fin 1024) :
    (outsAt0 m c t.val t.isLt).2.1 (ix2 r n) = hRow m c ⟨t.val / 2 * 512 + r.val, by omega⟩ n := by
  rw [outsAt0_A m c t h0 h1]
  frame_out
  rw [Block.pay5_eq]
  exact congrFun (Block.pay4_row _ _ _ _ _ r _ _ _ _ (fun n => read_x m c t ht r n) (fun k => read_o1 m c t ht r k) (fun k => read_o2 m c t ht r k)
    (fun k n => read_wa m c t k n) (fun k n => read_wb m c t k n)) n

/-- The row of the second scratch array: the normalized projected row. -/
theorem scratch_xn (c : Dev nD) (t : Fin cfg0.N) (ht : t.val < 64) (h0 : t.val % 2 = 0) (h1 : ¬ t.val % 2 = 1) (r : Fin 512) (n : Fin 1024) :
    (outsAt0 m c t.val t.isLt).2.2.1 (ix2 r n) = rmsRow (hRow m c ⟨t.val / 2 * 512 + r.val, by omega⟩) (fun j => m ((c : Thread nD τ).loc main_arg4) (ix1 j)) n := by
  rw [outsAt0_A m c t h0 h1]
  frame_out
  rw [Block.pay6_at]
  refine congrArg₂ (fun a b => rmsRow a b n) ?_ (funext fun j => read_g m c t j)
  exact Block.pay4_row _ _ _ _ _ r _ _ _ _ (fun n => read_x m c t ht r n) (fun k => read_o1 m c t ht r k) (fun k => read_o2 m c t ht r k)
    (fun k n => read_wa m c t k n) (fun k n => read_wb m c t k n)

/-- The row of the accumulator: the first half of the hidden units' sum. -/
theorem scratch_acc (c : Dev nD) (t : Fin cfg0.N) (ht : t.val < 64) (h0 : t.val % 2 = 0) (h1 : ¬ t.val % 2 = 1) (r : Fin 512) (n : Fin 1024) :
    (outsAt0 m c t.val t.isLt).2.2.2 (ix2 r n) = 0 + half m c (t.val % 2) (by omega) ⟨t.val / 2 * 512 + r.val, by omega⟩ n := by
  rw [outsAt0_A m c t h0 h1]
  frame_out
  refine Block.pay2_row _ _ _ _ _ r n _ _ _ _ _ (t.val % 2) _ 0 (fun k => ?_) (fun k f => read_wg m c t k f) (fun k f => read_wu m c t k f)
    (fun f n => read_wd m c t f n) (Block.pay17_at r n)
  rw [Block.pay6_at]
  refine congrArg₂ (fun a b => rmsRow a b k) ?_ (funext fun j => read_g m c t j)
  exact Block.pay4_row _ _ _ _ _ r _ _ _ _ (fun n => read_x m c t ht r n) (fun k => read_o1 m c t ht r k) (fun k => read_o2 m c t ht r k)
    (fun k n => read_wa m c t k n) (fun k n => read_wb m c t k n)

/-- What the second point of a row block writes out: the normalization of the projected row plus the two halves. -/
theorem out_odd (c : Dev nD) (t : Fin cfg0.N) (ht : t.val < 64) (h0 : ¬ t.val % 2 = 0) (h1 : t.val % 2 = 1) (r : Fin 512) (n : Fin 1024) :
    (outsAt0 m c t.val t.isLt).1 (ix2 r n) = rmsRow (fun n => hRow m c ⟨t.val / 2 * 512 + r.val, by omega⟩ n
      + ((0 + half m c 0 (by omega) ⟨t.val / 2 * 512 + r.val, by omega⟩ n) + half m c 1 (by omega) ⟨t.val / 2 * 512 + r.val, by omega⟩ n))
      (fun j => m ((c : Thread nD τ).loc main_arg8) (ix1 j)) n := by
  have hd : (t.val - 1) / 2 = t.val / 2 := by omega
  have hm : (t.val - 1) % 2 = 0 := by omega
  have hm' : ¬ (t.val - 1) % 2 = 1 := by omega
  have hlt : t.val - 1 < 64 := by omega
  have s1 := fun n => scratch_h m c ⟨t.val - 1, hlt⟩ hlt hm hm' r n
  have s2 := fun n => scratch_xn m c ⟨t.val - 1, hlt⟩ hlt hm hm' r n
  have s3 := fun n => scratch_acc m c ⟨t.val - 1, hlt⟩ hlt hm hm' r n
  simp only [hd, hm] at s1 s2 s3
  rw [outsAt0_B m c t h0 h1]
  frame_out
  rw [Block.pay3_at]
  refine congrArg₂ (fun a b => rmsRow a b n) (funext fun n => ?_) (funext fun j => read_gf m c t j)
  refine congrArg₂ (· + ·) ?_ ?_
  · rw [read_unread_whole]
    exact s1 n
  · refine Block.pay2_row _ _ _ _ _ r n (hRow m c ⟨t.val / 2 * 512 + r.val, by omega⟩) (fun j => m ((c : Thread nD τ).loc main_arg4) (ix1 j)) _ _ _ 1 _ _ (fun k => ?_) (fun k f => ?_) (fun k f => ?_) (fun f n => ?_) ?_
    · rw [read_unread_whole]
      exact s2 k
    · refine (read_wg m c t k f).trans ?_
      simp only [h1]
    · refine (read_wu m c t k f).trans ?_
      simp only [h1]
    · refine (read_wd m c t f n).trans ?_
      simp only [h1]
    · rw [read_unread_whole]
      exact s3 n

/-- The result array after the whole grid is the reference's value at the arguments. -/
theorem out_eq (c : Dev nD) : (dats m 0 c).arrAt 9 cfg0.N = Cert.PostLastRefIdeal.Read.val_main_v34 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) := by
  refine (dats m 0 c).arrAt_eq_of_covers 9 _ (by decide +kernel) fun t hf y => ?_
  have h9 := (idx t).2.2.2.2.2.2.2.2.2
  have h1 : t.val % 2 = 1 := (by decide +kernel : ∀ t : Fin cfg0.N, (cfg0.win 9).flush t = true → t.val % 2 = 1) t hf
  have ht : t.val < 64 := t.isLt
  blk_simp
  rw [after0_9]
  obtain ⟨r, n, rfl⟩ : ∃ (r : Fin 512) (n : Fin 1024), y = ix2 r n := ⟨y 0, y 1, eq_ix2 y⟩
  have he : ((View.whole main_v6).slice (win0_9.rect t)).emb (ix2 r n) = ix2 (⟨t.val / 2 * 512 + r.val, by omega⟩ : Fin 16384) n := by
    blk_ext [h9]
  rw [out_odd m c t ht (by omega) h1, he, Ref.v34_at]
  refine congrArg₂ (fun a b => rmsRow a b n) (funext fun n => ?_) rfl
  rw [Ref.v21_at]
  simp only [Ref.v2_at]
  rw [postRow_halves]
  rfl

end Cert.Proof.PostLast

end
-- ==== Proof.AttnRow.lean ====
module

public import Idealize.ShloMosaic.PureOps.Ideal.Laws

@[expose] public section

noncomputable section

namespace Cert.Proof

open Idealize.ShloMosaic

variable {K : ℕ}

/-- The maximum of a row of scores, taken from −∞. -/
def rowMax (S : Fin K → EReal) : EReal := Finset.univ.fold max (Ideal.ofBits .f32 0xFF800000#32) S

/-- One entry of a softmax-weighted sum as the kernel computes it: the weights' sum divides the finished sum. -/
def attnLast (S v : Fin K → EReal) : EReal :=
  Ideal.div (∑ x, Ideal.exp (S x - rowMax S) * v x) (∑ x, Ideal.exp (S x - rowMax S))

/-- The same entry as the reference computes it: every weight is divided before the sum. -/
def attnFirst (S v : Fin K → EReal) : EReal :=
  ∑ x, v x * Ideal.div (Ideal.exp (S x - max (Ideal.ofBits .f32 0xFF800000#32) (rowMax S)))
    (0 + ∑ y, Ideal.exp (S y - max (Ideal.ofBits .f32 0xFF800000#32) (rowMax S)))

/-- The kernel's entry with a sink `z`: a further score whose weight enters the divisor only. -/
def sinkLast (S v : Fin K → EReal) (z : EReal) : EReal :=
  Ideal.div (∑ x, Ideal.exp (S x - max (rowMax S) z) * v x)
    ((∑ x, Ideal.exp (S x - max (rowMax S) z)) + Ideal.exp (z - max (rowMax S) z))

/-- The reference's entry with a sink `z`. -/
def sinkFirst (S v : Fin K → EReal) (z : EReal) : EReal :=
  ∑ x, v x * Ideal.div (Ideal.exp (S x - max (rowMax S) z))
    ((0 + ∑ y, Ideal.exp (S y - max (rowMax S) z)) + Ideal.exp (z - max (rowMax S) z))

/-- A score of the kernel: the query is scaled before the product; a masked key has the score −∞. -/
def scoreK {D : ℕ} (ok : Prop) [Decidable ok] (q k : Fin D → EReal) (b : EReal) : EReal :=
  if ok then (∑ i, q i * Ideal.ofBits .f32 0x3E000000#32 * k i) + b else ⊥

/-- A score of the reference: the product is scaled. -/
def scoreR {D : ℕ} (ok : Prop) [Decidable ok] (q k : Fin D → EReal) (b : EReal) : EReal :=
  if ok then (∑ i, q i * k i) * Ideal.ofBits .f32 0x3E000000#32 + b else ⊥

/-- The pattern of −∞ is −∞. -/
theorem ofBits_neg_inf : Ideal.ofBits .f32 0xFF800000#32 = ⊥ := by
  simp [Ideal.ofBits, Ideal.ieee]

/-- The scale is an eighth. -/
theorem ofBits_eighth : Ideal.ofBits .f32 0x3E000000#32 = (((1 : ℝ) / 8 : ℝ) : EReal) := by
  simp [Ideal.ofBits, Ideal.ieee]
  norm_cast
  norm_num

/-- A real factor that is not negative may be drawn out of a sum, whatever the summands. -/
theorem sum_mul_real {ι : Type*} (s : Finset ι) (f : ι → EReal) (r : ℝ) (hr : 0 ≤ r) : ∑ i ∈ s, f i * (r : EReal) = (∑ i ∈ s, f i) * r := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- A finite sum of real numbers is a real number. -/
theorem sum_real {ι : Type*} (s : Finset ι) (f : ι → EReal) (hf : ∀ i, ∃ r : ℝ, f i = r) : ∃ r : ℝ, ∑ i ∈ s, f i = r := by
  classical
  induction s using Finset.induction_on with
  | empty => exact ⟨0, by simp⟩
  | insert a s ha ih =>
    obtain ⟨p, hp⟩ := hf a
    obtain ⟨q, hq⟩ := ih
    exact ⟨p + q, by rw [Finset.sum_insert ha, hp, hq, EReal.coe_add]⟩

/-- A finite sum of real numbers, summed as extended reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The two scores agree: where a key is masked both are −∞, elsewhere the scale moves out of the product. The keys need agree only where they are not masked. -/
theorem scoreK_eq {D : ℕ} (ok : Prop) [Decidable ok] (q k k' : Fin D → EReal) (b : EReal) (hk : ok → k = k') :
    scoreK ok q k b = scoreR ok q k' b := by
  unfold scoreK scoreR
  split_ifs with h
  · rw [← hk h, ofBits_eighth, ← sum_mul_real _ _ _ (by norm_num)]
    refine congrArg (· + b) (Finset.sum_congr rfl fun i _ => ?_)
    rw [mul_assoc, mul_comm _ (k i), mul_assoc]
  · rfl

/-- A score of real queries, keys and bias is real or −∞. -/
theorem scoreR_ne_top {D : ℕ} (ok : Prop) [Decidable ok] (q k : Fin D → EReal) (b : EReal)
    (hs : ok → ∃ r : ℝ, (∑ i, q i * k i) * Ideal.ofBits .f32 0x3E000000#32 + b = r) : scoreR ok q k b ≠ ⊤ := by
  unfold scoreR
  split_ifs with h
  · obtain ⟨r, hr⟩ := hs h
    rw [hr]
    exact EReal.coe_ne_top r
  · exact bot_ne_top

/-- Real queries, keys and bias give a real score at a key that is not masked. -/
theorem score_real {D : ℕ} (q k : Fin D → EReal) (b : EReal) (hq : ∀ i, ∃ r : ℝ, q i = r) (hk : ∀ i, ∃ r : ℝ, k i = r) (hb : ∃ r : ℝ, b = r) :
    ∃ r : ℝ, (∑ i, q i * k i) * Ideal.ofBits .f32 0x3E000000#32 + b = r := by
  obtain ⟨s, hs⟩ := sum_real Finset.univ (fun i => q i * k i) fun i => by
    obtain ⟨x, hx⟩ := hq i
    obtain ⟨y, hy⟩ := hk i
    exact ⟨x * y, by rw [hx, hy, EReal.coe_mul]⟩
  obtain ⟨t, ht⟩ := hb
  exact ⟨s * (1 / 8) + t, by rw [hs, ht, ofBits_eighth, EReal.coe_add, EReal.coe_mul]⟩

/-- A row none of whose scores is +∞ and one of whose scores is not −∞ has a real maximum. -/
theorem rowMax_real (S : Fin K → EReal) (hS : ∀ x, S x ≠ ⊤) (x₀ : Fin K) (h₀ : S x₀ ≠ ⊥) : ∃ M : ℝ, rowMax S = M := by
  have hlt : rowMax S < ⊤ := by
    unfold rowMax
    rw [ofBits_neg_inf, Finset.fold_max_lt]
    exact ⟨bot_lt_top, fun x _ => lt_top_iff_ne_top.2 (hS x)⟩
  have hle : S x₀ ≤ rowMax S := by
    unfold rowMax
    rw [Finset.le_fold_max]
    exact Or.inr ⟨x₀, Finset.mem_univ _, le_rfl⟩
  have hne : rowMax S ≠ ⊥ := fun h => h₀ (le_bot_iff.1 (h ▸ hle))
  exact ⟨(rowMax S).toReal, (EReal.coe_toReal hlt.ne hne).symm⟩

/-- The weight of a score that is not +∞, from a real maximum, is a real number that is not negative. -/
theorem weight_real (s : EReal) (hs : s ≠ ⊤) (M : ℝ) : ∃ r : ℝ, 0 ≤ r ∧ Ideal.exp (s - M) = r := by
  induction s with
  | bot => exact ⟨0, le_rfl, by rw [EReal.bot_sub]; rfl⟩
  | top => exact absurd rfl hs
  | coe a => exact ⟨Real.exp (a - M), (Real.exp_pos _).le, by rw [← EReal.coe_sub]; rfl⟩

/-- The weight of a real score is positive. -/
theorem weight_pos (s : EReal) (hs : s ≠ ⊤) (hb : s ≠ ⊥) (M : ℝ) : ∃ r : ℝ, 0 < r ∧ Ideal.exp (s - M) = r := by
  induction s with
  | bot => exact absurd rfl hb
  | top => exact absurd rfl hs
  | coe a => exact ⟨Real.exp (a - M), Real.exp_pos _, by rw [← EReal.coe_sub]; rfl⟩

/-- The weights' sum is real and not negative, and positive when some score is real. -/
theorem weights_real (S : Fin K → EReal) (hS : ∀ x, S x ≠ ⊤) (M : ℝ) :
    ∃ D : ℝ, 0 ≤ D ∧ ((∃ x, S x ≠ ⊥) → 0 < D) ∧ ∑ x, Ideal.exp (S x - M) = D := by
  choose w hw he using fun x => weight_real (S x) (hS x) M
  refine ⟨∑ x, w x, Finset.sum_nonneg fun x _ => hw x, ?_, ?_⟩
  · rintro ⟨x, hx⟩
    obtain ⟨r, hr, hre⟩ := weight_pos (S x) (hS x) hx M
    have hwr : w x = r := by exact_mod_cast (he x).symm.trans hre
    exact Finset.sum_pos' (fun x _ => hw x) ⟨x, Finset.mem_univ _, hwr ▸ hr⟩
  · simp only [he]
    exact sum_coe _ _

/-- A real positive divisor may divide the sum or every weight; the values need agree only where the weight is not zero. -/
theorem div_swap (e v v' : Fin K → EReal) (D : ℝ) (hD : 0 < D) (hv : ∀ x, e x = 0 ∨ v x = v' x) :
    Ideal.div (∑ x, e x * v x) (D : EReal) = ∑ x, v' x * Ideal.div (e x) (D : EReal) := by
  rw [Ideal.div_coe hD.ne', ← sum_mul_real _ _ _ (by positivity)]
  refine Finset.sum_congr rfl fun x _ => ?_
  rw [Ideal.div_coe hD.ne']
  rcases hv x with h | h
  · rw [h, zero_mul, zero_mul, mul_zero]
  · rw [h, mul_comm (e x), mul_assoc]

/-- A masked key's weight is zero. -/
theorem weight_masked (M : EReal) : Ideal.exp (⊥ - M) = 0 := by
  rw [EReal.bot_sub]
  rfl

/-- The two orders of division give the same entry, for scores none of which is +∞ and one of which is real; the values need agree only at keys that are not masked. -/
theorem attnLast_eq (S v v' : Fin K → EReal) (hS : ∀ x, S x ≠ ⊤) (h₀ : ∃ x, S x ≠ ⊥) (hv : ∀ x, S x = ⊥ ∨ v x = v' x) :
    attnLast S v = attnFirst S v' := by
  unfold attnLast attnFirst
  obtain ⟨M, hM⟩ := h₀.elim fun x₀ h => rowMax_real S hS x₀ h
  obtain ⟨D, -, hD, he⟩ := weights_real S hS M
  rw [ofBits_neg_inf, max_eq_right bot_le, zero_add, hM, he]
  refine div_swap _ _ _ D (hD h₀) fun x => (hv x).imp (fun h => ?_) id
  rw [h, weight_masked]

/-- The same with a real sink, which is itself a real score. -/
theorem sinkLast_eq (S v v' : Fin K → EReal) (z : ℝ) (hS : ∀ x, S x ≠ ⊤) (h₀ : ∃ x, S x ≠ ⊥) (hv : ∀ x, S x = ⊥ ∨ v x = v' x) :
    sinkLast S v z = sinkFirst S v' z := by
  unfold sinkLast sinkFirst
  obtain ⟨M, hM⟩ := h₀.elim fun x₀ h => rowMax_real S hS x₀ h
  have hm : max (rowMax S) (z : EReal) = ((max M z : ℝ) : EReal) := by rw [hM, EReal.coe_strictMono.monotone.map_max]
  obtain ⟨D, h0, -, he⟩ := weights_real S hS (max M z)
  obtain ⟨r, hr, hre⟩ := weight_pos (z : EReal) (EReal.coe_ne_top z) (EReal.coe_ne_bot z) (max M z)
  rw [zero_add, hm, he, hre, ← EReal.coe_add]
  refine div_swap _ _ _ (D + r) (by positivity) fun x => (hv x).imp (fun h => ?_) id
  rw [h, weight_masked]

end Cert.Proof

end
-- ==== Proof.AttnCBlock.lean ====
module

public import Idealize.ShloMosaic.Lib.Pipeline.ValueKit
public import Idealize.ShloMosaic.Lib.Pointwise
public import proofs.«01_k».proof.Proof.Gen.AttnCIdeal.Value
public import proofs.«01_k».proof.Proof.AttnRow

@[expose] public section

set_option maxRecDepth 16384

noncomputable section

namespace Cert.Proof.AttnC

open Idealize.ShloMosaic Idealize.ShloMosaic.TcCoe Idealize.SL.Sem
open Cert.AttnCIdeal Cert.AttnCIdeal.Gen

/-- The mask's named constant is −∞. -/
theorem mask_eq : (Named.named (F := Ideal) κ "mask" (φ := .f32) 4048155338#32 : EReal) = ⊥ := by
  rfl

/-- What the block computes at query `a`, column `d` of the head that starts at column `o`: the softmax-weighted sum over the band of keys,
    from the scaled queries, the bands of keys and values, the mask and the head's bias. -/
def headAt (v4 : FVec Ideal S64x512 .bf16) (v24 v44 : FVec Ideal S576x512 .bf16) (v49 : IVec S64x576 1) (B : Fin 576 → EReal)
    (o : ℕ) (ho : o + 64 ≤ 512) (a d : Fin 64) : EReal :=
  attnLast (fun x => Scalar.select (v49 (ix2 a x)) ((∑ i : Fin 64, v4 (ix2 a ⟨o + i.val, by omega⟩) * v24 (ix2 x ⟨o + i.val, by omega⟩)) + B x)
      (Named.named (F := Ideal) κ "mask" (φ := .f32) 4048155338#32))
    (fun x => v44 (ix2 x ⟨o + d.val, by omega⟩))

section Heads

variable (v4 : FVec Ideal S64x512 .bf16) (v24 v44 : FVec Ideal S576x512 .bf16) (v49 : IVec S64x576 1) (B : Vec Ideal S1x64x576 .f32) (a d : Fin 64)

/-- The store of head 0. -/
theorem head0 : k0_pay7 v44 v49 (k0_pay6 v4 v24) B (ix3 0 a d) = headAt v4 v24 v44 v49 (fun x => B (ix3 0 a x)) 0 (by decide) a d := by
  pointwise [k0_pay7, k0_pay6]
  simp only [headAt, attnLast, rowMax, Nat.zero_add]

/-- The store of head 1. -/
theorem head1 : k0_pay9 (k0_pay8 v4 v24 v44 v49 B) (ix3 0 a d) = headAt v4 v24 v44 v49 (fun x => B (ix3 0 a x)) 64 (by decide) a d := by
  pointwise [k0_pay9, k0_pay8]
  simp only [headAt, attnLast, rowMax, Nat.zero_add]

/-- The store of head 2. -/
theorem head2 : k0_pay10 v4 v24 v44 v49 B (ix3 0 a d) = headAt v4 v24 v44 v49 (fun x => B (ix3 0 a x)) 128 (by decide) a d := by
  pointwise [k0_pay10]
  simp only [headAt, attnLast, rowMax, Nat.zero_add]

/-- The store of head 3. -/
theorem head3 : k0_pay14 v44 (k0_pay12 v4 v24 v49 B) (k0_pay13 v4 v24 v49 B) (ix3 0 a d) = headAt v4 v24 v44 v49 (fun x => B (ix3 0 a x)) 192 (by decide) a d := by
  pointwise [k0_pay14, k0_pay12, k0_pay13, k0_pay11]
  simp only [headAt, attnLast, rowMax, Nat.zero_add]

/-- The store of head 4. -/
theorem head4 : k0_pay15 v4 v24 v44 v49 B (ix3 0 a d) = headAt v4 v24 v44 v49 (fun x => B (ix3 0 a x)) 256 (by decide) a d := by
  pointwise [k0_pay15]
  simp only [headAt, attnLast, rowMax, Nat.zero_add]

/-- The store of head 5. -/
theorem head5 : k0_pay17 v44 (k0_pay16 v4 v24 v49 B) (ix3 0 a d) = headAt v4 v24 v44 v49 (fun x => B (ix3 0 a x)) 320 (by decide) a d := by
  pointwise [k0_pay17, k0_pay16]
  simp only [headAt, attnLast, rowMax, Nat.zero_add]

/-- The store of head 6. -/
theorem head6 : k0_pay18 v4 v24 v44 v49 B (ix3 0 a d) = headAt v4 v24 v44 v49 (fun x => B (ix3 0 a x)) 384 (by decide) a d := by
  pointwise [k0_pay18]
  simp only [headAt, attnLast, rowMax, Nat.zero_add]

/-- The store of head 7. -/
theorem head7 : k0_pay1 v44 v49 (k0_pay19 v4) (k0_pay20 v24) (constant S64x576 .f32 0x00000000#32) B (ix3 0 a d) = headAt v4 v24 v44 v49 (fun x => B (ix3 0 a x)) 448 (by decide) a d := by
  pointwise [k0_pay1, k0_pay19, k0_pay20]
  simp only [headAt, attnLast, rowMax, Nat.zero_add]

end Heads

/-- One block's result at query `a`, column `n` of the 512. -/
def blockAt (v4 : FVec Ideal S64x512 .bf16) (v24 v44 : FVec Ideal S576x512 .bf16) (v49 : IVec S64x576 1) (B : Vec Ideal S8x64x576 .f32)
    (a : Fin 64) (n : Fin 512) : EReal :=
  headAt v4 v24 v44 v49 (fun x => B (ix3 (⟨n.val / 64, by omega⟩ : Fin 8) a x)) (n.val / 64 * 64) (by omega) a ⟨n.val % 64, by omega⟩

/-- A head's entry named by its column among the 512. -/
theorem headAt_eq (v4 : FVec Ideal S64x512 .bf16) (v24 v44 : FVec Ideal S576x512 .bf16) (v49 : IVec S64x576 1) (B : Vec Ideal S8x64x576 .f32)
    (b : Fin 576 → EReal) (h : Fin 8) (o : ℕ) (ho : o + 64 ≤ 512) (a a' d : Fin 64) (n : Fin 512) (h1 : o = 64 * h.val) (h2 : n.val = o + d.val)
    (ha : a' = a) (hb : ∀ x, b x = B (ix3 h a x)) : headAt v4 v24 v44 v49 b o ho a d = blockAt v4 v24 v44 v49 B a' n := by
  subst ha
  obtain rfl : b = fun x => B (ix3 h a' x) := funext hb
  have key : ∀ (h' : Fin 8) (o' : ℕ) (ho' : o' + 64 ≤ 512) (d' : Fin 64), h = h' → o = o' → d = d' →
      headAt v4 v24 v44 v49 (fun x => B (ix3 h a' x)) o ho a' d = headAt v4 v24 v44 v49 (fun x => B (ix3 h' a' x)) o' ho' a' d' := by
    rintro h' o' ho' d' rfl rfl rfl
    rfl
  exact key _ _ _ _ (Fin.ext (by show h.val = n.val / 64; omega)) (by omega) (Fin.ext (by show d.val = n.val % 64; omega))

/-- The block that a grid point leaves in the output window, at query `a`, column `n`. -/
theorem out_at (i : grid0.Coords) (x0 x1 x2 x3 x4 x5 x6 x7 x8 x9 x10 x11 x12 x13 x14 x15 x16 x17 x18 : Vec Ideal S1x64x512 .f32)
    (x19 : Vec Ideal S8x64x576 .f32) (y : S1x64x512.Idx) :
    out0_20 i x0 x1 x2 x3 x4 x5 x6 x7 x8 x9 x10 x11 x12 x13 x14 x15 x16 x17 x18 x19 y =
      blockAt (k0_pay21 i x0 x1 x2 x3 x4 x5 x6 x7 x8 x9 x10 x11 x12 x13 x14 x15 x16 x17 x18 x19)
        (k0_pay22 i x0 x1 x2 x3 x4 x5 x6 x7 x8 x9 x10 x11 x12 x13 x14 x15 x16 x17 x18 x19)
        (k0_pay23 i x0 x1 x2 x3 x4 x5 x6 x7 x8 x9 x10 x11 x12 x13 x14 x15 x16 x17 x18 x19)
        (k0_pay24 i x0 x1 x2 x3 x4 x5 x6 x7 x8 x9 x10 x11 x12 x13 x14 x15 x16 x17 x18 x19) x19 (y 1) (y 2) := by
  unfold out0_20
  canon_tiles x h
  all_goals
    obtain ⟨a, d, rfl⟩ : ∃ (a d : Fin 64), x = ix3 0 a d := ⟨x 1, x 2, by rw [eq_ix3 x]; congr 1; exact Subsingleton.elim _ _⟩
  · refine (head7 _ _ _ _ _ a d).trans (headAt_eq _ _ _ _ _ _ 7 _ _ _ _ _ _ rfl h2 (Fin.ext h1) fun k => ?_)
    show x19 _ = _
    blk_ext
    all_goals simp
  · refine (head6 _ _ _ _ _ a d).trans (headAt_eq _ _ _ _ _ _ 6 _ _ _ _ _ _ rfl h2 (Fin.ext h1) fun k => ?_)
    show x19 _ = _
    blk_ext
    all_goals simp
  · refine (head5 _ _ _ _ _ a d).trans (headAt_eq _ _ _ _ _ _ 5 _ _ _ _ _ _ rfl h2 (Fin.ext h1) fun k => ?_)
    show x19 _ = _
    blk_ext
    all_goals simp
  · refine (head4 _ _ _ _ _ a d).trans (headAt_eq _ _ _ _ _ _ 4 _ _ _ _ _ _ rfl h2 (Fin.ext h1) fun k => ?_)
    show x19 _ = _
    blk_ext
    all_goals simp
  · refine (head3 _ _ _ _ _ a d).trans (headAt_eq _ _ _ _ _ _ 3 _ _ _ _ _ _ rfl h2 (Fin.ext h1) fun k => ?_)
    show x19 _ = _
    blk_ext
    all_goals simp
  · refine (head2 _ _ _ _ _ a d).trans (headAt_eq _ _ _ _ _ _ 2 _ _ _ _ _ _ rfl h2 (Fin.ext h1) fun k => ?_)
    show x19 _ = _
    blk_ext
    all_goals simp
  · refine (head1 _ _ _ _ _ a d).trans (headAt_eq _ _ _ _ _ _ 1 _ _ _ _ _ _ rfl h2 (Fin.ext h1) fun k => ?_)
    show x19 _ = _
    blk_ext
    all_goals simp
  · refine (head0 _ _ _ _ _ a d).trans (headAt_eq _ _ _ _ _ _ 0 _ _ _ _ _ _ rfl (h2.trans (Nat.zero_add _).symm) (Fin.ext h1) fun k => ?_)
    show x19 _ = _
    blk_ext
    all_goals simp

end Cert.Proof.AttnC

end
-- ==== Proof.AttnCReads.lean ====
module

public import proofs.«01_k».proof.Proof.AttnCBlock

@[expose] public section

set_option maxRecDepth 16384

noncomputable section

namespace Cert.Proof.AttnC

open Idealize.ShloMosaic Idealize.ShloMosaic.TcCoe Idealize.SL.Sem
open Cert.AttnCIdeal Cert.AttnCIdeal.Gen

/-- The scaled queries of a block. -/
theorem pay2_at (x : Vec Ideal S1x64x512 .f32) (a : Fin 64) (n : Fin 512) :
    k0_pay2 x (ix2 a n) = x (ix3 0 a n) * Ideal.ofBits .f32 0x3E000000#32 := by
  pointwise [k0_pay2]

/-- The band that `k0_pay3` lays together: key `x` is row `x % 64` of the band's chunk `x / 64`. -/
theorem pay3_at (x0 x1 x2 x3 x4 x5 x6 x7 x8 : Vec Ideal S1x64x512 .f32) (K : Fin 9 → Fin 64 → EReal) (x : Fin 576) (n : Fin 512)
    (h0 : ∀ r, x0 (ix3 0 r n) = K 0 r)
    (h1 : ∀ r, x1 (ix3 0 r n) = K 1 r)
    (h2 : ∀ r, x2 (ix3 0 r n) = K 2 r)
    (h3 : ∀ r, x3 (ix3 0 r n) = K 3 r)
    (h4 : ∀ r, x4 (ix3 0 r n) = K 4 r)
    (h5 : ∀ r, x5 (ix3 0 r n) = K 5 r)
    (h6 : ∀ r, x6 (ix3 0 r n) = K 6 r)
    (h7 : ∀ r, x7 (ix3 0 r n) = K 7 r)
    (h8 : ∀ r, x8 (ix3 0 r n) = K 8 r) :
    k0_pay3 x0 x1 x2 x3 x4 x5 x6 x7 x8 (ix2 x n) = K ⟨x.val / 64, by omega⟩ ⟨x.val % 64, by omega⟩ := by
  pointwise [k0_pay3]
  by_cases e0 : x.val < 64
  · rw [dif_pos e0]
    exact (h0 _).trans (congrArg₂ K (Fin.ext (by simp only [Fin.isValue]; omega)) (Fin.ext (by simp only [Fin.isValue]; omega)))
  rw [dif_neg e0]
  by_cases e1 : x.val - 64 < 64
  · rw [dif_pos e1]
    exact (h1 _).trans (congrArg₂ K (Fin.ext (by simp only [Fin.isValue]; omega)) (Fin.ext (by simp only [Fin.isValue]; omega)))
  rw [dif_neg e1]
  by_cases e2 : x.val - 64 - 64 < 64
  · rw [dif_pos e2]
    exact (h2 _).trans (congrArg₂ K (Fin.ext (by simp only [Fin.isValue]; omega)) (Fin.ext (by simp only [Fin.isValue]; omega)))
  rw [dif_neg e2]
  by_cases e3 : x.val - 64 - 64 - 64 < 64
  · rw [dif_pos e3]
    exact (h3 _).trans (congrArg₂ K (Fin.ext (by simp only [Fin.isValue]; omega)) (Fin.ext (by simp only [Fin.isValue]; omega)))
  rw [dif_neg e3]
  by_cases e4 : x.val - 64 - 64 - 64 - 64 < 64
  · rw [dif_pos e4]
    exact (h4 _).trans (congrArg₂ K (Fin.ext (by simp only [Fin.isValue]; omega)) (Fin.ext (by simp only [Fin.isValue]; omega)))
  rw [dif_neg e4]
  by_cases e5 : x.val - 64 - 64 - 64 - 64 - 64 < 64
  · rw [dif_pos e5]
    exact (h5 _).trans (congrArg₂ K (Fin.ext (by simp only [Fin.isValue]; omega)) (Fin.ext (by simp only [Fin.isValue]; omega)))
  rw [dif_neg e5]
  by_cases e6 : x.val - 64 - 64 - 64 - 64 - 64 - 64 < 64
  · rw [dif_pos e6]
    exact (h6 _).trans (congrArg₂ K (Fin.ext (by simp only [Fin.isValue]; omega)) (Fin.ext (by simp only [Fin.isValue]; omega)))
  rw [dif_neg e6]
  by_cases e7 : x.val - 64 - 64 - 64 - 64 - 64 - 64 - 64 < 64
  · rw [dif_pos e7]
    exact (h7 _).trans (congrArg₂ K (Fin.ext (by simp only [Fin.isValue]; omega)) (Fin.ext (by simp only [Fin.isValue]; omega)))
  rw [dif_neg e7]
  exact (h8 _).trans (congrArg₂ K (Fin.ext (by simp only [Fin.isValue]; omega)) (Fin.ext (by simp only [Fin.isValue]; omega)))

/-- The band that `k0_pay4` lays together: key `x` is row `x % 64` of the band's chunk `x / 64`. -/
theorem pay4_at (x0 x1 x2 x3 x4 x5 x6 x7 x8 : Vec Ideal S1x64x512 .f32) (K : Fin 9 → Fin 64 → EReal) (x : Fin 576) (n : Fin 512)
    (h0 : ∀ r, x0 (ix3 0 r n) = K 0 r)
    (h1 : ∀ r, x1 (ix3 0 r n) = K 1 r)
    (h2 : ∀ r, x2 (ix3 0 r n) = K 2 r)
    (h3 : ∀ r, x3 (ix3 0 r n) = K 3 r)
    (h4 : ∀ r, x4 (ix3 0 r n) = K 4 r)
    (h5 : ∀ r, x5 (ix3 0 r n) = K 5 r)
    (h6 : ∀ r, x6 (ix3 0 r n) = K 6 r)
    (h7 : ∀ r, x7 (ix3 0 r n) = K 7 r)
    (h8 : ∀ r, x8 (ix3 0 r n) = K 8 r) :
    k0_pay4 x0 x1 x2 x3 x4 x5 x6 x7 x8 (ix2 x n) = K ⟨x.val / 64, by omega⟩ ⟨x.val % 64, by omega⟩ := by
  pointwise [k0_pay4]
  by_cases e0 : x.val < 64
  · rw [dif_pos e0]
    exact (h0 _).trans (congrArg₂ K (Fin.ext (by simp only [Fin.isValue]; omega)) (Fin.ext (by simp only [Fin.isValue]; omega)))
  rw [dif_neg e0]
  by_cases e1 : x.val - 64 < 64
  · rw [dif_pos e1]
    exact (h1 _).trans (congrArg₂ K (Fin.ext (by simp only [Fin.isValue]; omega)) (Fin.ext (by simp only [Fin.isValue]; omega)))
  rw [dif_neg e1]
  by_cases e2 : x.val - 64 - 64 < 64
  · rw [dif_pos e2]
    exact (h2 _).trans (congrArg₂ K (Fin.ext (by simp only [Fin.isValue]; omega)) (Fin.ext (by simp only [Fin.isValue]; omega)))
  rw [dif_neg e2]
  by_cases e3 : x.val - 64 - 64 - 64 < 64
  · rw [dif_pos e3]
    exact (h3 _).trans (congrArg₂ K (Fin.ext (by simp only [Fin.isValue]; omega)) (Fin.ext (by simp only [Fin.isValue]; omega)))
  rw [dif_neg e3]
  by_cases e4 : x.val - 64 - 64 - 64 - 64 < 64
  · rw [dif_pos e4]
    exact (h4 _).trans (congrArg₂ K (Fin.ext (by simp only [Fin.isValue]; omega)) (Fin.ext (by simp only [Fin.isValue]; omega)))
  rw [dif_neg e4]
  by_cases e5 : x.val - 64 - 64 - 64 - 64 - 64 < 64
  · rw [dif_pos e5]
    exact (h5 _).trans (congrArg₂ K (Fin.ext (by simp only [Fin.isValue]; omega)) (Fin.ext (by simp only [Fin.isValue]; omega)))
  rw [dif_neg e5]
  by_cases e6 : x.val - 64 - 64 - 64 - 64 - 64 - 64 < 64
  · rw [dif_pos e6]
    exact (h6 _).trans (congrArg₂ K (Fin.ext (by simp only [Fin.isValue]; omega)) (Fin.ext (by simp only [Fin.isValue]; omega)))
  rw [dif_neg e6]
  by_cases e7 : x.val - 64 - 64 - 64 - 64 - 64 - 64 - 64 < 64
  · rw [dif_pos e7]
    exact (h7 _).trans (congrArg₂ K (Fin.ext (by simp only [Fin.isValue]; omega)) (Fin.ext (by simp only [Fin.isValue]; omega)))
  rw [dif_neg e7]
  exact (h8 _).trans (congrArg₂ K (Fin.ext (by simp only [Fin.isValue]; omega)) (Fin.ext (by simp only [Fin.isValue]; omega)))

/-- The mask of chunk `c`: key `x` of the band counts when the band's row lies in the sequence. -/
theorem pay5_at (c : ℕ) (hc : c < 128) (a : Fin 64) (x : Fin 576) :
    k0_pay5 (BitVec.ofNat 32 c) (ix2 a x) = if 512 ≤ c * 64 + x.val then 1#1 else 0#1 := by
  pointwise [k0_pay5]
  obtain ⟨x, hx⟩ := x
  simp only [IntOp.cmpi, Scalar.muli, Scalar.subi, IntOp.muli, IntOp.subi, BitVec.sle_eq_decide]
  have hx' : (BitVec.ofNat 32 x).toInt = x := by
    rw [BitVec.toInt_eq_toNat_bmod, BitVec.toNat_ofNat, Nat.mod_eq_of_lt (by omega)]
    exact Int.bmod_eq_of_le (by omega) (by omega)
  have hc' : (BitVec.ofNat 32 c).toInt = c := by
    rw [BitVec.toInt_eq_toNat_bmod, BitVec.toNat_ofNat, Nat.mod_eq_of_lt (by omega)]
    exact Int.bmod_eq_of_le (by omega) (by omega)
  have hs : ((8#32 - BitVec.ofNat 32 c) * 64#32).toInt = (8 - (c : ℤ)) * 64 := by
    rw [BitVec.toInt_mul, BitVec.toInt_sub, hc']
    show (Int.bmod (Int.bmod (8 - (c : ℤ)) (2 ^ 32) * 64) (2 ^ 32)) = _
    rw [Int.bmod_eq_of_le (n := 8 - (c : ℤ)) (by omega) (by omega), Int.bmod_eq_of_le (by omega) (by omega)]
  rw [hs, hx']
  by_cases h : 512 ≤ c * 64 + x
  · rw [if_pos h, decide_eq_true (by omega)]
    rfl
  · rw [if_neg h, decide_eq_false (by omega)]
    rfl

/-- A choice by such a mask bit. -/
theorem select_if (p : Prop) [Decidable p] (s z : EReal) : Scalar.select (if p then 1#1 else 0#1) s z = if p then s else z := by
  split_ifs <;> rfl

/-- Where the windows lie at grid point `t`, of batch `t / 128` and chunk `t % 128`: the queries and the result at the chunk, the nine key and value
    windows at the chunks from eight before it (the first chunk where there is none), the bias whole. -/
theorem idx : ∀ t : Fin grid0.N, win0_0.index t = ![t.val / 128, t.val % 128, 0] ∧ win0_1.index t = ![t.val / 128, t.val % 128 + 0 - 8, 1] ∧ win0_2.index t = ![t.val / 128, t.val % 128 + 1 - 8, 1] ∧ win0_3.index t = ![t.val / 128, t.val % 128 + 2 - 8, 1] ∧ win0_4.index t = ![t.val / 128, t.val % 128 + 3 - 8, 1] ∧ win0_5.index t = ![t.val / 128, t.val % 128 + 4 - 8, 1] ∧ win0_6.index t = ![t.val / 128, t.val % 128 + 5 - 8, 1] ∧ win0_7.index t = ![t.val / 128, t.val % 128 + 6 - 8, 1] ∧ win0_8.index t = ![t.val / 128, t.val % 128 + 7 - 8, 1] ∧ win0_9.index t = ![t.val / 128, t.val % 128 + 8 - 8, 1] ∧
    win0_10.index t = ![t.val / 128, t.val % 128 + 0 - 8, 2] ∧ win0_11.index t = ![t.val / 128, t.val % 128 + 1 - 8, 2] ∧ win0_12.index t = ![t.val / 128, t.val % 128 + 2 - 8, 2] ∧ win0_13.index t = ![t.val / 128, t.val % 128 + 3 - 8, 2] ∧ win0_14.index t = ![t.val / 128, t.val % 128 + 4 - 8, 2] ∧ win0_15.index t = ![t.val / 128, t.val % 128 + 5 - 8, 2] ∧ win0_16.index t = ![t.val / 128, t.val % 128 + 6 - 8, 2] ∧ win0_17.index t = ![t.val / 128, t.val % 128 + 7 - 8, 2] ∧ win0_18.index t = ![t.val / 128, t.val % 128 + 8 - 8, 2] ∧
    win0_19.index t = ![0, 0, 0] ∧ win0_20.index t = ![t.val / 128, t.val % 128, 0] := by
  decide +kernel

/-- The second grid coordinate of a point. -/
theorem coord : ∀ t : Fin grid0.N, (grid0.coords t 1).val = t.val % 128 := by
  decide +kernel

section Reads

variable (m : (ℓ : Loc nD τ sig) → Buf (Elt Ideal) ℓ) (c : Dev nD) (t : Fin cfg0.grid.N) (ht : t.val < 256)

/-- The block of queries. -/
theorem read_q (a : Fin 64) (n : Fin 512) : View.ld (iblk m c 0 t) r0_0 (ix3 0 a n) =
    m ((c : Thread nD τ).loc main_arg0) (ix3 (⟨t.val / 128, by omega⟩ : Fin 2) (⟨t.val % 128 * 64 + a.val, by omega⟩ : Fin 8192) (⟨n.val, by omega⟩ : Fin 2560)) := by
  have e : View.ld (iblk m c 0 t) r0_0 (ix3 0 a n) = iblk m c 0 t (ix3 0 a n) := by
    show iblk m c 0 t _ = _
    blk_ext
    all_goals simp
  rw [e]
  have h := (idx t).1
  blk_ext! [iblk, V, h]

/-- Block 0 of the keys. -/
theorem read_k0 (a : Fin 64) (n : Fin 512) : View.ld (iblk m c 1 t) r0_0 (ix3 0 a n) =
    m ((c : Thread nD τ).loc main_arg0) (ix3 (⟨t.val / 128, by omega⟩ : Fin 2) (⟨(t.val % 128 + 0 - 8) * 64 + a.val, by omega⟩ : Fin 8192) (⟨512 + n.val, by omega⟩ : Fin 2560)) := by
  have e : View.ld (iblk m c 1 t) r0_0 (ix3 0 a n) = iblk m c 1 t (ix3 0 a n) := by
    show iblk m c 1 t _ = _
    blk_ext
    all_goals simp
  rw [e]
  obtain ⟨-, h, -⟩ := idx t
  blk_ext! [iblk, V, h]

/-- Block 1 of the keys. -/
theorem read_k1 (a : Fin 64) (n : Fin 512) : View.ld (iblk m c 2 t) r0_0 (ix3 0 a n) =
    m ((c : Thread nD τ).loc main_arg0) (ix3 (⟨t.val / 128, by omega⟩ : Fin 2) (⟨(t.val % 128 + 1 - 8) * 64 + a.val, by omega⟩ : Fin 8192) (⟨512 + n.val, by omega⟩ : Fin 2560)) := by
  have e : View.ld (iblk m c 2 t) r0_0 (ix3 0 a n) = iblk m c 2 t (ix3 0 a n) := by
    show iblk m c 2 t _ = _
    blk_ext
    all_goals simp
  rw [e]
  obtain ⟨-, -, h, -⟩ := idx t
  blk_ext! [iblk, V, h]

/-- Block 2 of the keys. -/
theorem read_k2 (a : Fin 64) (n : Fin 512) : View.ld (iblk m c 3 t) r0_0 (ix3 0 a n) =
    m ((c : Thread nD τ).loc main_arg0) (ix3 (⟨t.val / 128, by omega⟩ : Fin 2) (⟨(t.val % 128 + 2 - 8) * 64 + a.val, by omega⟩ : Fin 8192) (⟨512 + n.val, by omega⟩ : Fin 2560)) := by
  have e : View.ld (iblk m c 3 t) r0_0 (ix3 0 a n) = iblk m c 3 t (ix3 0 a n) := by
    show iblk m c 3 t _ = _
    blk_ext
    all_goals simp
  rw [e]
  obtain ⟨-, -, -, h, -⟩ := idx t
  blk_ext! [iblk, V, h]

/-- Block 3 of the keys. -/
theorem read_k3 (a : Fin 64) (n : Fin 512) : View.ld (iblk m c 4 t) r0_0 (ix3 0 a n) =
    m ((c : Thread nD τ).loc main_arg0) (ix3 (⟨t.val / 128, by omega⟩ : Fin 2) (⟨(t.val % 128 + 3 - 8) * 64 + a.val, by omega⟩ : Fin 8192) (⟨512 + n.val, by omega⟩ : Fin 2560)) := by
  have e : View.ld (iblk m c 4 t) r0_0 (ix3 0 a n) = iblk m c 4 t (ix3 0 a n) := by
    show iblk m c 4 t _ = _
    blk_ext
    all_goals simp
  rw [e]
  obtain ⟨-, -, -, -, h, -⟩ := idx t
  blk_ext! [iblk, V, h]

/-- Block 4 of the keys. -/
theorem read_k4 (a : Fin 64) (n : Fin 512) : View.ld (iblk m c 5 t) r0_0 (ix3 0 a n) =
    m ((c : Thread nD τ).loc main_arg0) (ix3 (⟨t.val / 128, by omega⟩ : Fin 2) (⟨(t.val % 128 + 4 - 8) * 64 + a.val, by omega⟩ : Fin 8192) (⟨512 + n.val, by omega⟩ : Fin 2560)) := by
  have e : View.ld (iblk m c 5 t) r0_0 (ix3 0 a n) = iblk m c 5 t (ix3 0 a n) := by
    show iblk m c 5 t _ = _
    blk_ext
    all_goals simp
  rw [e]
  obtain ⟨-, -, -, -, -, h, -⟩ := idx t
  blk_ext! [iblk, V, h]

/-- Block 5 of the keys. -/
theorem read_k5 (a : Fin 64) (n : Fin 512) : View.ld (iblk m c 6 t) r0_0 (ix3 0 a n) =
    m ((c : Thread nD τ).loc main_arg0) (ix3 (⟨t.val / 128, by omega⟩ : Fin 2) (⟨(t.val % 128 + 5 - 8) * 64 + a.val, by omega⟩ : Fin 8192) (⟨512 + n.val, by omega⟩ : Fin 2560)) := by
  have e : View.ld (iblk m c 6 t) r0_0 (ix3 0 a n) = iblk m c 6 t (ix3 0 a n) := by
    show iblk m c 6 t _ = _
    blk_ext
    all_goals simp
  rw [e]
  obtain ⟨-, -, -, -, -, -, h, -⟩ := idx t
  blk_ext! [iblk, V, h]

/-- Block 6 of the keys. -/
theorem read_k6 (a : Fin 64) (n : Fin 512) : View.ld (iblk m c 7 t) r0_0 (ix3 0 a n) =
    m ((c : Thread nD τ).loc main_arg0) (ix3 (⟨t.val / 128, by omega⟩ : Fin 2) (⟨(t.val % 128 + 6 - 8) * 64 + a.val, by omega⟩ : Fin 8192) (⟨512 + n.val, by omega⟩ : Fin 2560)) := by
  have e : View.ld (iblk m c 7 t) r0_0 (ix3 0 a n) = iblk m c 7 t (ix3 0 a n) := by
    show iblk m c 7 t _ = _
    blk_ext
    all_goals simp
  rw [e]
  obtain ⟨-, -, -, -, -, -, -, h, -⟩ := idx t
  blk_ext! [iblk, V, h]

/-- Block 7 of the keys. -/
theorem read_k7 (a : Fin 64) (n : Fin 512) : View.ld (iblk m c 8 t) r0_0 (ix3 0 a n) =
    m ((c : Thread nD τ).loc main_arg0) (ix3 (⟨t.val / 128, by omega⟩ : Fin 2) (⟨(t.val % 128 + 7 - 8) * 64 + a.val, by omega⟩ : Fin 8192) (⟨512 + n.val, by omega⟩ : Fin 2560)) := by
  have e : View.ld (iblk m c 8 t) r0_0 (ix3 0 a n) = iblk m c 8 t (ix3 0 a n) := by
    show iblk m c 8 t _ = _
    blk_ext
    all_goals simp
  rw [e]
  obtain ⟨-, -, -, -, -, -, -, -, h, -⟩ := idx t
  blk_ext! [iblk, V, h]

/-- Block 8 of the keys. -/
theorem read_k8 (a : Fin 64) (n : Fin 512) : View.ld (iblk m c 9 t) r0_0 (ix3 0 a n) =
    m ((c : Thread nD τ).loc main_arg0) (ix3 (⟨t.val / 128, by omega⟩ : Fin 2) (⟨(t.val % 128 + 8 - 8) * 64 + a.val, by omega⟩ : Fin 8192) (⟨512 + n.val, by omega⟩ : Fin 2560)) := by
  have e : View.ld (iblk m c 9 t) r0_0 (ix3 0 a n) = iblk m c 9 t (ix3 0 a n) := by
    show iblk m c 9 t _ = _
    blk_ext
    all_goals simp
  rw [e]
  obtain ⟨-, -, -, -, -, -, -, -, -, h, -⟩ := idx t
  blk_ext! [iblk, V, h]

/-- Block 0 of the values. -/
theorem read_v0 (a : Fin 64) (n : Fin 512) : View.ld (iblk m c 10 t) r0_0 (ix3 0 a n) =
    m ((c : Thread nD τ).loc main_arg0) (ix3 (⟨t.val / 128, by omega⟩ : Fin 2) (⟨(t.val % 128 + 0 - 8) * 64 + a.val, by omega⟩ : Fin 8192) (⟨1024 + n.val, by omega⟩ : Fin 2560)) := by
  have e : View.ld (iblk m c 10 t) r0_0 (ix3 0 a n) = iblk m c 10 t (ix3 0 a n) := by
    show iblk m c 10 t _ = _
    blk_ext
    all_goals simp
  rw [e]
  obtain ⟨-, -, -, -, -, -, -, -, -, -, h, -⟩ := idx t
  blk_ext! [iblk, V, h]

/-- Block 1 of the values. -/
theorem read_v1 (a : Fin 64) (n : Fin 512) : View.ld (iblk m c 11 t) r0_0 (ix3 0 a n) =
    m ((c : Thread nD τ).loc main_arg0) (ix3 (⟨t.val / 128, by omega⟩ : Fin 2) (⟨(t.val % 128 + 1 - 8) * 64 + a.val, by omega⟩ : Fin 8192) (⟨1024 + n.val, by omega⟩ : Fin 2560)) := by
  have e : View.ld (iblk m c 11 t) r0_0 (ix3 0 a n) = iblk m c 11 t (ix3 0 a n) := by
    show iblk m c 11 t _ = _
    blk_ext
    all_goals simp
  rw [e]
  obtain ⟨-, -, -, -, -, -, -, -, -, -, -, h, -⟩ := idx t
  blk_ext! [iblk, V, h]

/-- Block 2 of the values. -/
theorem read_v2 (a : Fin 64) (n : Fin 512) : View.ld (iblk m c 12 t) r0_0 (ix3 0 a n) =
    m ((c : Thread nD τ).loc main_arg0) (ix3 (⟨t.val / 128, by omega⟩ : Fin 2) (⟨(t.val % 128 + 2 - 8) * 64 + a.val, by omega⟩ : Fin 8192) (⟨1024 + n.val, by omega⟩ : Fin 2560)) := by
  have e : View.ld (iblk m c 12 t) r0_0 (ix3 0 a n) = iblk m c 12 t (ix3 0 a n) := by
    show iblk m c 12 t _ = _
    blk_ext
    all_goals simp
  rw [e]
  obtain ⟨-, -, -, -, -, -, -, -, -, -, -, -, h, -⟩ := idx t
  blk_ext! [iblk, V, h]

/-- Block 3 of the values. -/
theorem read_v3 (a : Fin 64) (n : Fin 512) : View.ld (iblk m c 13 t) r0_0 (ix3 0 a n) =
    m ((c : Thread nD τ).loc main_arg0) (ix3 (⟨t.val / 128, by omega⟩ : Fin 2) (⟨(t.val % 128 + 3 - 8) * 64 + a.val, by omega⟩ : Fin 8192) (⟨1024 + n.val, by omega⟩ : Fin 2560)) := by
  have e : View.ld (iblk m c 13 t) r0_0 (ix3 0 a n) = iblk m c 13 t (ix3 0 a n) := by
    show iblk m c 13 t _ = _
    blk_ext
    all_goals simp
  rw [e]
  obtain ⟨-, -, -, -, -, -, -, -, -, -, -, -, -, h, -⟩ := idx t
  blk_ext! [iblk, V, h]

/-- Block 4 of the values. -/
theorem read_v4 (a : Fin 64) (n : Fin 512) : View.ld (iblk m c 14 t) r0_0 (ix3 0 a n) =
    m ((c : Thread nD τ).loc main_arg0) (ix3 (⟨t.val / 128, by omega⟩ : Fin 2) (⟨(t.val % 128 + 4 - 8) * 64 + a.val, by omega⟩ : Fin 8192) (⟨1024 + n.val, by omega⟩ : Fin 2560)) := by
  have e : View.ld (iblk m c 14 t) r0_0 (ix3 0 a n) = iblk m c 14 t (ix3 0 a n) := by
    show iblk m c 14 t _ = _
    blk_ext
    all_goals simp
  rw [e]
  obtain ⟨-, -, -, -, -, -, -, -, -, -, -, -, -, -, h, -⟩ := idx t
  blk_ext! [iblk, V, h]

/-- Block 5 of the values. -/
theorem read_v5 (a : Fin 64) (n : Fin 512) : View.ld (iblk m c 15 t) r0_0 (ix3 0 a n) =
    m ((c : Thread nD τ).loc main_arg0) (ix3 (⟨t.val / 128, by omega⟩ : Fin 2) (⟨(t.val % 128 + 5 - 8) * 64 + a.val, by omega⟩ : Fin 8192) (⟨1024 + n.val, by omega⟩ : Fin 2560)) := by
  have e : View.ld (iblk m c 15 t) r0_0 (ix3 0 a n) = iblk m c 15 t (ix3 0 a n) := by
    show iblk m c 15 t _ = _
    blk_ext
    all_goals simp
  rw [e]
  obtain ⟨-, -, -, -, -, -, -, -, -, -, -, -, -, -, -, h, -⟩ := idx t
  blk_ext! [iblk, V, h]

/-- Block 6 of the values. -/
theorem read_v6 (a : Fin 64) (n : Fin 512) : View.ld (iblk m c 16 t) r0_0 (ix3 0 a n) =
    m ((c : Thread nD τ).loc main_arg0) (ix3 (⟨t.val / 128, by omega⟩ : Fin 2) (⟨(t.val % 128 + 6 - 8) * 64 + a.val, by omega⟩ : Fin 8192) (⟨1024 + n.val, by omega⟩ : Fin 2560)) := by
  have e : View.ld (iblk m c 16 t) r0_0 (ix3 0 a n) = iblk m c 16 t (ix3 0 a n) := by
    show iblk m c 16 t _ = _
    blk_ext
    all_goals simp
  rw [e]
  obtain ⟨-, -, -, -, -, -, -, -, -, -, -, -, -, -, -, -, h, -⟩ := idx t
  blk_ext! [iblk, V, h]

/-- Block 7 of the values. -/
theorem read_v7 (a : Fin 64) (n : Fin 512) : View.ld (iblk m c 17 t) r0_0 (ix3 0 a n) =
    m ((c : Thread nD τ).loc main_arg0) (ix3 (⟨t.val / 128, by omega⟩ : Fin 2) (⟨(t.val % 128 + 7 - 8) * 64 + a.val, by omega⟩ : Fin 8192) (⟨1024 + n.val, by omega⟩ : Fin 2560)) := by
  have e : View.ld (iblk m c 17 t) r0_0 (ix3 0 a n) = iblk m c 17 t (ix3 0 a n) := by
    show iblk m c 17 t _ = _
    blk_ext
    all_goals simp
  rw [e]
  obtain ⟨-, -, -, -, -, -, -, -, -, -, -, -, -, -, -, -, -, h, -⟩ := idx t
  blk_ext! [iblk, V, h]

/-- Block 8 of the values. -/
theorem read_v8 (a : Fin 64) (n : Fin 512) : View.ld (iblk m c 18 t) r0_0 (ix3 0 a n) =
    m ((c : Thread nD τ).loc main_arg0) (ix3 (⟨t.val / 128, by omega⟩ : Fin 2) (⟨(t.val % 128 + 8 - 8) * 64 + a.val, by omega⟩ : Fin 8192) (⟨1024 + n.val, by omega⟩ : Fin 2560)) := by
  have e : View.ld (iblk m c 18 t) r0_0 (ix3 0 a n) = iblk m c 18 t (ix3 0 a n) := by
    show iblk m c 18 t _ = _
    blk_ext
    all_goals simp
  rw [e]
  obtain ⟨-, -, -, -, -, -, -, -, -, -, -, -, -, -, -, -, -, -, h, -⟩ := idx t
  blk_ext! [iblk, V, h]

/-- The bias. -/
theorem read_b (h : Fin 8) (a : Fin 64) (x : Fin 576) : iblk m c 19 t (ix3 h a x) = m ((c : Thread nD τ).loc main_arg1) (ix3 h a x) := by
  obtain ⟨-, -, -, -, -, -, -, -, -, -, -, -, -, -, -, -, -, -, -, h, -⟩ := idx t
  blk_ext! [iblk, V, h]

end Reads

end Cert.Proof.AttnC

end
-- ==== Proof.AttnCRef.lean ====
module

public import Idealize.ShloMosaic.Lib.Pipeline.ValueKit
public import Idealize.ShloMosaic.Lib.Pointwise
public import proofs.«01_k».proof.Proof.Gen.AttnCRefIdeal.Read
public import proofs.«01_k».proof.Proof.AttnRow

@[expose] public section

set_option maxRecDepth 16384

noncomputable section

namespace Cert.Proof.AttnC.Ref

open Idealize.ShloMosaic Idealize.ShloMosaic.TcCoe Idealize.SL.Sem
open Cert.AttnCRefIdeal Cert.AttnCRefIdeal.Read

variable (x0 : (⟨S2x8192x2560, .f32⟩ : BufTy).Contents (Elt Ideal)) (x1 : (⟨S8x64x576, .f32⟩ : BufTy).Contents (Elt Ideal))

/-- The padded keys: row `a` of chunk `o` of the padded array is a row of the sequence from the eighth chunk on. -/
theorem v8_at (b : Fin 2) (o : Fin 136) (a : Fin 64) (h : Fin 8) (i : Fin 64) (r : Fin 8192) (hv : 512 ≤ o.val * 64 + a.val)
    (hr : r.val = o.val * 64 + a.val - 512) :
    val_main_v8 (F := Ideal) x0 (ix5 b o a h i) = x0 (ix3 b r (⟨512 + (h.val * 64 + i.val), by omega⟩ : Fin 2560)) := by
  pointwise [val_main_v8, val_main_v7, val_main_v4, val_main_v1]
  rw [dif_pos ⟨hv, by omega⟩]
  exact congrArg (fun k => x0 (ix3 b k _)) (Fin.ext hr.symm)

/-- The padded values: row `a` of chunk `o` of the padded array is a row of the sequence from the eighth chunk on. -/
theorem v20_at (b : Fin 2) (o : Fin 136) (a : Fin 64) (h : Fin 8) (i : Fin 64) (r : Fin 8192) (hv : 512 ≤ o.val * 64 + a.val)
    (hr : r.val = o.val * 64 + a.val - 512) :
    val_main_v20 (F := Ideal) x0 (ix5 b o a h i) = x0 (ix3 b r (⟨1024 + (h.val * 64 + i.val), by omega⟩ : Fin 2560)) := by
  pointwise [val_main_v20, val_main_v19, val_main_v5, val_main_v2]
  rw [dif_pos ⟨hv, by omega⟩]
  exact congrArg (fun k => x0 (ix3 b k _)) (Fin.ext hr.symm)

/-- The reference's band of keys: key `x` of chunk `c`, where the band's row lies in the sequence, is that row. -/
theorem v18_at (b : Fin 2) (c : Fin 128) (x : Fin 576) (h : Fin 8) (i : Fin 64) (hv : 512 ≤ c.val * 64 + x.val) :
    val_main_v18 (F := Ideal) x0 (ix5 b c x h i) =
      x0 (ix3 b (⟨(c.val + x.val / 64 - 8) * 64 + x.val % 64, by omega⟩ : Fin 8192) (⟨512 + (h.val * 64 + i.val), by omega⟩ : Fin 2560)) := by
  pointwise [val_main_v18, val_main_v9, val_main_v10, val_main_v11, val_main_v12, val_main_v13, val_main_v14, val_main_v15, val_main_v16, val_main_v17]
  split_ifs <;> exact v8_at x0 b _ _ h i _ (by simp only [Fin.isValue]; omega) (by simp only [Fin.isValue]; omega)

/-- The reference's band of values: key `x` of chunk `c`, where the band's row lies in the sequence, is that row. -/
theorem v30_at (b : Fin 2) (c : Fin 128) (x : Fin 576) (h : Fin 8) (i : Fin 64) (hv : 512 ≤ c.val * 64 + x.val) :
    val_main_v30 (F := Ideal) x0 (ix5 b c x h i) =
      x0 (ix3 b (⟨(c.val + x.val / 64 - 8) * 64 + x.val % 64, by omega⟩ : Fin 8192) (⟨1024 + (h.val * 64 + i.val), by omega⟩ : Fin 2560)) := by
  pointwise [val_main_v30, val_main_v21, val_main_v22, val_main_v23, val_main_v24, val_main_v25, val_main_v26, val_main_v27, val_main_v28, val_main_v29]
  split_ifs <;> exact v20_at x0 b _ _ h i _ (by simp only [Fin.isValue]; omega) (by simp only [Fin.isValue]; omega)

/-- The reference's mask. -/
theorem v43_at (c : Fin 128) (x : Fin 576) : val_main_v43 (F := Ideal) (ix2 c x) = if 512 ≤ c.val * 64 + x.val then 1#1 else 0#1 := by
  pointwise [val_main_v43, val_main_v41, val_main_v39, val_main_v40, val_main_v36, val_main_v38, val_main_v37, val_main_v35, val_main_v34, val_main_v33,
    val_main_v32, val_main_v31, val_main_c_1, val_main_c_2, val_main_c_3, val_main_v42]
  obtain ⟨x, hx⟩ := x
  obtain ⟨c, hc⟩ := c
  simp only [IntOp.cmpi, IntOp.muli, IntOp.subi, IntOp.addi, BitVec.sle_eq_decide]
  have hx' : (BitVec.ofNat 32 x).toInt = x := by
    rw [BitVec.toInt_eq_toNat_bmod, BitVec.toNat_ofNat, Nat.mod_eq_of_lt (by omega)]
    exact Int.bmod_eq_of_le (by omega) (by omega)
  have hc' : (BitVec.ofNat 32 c).toInt = c := by
    rw [BitVec.toInt_eq_toNat_bmod, BitVec.toNat_ofNat, Nat.mod_eq_of_lt (by omega)]
    exact Int.bmod_eq_of_le (by omega) (by omega)
  have hs : ((BitVec.ofNat 32 c - 8#32) * 64#32 + BitVec.ofNat 32 x).toInt = ((c : ℤ) - 8) * 64 + x := by
    rw [BitVec.toInt_add, BitVec.toInt_mul, BitVec.toInt_sub, hc', hx']
    show (Int.bmod (Int.bmod (Int.bmod ((c : ℤ) - 8) (2 ^ 32) * 64) (2 ^ 32) + x) (2 ^ 32)) = _
    rw [Int.bmod_eq_of_le (n := (c : ℤ) - 8) (by omega) (by omega), Int.bmod_eq_of_le (n := ((c : ℤ) - 8) * 64) (by omega) (by omega),
      Int.bmod_eq_of_le (by omega) (by omega)]
  rw [hs]
  show BitVec.ofBool (decide (0 ≤ ((c : ℤ) - 8) * 64 + x)) = _
  by_cases h : 512 ≤ c * 64 + x
  · rw [if_pos h, decide_eq_true (by omega)]
    rfl
  · rw [if_neg h, decide_eq_false (by omega)]
    rfl

/-- The scaled product plus the bias. -/
theorem v50_at (b : Fin 2) (c : Fin 128) (h : Fin 8) (a : Fin 64) (x : Fin 576) : val_main_v50 (F := Ideal) x0 x1 (ix5 b c h a x) =
    (∑ i : Fin 64, val_main_v6 (F := Ideal) x0 (ix5 b c a h i) * val_main_v18 (F := Ideal) x0 (ix5 b c x h i)) * Ideal.ofBits .f32 0x3E000000#32
      + x1 (ix3 h a x) := by
  pointwise [val_main_v50, val_main_v49, val_main_v48, val_main_v47, val_main_v46, val_main_v45, val_main_cst]

/-- The queries by chunk and head. -/
theorem v6_at (b : Fin 2) (c : Fin 128) (h : Fin 8) (a i : Fin 64) : val_main_v6 (F := Ideal) x0 (ix5 b c a h i) =
    x0 (ix3 b (⟨c.val * 64 + a.val, by omega⟩ : Fin 8192) (⟨h.val * 64 + i.val, by omega⟩ : Fin 2560)) := by
  pointwise [val_main_v6, val_main_v3, val_main_v0]

/-- The masked scores. -/
theorem v51_at (b : Fin 2) (c : Fin 128) (h : Fin 8) (a : Fin 64) (x : Fin 576) : val_main_v51 (F := Ideal) x0 x1 (ix5 b c h a x) =
    scoreR (512 ≤ c.val * 64 + x.val) (fun i : Fin 64 => x0 (ix3 b (⟨c.val * 64 + a.val, by omega⟩ : Fin 8192) (⟨h.val * 64 + i.val, by omega⟩ : Fin 2560)))
      (fun i => val_main_v18 (F := Ideal) x0 (ix5 b c x h i)) (x1 (ix3 h a x)) := by
  have e : val_main_v51 (F := Ideal) x0 x1 (ix5 b c h a x) =
      Scalar.select (val_main_v43 (F := Ideal) (ix2 c x)) (val_main_v50 (F := Ideal) x0 x1 (ix5 b c h a x)) (Ideal.ofBits .f32 0xFF800000#32) := by
    pointwise [val_main_v51, val_main_call2_v1, val_main_call2_v2, val_main_call2_v0, val_main_v44]
    rfl
  rw [e, v43_at, v50_at, ofBits_neg_inf]
  simp only [v6_at]
  unfold scoreR
  split_ifs <;> rfl

/-- The masked scores of row `r` of the sequence. -/
theorem score_at (b : Fin 2) (r : Fin 8192) (h : Fin 8) (x : Fin 576) :
    val_main_v51 (F := Ideal) x0 x1 (ix5 b (⟨r.val / 64, by omega⟩ : Fin 128) h (⟨r.val % 64, by omega⟩ : Fin 64) x) =
    scoreR (512 ≤ r.val / 64 * 64 + x.val) (fun i : Fin 64 => x0 (ix3 b r (⟨h.val * 64 + i.val, by omega⟩ : Fin 2560)))
      (fun i => val_main_v18 (F := Ideal) x0 (ix5 b (⟨r.val / 64, by omega⟩ : Fin 128) x h i)) (x1 (ix3 h (⟨r.val % 64, by omega⟩ : Fin 64) x)) := by
  have er : (⟨r.val / 64 * 64 + r.val % 64, by omega⟩ : Fin 8192) = r := Fin.ext (by show r.val / 64 * 64 + r.val % 64 = r.val; omega)
  rw [v51_at]
  simp only [er]

/-- The row maximum, from −∞. -/
theorem v52_at (b : Fin 2) (c : Fin 128) (h : Fin 8) (a : Fin 64) : val_main_v52 (F := Ideal) x0 x1 (ix4 b c h a) =
    rowMax fun x => val_main_v51 (F := Ideal) x0 x1 (ix5 b c h a x) := by
  unfold val_main_v52
  generalize val_main_v51 (F := Ideal) x0 x1 = y
  refine (Host.reduce_eq_fold_single (α := EReal) (FloatOps.maximumf (F := Ideal) (φ := .f32)) (s := S2x128x8x64x576) (t := S2x128x8x64) y _ _ (by decide) _ _).trans ?_
  refine congrArg (fun f => Finset.univ.fold max _ f) (funext fun k => ?_)
  exact congrArg y (funext fun a => Fin.ext (by match a with | ⟨0, _⟩ => rfl | ⟨1, _⟩ => rfl | ⟨2, _⟩ => rfl | ⟨3, _⟩ => rfl | ⟨4, _⟩ => rfl))

/-- The weights. -/
theorem v58_at (b : Fin 2) (c : Fin 128) (h : Fin 8) (a : Fin 64) (x : Fin 576) : val_main_v58 (F := Ideal) x0 x1 (ix5 b c h a x) =
    Ideal.exp (val_main_v51 (F := Ideal) x0 x1 (ix5 b c h a x) - max (Ideal.ofBits .f32 0xFF800000#32) (val_main_v52 (F := Ideal) x0 x1 (ix4 b c h a))) := by
  rw [val_main_v58_apply, val_main_v57_apply, val_main_v56_apply, val_main_v55_apply, val_main_v54_apply, val_main_v53_apply, val_main_cst_6_apply]
  have e : idx_main_v55 (idx_main_v56 (ix5 b c h a x)) = ix4 b c h a := by
    funext k
    match k with | ⟨0, _⟩ => rfl | ⟨1, _⟩ => rfl | ⟨2, _⟩ => rfl | ⟨3, _⟩ => rfl
  rw [e]
  rfl

/-- The divided weights. -/
theorem v62_at (b : Fin 2) (c : Fin 128) (h : Fin 8) (a : Fin 64) (x : Fin 576) : val_main_v62 (F := Ideal) x0 x1 (ix5 b c h a x) =
    Ideal.div (val_main_v58 (F := Ideal) x0 x1 (ix5 b c h a x)) (0 + ∑ y : Fin 576, val_main_v58 (F := Ideal) x0 x1 (ix5 b c h a y)) := by
  pointwise [val_main_v62, val_main_v61, val_main_v60, val_main_v59, val_main_cst_7]

/-- The reference's result at batch `b`, row `r`, column `n`. -/
theorem v65_at (b : Fin 2) (r : Fin 8192) (n : Fin 512) : val_main_v65 (F := Ideal) x0 x1 (ix3 b r n) =
    attnFirst (fun x => val_main_v51 (F := Ideal) x0 x1 (ix5 b (⟨r.val / 64, by omega⟩ : Fin 128) (⟨n.val / 64, by omega⟩ : Fin 8) (⟨r.val % 64, by omega⟩ : Fin 64) x))
      (fun x : Fin 576 => val_main_v30 (F := Ideal) x0 (ix5 b (⟨r.val / 64, by omega⟩ : Fin 128) x (⟨n.val / 64, by omega⟩ : Fin 8) (⟨n.val % 64, by omega⟩ : Fin 64))) := by
  pointwise [val_main_v65, val_main_v64, val_main_v63]
  simp only [v62_at, v58_at, v52_at]
  rfl

end Cert.Proof.AttnC.Ref

end
-- ==== Proof.AttnCEq.lean ====
module

public import proofs.«01_k».proof.Proof.AttnCRef
public import proofs.«01_k».proof.Proof.AttnRow

@[expose] public section

set_option maxRecDepth 16384

noncomputable section

namespace Cert.Proof.AttnC

open Idealize.ShloMosaic Idealize.ShloMosaic.TcCoe Idealize.SL.Sem
open Cert.AttnCRefIdeal Cert.AttnCRefIdeal.Gen

/-- The key of band position `x`, for chunk `j` of batch `b`: its row in the sequence, at a column of the projected array. -/
def keyAt (P : S2x8192x2560.Idx → EReal) (b : Fin 2) (j : ℕ) (hj : j < 128) (x : Fin 576) (n : Fin 2560) : EReal :=
  P (ix3 b (⟨(j + x.val / 64 - 8) * 64 + x.val % 64, by omega⟩ : Fin 8192) n)

/-- The kernel's result at batch `b`, row `r`, column `n`, from the arguments. -/
def kernelAt (P : S2x8192x2560.Idx → EReal) (B : S8x64x576.Idx → EReal) (b : Fin 2) (r : Fin 8192) (n : Fin 512) : EReal :=
  attnLast (fun x => scoreK (512 ≤ r.val / 64 * 64 + x.val)
      (fun i : Fin 64 => P (ix3 b r (⟨n.val / 64 * 64 + i.val, by omega⟩ : Fin 2560)))
      (fun i : Fin 64 => keyAt P b (r.val / 64) (by omega) x ⟨512 + (n.val / 64 * 64 + i.val), by omega⟩)
      (B (ix3 (⟨n.val / 64, by omega⟩ : Fin 8) (⟨r.val % 64, by omega⟩ : Fin 64) x)))
    (fun x => keyAt P b (r.val / 64) (by omega) x ⟨1024 + n.val, by omega⟩)

/-- With finite queries, keys and bias, the kernel's result is the reference's. -/
theorem kernelAt_eq (P : S2x8192x2560.Idx → EReal) (B : S8x64x576.Idx → EReal)
    (hP : ∀ (b : Fin 2) (r : Fin 8192) (n : Fin 1024), ∃ x : ℝ, P (ix3 b r (⟨n.val, by omega⟩ : Fin 2560)) = (x : EReal))
    (hB : ∀ (h : Fin 8) (a : Fin 64) (x : Fin 576), ∃ y : ℝ, B (ix3 h a x) = (y : EReal))
    (b : Fin 2) (r : Fin 8192) (n : Fin 512) :
    kernelAt P B b r n = Cert.AttnCRefIdeal.Read.val_main_v65 (F := Ideal) P B (ix3 b r n) := by
  rw [Ref.v65_at]
  have hS : ∀ x : Fin 576, scoreK (512 ≤ r.val / 64 * 64 + x.val)
      (fun i : Fin 64 => P (ix3 b r (⟨n.val / 64 * 64 + i.val, by omega⟩ : Fin 2560)))
      (fun i : Fin 64 => keyAt P b (r.val / 64) (by omega) x ⟨512 + (n.val / 64 * 64 + i.val), by omega⟩)
      (B (ix3 (⟨n.val / 64, by omega⟩ : Fin 8) (⟨r.val % 64, by omega⟩ : Fin 64) x)) =
      Cert.AttnCRefIdeal.Read.val_main_v51 (F := Ideal) P B
        (ix5 b (⟨r.val / 64, by omega⟩ : Fin 128) (⟨n.val / 64, by omega⟩ : Fin 8) (⟨r.val % 64, by omega⟩ : Fin 64) x) := fun x => by
    have hk : 512 ≤ r.val / 64 * 64 + x.val →
        (fun i : Fin 64 => keyAt P b (r.val / 64) (by omega) x ⟨512 + (n.val / 64 * 64 + i.val), by omega⟩) =
        fun i : Fin 64 => Cert.AttnCRefIdeal.Read.val_main_v18 (F := Ideal) P
          (ix5 b (⟨r.val / 64, by omega⟩ : Fin 128) x (⟨n.val / 64, by omega⟩ : Fin 8) i) := by
      intro hv
      funext i
      rw [Ref.v18_at P b ⟨r.val / 64, by omega⟩ x ⟨n.val / 64, by omega⟩ i hv]
      rfl
    rw [Ref.score_at P B b r ⟨n.val / 64, by omega⟩ x]
    exact scoreK_eq _ _ _ _ _ hk
  have hreal : ∀ x : Fin 576, 512 ≤ r.val / 64 * 64 + x.val → ∃ s : ℝ, scoreK (512 ≤ r.val / 64 * 64 + x.val)
      (fun i : Fin 64 => P (ix3 b r (⟨n.val / 64 * 64 + i.val, by omega⟩ : Fin 2560)))
      (fun i : Fin 64 => keyAt P b (r.val / 64) (by omega) x ⟨512 + (n.val / 64 * 64 + i.val), by omega⟩)
      (B (ix3 (⟨n.val / 64, by omega⟩ : Fin 8) (⟨r.val % 64, by omega⟩ : Fin 64) x)) = s := fun x hx => by
    rw [scoreK_eq _ _ _ _ _ fun _ => rfl]
    unfold scoreR
    rw [if_pos hx]
    exact score_real _ _ _ (fun i => hP b r ⟨n.val / 64 * 64 + i.val, by omega⟩)
      (fun i => hP b _ ⟨512 + (n.val / 64 * 64 + i.val), by omega⟩) (hB _ _ x)
  have hbot : ∀ x : Fin 576, ¬ 512 ≤ r.val / 64 * 64 + x.val → scoreK (512 ≤ r.val / 64 * 64 + x.val)
      (fun i : Fin 64 => P (ix3 b r (⟨n.val / 64 * 64 + i.val, by omega⟩ : Fin 2560)))
      (fun i : Fin 64 => keyAt P b (r.val / 64) (by omega) x ⟨512 + (n.val / 64 * 64 + i.val), by omega⟩)
      (B (ix3 (⟨n.val / 64, by omega⟩ : Fin 8) (⟨r.val % 64, by omega⟩ : Fin 64) x)) = ⊥ := fun x hx => if_neg hx
  unfold kernelAt
  refine (attnLast_eq _ _ _ (fun x => ?_) ⟨⟨512, by omega⟩, ?_⟩ fun x => ?_).trans (congrArg₂ attnFirst (funext hS) rfl)
  · by_cases hx : 512 ≤ r.val / 64 * 64 + x.val
    · obtain ⟨s, hs⟩ := hreal x hx
      exact hs ▸ EReal.coe_ne_top s
    · exact hbot x hx ▸ bot_ne_top
  · obtain ⟨s, hs⟩ := hreal ⟨512, by omega⟩ (by show 512 ≤ r.val / 64 * 64 + 512; omega)
    exact hs ▸ EReal.coe_ne_bot s
  · by_cases hx : 512 ≤ r.val / 64 * 64 + x.val
    · right
      rw [Ref.v30_at P b ⟨r.val / 64, by omega⟩ x ⟨n.val / 64, by omega⟩ ⟨n.val % 64, by omega⟩ hx]
      have e : (⟨1024 + n.val, by omega⟩ : Fin 2560) = ⟨1024 + (n.val / 64 * 64 + n.val % 64), by omega⟩ := Fin.ext (by show 1024 + n.val = 1024 + (n.val / 64 * 64 + n.val % 64); omega)
      unfold keyAt
      rw [e]
    · exact Or.inl (hbot x hx)

end Cert.Proof.AttnC

end
-- ==== Proof.AttnCRun.lean ====
module

public import proofs.«01_k».proof.Proof.AttnCReads
public import proofs.«01_k».proof.Proof.AttnCEq

@[expose] public section

set_option maxRecDepth 16384

noncomputable section

namespace Cert.Proof.AttnC

open Idealize.ShloMosaic Idealize.ShloMosaic.TcCoe Idealize.SL.Sem
open Cert.AttnCIdeal Cert.AttnCIdeal.Gen

/-- A head's entry from what its scaled queries, its bands, its mask and its bias are. -/
theorem headAt_of (v4 : FVec Ideal S64x512 .bf16) (v24 v44 : FVec Ideal S576x512 .bf16) (v49 : IVec S64x576 1) (B : Fin 576 → EReal)
    (o : ℕ) (ho : o + 64 ≤ 512) (a d : Fin 64) (q : Fin 64 → EReal) (k : Fin 576 → Fin 64 → EReal) (v b : Fin 576 → EReal) (ok : Fin 576 → Prop) [DecidablePred ok]
    (hq : ∀ i : Fin 64, v4 (ix2 a ⟨o + i.val, by omega⟩) = q i * Ideal.ofBits .f32 0x3E000000#32)
    (hk : ∀ x, ∀ i : Fin 64, v24 (ix2 x ⟨o + i.val, by omega⟩) = k x i) (hv : ∀ x, v44 (ix2 x ⟨o + d.val, by omega⟩) = v x)
    (hok : ∀ x, v49 (ix2 a x) = if ok x then 1#1 else 0#1) (hb : ∀ x, B x = b x) :
    headAt v4 v24 v44 v49 B o ho a d = attnLast (fun x => scoreK (ok x) q (k x) (b x)) v := by
  unfold headAt
  refine congrArg₂ attnLast (funext fun x => ?_) (funext hv)
  rw [hok, mask_eq, select_if, hb]
  simp only [hq, hk]
  rfl

variable (m : (ℓ : Loc nD τ sig) → Buf (Elt Ideal) ℓ)

/-- What grid point `t` writes at query `a`, column `n`, is the kernel's result at that row of its chunk. -/
theorem after_at (c : Dev nD) (t : Fin cfg0.N) (ht : t.val < 256) (a : Fin 64) (n : Fin 512) :
    (dats m 0 c).after 20 t (ix3 0 a n) = kernelAt (m ((c : Thread nD τ).loc main_arg0)) (m ((c : Thread nD τ).loc main_arg1)) ⟨t.val / 128, by omega⟩ ⟨t.val % 128 * 64 + a.val, by omega⟩ n := by
  have e1 : (t.val % 128 * 64 + a.val) / 64 = t.val % 128 := by omega
  have e2 : (⟨(t.val % 128 * 64 + a.val) % 64, by omega⟩ : Fin 64) = a := Fin.ext (by show (t.val % 128 * 64 + a.val) % 64 = a.val; omega)
  unfold kernelAt
  simp only [e1, e2]
  rw [after0_20]
  refine (out_at _ _ _ _ _ _ _ _ _ _ _ _ _ _ _ _ _ _ _ _ _ (ix3 0 a n)).trans ?_
  refine headAt_of _ _ _ _ _ _ _ _ _ (fun i => m ((c : Thread nD τ).loc main_arg0) (ix3 (⟨t.val / 128, by omega⟩ : Fin 2) (⟨t.val % 128 * 64 + a.val, by omega⟩ : Fin 8192) (⟨n.val / 64 * 64 + i.val, by omega⟩ : Fin 2560)))
    (fun x i => keyAt (m ((c : Thread nD τ).loc main_arg0)) ⟨t.val / 128, by omega⟩ (t.val % 128) (by omega) x ⟨512 + (n.val / 64 * 64 + i.val), by omega⟩) _ _ (fun x => 512 ≤ t.val % 128 * 64 + x.val) (fun i => ?_) (fun x i => ?_) (fun x => ?_) (fun x => ?_) (fun x => ?_)
  · exact (pay2_at _ a _).trans (congrArg (· * _) (read_q m c t ht a _))
  · exact pay3_at _ _ _ _ _ _ _ _ _ (fun o r => m ((c : Thread nD τ).loc main_arg0) (ix3 (⟨t.val / 128, by omega⟩ : Fin 2)
      (⟨(t.val % 128 + o.val - 8) * 64 + r.val, by omega⟩ : Fin 8192) (⟨512 + (n.val / 64 * 64 + i.val), by omega⟩ : Fin 2560))) x _
      (fun r => read_k0 m c t ht r _) (fun r => read_k1 m c t ht r _) (fun r => read_k2 m c t ht r _) (fun r => read_k3 m c t ht r _) (fun r => read_k4 m c t ht r _) (fun r => read_k5 m c t ht r _) (fun r => read_k6 m c t ht r _) (fun r => read_k7 m c t ht r _) (fun r => read_k8 m c t ht r _)
  · refine (pay4_at _ _ _ _ _ _ _ _ _ (fun o r => m ((c : Thread nD τ).loc main_arg0) (ix3 (⟨t.val / 128, by omega⟩ : Fin 2)
      (⟨(t.val % 128 + o.val - 8) * 64 + r.val, by omega⟩ : Fin 8192) (⟨1024 + (n.val / 64 * 64 + n.val % 64), by omega⟩ : Fin 2560))) x _
      (fun r => read_v0 m c t ht r _) (fun r => read_v1 m c t ht r _) (fun r => read_v2 m c t ht r _) (fun r => read_v3 m c t ht r _) (fun r => read_v4 m c t ht r _) (fun r => read_v5 m c t ht r _) (fun r => read_v6 m c t ht r _) (fun r => read_v7 m c t ht r _) (fun r => read_v8 m c t ht r _)).trans ?_
    unfold keyAt
    exact congrArg (fun k => m ((c : Thread nD τ).loc main_arg0) (ix3 _ _ k)) (Fin.ext (by show 1024 + (n.val / 64 * 64 + n.val % 64) = 1024 + n.val; omega))
  · exact (congrArg (fun w => k0_pay5 (BitVec.ofNat 32 w) (ix2 a x)) (coord t)).trans (pay5_at (t.val % 128) (by omega) a x)
  · exact read_b m c t _ a x

/-- Every block of the result is written. -/
theorem covers : (cfg0.win 20).Covers := by
  decide +kernel

/-- The result array after the whole grid is the reference's value at the arguments. -/
theorem out_eq (c : Dev nD)
    (hP : ∀ (b : Fin 2) (r : Fin 8192) (n : Fin 1024), ∃ x : ℝ, m ((c : Thread nD τ).loc main_arg0) (ix3 b r (⟨n.val, by omega⟩ : Fin 2560)) = (x : EReal))
    (hB : ∀ (h : Fin 8) (a : Fin 64) (x : Fin 576), ∃ y : ℝ, m ((c : Thread nD τ).loc main_arg1) (ix3 h a x) = (y : EReal)) :
    (dats m 0 c).arrAt 20 cfg0.N = Cert.AttnCRefIdeal.Read.val_main_v65 (F := Ideal)
      (m ((c : Thread nD τ).loc main_arg0)) (m ((c : Thread nD τ).loc main_arg1)) := by
  refine (dats m 0 c).arrAt_eq_of_covers 20 _ covers fun t hf y => ?_
  have ht : t.val < 256 := t.isLt
  obtain ⟨a, n, rfl⟩ : ∃ (a : Fin 64) (n : Fin 512), y = ix3 0 a n := ⟨y 1, y 2, by rw [eq_ix3 y]; congr 1; exact Subsingleton.elim _ _⟩
  have h : win0_20.index t = ![t.val / 128, t.val % 128, 0] := (idx t).2.2.2.2.2.2.2.2.2.2.2.2.2.2.2.2.2.2.2.2
  have he : ((View.whole main_v0).slice (win0_20.rect t)).emb (ix3 0 a n) = ix3 (⟨t.val / 128, by omega⟩ : Fin 2) (⟨t.val % 128 * 64 + a.val, by omega⟩ : Fin 8192) n := by
    blk_ext [h]
  blk_simp
  rw [after_at m c t ht a n, kernelAt_eq _ _ hP hB]
  exact congrArg _ he.symm

end Cert.Proof.AttnC

end
-- ==== Proof.AttnABlock.lean ====
module

public import Idealize.ShloMosaic.Lib.Pipeline.ValueKit
public import Idealize.ShloMosaic.Lib.Pointwise
public import proofs.«01_k».proof.Proof.Gen.AttnAIdeal.Value
public import proofs.«01_k».proof.Proof.AttnRow

@[expose] public section

set_option maxRecDepth 16384

noncomputable section

namespace Cert.Proof.AttnA

open Idealize.ShloMosaic Idealize.ShloMosaic.TcCoe Idealize.SL.Sem
open Cert.AttnAIdeal Cert.AttnAIdeal.Gen

/-- The mask's named constant is −∞. -/
theorem mask_eq : (Named.named (F := Ideal) κ "mask" (φ := .f32) 4048155338#32 : EReal) = ⊥ := by
  rfl

/-- What the block computes at query `a`, column `d` of a head: the softmax-weighted sum over the band of keys, the head's sink `z` among the weights
    that are summed. The head's queries start at column `o`, its keys and values at column `u`. -/
def headAt (v4 : FVec Ideal S64x512 .bf16) (v12 v20 : FVec Ideal S192x128 .bf16) (v25 : IVec S64x192 1) (B : Fin 192 → EReal) (z : EReal)
    (o u : ℕ) (ho : o + 64 ≤ 512) (hu : u + 64 ≤ 128) (a d : Fin 64) : EReal :=
  sinkLast (fun x => Scalar.select (v25 (ix2 a x)) ((∑ i : Fin 64, v4 (ix2 a ⟨o + i.val, by omega⟩) * v12 (ix2 x ⟨u + i.val, by omega⟩)) + B x)
      (Named.named (F := Ideal) κ "mask" (φ := .f32) 4048155338#32))
    (fun x => v20 (ix2 x ⟨u + d.val, by omega⟩)) z

section Heads

variable (v4 : FVec Ideal S64x512 .bf16) (v12 v20 : FVec Ideal S192x128 .bf16) (v25 : IVec S64x192 1) (B : Vec Ideal S1x64x192 .f32) (z : Vec Ideal S1x1 .f32) (a d : Fin 64)

/-- The store of head 0, from the blocks of queries and keys themselves. -/
theorem head0 (x0 : Vec Ideal S1x64x512 .f32) (x1 x2 x3 : Vec Ideal S1x64x128 .f32) :
    k0_pay8 v20 v25 (k0_pay7 x0 x1 x2 x3) B z (ix3 0 a d) =
      headAt (k0_pay3 x0) (k0_pay4 x1 x2 x3) v20 v25 (fun x => B (ix3 0 a x)) (z (ix2 0 0)) 0 0 (by decide) (by decide) a d := by
  unfold k0_pay7
  generalize k0_pay3 x0 = v4
  generalize k0_pay4 x1 x2 x3 = v12
  pointwise [k0_pay8]
  simp only [headAt, sinkLast, rowMax, Nat.zero_add]

/-- The store of head 1. -/
theorem head1 : k0_pay13 v20 (k0_pay9 v4 v12 v25 B) (k0_pay10 z) (k0_pay11 v4 v12 v25 B z) (k0_pay12 v4 v12 v25 B z) (ix3 0 a d) =
    headAt v4 v12 v20 v25 (fun x => B (ix3 0 a x)) (z (ix2 0 0)) 64 0 (by decide) (by decide) a d := by
  pointwise [k0_pay13, k0_pay12, k0_pay11, k0_pay10, k0_pay9]
  simp only [headAt, sinkLast, rowMax, Nat.zero_add]

/-- The store of head 2. -/
theorem head2 : k0_pay15 (k0_pay14 v4 v12 v20 v25 B z) (ix3 0 a d) =
    headAt v4 v12 v20 v25 (fun x => B (ix3 0 a x)) (z (ix2 0 0)) 128 0 (by decide) (by decide) a d := by
  pointwise [k0_pay15, k0_pay14]
  simp only [headAt, sinkLast, rowMax, Nat.zero_add]

/-- The store of head 3. -/
theorem head3 : k0_pay16 v4 v12 v20 v25 B z (ix3 0 a d) =
    headAt v4 v12 v20 v25 (fun x => B (ix3 0 a x)) (z (ix2 0 0)) 192 0 (by decide) (by decide) a d := by
  pointwise [k0_pay16]
  simp only [headAt, sinkLast, rowMax, Nat.zero_add]

/-- The store of head 4. -/
theorem head4 : k0_pay18 v20 v25 (k0_pay17 v4 v12) B z (ix3 0 a d) =
    headAt v4 v12 v20 v25 (fun x => B (ix3 0 a x)) (z (ix2 0 0)) 256 64 (by decide) (by decide) a d := by
  pointwise [k0_pay18, k0_pay17]
  simp only [headAt, sinkLast, rowMax, Nat.zero_add]

/-- The store of head 5. -/
theorem head5 : k0_pay23 v20 (k0_pay19 v4 v12 v25 B) (k0_pay20 z) (k0_pay21 v4 v12 v25 B z) (k0_pay22 v4 v12 v25 B z) (ix3 0 a d) =
    headAt v4 v12 v20 v25 (fun x => B (ix3 0 a x)) (z (ix2 0 0)) 320 64 (by decide) (by decide) a d := by
  pointwise [k0_pay23, k0_pay22, k0_pay21, k0_pay20, k0_pay19]
  simp only [headAt, sinkLast, rowMax, Nat.zero_add]

/-- The store of head 6. -/
theorem head6 : k0_pay1 (k0_pay24 v4 v12 v20 v25 B z) (ix3 0 a d) =
    headAt v4 v12 v20 v25 (fun x => B (ix3 0 a x)) (z (ix2 0 0)) 384 64 (by decide) (by decide) a d := by
  pointwise [k0_pay1, k0_pay24]
  simp only [headAt, sinkLast, rowMax, Nat.zero_add]

/-- The store of head 7. -/
theorem head7 : k0_pay2 v4 v12 v20 v25 B z (ix3 0 a d) =
    headAt v4 v12 v20 v25 (fun x => B (ix3 0 a x)) (z (ix2 0 0)) 448 64 (by decide) (by decide) a d := by
  pointwise [k0_pay2]
  simp only [headAt, sinkLast, rowMax, Nat.zero_add]

end Heads

/-- One block's result at query `a`, column `n` of the 512. -/
def blockAt (v4 : FVec Ideal S64x512 .bf16) (v12 v20 : FVec Ideal S192x128 .bf16) (v25 : IVec S64x192 1) (B : Vec Ideal S8x64x192 .f32) (Z : Vec Ideal S8x1 .f32)
    (a : Fin 64) (n : Fin 512) : EReal :=
  headAt v4 v12 v20 v25 (fun x => B (ix3 (⟨n.val / 64, by omega⟩ : Fin 8) a x)) (Z (ix2 (⟨n.val / 64, by omega⟩ : Fin 8) 0))
    (n.val / 64 * 64) (n.val / 256 * 64) (by omega) (by omega) a ⟨n.val % 64, by omega⟩

/-- A head's entry named by its column among the 512. -/
theorem headAt_eq (v4 : FVec Ideal S64x512 .bf16) (v12 v20 : FVec Ideal S192x128 .bf16) (v25 : IVec S64x192 1) (B : Vec Ideal S8x64x192 .f32) (Z : Vec Ideal S8x1 .f32)
    (b : Fin 192 → EReal) (z : EReal) (h : Fin 8) (o u : ℕ) (ho : o + 64 ≤ 512) (hu : u + 64 ≤ 128) (a a' d : Fin 64) (n : Fin 512) (h1 : o = 64 * h.val)
    (h3 : u = 64 * (h.val / 4)) (h2 : n.val = o + d.val) (ha : a' = a) (hb : ∀ x, b x = B (ix3 h a x)) (hz : z = Z (ix2 h 0)) :
    headAt v4 v12 v20 v25 b z o u ho hu a d = blockAt v4 v12 v20 v25 B Z a' n := by
  subst ha
  subst hz
  obtain rfl : b = fun x => B (ix3 h a' x) := funext hb
  have key : ∀ (h' : Fin 8) (o' u' : ℕ) (ho' : o' + 64 ≤ 512) (hu' : u' + 64 ≤ 128) (d' : Fin 64), h = h' → o = o' → u = u' → d = d' →
      headAt v4 v12 v20 v25 (fun x => B (ix3 h a' x)) (Z (ix2 h 0)) o u ho hu a' d =
        headAt v4 v12 v20 v25 (fun x => B (ix3 h' a' x)) (Z (ix2 h' 0)) o' u' ho' hu' a' d' := by
    rintro h' o' u' ho' hu' d' rfl rfl rfl rfl
    rfl
  exact key _ _ _ _ _ _ (Fin.ext (by show h.val = n.val / 64; omega)) (by omega) (by omega) (Fin.ext (by show d.val = n.val % 64; omega))

/-- The block that a grid point leaves in the output window, at query `a`, column `n`. -/
theorem out_at (i : grid0.Coords) (x0 : Vec Ideal S1x64x512 .f32) (x1 x2 x3 x4 x5 x6 : Vec Ideal S1x64x128 .f32)
    (x7 : Vec Ideal S8x64x192 .f32) (x8 : Vec Ideal S8x1 .f32) (y : S1x64x512.Idx) :
    out0_9 i x0 x1 x2 x3 x4 x5 x6 x7 x8 y =
      blockAt (k0_pay25 i x0 x1 x2 x3 x4 x5 x6 x7 x8) (k0_pay26 i x0 x1 x2 x3 x4 x5 x6 x7 x8) (k0_pay27 i x0 x1 x2 x3 x4 x5 x6 x7 x8)
        (k0_pay28 i x0 x1 x2 x3 x4 x5 x6 x7 x8) x7 x8 (y 1) (y 2) := by
  unfold out0_9
  canon_tiles x h
  all_goals
    obtain ⟨a, d, rfl⟩ : ∃ (a d : Fin 64), x = ix3 0 a d := ⟨x 1, x 2, by rw [eq_ix3 x]; congr 1; exact Subsingleton.elim _ _⟩
  · refine (head7 _ _ _ _ _ _ a d).trans (headAt_eq _ _ _ _ _ _ _ _ 7 _ _ _ _ _ _ _ _ rfl rfl h2 (Fin.ext h1) (fun k => ?_) ?_)
    · show x7 _ = _
      blk_ext
      all_goals simp
    · show x8 _ = _
      blk_ext
      all_goals simp
  · refine (head6 _ _ _ _ _ _ a d).trans (headAt_eq _ _ _ _ _ _ _ _ 6 _ _ _ _ _ _ _ _ rfl rfl h2 (Fin.ext h1) (fun k => ?_) ?_)
    · show x7 _ = _
      blk_ext
      all_goals simp
    · show x8 _ = _
      blk_ext
      all_goals simp
  · refine (head5 _ _ _ _ _ _ a d).trans (headAt_eq _ _ _ _ _ _ _ _ 5 _ _ _ _ _ _ _ _ rfl rfl h2 (Fin.ext h1) (fun k => ?_) ?_)
    · show x7 _ = _
      blk_ext
      all_goals simp
    · show x8 _ = _
      blk_ext
      all_goals simp
  · refine (head4 _ _ _ _ _ _ a d).trans (headAt_eq _ _ _ _ _ _ _ _ 4 _ _ _ _ _ _ _ _ rfl rfl h2 (Fin.ext h1) (fun k => ?_) ?_)
    · show x7 _ = _
      blk_ext
      all_goals simp
    · show x8 _ = _
      blk_ext
      all_goals simp
  · refine (head3 _ _ _ _ _ _ a d).trans (headAt_eq _ _ _ _ _ _ _ _ 3 _ _ _ _ _ _ _ _ rfl rfl h2 (Fin.ext h1) (fun k => ?_) ?_)
    · show x7 _ = _
      blk_ext
      all_goals simp
    · show x8 _ = _
      blk_ext
      all_goals simp
  · refine (head2 _ _ _ _ _ _ a d).trans (headAt_eq _ _ _ _ _ _ _ _ 2 _ _ _ _ _ _ _ _ rfl rfl h2 (Fin.ext h1) (fun k => ?_) ?_)
    · show x7 _ = _
      blk_ext
      all_goals simp
    · show x8 _ = _
      blk_ext
      all_goals simp
  · refine (head1 _ _ _ _ _ _ a d).trans (headAt_eq _ _ _ _ _ _ _ _ 1 _ _ _ _ _ _ _ _ rfl rfl h2 (Fin.ext h1) (fun k => ?_) ?_)
    · show x7 _ = _
      blk_ext
      all_goals simp
    · show x8 _ = _
      blk_ext
      all_goals simp
  · refine (head0 _ _ _ _ a d _ _ _ _).trans (headAt_eq _ _ _ _ _ _ _ _ 0 _ _ _ _ _ _ _ _ rfl rfl (h2.trans (Nat.zero_add _).symm) (Fin.ext h1) (fun k => ?_) ?_)
    · show x7 _ = _
      blk_ext
      all_goals simp
    · show x8 _ = _
      blk_ext
      all_goals simp

end Cert.Proof.AttnA

end
-- ==== Proof.AttnAReads.lean ====
module

public import proofs.«01_k».proof.Proof.AttnABlock

@[expose] public section

set_option maxRecDepth 16384

noncomputable section

namespace Cert.Proof.AttnA

open Idealize.ShloMosaic Idealize.ShloMosaic.TcCoe Idealize.SL.Sem
open Cert.AttnAIdeal Cert.AttnAIdeal.Gen

/-- The scaled queries of a block. -/
theorem pay3_at (x : Vec Ideal S1x64x512 .f32) (a : Fin 64) (n : Fin 512) :
    k0_pay3 x (ix2 a n) = x (ix3 0 a n) * Ideal.ofBits .f32 0x3E000000#32 := by
  pointwise [k0_pay3]

/-- The band that `k0_pay4` lays together: key `x` is row `x % 64` of the band's chunk `x / 64`. -/
theorem pay4_at (x0 x1 x2 : Vec Ideal S1x64x128 .f32) (K : Fin 3 → Fin 64 → EReal) (x : Fin 192) (n : Fin 128)
    (h0 : ∀ r, x0 (ix3 0 r n) = K 0 r) (h1 : ∀ r, x1 (ix3 0 r n) = K 1 r) (h2 : ∀ r, x2 (ix3 0 r n) = K 2 r) :
    k0_pay4 x0 x1 x2 (ix2 x n) = K ⟨x.val / 64, by omega⟩ ⟨x.val % 64, by omega⟩ := by
  pointwise [k0_pay4]
  by_cases e0 : x.val < 64
  · rw [dif_pos e0]
    exact (h0 _).trans (congrArg₂ K (Fin.ext (by simp only [Fin.isValue]; omega)) (Fin.ext (by simp only [Fin.isValue]; omega)))
  rw [dif_neg e0]
  by_cases e1 : x.val - 64 < 64
  · rw [dif_pos e1]
    exact (h1 _).trans (congrArg₂ K (Fin.ext (by simp only [Fin.isValue]; omega)) (Fin.ext (by simp only [Fin.isValue]; omega)))
  rw [dif_neg e1]
  exact (h2 _).trans (congrArg₂ K (Fin.ext (by simp only [Fin.isValue]; omega)) (Fin.ext (by simp only [Fin.isValue]; omega)))

/-- The band that `k0_pay5` lays together: key `x` is row `x % 64` of the band's chunk `x / 64`. -/
theorem pay5_at (x0 x1 x2 : Vec Ideal S1x64x128 .f32) (K : Fin 3 → Fin 64 → EReal) (x : Fin 192) (n : Fin 128)
    (h0 : ∀ r, x0 (ix3 0 r n) = K 0 r) (h1 : ∀ r, x1 (ix3 0 r n) = K 1 r) (h2 : ∀ r, x2 (ix3 0 r n) = K 2 r) :
    k0_pay5 x0 x1 x2 (ix2 x n) = K ⟨x.val / 64, by omega⟩ ⟨x.val % 64, by omega⟩ := by
  pointwise [k0_pay5]
  by_cases e0 : x.val < 64
  · rw [dif_pos e0]
    exact (h0 _).trans (congrArg₂ K (Fin.ext (by simp only [Fin.isValue]; omega)) (Fin.ext (by simp only [Fin.isValue]; omega)))
  rw [dif_neg e0]
  by_cases e1 : x.val - 64 < 64
  · rw [dif_pos e1]
    exact (h1 _).trans (congrArg₂ K (Fin.ext (by simp only [Fin.isValue]; omega)) (Fin.ext (by simp only [Fin.isValue]; omega)))
  rw [dif_neg e1]
  exact (h2 _).trans (congrArg₂ K (Fin.ext (by simp only [Fin.isValue]; omega)) (Fin.ext (by simp only [Fin.isValue]; omega)))

/-- The mask of chunk `c`: key `x` of the band counts when the band's row lies in the sequence. -/
theorem pay6_at (i : grid0.Coords) (c : ℕ) (hc : c < 128) (hi : (i 1).val = c) (a : Fin 64) (x : Fin 192) :
    k0_pay6 i (ix2 a x) = if 128 ≤ c * 64 + x.val then 1#1 else 0#1 := by
  pointwise [k0_pay6]
  rw [hi]
  obtain ⟨x, hx⟩ := x
  simp only [IntOp.cmpi, Scalar.muli, Scalar.subi, IntOp.muli, IntOp.subi, BitVec.sle_eq_decide]
  have hx' : (BitVec.ofNat 32 x).toInt = x := by
    rw [BitVec.toInt_eq_toNat_bmod, BitVec.toNat_ofNat, Nat.mod_eq_of_lt (by omega)]
    exact Int.bmod_eq_of_le (by omega) (by omega)
  have hc' : (BitVec.ofNat 32 c).toInt = c := by
    rw [BitVec.toInt_eq_toNat_bmod, BitVec.toNat_ofNat, Nat.mod_eq_of_lt (by omega)]
    exact Int.bmod_eq_of_le (by omega) (by omega)
  have hs : ((2#32 - BitVec.ofNat 32 c) * 64#32).toInt = (2 - (c : ℤ)) * 64 := by
    rw [BitVec.toInt_mul, BitVec.toInt_sub, hc']
    show (Int.bmod (Int.bmod (2 - (c : ℤ)) (2 ^ 32) * 64) (2 ^ 32)) = _
    rw [Int.bmod_eq_of_le (n := 2 - (c : ℤ)) (by omega) (by omega), Int.bmod_eq_of_le (by omega) (by omega)]
  rw [hs, hx']
  by_cases h : 128 ≤ c * 64 + x
  · rw [if_pos h, decide_eq_true (by omega)]
    rfl
  · rw [if_neg h, decide_eq_false (by omega)]
    rfl

/-- A choice by such a mask bit. -/
theorem select_if (p : Prop) [Decidable p] (s z : EReal) : Scalar.select (if p then 1#1 else 0#1) s z = if p then s else z := by
  split_ifs <;> rfl

/-- Where the windows lie at grid point `t`, of batch `t / 128` and chunk `t % 128`: the queries and the result at the chunk, the three key and value
    windows at the chunks from two before it (the first chunk where there is none), the bias and the sinks whole. -/
theorem idx : ∀ t : Fin grid0.N, win0_0.index t = ![t.val / 128, t.val % 128, 0] ∧ win0_1.index t = ![t.val / 128, t.val % 128 + 0 - 2, 16] ∧ win0_2.index t = ![t.val / 128, t.val % 128 + 1 - 2, 16] ∧ win0_3.index t = ![t.val / 128, t.val % 128 + 2 - 2, 16] ∧ win0_4.index t = ![t.val / 128, t.val % 128 + 0 - 2, 17] ∧ win0_5.index t = ![t.val / 128, t.val % 128 + 1 - 2, 17] ∧ win0_6.index t = ![t.val / 128, t.val % 128 + 2 - 2, 17] ∧ win0_7.index t = ![0, 0, 0] ∧ win0_8.index t = ![0, 0] ∧ win0_9.index t = ![t.val / 128, t.val % 128, 0] := by
  decide +kernel

/-- The second grid coordinate of a point. -/
theorem coord : ∀ t : Fin grid0.N, (grid0.coords t 1).val = t.val % 128 := by
  decide +kernel

section Reads

variable (m : (ℓ : Loc nD τ sig) → Buf (Elt Ideal) ℓ) (c : Dev nD) (t : Fin cfg0.grid.N) (ht : t.val < 256)

/-- The block of queries. -/
theorem read_q (a : Fin 64) (n : Fin 512) : View.ld (iblk m c 0 t) r0_0 (ix3 0 a n) =
    m ((c : Thread nD τ).loc main_arg0) (ix3 (⟨t.val / 128, by omega⟩ : Fin 2) (⟨t.val % 128 * 64 + a.val, by omega⟩ : Fin 8192) (⟨n.val, by omega⟩ : Fin 2560)) := by
  have e : View.ld (iblk m c 0 t) r0_0 (ix3 0 a n) = iblk m c 0 t (ix3 0 a n) := by
    show iblk m c 0 t _ = _
    blk_ext
    all_goals simp
  rw [e]
  have h := (idx t).1
  blk_ext! [iblk, V, h]

/-- Block 0 of the keys. -/
theorem read_k0 (a : Fin 64) (n : Fin 128) : View.ld (iblk m c 1 t) r0_1 (ix3 0 a n) =
    m ((c : Thread nD τ).loc main_arg0) (ix3 (⟨t.val / 128, by omega⟩ : Fin 2) (⟨(t.val % 128 + 0 - 2) * 64 + a.val, by omega⟩ : Fin 8192) (⟨2048 + n.val, by omega⟩ : Fin 2560)) := by
  have e : View.ld (iblk m c 1 t) r0_1 (ix3 0 a n) = iblk m c 1 t (ix3 0 a n) := by
    show iblk m c 1 t _ = _
    blk_ext
    all_goals simp
  rw [e]
  obtain ⟨-, h, -⟩ := idx t
  blk_ext! [iblk, V, h]

/-- Block 1 of the keys. -/
theorem read_k1 (a : Fin 64) (n : Fin 128) : View.ld (iblk m c 2 t) r0_1 (ix3 0 a n) =
    m ((c : Thread nD τ).loc main_arg0) (ix3 (⟨t.val / 128, by omega⟩ : Fin 2) (⟨(t.val % 128 + 1 - 2) * 64 + a.val, by omega⟩ : Fin 8192) (⟨2048 + n.val, by omega⟩ : Fin 2560)) := by
  have e : View.ld (iblk m c 2 t) r0_1 (ix3 0 a n) = iblk m c 2 t (ix3 0 a n) := by
    show iblk m c 2 t _ = _
    blk_ext
    all_goals simp
  rw [e]
  obtain ⟨-, -, h, -⟩ := idx t
  blk_ext! [iblk, V, h]

/-- Block 2 of the keys. -/
theorem read_k2 (a : Fin 64) (n : Fin 128) : View.ld (iblk m c 3 t) r0_1 (ix3 0 a n) =
    m ((c : Thread nD τ).loc main_arg0) (ix3 (⟨t.val / 128, by omega⟩ : Fin 2) (⟨(t.val % 128 + 2 - 2) * 64 + a.val, by omega⟩ : Fin 8192) (⟨2048 + n.val, by omega⟩ : Fin 2560)) := by
  have e : View.ld (iblk m c 3 t) r0_1 (ix3 0 a n) = iblk m c 3 t (ix3 0 a n) := by
    show iblk m c 3 t _ = _
    blk_ext
    all_goals simp
  rw [e]
  obtain ⟨-, -, -, h, -⟩ := idx t
  blk_ext! [iblk, V, h]

/-- Block 0 of the values. -/
theorem read_v0 (a : Fin 64) (n : Fin 128) : View.ld (iblk m c 4 t) r0_1 (ix3 0 a n) =
    m ((c : Thread nD τ).loc main_arg0) (ix3 (⟨t.val / 128, by omega⟩ : Fin 2) (⟨(t.val % 128 + 0 - 2) * 64 + a.val, by omega⟩ : Fin 8192) (⟨2176 + n.val, by omega⟩ : Fin 2560)) := by
  have e : View.ld (iblk m c 4 t) r0_1 (ix3 0 a n) = iblk m c 4 t (ix3 0 a n) := by
    show iblk m c 4 t _ = _
    blk_ext
    all_goals simp
  rw [e]
  obtain ⟨-, -, -, -, h, -⟩ := idx t
  blk_ext! [iblk, V, h]

/-- Block 1 of the values. -/
theorem read_v1 (a : Fin 64) (n : Fin 128) : View.ld (iblk m c 5 t) r0_1 (ix3 0 a n) =
    m ((c : Thread nD τ).loc main_arg0) (ix3 (⟨t.val / 128, by omega⟩ : Fin 2) (⟨(t.val % 128 + 1 - 2) * 64 + a.val, by omega⟩ : Fin 8192) (⟨2176 + n.val, by omega⟩ : Fin 2560)) := by
  have e : View.ld (iblk m c 5 t) r0_1 (ix3 0 a n) = iblk m c 5 t (ix3 0 a n) := by
    show iblk m c 5 t _ = _
    blk_ext
    all_goals simp
  rw [e]
  obtain ⟨-, -, -, -, -, h, -⟩ := idx t
  blk_ext! [iblk, V, h]

/-- Block 2 of the values. -/
theorem read_v2 (a : Fin 64) (n : Fin 128) : View.ld (iblk m c 6 t) r0_1 (ix3 0 a n) =
    m ((c : Thread nD τ).loc main_arg0) (ix3 (⟨t.val / 128, by omega⟩ : Fin 2) (⟨(t.val % 128 + 2 - 2) * 64 + a.val, by omega⟩ : Fin 8192) (⟨2176 + n.val, by omega⟩ : Fin 2560)) := by
  have e : View.ld (iblk m c 6 t) r0_1 (ix3 0 a n) = iblk m c 6 t (ix3 0 a n) := by
    show iblk m c 6 t _ = _
    blk_ext
    all_goals simp
  rw [e]
  obtain ⟨-, -, -, -, -, -, h, -⟩ := idx t
  blk_ext! [iblk, V, h]

/-- The bias. -/
theorem read_b (h : Fin 8) (a : Fin 64) (x : Fin 192) : iblk m c 7 t (ix3 h a x) = m ((c : Thread nD τ).loc main_arg1) (ix3 h a x) := by
  obtain ⟨-, -, -, -, -, -, -, h, -⟩ := idx t
  blk_ext! [iblk, V, h]

/-- The sinks. -/
theorem read_s (h : Fin 8) : iblk m c 8 t (ix2 h 0) = m ((c : Thread nD τ).loc main_arg2) (ix1 h) := by
  obtain ⟨-, -, -, -, -, -, -, -, h, -⟩ := idx t
  blk_ext! [iblk, V, h]

end Reads

end Cert.Proof.AttnA

end
-- ==== Proof.AttnARef.lean ====
module

public import Idealize.ShloMosaic.Lib.Pipeline.ValueKit
public import Idealize.ShloMosaic.Lib.Pointwise
public import proofs.«01_k».proof.Proof.Gen.AttnARefIdeal.Read
public import proofs.«01_k».proof.Proof.AttnRow

@[expose] public section

set_option maxRecDepth 16384

noncomputable section

namespace Cert.Proof.AttnA.Ref

open Idealize.ShloMosaic Idealize.ShloMosaic.TcCoe Idealize.SL.Sem
open Cert.AttnARefIdeal Cert.AttnARefIdeal.Read

variable (x0 : (⟨S2x8192x2560, .f32⟩ : BufTy).Contents (Elt Ideal)) (x1 : (⟨S8x64x192, .f32⟩ : BufTy).Contents (Elt Ideal)) (x2 : (⟨S8, .f32⟩ : BufTy).Contents (Elt Ideal))

/-- The keys by head: head `h` reads head `h / 4` of the two. -/
theorem v4_at (b : Fin 2) (r : Fin 8192) (h : Fin 8) (i : Fin 64) :
    val_main_v4 (F := Ideal) x0 (ix4 b r h i) = x0 (ix3 b r (⟨2048 + (h.val / 4 * 64 + i.val), by omega⟩ : Fin 2560)) := by
  pointwise [val_main_v4, val_main_v3, val_main_v2, val_main_v1]

/-- The padded keys: row `a` of chunk `o` of the padded array is a row of the sequence from the second chunk on. -/
theorem v11_at (b : Fin 2) (o : Fin 130) (a : Fin 64) (h : Fin 8) (i : Fin 64) (r : Fin 8192) (hv : 128 ≤ o.val * 64 + a.val)
    (hr : r.val = o.val * 64 + a.val - 128) :
    val_main_v11 (F := Ideal) x0 (ix5 b o a h i) = x0 (ix3 b r (⟨2048 + (h.val / 4 * 64 + i.val), by omega⟩ : Fin 2560)) := by
  refine Eq.trans ?_ (v4_at x0 b r h i)
  unfold val_main_v11 val_main_v10
  generalize val_main_v4 (F := Ideal) x0 = y
  pointwise
  rw [dif_pos ⟨hv, by omega⟩]
  exact congrArg (fun k => y (ix4 b k _ _)) (Fin.ext hr.symm)

/-- The reference's band of keys: key `x` of chunk `c`, where the band's row lies in the sequence, is that row. -/
theorem v15_at (b : Fin 2) (c : Fin 128) (x : Fin 192) (h : Fin 8) (i : Fin 64) (hv : 128 ≤ c.val * 64 + x.val) :
    val_main_v15 (F := Ideal) x0 (ix5 b c x h i) =
      x0 (ix3 b (⟨(c.val + x.val / 64 - 2) * 64 + x.val % 64, by omega⟩ : Fin 8192) (⟨2048 + (h.val / 4 * 64 + i.val), by omega⟩ : Fin 2560)) := by
  pointwise [val_main_v15, val_main_v12, val_main_v13, val_main_v14]
  split_ifs <;> exact v11_at x0 b _ _ h i _ (by simp only [Fin.isValue]; omega) (by simp only [Fin.isValue]; omega)

/-- The values by head: head `h` reads head `h / 4` of the two. -/
theorem v8_at (b : Fin 2) (r : Fin 8192) (h : Fin 8) (i : Fin 64) :
    val_main_v8 (F := Ideal) x0 (ix4 b r h i) = x0 (ix3 b r (⟨2176 + (h.val / 4 * 64 + i.val), by omega⟩ : Fin 2560)) := by
  pointwise [val_main_v8, val_main_v7, val_main_v6, val_main_v5]

/-- The padded values: row `a` of chunk `o` of the padded array is a row of the sequence from the second chunk on. -/
theorem v17_at (b : Fin 2) (o : Fin 130) (a : Fin 64) (h : Fin 8) (i : Fin 64) (r : Fin 8192) (hv : 128 ≤ o.val * 64 + a.val)
    (hr : r.val = o.val * 64 + a.val - 128) :
    val_main_v17 (F := Ideal) x0 (ix5 b o a h i) = x0 (ix3 b r (⟨2176 + (h.val / 4 * 64 + i.val), by omega⟩ : Fin 2560)) := by
  refine Eq.trans ?_ (v8_at x0 b r h i)
  unfold val_main_v17 val_main_v16
  generalize val_main_v8 (F := Ideal) x0 = y
  pointwise
  rw [dif_pos ⟨hv, by omega⟩]
  exact congrArg (fun k => y (ix4 b k _ _)) (Fin.ext hr.symm)

/-- The reference's band of values: key `x` of chunk `c`, where the band's row lies in the sequence, is that row. -/
theorem v21_at (b : Fin 2) (c : Fin 128) (x : Fin 192) (h : Fin 8) (i : Fin 64) (hv : 128 ≤ c.val * 64 + x.val) :
    val_main_v21 (F := Ideal) x0 (ix5 b c x h i) =
      x0 (ix3 b (⟨(c.val + x.val / 64 - 2) * 64 + x.val % 64, by omega⟩ : Fin 8192) (⟨2176 + (h.val / 4 * 64 + i.val), by omega⟩ : Fin 2560)) := by
  pointwise [val_main_v21, val_main_v18, val_main_v19, val_main_v20]
  split_ifs <;> exact v17_at x0 b _ _ h i _ (by simp only [Fin.isValue]; omega) (by simp only [Fin.isValue]; omega)

/-- The reference's mask. -/
theorem v34_at (c : Fin 128) (x : Fin 192) : val_main_v34 (F := Ideal) (ix2 c x) = if 128 ≤ c.val * 64 + x.val then 1#1 else 0#1 := by
  pointwise [val_main_v34, val_main_v32, val_main_v30, val_main_v31, val_main_v27, val_main_v29, val_main_v28, val_main_v26, val_main_v25, val_main_v24,
    val_main_v23, val_main_v22, val_main_c_1, val_main_c_2, val_main_c_3]
  obtain ⟨x, hx⟩ := x
  obtain ⟨c, hc⟩ := c
  simp only [IntOp.cmpi, IntOp.muli, IntOp.subi, IntOp.addi, BitVec.sle_eq_decide]
  have hx' : (BitVec.ofNat 32 x).toInt = x := by
    rw [BitVec.toInt_eq_toNat_bmod, BitVec.toNat_ofNat, Nat.mod_eq_of_lt (by omega)]
    exact Int.bmod_eq_of_le (by omega) (by omega)
  have hc' : (BitVec.ofNat 32 c).toInt = c := by
    rw [BitVec.toInt_eq_toNat_bmod, BitVec.toNat_ofNat, Nat.mod_eq_of_lt (by omega)]
    exact Int.bmod_eq_of_le (by omega) (by omega)
  have hs : ((BitVec.ofNat 32 c - 2#32) * 64#32 + BitVec.ofNat 32 x).toInt = ((c : ℤ) - 2) * 64 + x := by
    rw [BitVec.toInt_add, BitVec.toInt_mul, BitVec.toInt_sub, hc', hx']
    show (Int.bmod (Int.bmod (Int.bmod ((c : ℤ) - 2) (2 ^ 32) * 64) (2 ^ 32) + x) (2 ^ 32)) = _
    rw [Int.bmod_eq_of_le (n := (c : ℤ) - 2) (by omega) (by omega), Int.bmod_eq_of_le (n := ((c : ℤ) - 2) * 64) (by omega) (by omega),
      Int.bmod_eq_of_le (by omega) (by omega)]
  rw [hs]
  show BitVec.ofBool (decide (0 ≤ ((c : ℤ) - 2) * 64 + x)) = _
  by_cases h : 128 ≤ c * 64 + x
  · rw [if_pos h, decide_eq_true (by omega)]
    rfl
  · rw [if_neg h, decide_eq_false (by omega)]
    rfl

/-- The scaled product plus the bias. -/
theorem v41_at (b : Fin 2) (c : Fin 128) (h : Fin 8) (a : Fin 64) (x : Fin 192) : val_main_v41 (F := Ideal) x0 x1 (ix5 b c h a x) =
    (∑ i : Fin 64, val_main_v9 (F := Ideal) x0 (ix5 b c a h i) * val_main_v15 (F := Ideal) x0 (ix5 b c x h i)) * Ideal.ofBits .f32 0x3E000000#32
      + x1 (ix3 h a x) := by
  pointwise [val_main_v41, val_main_v40, val_main_v39, val_main_v38, val_main_v37, val_main_v36, val_main_cst]

/-- The queries by chunk and head. -/
theorem v9_at (b : Fin 2) (c : Fin 128) (h : Fin 8) (a i : Fin 64) : val_main_v9 (F := Ideal) x0 (ix5 b c a h i) =
    x0 (ix3 b (⟨c.val * 64 + a.val, by omega⟩ : Fin 8192) (⟨h.val * 64 + i.val, by omega⟩ : Fin 2560)) := by
  pointwise [val_main_v9, val_main_v0]

/-- The masked scores. -/
theorem v42_at (b : Fin 2) (c : Fin 128) (h : Fin 8) (a : Fin 64) (x : Fin 192) : val_main_v42 (F := Ideal) x0 x1 (ix5 b c h a x) =
    scoreR (128 ≤ c.val * 64 + x.val) (fun i : Fin 64 => x0 (ix3 b (⟨c.val * 64 + a.val, by omega⟩ : Fin 8192) (⟨h.val * 64 + i.val, by omega⟩ : Fin 2560)))
      (fun i => val_main_v15 (F := Ideal) x0 (ix5 b c x h i)) (x1 (ix3 h a x)) := by
  have e : val_main_v42 (F := Ideal) x0 x1 (ix5 b c h a x) =
      Scalar.select (val_main_v34 (F := Ideal) (ix2 c x)) (val_main_v41 (F := Ideal) x0 x1 (ix5 b c h a x)) (Ideal.ofBits .f32 0xFF800000#32) := by
    pointwise [val_main_v42, val_main_call2_v1, val_main_call2_v2, val_main_call2_v0, val_main_v35]
    rfl
  rw [e, v34_at, v41_at, ofBits_neg_inf]
  simp only [v9_at]
  unfold scoreR
  split_ifs <;> rfl

/-- The masked scores of row `r` of the sequence. -/
theorem score_at (b : Fin 2) (r : Fin 8192) (h : Fin 8) (x : Fin 192) :
    val_main_v42 (F := Ideal) x0 x1 (ix5 b (⟨r.val / 64, by omega⟩ : Fin 128) h (⟨r.val % 64, by omega⟩ : Fin 64) x) =
    scoreR (128 ≤ r.val / 64 * 64 + x.val) (fun i : Fin 64 => x0 (ix3 b r (⟨h.val * 64 + i.val, by omega⟩ : Fin 2560)))
      (fun i => val_main_v15 (F := Ideal) x0 (ix5 b (⟨r.val / 64, by omega⟩ : Fin 128) x h i)) (x1 (ix3 h (⟨r.val % 64, by omega⟩ : Fin 64) x)) := by
  have er : (⟨r.val / 64 * 64 + r.val % 64, by omega⟩ : Fin 8192) = r := Fin.ext (by show r.val / 64 * 64 + r.val % 64 = r.val; omega)
  rw [v42_at]
  simp only [er]

/-- The row maximum, from −∞. -/
theorem v44_at (b : Fin 2) (c : Fin 128) (h : Fin 8) (a : Fin 64) : val_main_v44 (F := Ideal) x0 x1 (ix4 b c h a) =
    rowMax fun x => val_main_v42 (F := Ideal) x0 x1 (ix5 b c h a x) := by
  unfold val_main_v44
  generalize val_main_v42 (F := Ideal) x0 x1 = y
  refine (Host.reduce_eq_fold_single (α := EReal) (FloatOps.maximumf (F := Ideal) (φ := .f32)) (s := S2x128x8x64x192) (t := S2x128x8x64) y _ _ (by decide) _ _).trans ?_
  refine congrArg (fun f => Finset.univ.fold max _ f) (funext fun k => ?_)
  exact congrArg y (funext fun a => Fin.ext (by match a with | ⟨0, _⟩ => rfl | ⟨1, _⟩ => rfl | ⟨2, _⟩ => rfl | ⟨3, _⟩ => rfl | ⟨4, _⟩ => rfl))

/-- The maximum of the row and its sink. -/
theorem v48_at (b : Fin 2) (c : Fin 128) (h : Fin 8) (a : Fin 64) : val_main_v48 (F := Ideal) x0 x1 x2 (ix5 b c h a 0) =
    max (rowMax fun x => val_main_v42 (F := Ideal) x0 x1 (ix5 b c h a x)) (x2 (ix1 h)) := by
  rw [val_main_v48_apply, val_main_v45_apply, val_main_v47_apply, val_main_v46_apply, val_main_v43_apply]
  have e : idx_main_v45 (ix5 b c h a 0) = ix4 b c h a := by
    funext k
    match k with | ⟨0, _⟩ => rfl | ⟨1, _⟩ => rfl | ⟨2, _⟩ => rfl | ⟨3, _⟩ => rfl
  have e' : idx_main_v43 (idx_main_v46 (idx_main_v47 (ix5 b c h a 0))) = ix1 h := by
    funext k
    match k with | ⟨0, _⟩ => rfl
  rw [e, e', v44_at]
  rfl

/-- The weights. -/
theorem v51_at (b : Fin 2) (c : Fin 128) (h : Fin 8) (a : Fin 64) (x : Fin 192) : val_main_v51 (F := Ideal) x0 x1 x2 (ix5 b c h a x) =
    Ideal.exp (val_main_v42 (F := Ideal) x0 x1 (ix5 b c h a x) - max (rowMax fun x => val_main_v42 (F := Ideal) x0 x1 (ix5 b c h a x)) (x2 (ix1 h))) := by
  rw [val_main_v51_apply, val_main_v50_apply, val_main_v49_apply]
  have e : idx_main_v49 (ix5 b c h a x) = ix5 b c h a 0 := by
    funext k
    match k with | ⟨0, _⟩ => rfl | ⟨1, _⟩ => rfl | ⟨2, _⟩ => rfl | ⟨3, _⟩ => rfl | ⟨4, _⟩ => rfl
  rw [e, v48_at]
  rfl

/-- The weight of the sink. -/
theorem v57_at (b : Fin 2) (c : Fin 128) (h : Fin 8) (a : Fin 64) : val_main_v57 (F := Ideal) x0 x1 x2 (ix5 b c h a 0) =
    Ideal.exp (x2 (ix1 h) - max (rowMax fun x => val_main_v42 (F := Ideal) x0 x1 (ix5 b c h a x)) (x2 (ix1 h))) := by
  rw [val_main_v57_apply, val_main_v56_apply, val_main_v55_apply, val_main_v54_apply, val_main_v43_apply, v48_at]
  have e' : idx_main_v43 (idx_main_v54 (idx_main_v55 (ix5 b c h a 0))) = ix1 h := by
    funext k
    match k with | ⟨0, _⟩ => rfl
  rw [e']
  rfl

/-- The weights' sum, the sink's among them. -/
theorem v58_at (b : Fin 2) (c : Fin 128) (h : Fin 8) (a : Fin 64) : val_main_v58 (F := Ideal) x0 x1 x2 (ix5 b c h a 0) =
    (0 + ∑ y : Fin 192, val_main_v51 (F := Ideal) x0 x1 x2 (ix5 b c h a y)) + val_main_v57 (F := Ideal) x0 x1 x2 (ix5 b c h a 0) := by
  unfold val_main_v58 val_main_v53 val_main_v52
  generalize val_main_v57 (F := Ideal) x0 x1 x2 = z
  generalize val_main_v51 (F := Ideal) x0 x1 x2 = y
  pointwise [val_main_cst_6]

/-- The divided weights. -/
theorem v60_at (b : Fin 2) (c : Fin 128) (h : Fin 8) (a : Fin 64) (x : Fin 192) : val_main_v60 (F := Ideal) x0 x1 x2 (ix5 b c h a x) =
    Ideal.div (val_main_v51 (F := Ideal) x0 x1 x2 (ix5 b c h a x)) (val_main_v58 (F := Ideal) x0 x1 x2 (ix5 b c h a 0)) := by
  unfold val_main_v60 val_main_v59
  generalize val_main_v58 (F := Ideal) x0 x1 x2 = z
  generalize val_main_v51 (F := Ideal) x0 x1 x2 = y
  pointwise

/-- The reference's result at batch `b`, row `r`, column `n`. -/
theorem v63_at (b : Fin 2) (r : Fin 8192) (n : Fin 512) : val_main_v63 (F := Ideal) x0 x1 x2 (ix3 b r n) =
    sinkFirst (fun x => val_main_v42 (F := Ideal) x0 x1 (ix5 b (⟨r.val / 64, by omega⟩ : Fin 128) (⟨n.val / 64, by omega⟩ : Fin 8) (⟨r.val % 64, by omega⟩ : Fin 64) x))
      (fun x : Fin 192 => val_main_v21 (F := Ideal) x0 (ix5 b (⟨r.val / 64, by omega⟩ : Fin 128) x (⟨n.val / 64, by omega⟩ : Fin 8) (⟨n.val % 64, by omega⟩ : Fin 64)))
      (x2 (ix1 (⟨n.val / 64, by omega⟩ : Fin 8))) := by
  have e : val_main_v63 (F := Ideal) x0 x1 x2 (ix3 b r n) = ∑ x : Fin 192,
      val_main_v21 (F := Ideal) x0 (ix5 b (⟨r.val / 64, by omega⟩ : Fin 128) x (⟨n.val / 64, by omega⟩ : Fin 8) (⟨n.val % 64, by omega⟩ : Fin 64)) *
      val_main_v60 (F := Ideal) x0 x1 x2 (ix5 b (⟨r.val / 64, by omega⟩ : Fin 128) (⟨n.val / 64, by omega⟩ : Fin 8) (⟨r.val % 64, by omega⟩ : Fin 64) x) := by
    pointwise [val_main_v63, val_main_v62, val_main_v61]
  rw [e]
  simp only [v60_at, v58_at, v57_at, v51_at]
  rfl

end Cert.Proof.AttnA.Ref

end
-- ==== Proof.AttnAEq.lean ====
module

public import proofs.«01_k».proof.Proof.AttnARef
public import proofs.«01_k».proof.Proof.AttnRow

@[expose] public section

set_option maxRecDepth 16384

noncomputable section

namespace Cert.Proof.AttnA

open Idealize.ShloMosaic Idealize.ShloMosaic.TcCoe Idealize.SL.Sem
open Cert.AttnARefIdeal Cert.AttnARefIdeal.Gen

/-- The key of band position `x`, for chunk `j` of batch `b`: its row in the sequence, at a column of the projected array. -/
def keyAt (P : S2x8192x2560.Idx → EReal) (b : Fin 2) (j : ℕ) (hj : j < 128) (x : Fin 192) (n : Fin 2560) : EReal :=
  P (ix3 b (⟨(j + x.val / 64 - 2) * 64 + x.val % 64, by omega⟩ : Fin 8192) n)

/-- The kernel's result at batch `b`, row `r`, column `n`, from the arguments. -/
def kernelAt (P : S2x8192x2560.Idx → EReal) (B : S8x64x192.Idx → EReal) (Z : S8.Idx → EReal) (b : Fin 2) (r : Fin 8192) (n : Fin 512) : EReal :=
  sinkLast (fun x => scoreK (128 ≤ r.val / 64 * 64 + x.val)
      (fun i : Fin 64 => P (ix3 b r (⟨n.val / 64 * 64 + i.val, by omega⟩ : Fin 2560)))
      (fun i : Fin 64 => keyAt P b (r.val / 64) (by omega) x ⟨2048 + (n.val / 256 * 64 + i.val), by omega⟩)
      (B (ix3 (⟨n.val / 64, by omega⟩ : Fin 8) (⟨r.val % 64, by omega⟩ : Fin 64) x)))
    (fun x => keyAt P b (r.val / 64) (by omega) x ⟨2176 + (n.val / 256 * 64 + n.val % 64), by omega⟩)
    (Z (ix1 (⟨n.val / 64, by omega⟩ : Fin 8)))

/-- With finite queries, keys, bias and sinks, the kernel's result is the reference's. -/
theorem kernelAt_eq (P : S2x8192x2560.Idx → EReal) (B : S8x64x192.Idx → EReal) (Z : S8.Idx → EReal)
    (hQ : ∀ (b : Fin 2) (r : Fin 8192) (n : Fin 512), ∃ x : ℝ, P (ix3 b r (⟨n.val, by omega⟩ : Fin 2560)) = (x : EReal))
    (hK : ∀ (b : Fin 2) (r : Fin 8192) (n : Fin 128), ∃ x : ℝ, P (ix3 b r (⟨2048 + n.val, by omega⟩ : Fin 2560)) = (x : EReal))
    (hB : ∀ (h : Fin 8) (a : Fin 64) (x : Fin 192), ∃ y : ℝ, B (ix3 h a x) = (y : EReal))
    (hZ : ∀ h : Fin 8, ∃ y : ℝ, Z (ix1 h) = (y : EReal))
    (b : Fin 2) (r : Fin 8192) (n : Fin 512) :
    kernelAt P B Z b r n = Cert.AttnARefIdeal.Read.val_main_v63 (F := Ideal) P B Z (ix3 b r n) := by
  rw [Ref.v63_at]
  obtain ⟨z, hz⟩ := hZ ⟨n.val / 64, by omega⟩
  have hd : n.val / 64 / 4 = n.val / 256 := by omega
  have hS : ∀ x : Fin 192, scoreK (128 ≤ r.val / 64 * 64 + x.val)
      (fun i : Fin 64 => P (ix3 b r (⟨n.val / 64 * 64 + i.val, by omega⟩ : Fin 2560)))
      (fun i : Fin 64 => keyAt P b (r.val / 64) (by omega) x ⟨2048 + (n.val / 256 * 64 + i.val), by omega⟩)
      (B (ix3 (⟨n.val / 64, by omega⟩ : Fin 8) (⟨r.val % 64, by omega⟩ : Fin 64) x)) =
      Cert.AttnARefIdeal.Read.val_main_v42 (F := Ideal) P B
        (ix5 b (⟨r.val / 64, by omega⟩ : Fin 128) (⟨n.val / 64, by omega⟩ : Fin 8) (⟨r.val % 64, by omega⟩ : Fin 64) x) := fun x => by
    have hk : 128 ≤ r.val / 64 * 64 + x.val →
        (fun i : Fin 64 => keyAt P b (r.val / 64) (by omega) x ⟨2048 + (n.val / 256 * 64 + i.val), by omega⟩) =
        fun i : Fin 64 => Cert.AttnARefIdeal.Read.val_main_v15 (F := Ideal) P
          (ix5 b (⟨r.val / 64, by omega⟩ : Fin 128) x (⟨n.val / 64, by omega⟩ : Fin 8) i) := by
      intro hv
      funext i
      rw [Ref.v15_at P b ⟨r.val / 64, by omega⟩ x ⟨n.val / 64, by omega⟩ i hv]
      unfold keyAt
      simp only [hd]
    rw [Ref.score_at P B b r ⟨n.val / 64, by omega⟩ x]
    exact scoreK_eq _ _ _ _ _ hk
  have hreal : ∀ x : Fin 192, 128 ≤ r.val / 64 * 64 + x.val → ∃ s : ℝ, scoreK (128 ≤ r.val / 64 * 64 + x.val)
      (fun i : Fin 64 => P (ix3 b r (⟨n.val / 64 * 64 + i.val, by omega⟩ : Fin 2560)))
      (fun i : Fin 64 => keyAt P b (r.val / 64) (by omega) x ⟨2048 + (n.val / 256 * 64 + i.val), by omega⟩)
      (B (ix3 (⟨n.val / 64, by omega⟩ : Fin 8) (⟨r.val % 64, by omega⟩ : Fin 64) x)) = s := fun x hx => by
    rw [scoreK_eq _ _ _ _ _ fun _ => rfl]
    unfold scoreR
    rw [if_pos hx]
    exact score_real _ _ _ (fun i => hQ b r ⟨n.val / 64 * 64 + i.val, by omega⟩)
      (fun i => hK b _ ⟨n.val / 256 * 64 + i.val, by omega⟩) (hB _ _ x)
  have hbot : ∀ x : Fin 192, ¬ 128 ≤ r.val / 64 * 64 + x.val → scoreK (128 ≤ r.val / 64 * 64 + x.val)
      (fun i : Fin 64 => P (ix3 b r (⟨n.val / 64 * 64 + i.val, by omega⟩ : Fin 2560)))
      (fun i : Fin 64 => keyAt P b (r.val / 64) (by omega) x ⟨2048 + (n.val / 256 * 64 + i.val), by omega⟩)
      (B (ix3 (⟨n.val / 64, by omega⟩ : Fin 8) (⟨r.val % 64, by omega⟩ : Fin 64) x)) = ⊥ := fun x hx => if_neg hx
  unfold kernelAt
  rw [hz]
  refine (sinkLast_eq _ _ _ z (fun x => ?_) ⟨⟨128, by omega⟩, ?_⟩ fun x => ?_).trans (congrArg (fun S => sinkFirst S _ _) (funext hS))
  · by_cases hx : 128 ≤ r.val / 64 * 64 + x.val
    · obtain ⟨s, hs⟩ := hreal x hx
      exact hs ▸ EReal.coe_ne_top s
    · exact hbot x hx ▸ bot_ne_top
  · obtain ⟨s, hs⟩ := hreal ⟨128, by omega⟩ (by show 128 ≤ r.val / 64 * 64 + 128; omega)
    exact hs ▸ EReal.coe_ne_bot s
  · by_cases hx : 128 ≤ r.val / 64 * 64 + x.val
    · right
      rw [Ref.v21_at P b ⟨r.val / 64, by omega⟩ x ⟨n.val / 64, by omega⟩ ⟨n.val % 64, by omega⟩ hx]
      unfold keyAt
      simp only [hd]
    · exact Or.inl (hbot x hx)

end Cert.Proof.AttnA

end
-- ==== Proof.AttnARun.lean ====
module

public import proofs.«01_k».proof.Proof.AttnAReads
public import proofs.«01_k».proof.Proof.AttnAEq

@[expose] public section

set_option maxRecDepth 16384

noncomputable section

namespace Cert.Proof.AttnA

open Idealize.ShloMosaic Idealize.ShloMosaic.TcCoe Idealize.SL.Sem
open Cert.AttnAIdeal Cert.AttnAIdeal.Gen

/-- A head's entry from what its scaled queries, its bands, its mask, its bias and its sink are. -/
theorem headAt_of (v4 : FVec Ideal S64x512 .bf16) (v12 v20 : FVec Ideal S192x128 .bf16) (v25 : IVec S64x192 1) (B : Fin 192 → EReal) (Z z : EReal)
    (o u : ℕ) (ho : o + 64 ≤ 512) (hu : u + 64 ≤ 128) (a d : Fin 64) (q : Fin 64 → EReal) (k : Fin 192 → Fin 64 → EReal) (v b : Fin 192 → EReal)
    (ok : Fin 192 → Prop) [DecidablePred ok]
    (hq : ∀ i : Fin 64, v4 (ix2 a ⟨o + i.val, by omega⟩) = q i * Ideal.ofBits .f32 0x3E000000#32)
    (hk : ∀ x, ∀ i : Fin 64, v12 (ix2 x ⟨u + i.val, by omega⟩) = k x i) (hv : ∀ x, v20 (ix2 x ⟨u + d.val, by omega⟩) = v x)
    (hok : ∀ x, v25 (ix2 a x) = if ok x then 1#1 else 0#1) (hb : ∀ x, B x = b x) (hz : Z = z) :
    headAt v4 v12 v20 v25 B Z o u ho hu a d = sinkLast (fun x => scoreK (ok x) q (k x) (b x)) v z := by
  subst hz
  unfold headAt
  refine congrArg₂ (fun S w => sinkLast S w Z) (funext fun x => ?_) (funext hv)
  rw [hok, mask_eq, select_if, hb]
  simp only [hq, hk]
  rfl

variable (m : (ℓ : Loc nD τ sig) → Buf (Elt Ideal) ℓ)

/-- What grid point `t` writes at query `a`, column `n`, is the kernel's result at that row of its chunk. -/
theorem after_at (c : Dev nD) (t : Fin cfg0.N) (ht : t.val < 256) (a : Fin 64) (n : Fin 512) :
    (dats m 0 c).after 9 t (ix3 0 a n) = kernelAt (m ((c : Thread nD τ).loc main_arg0)) (m ((c : Thread nD τ).loc main_arg1)) (m ((c : Thread nD τ).loc main_arg2))
      ⟨t.val / 128, by omega⟩ ⟨t.val % 128 * 64 + a.val, by omega⟩ n := by
  have e1 : (t.val % 128 * 64 + a.val) / 64 = t.val % 128 := by omega
  have e2 : (⟨(t.val % 128 * 64 + a.val) % 64, by omega⟩ : Fin 64) = a := Fin.ext (by show (t.val % 128 * 64 + a.val) % 64 = a.val; omega)
  unfold kernelAt
  simp only [e1, e2]
  rw [after0_9]
  refine (out_at _ _ _ _ _ _ _ _ _ _ (ix3 0 a n)).trans ?_
  refine headAt_of _ _ _ _ _ _ _ _ _ _ _ _ _
    (fun i => m ((c : Thread nD τ).loc main_arg0) (ix3 (⟨t.val / 128, by omega⟩ : Fin 2) (⟨t.val % 128 * 64 + a.val, by omega⟩ : Fin 8192) (⟨n.val / 64 * 64 + i.val, by omega⟩ : Fin 2560)))
    (fun x i => keyAt (m ((c : Thread nD τ).loc main_arg0)) ⟨t.val / 128, by omega⟩ (t.val % 128) (by omega) x ⟨2048 + (n.val / 256 * 64 + i.val), by omega⟩) _ _
    (fun x => 128 ≤ t.val % 128 * 64 + x.val) (fun i => ?_) (fun x i => ?_) (fun x => ?_) (fun x => ?_) (fun x => ?_) ?_
  · exact (pay3_at _ a _).trans (congrArg (· * _) (read_q m c t ht a _))
  · exact pay4_at _ _ _ (fun o r => m ((c : Thread nD τ).loc main_arg0) (ix3 (⟨t.val / 128, by omega⟩ : Fin 2)
      (⟨(t.val % 128 + o.val - 2) * 64 + r.val, by omega⟩ : Fin 8192) (⟨2048 + (n.val / 256 * 64 + i.val), by omega⟩ : Fin 2560))) x _
      (fun r => read_k0 m c t ht r _) (fun r => read_k1 m c t ht r _) (fun r => read_k2 m c t ht r _)
  · exact pay5_at _ _ _ (fun o r => m ((c : Thread nD τ).loc main_arg0) (ix3 (⟨t.val / 128, by omega⟩ : Fin 2)
      (⟨(t.val % 128 + o.val - 2) * 64 + r.val, by omega⟩ : Fin 8192) (⟨2176 + (n.val / 256 * 64 + n.val % 64), by omega⟩ : Fin 2560))) x _
      (fun r => read_v0 m c t ht r _) (fun r => read_v1 m c t ht r _) (fun r => read_v2 m c t ht r _)
  · exact pay6_at _ (t.val % 128) (by omega) (coord t) a x
  · exact read_b m c t _ a x
  · exact read_s m c t _

/-- Every block of the result is written. -/
theorem covers : (cfg0.win 9).Covers := by
  decide +kernel

/-- The result array after the whole grid is the reference's value at the arguments. -/
theorem out_eq (c : Dev nD)
    (hQ : ∀ (b : Fin 2) (r : Fin 8192) (n : Fin 512), ∃ x : ℝ, m ((c : Thread nD τ).loc main_arg0) (ix3 b r (⟨n.val, by omega⟩ : Fin 2560)) = (x : EReal))
    (hK : ∀ (b : Fin 2) (r : Fin 8192) (n : Fin 128), ∃ x : ℝ, m ((c : Thread nD τ).loc main_arg0) (ix3 b r (⟨2048 + n.val, by omega⟩ : Fin 2560)) = (x : EReal))
    (hB : ∀ (h : Fin 8) (a : Fin 64) (x : Fin 192), ∃ y : ℝ, m ((c : Thread nD τ).loc main_arg1) (ix3 h a x) = (y : EReal))
    (hZ : ∀ h : Fin 8, ∃ y : ℝ, m ((c : Thread nD τ).loc main_arg2) (ix1 h) = (y : EReal)) :
    (dats m 0 c).arrAt 9 cfg0.N = Cert.AttnARefIdeal.Read.val_main_v63 (F := Ideal)
      (m ((c : Thread nD τ).loc main_arg0)) (m ((c : Thread nD τ).loc main_arg1)) (m ((c : Thread nD τ).loc main_arg2)) := by
  refine (dats m 0 c).arrAt_eq_of_covers 9 _ covers fun t hf y => ?_
  have ht : t.val < 256 := t.isLt
  obtain ⟨a, n, rfl⟩ : ∃ (a : Fin 64) (n : Fin 512), y = ix3 0 a n := ⟨y 1, y 2, by rw [eq_ix3 y]; congr 1; exact Subsingleton.elim _ _⟩
  have h : win0_9.index t = ![t.val / 128, t.val % 128, 0] := (idx t).2.2.2.2.2.2.2.2.2
  have he : ((View.whole main_v1).slice (win0_9.rect t)).emb (ix3 0 a n) = ix3 (⟨t.val / 128, by omega⟩ : Fin 2) (⟨t.val % 128 * 64 + a.val, by omega⟩ : Fin 8192) n := by
    blk_ext [h]
  blk_simp
  rw [after_at m c t ht a n, kernelAt_eq _ _ _ hQ hK hB hZ]
  exact congrArg _ he.symm

end Cert.Proof.AttnA

end
-- ==== Proof.ConvRow.lean ====
module

public import Idealize.ShloMosaic.Lib.Pipeline.ValueKit
public import Idealize.ShloMosaic.Lib.Pointwise

@[expose] public section

noncomputable section

namespace Cert.Proof.Conv

open Idealize.ShloMosaic

/-- One gated input of the convolution: `a · σ(b)`. -/
def glu (a b : EReal) : EReal := a * Ideal.logistic b

/-- Row `j` of a sequence that begins with the 30 rows carried from before and goes on with the 64 new rows. -/
def joined (st : Fin 30 → EReal) (u : Fin 64 → EReal) (j : Fin 94) : EReal :=
  if h : j.val < 30 then st ⟨j.val, h⟩ else u ⟨j.val - 30, by omega⟩

/-- Row `r` of one channel's convolution with its 31 taps, plus the bias: the sum over `w` of row `r + w` of the joined sequence
    times tap `w`. -/
def convAt (st : Fin 30 → EReal) (u : Fin 64 → EReal) (k : Fin 31 → EReal) (b : EReal) (r : Fin 64) : EReal :=
  ∑ w : Fin 31, joined st u ⟨r.val + w.val, by omega⟩ * k w + b

/-- One entry of a row of 512 numbers after the layer normalization: its distance from the row's mean over the root of the mean
    square distance (plus the small constant), times its gain, plus its offset. -/
def lnRow (x g b : Fin 512 → EReal) (n : Fin 512) : EReal :=
  (x n - Ideal.div (∑ j, x j) (Ideal.ofBits .f32 0x44000000#32)) *
      Ideal.rsqrt (Ideal.div (∑ j, (x j - Ideal.div (∑ j, x j) (Ideal.ofBits .f32 0x44000000#32)) *
        (x j - Ideal.div (∑ j, x j) (Ideal.ofBits .f32 0x44000000#32))) (Ideal.ofBits .f32 0x44000000#32) + Ideal.ofBits .f32 0x3727C5AC#32) * g n + b n

/-- The output of a row: each normalized entry times its own sigmoid. -/
def siluRow (x g b : Fin 512 → EReal) (n : Fin 512) : EReal := lnRow x g b n * Ideal.logistic (lnRow x g b n)

/-- Rows that agree entry by entry give the same output. -/
theorem siluRow_congr {x x' g g' b b' : Fin 512 → EReal} (hx : ∀ n, x n = x' n) (hg : ∀ n, g n = g' n) (hb : ∀ n, b n = b' n) (n : Fin 512) :
    siluRow x g b n = siluRow x' g' b' n := by
  rw [funext hx, funext hg, funext hb]

/-- A bias to which 31 terms are added one after the other is their sum plus the bias. -/
theorem sum_taps (T : Fin 31 → EReal) (b : EReal) : ∑ w, T w + b =
    b + T 0 + T 1 + T 2 + T 3 + T 4 + T 5 + T 6 + T 7 + T 8 + T 9 + T 10 + T 11 + T 12 + T 13 + T 14 + T 15 + T 16 + T 17 + T 18 + T 19 + T 20 + T 21 + T 22 + T 23 + T 24 + T 25 + T 26 + T 27 + T 28 + T 29 + T 30 := by
  rw [add_comm]
  simp only [Fin.sum_univ_castSucc, Finset.univ_eq_empty, Finset.sum_empty, zero_add, ← add_assoc]
  rfl

end Cert.Proof.Conv

end
-- ==== Proof.ConvBlock.lean ====
module

public import proofs.«01_k».proof.Proof.ConvRow
public import proofs.«01_k».proof.Proof.Gen.ConvIdeal.Value
public import Idealize.ShloMosaic.Lib.Pipeline.ReadBack

@[expose] public section

set_option maxRecDepth 16384

noncomputable section

namespace Cert.Proof.Conv.Block

open Idealize.ShloMosaic Idealize.ShloMosaic.TcCoe Idealize.SL.Sem
open Cert.ConvIdeal Cert.ConvIdeal.Gen

/-- The gated input of a block, at a row and column. -/
theorem pay5_at (p q : Vec Ideal S1x64x512 .f32) (r : Fin 64) (n : Fin 512) : k0_pay5 p q (ix2 r n) = glu (p (ix3 0 r n)) (q (ix3 0 r n)) := by
  pointwise [k0_pay5]
  rfl

/-- The carried rows are stored as they are. -/
theorem pay4_at (st : Vec Ideal S1x30x512 .f32) (r : Fin 30) (n : Fin 512) : k0_pay4 st (ix2 r n) = st (ix3 0 r n) := by
  pointwise [k0_pay4]

/-- The last thirty rows are written out as they are. -/
theorem pay2_at (v : Vec Ideal S30x512 .f32) (r : Fin 30) (n : Fin 512) : k0_pay2 v (ix3 0 r n) = v (ix2 r n) := by
  pointwise [k0_pay2]

/-- The three stores that fill the scratch array: two rows of zeros, the thirty carried rows, the 64 gated rows. -/
abbrev stores (p q : Vec Ideal S1x64x512 .f32) (st : Vec Ideal S1x30x512 .f32) : List (View.Piece (Elt Ideal) S96x512 .f32) :=
  [⟨Rect.unit ![32, 0] ![64, 512] inb_S96x512_S64x512_32_0, k0_pay5 p q⟩, ⟨Rect.unit ![2, 0] ![30, 512] inb_S96x512_S30x512_2_0, k0_pay4 st⟩,
    ⟨Rect.unit ![0, 0] ![2, 512] inb_S96x512_S2x512_0_0, k0_pay3 (F := Ideal)⟩]

/-- Row `2 + j` of the filled scratch array is row `j` of the joined sequence. -/
theorem stores_at (p q : Vec Ideal S1x64x512 .f32) (st : Vec Ideal S1x30x512 .f32) (y : S96x512.Idx) (j : Fin 94) (n : Fin 512)
    (h0 : (y 0).val = 2 + j.val) (h1 : (y 1).val = n.val) :
    View.canon (stores p q st) y = joined (fun i => st (ix3 0 i n)) (fun r => glu (p (ix3 0 r n)) (q (ix3 0 r n))) j := by
  canon_tiles x h using View.cover_of_tiledBy (stores p q st) ![2, 512] (by sl_kernel_rfl) y
  · have e : x = ix2 (⟨j.val - 30, by omega⟩ : Fin 64) n := by
      refine (eq_ix2 x).trans ?_
      exact congrArg₂ ix2 (Fin.ext (by simp only; omega)) (Fin.ext (by omega))
    rw [e, pay5_at]
    unfold joined
    rw [dif_neg (by omega)]
  · have e : x = ix2 (⟨j.val, by omega⟩ : Fin 30) n := by
      refine (eq_ix2 x).trans ?_
      exact congrArg₂ ix2 (Fin.ext (by simp only; omega)) (Fin.ext (by omega))
    rw [e, pay4_at]
    unfold joined
    rw [dif_pos (by omega)]
  · omega

/-- A load of `k` rows of the filled scratch array from row `2 + o` on reads the joined sequence from row `o` on. -/
theorem load_at (p q : Vec Ideal S1x64x512 .f32) (st : Vec Ideal S1x30x512 .f32) (k o o' : ℕ) (h : ∀ a, ![o', 0] a + ![k, 512] a ≤ S96x512.size a)
    (ho : o' = 2 + o) (r : Fin k) (n : Fin 512) (hr : r.val + o < 94) :
    (View.whole cc0_scratch0).readCov (stores p q st) (Rect.unit (s := S96x512) ![o', 0] ![k, 512] h).toLoadRect (ix2 r n) =
      joined (fun i => st (ix3 0 i n)) (fun r => glu (p (ix3 0 r n)) (q (ix3 0 r n))) ⟨r.val + o, hr⟩ := by
  rw [View.readCov_eq_canon']
  refine stores_at p q st _ _ n ?_ ?_
  · subst ho
    show 2 + o + 1 * r.val = 2 + (r.val + o)
    omega
  · show 0 + 1 * n.val = n.val
    omega

/-- The sum over the 31 taps as the block takes it: bias first, one tap after the other. -/
theorem taps_at (A : Fin 31 → Vec Ideal S64x512 .f32) (K : Fin 31 → Vec Ideal S1x512 .f32) (b g o : Vec Ideal S1x512 .f32) (r : Fin 64) (n : Fin 512) :
    k0_pay12 (k0_pay11 (k0_pay10 (k0_pay8 (k0_pay7 (k0_pay6 b (A 0) (K 0)) (A 1) (K 1) (A 2) (K 2) (A 3) (K 3) (A 4) (K 4) (A 5) (K 5) (A 6) (K 6) (A 7) (K 7)) (A 8) (K 8) (A 9) (K 9) (A 10) (K 10) (A 11) (K 11) (A 12) (K 12) (A 13) (K 13)) (A 14) (k0_pay9 (K 14)) (A 15) (K 15) (A 16) (K 16) (A 17) (K 17) (A 18) (K 18) (A 19) (K 19) (A 20) (K 20)) (A 21) (K 21) (A 22) (K 22) (A 23) (K 23) (A 24) (K 24) (A 25) (K 25) (A 26) (K 26) (A 27) (K 27)) (A 28) (K 28) (A 29) (K 29) (A 30) (K 30) g o (ix2 r n) =
      lnRow (fun n => ∑ w, A w (ix2 r n) * K w (ix2 0 n) + b (ix2 0 n)) (fun n => g (ix2 0 n)) (fun n => o (ix2 0 n)) n := by
  have e : ∀ n : Fin 512, ∑ w, A w (ix2 r n) * K w (ix2 0 n) + b (ix2 0 n) =
      k0_pay11 (k0_pay10 (k0_pay8 (k0_pay7 (k0_pay6 b (A 0) (K 0)) (A 1) (K 1) (A 2) (K 2) (A 3) (K 3) (A 4) (K 4) (A 5) (K 5) (A 6) (K 6) (A 7) (K 7)) (A 8) (K 8) (A 9) (K 9) (A 10) (K 10) (A 11) (K 11) (A 12) (K 12) (A 13) (K 13)) (A 14) (k0_pay9 (K 14)) (A 15) (K 15) (A 16) (K 16) (A 17) (K 17) (A 18) (K 18) (A 19) (K 19) (A 20) (K 20)) (A 21) (K 21) (A 22) (K 22) (A 23) (K 23) (A 24) (K 24) (A 25) (K 25) (A 26) (K 26) (A 27) (K 27) (ix2 r n) + A 28 (ix2 r n) * K 28 (ix2 0 n) + A 29 (ix2 r n) * K 29 (ix2 0 n) + A 30 (ix2 r n) * K 30 (ix2 0 n) := by
    intro n
    pointwise [k0_pay11, k0_pay10, k0_pay9, k0_pay8, k0_pay7, k0_pay6]
    exact sum_taps (fun w => A w (ix2 r n) * K w (ix2 0 n)) (b (ix2 0 n))
  simp only [e]
  pointwise [k0_pay12]
  rfl

/-- What a block writes out, at a row and column: the normalized convolution times its own sigmoid. -/
theorem out_at (A : Fin 31 → Vec Ideal S64x512 .f32) (K : Fin 31 → Vec Ideal S1x512 .f32) (b g o : Vec Ideal S1x512 .f32) (r : Fin 64) (n : Fin 512) :
    k0_pay1 (k0_pay12 (k0_pay11 (k0_pay10 (k0_pay8 (k0_pay7 (k0_pay6 b (A 0) (K 0)) (A 1) (K 1) (A 2) (K 2) (A 3) (K 3) (A 4) (K 4) (A 5) (K 5) (A 6) (K 6) (A 7) (K 7)) (A 8) (K 8) (A 9) (K 9) (A 10) (K 10) (A 11) (K 11) (A 12) (K 12) (A 13) (K 13)) (A 14) (k0_pay9 (K 14)) (A 15) (K 15) (A 16) (K 16) (A 17) (K 17) (A 18) (K 18) (A 19) (K 19) (A 20) (K 20)) (A 21) (K 21) (A 22) (K 22) (A 23) (K 23) (A 24) (K 24) (A 25) (K 25) (A 26) (K 26) (A 27) (K 27)) (A 28) (K 28) (A 29) (K 29) (A 30) (K 30) g o) (k0_pay13 (k0_pay11 (k0_pay10 (k0_pay8 (k0_pay7 (k0_pay6 b (A 0) (K 0)) (A 1) (K 1) (A 2) (K 2) (A 3) (K 3) (A 4) (K 4) (A 5) (K 5) (A 6) (K 6) (A 7) (K 7)) (A 8) (K 8) (A 9) (K 9) (A 10) (K 10) (A 11) (K 11) (A 12) (K 12) (A 13) (K 13)) (A 14) (k0_pay9 (K 14)) (A 15) (K 15) (A 16) (K 16) (A 17) (K 17) (A 18) (K 18) (A 19) (K 19) (A 20) (K 20)) (A 21) (K 21) (A 22) (K 22) (A 23) (K 23) (A 24) (K 24) (A 25) (K 25) (A 26) (K 26) (A 27) (K 27)) (A 28) (K 28) (A 29) (K 29) (A 30) (K 30) g o) (ix3 0 r n) =
      siluRow (fun n => ∑ w, A w (ix2 r n) * K w (ix2 0 n) + b (ix2 0 n)) (fun n => g (ix2 0 n)) (fun n => o (ix2 0 n)) n := by
  pointwise [k0_pay1, k0_pay13]
  rw [taps_at]
  rfl

end Cert.Proof.Conv.Block

end
-- ==== Proof.ConvRef.lean ====
module

public import proofs.«01_k».proof.Proof.ConvRow
public import proofs.«01_k».proof.Proof.Gen.ConvRefIdeal.Read

@[expose] public section

set_option maxRecDepth 16384

noncomputable section

namespace Cert.Proof.Conv.Ref

open Idealize.ShloMosaic Idealize.ShloMosaic.TcCoe Idealize.SL.Sem
open Cert.ConvRefIdeal Cert.ConvRefIdeal.Gen Cert.ConvRefIdeal.Read

variable (p : Vec Ideal S32x64x2560 .f32) (st : Vec Ideal S32x30x512 .f32) (k : Vec Ideal S31x512 .f32) (b g o : Vec Ideal S512 .f32)

/-- The gated input of one channel, by row. -/
def gated (s : Fin 32) (n : Fin 512) (r : Fin 64) : EReal :=
  glu (p (ix3 s r (⟨1536 + n.val, by omega⟩ : Fin 2560))) (p (ix3 s r (⟨1536 + (512 + n.val), by omega⟩ : Fin 2560)))

/-- The gated input. -/
theorem v9_at (s : Fin 32) (r : Fin 64) (n : Fin 512) : val_main_v9 (F := Ideal) p (ix3 s r n) = gated p s n r := by
  pointwise [val_main_v9, val_main_v8, val_main_v7, val_main_v6, val_main_v5, val_main_v4, val_main_v3, val_main_v2, val_main_v1, val_main_v0, val_main_cst, val_main_cst_0]
  rfl

/-- The joined sequence. -/
theorem v10_at (s : Fin 32) (j : Fin 94) (n : Fin 512) : val_main_v10 (F := Ideal) p st (ix3 s j n) = joined (fun i => st (ix3 s i n)) (gated p s n) j := by
  pointwise [val_main_v10]
  unfold joined
  split
  · rfl
  · exact v9_at p s _ n

/-- One of the 31 shifted copies, read at an index: row `r` of the copy shifted by `o` is row `r + o` of the sequence. -/
theorem shift_at (y : Vec Ideal S32x94x512 .f32) (o : ℕ) (h : Shape.Slices S32x94x512 ![0, o, 0] S32x64x512) (i : S1x32x64x512.Idx)
    (s : Fin 32) (r : Fin 64) (n : Fin 512) (w k c : ℕ) (hr : r.val + (c + w) < 94) (hw : w = k) (ho : o = c + k) (h1 : (i 1).val = s.val) (h2 : (i 2).val = r.val) (h3 : (i 3).val = n.val) :
    broadcastInDim S1x32x64x512 ![1, 2, 3] bcast_S32x64x512_S1x32x64x512_1_2_3 (extractStridedSlice S32x64x512 ![0, o, 0] y h) i =
      y (ix3 s (⟨r.val + (c + w), hr⟩ : Fin 94) n) := by
  subst hw ho
  idx_vars i
  obtain rfl : i1 = s := Fin.ext h1
  obtain rfl : i2 = r := Fin.ext h2
  obtain rfl : i3 = n := Fin.ext h3
  pointwise []
  exact congrArg (fun j => y (ix3 i1 j i3)) (Fin.ext (Nat.add_comm _ _))

/-- The first sixteen of the 31 shifted copies: row `r` of copy `w` is row `r + w` of the joined sequence. -/
theorem v73_at (w : Fin 16) (s : Fin 32) (r : Fin 64) (n : Fin 512) : val_main_v73 (F := Ideal) p st (ix4 w s r n) =
    val_main_v10 (F := Ideal) p st (ix3 s (⟨r.val + (0 + w.val), by omega⟩ : Fin 94) n) := by
  unfold val_main_v73
  concat_tiles
  all_goals exact shift_at (val_main_v10 (F := Ideal) p st) _ _ _ s r n w.val _ 0 _ ‹_› rfl ‹_› ‹_› ‹_›

/-- The other fifteen. -/
theorem v74_at (w : Fin 15) (s : Fin 32) (r : Fin 64) (n : Fin 512) : val_main_v74 (F := Ideal) p st (ix4 w s r n) =
    val_main_v10 (F := Ideal) p st (ix3 s (⟨r.val + (16 + w.val), by omega⟩ : Fin 94) n) := by
  unfold val_main_v74
  concat_tiles
  all_goals exact shift_at (val_main_v10 (F := Ideal) p st) _ _ _ s r n w.val _ 16 _ ‹_› rfl ‹_› ‹_› ‹_›

/-- All 31 shifted copies. -/
theorem v75_at (w : Fin 31) (s : Fin 32) (r : Fin 64) (n : Fin 512) : val_main_v75 (F := Ideal) p st (ix4 w s r n) =
    val_main_v10 (F := Ideal) p st (ix3 s (⟨r.val + w.val, by omega⟩ : Fin 94) n) := by
  pointwise [val_main_v75]
  split
  · refine (v73_at p st _ s r n).trans (congrArg (fun j => val_main_v10 (F := Ideal) p st (ix3 s j n)) (Fin.ext ?_))
    simp
  · refine (v74_at p st _ s r n).trans (congrArg (fun j => val_main_v10 (F := Ideal) p st (ix3 s j n)) (Fin.ext ?_))
    simp only
    omega

/-- The convolution with its bias. -/
theorem v82_at (s : Fin 32) (r : Fin 64) (n : Fin 512) : val_main_v82 (F := Ideal) p st k b (ix3 s r n) =
    convAt (fun i => st (ix3 s i n)) (gated p s n) (fun w => k (ix2 w n)) (b (ix1 n)) r := by
  pointwise [val_main_v82, val_main_v81, val_main_v80, val_main_v79, val_main_v78, val_main_v77, val_main_v76, val_main_cst_1]
  simp only [v75_at, v10_at]
  rfl

/-- The convolution, the normalization and the gate. -/
theorem v107_of (s : Fin 32) (r : Fin 64) (n : Fin 512) : val_main_v107 (F := Ideal) p st k b g o (ix3 s r n) =
    siluRow (fun n => val_main_v82 (F := Ideal) p st k b (ix3 s r n)) (fun n => g (ix1 n)) (fun n => o (ix1 n)) n := by
  pointwise [val_main_v107, val_main_call0_v5, val_main_call0_v4, val_main_call0_cst_0,
    val_main_call0_v3, val_main_call0_v2, val_main_call0_cst, val_main_call0_v1, val_main_call0_v0, val_main_v106, val_main_v105, val_main_v104, val_main_v103,
    val_main_v102, val_main_v101, val_main_v100, val_main_v99, val_main_v98, val_main_v97, val_main_v96, val_main_v95, val_main_v94, val_main_v93, val_main_v92,
    val_main_v91, val_main_v90, val_main_v89, val_main_v88, val_main_v87, val_main_v86, val_main_v85, val_main_v84, val_main_v83, val_main_cst_2, val_main_cst_3,
    val_main_cst_4, val_main_cst_5, val_main_cst_6]
  rfl

/-- The reference's first result. -/
theorem v107_at (s : Fin 32) (r : Fin 64) (n : Fin 512) : val_main_v107 (F := Ideal) p st k b g o (ix3 s r n) =
    siluRow (fun n => convAt (fun i => st (ix3 s i n)) (gated p s n) (fun w => k (ix2 w n)) (b (ix1 n)) r) (fun n => g (ix1 n)) (fun n => o (ix1 n)) n := by
  rw [v107_of]
  simp only [v82_at]

/-- The reference's second result: the last thirty rows of the joined sequence. -/
theorem v108_at (s : Fin 32) (r : Fin 30) (n : Fin 512) : val_main_v108 (F := Ideal) p st (ix3 s r n) = gated p s n ⟨34 + r.val, by omega⟩ := by
  pointwise [val_main_v108]
  rw [v10_at]
  unfold joined
  rw [dif_neg (by simp only; omega)]
  exact congrArg (gated p s n) (Fin.ext (by simp only; omega))

end Cert.Proof.Conv.Ref

end
-- ==== Proof.ConvRun.lean ====
module

public import proofs.«01_k».proof.Proof.ConvBlock
public import proofs.«01_k».proof.Proof.ConvRef

@[expose] public section

set_option maxRecDepth 16384

noncomputable section

namespace Cert.Proof.Conv

open Idealize.ShloMosaic Idealize.ShloMosaic.TcCoe Idealize.SL.Sem
open Cert.ConvIdeal Cert.ConvIdeal.Gen

variable (m : (ℓ : Loc nD τ sig) → Buf (Elt Ideal) ℓ)

/-- Where the windows lie at grid point `t`: sequence `t` of the two gated halves, of the carried rows and of both results; everything else whole. -/
theorem idx : ∀ t : Fin grid0.N, win0_0.index t = ![t.val, 0, 3] ∧ win0_1.index t = ![t.val, 0, 4] ∧ win0_2.index t = ![t.val, 0, 0] ∧
    win0_3.index t = ![0, 0] ∧ win0_4.index t = ![0, 0] ∧ win0_5.index t = ![0, 0] ∧ win0_6.index t = ![0, 0] ∧
    win0_7.index t = ![t.val, 0, 0] ∧ win0_8.index t = ![t.val, 0, 0] := by
  decide +kernel

section Reads

variable (c : Dev nD) (t : Fin cfg0.grid.N) (ht : t.val < 32)

/-- The first half of the gated input at grid point t: columns 1536 to 2047 of sequence t. -/
theorem read_a (r : Fin 64) (n : Fin 512) : iblk m c 0 t (ix3 0 r n) = m ((c : Thread nD τ).loc main_arg0) (ix3 (⟨t.val, ht⟩ : Fin 32) r (⟨1536 + n.val, by omega⟩ : Fin 2560)) := by
  obtain ⟨h, -⟩ := idx t
  blk_ext! [iblk, V, h]

/-- The second half: columns 2048 to 2559 of sequence t. -/
theorem read_g (r : Fin 64) (n : Fin 512) : iblk m c 1 t (ix3 0 r n) = m ((c : Thread nD τ).loc main_arg0) (ix3 (⟨t.val, ht⟩ : Fin 32) r (⟨1536 + (512 + n.val), by omega⟩ : Fin 2560)) := by
  obtain ⟨-, h, -⟩ := idx t
  blk_ext! [iblk, V, h]

/-- The carried rows at grid point t: those of sequence t. -/
theorem read_st (r : Fin 30) (n : Fin 512) : iblk m c 2 t (ix3 0 r n) = m ((c : Thread nD τ).loc main_arg1) (ix3 (⟨t.val, ht⟩ : Fin 32) r n) := by
  obtain ⟨-, -, h, -⟩ := idx t
  blk_ext! [iblk, V, h]

/-- The block of the taps is the whole array at every grid point. -/
theorem read_k (w : Fin 31) (n : Fin 512) : iblk m c 3 t (ix2 w n) = m ((c : Thread nD τ).loc main_arg2) (ix2 w n) := by
  obtain ⟨-, -, -, h, -⟩ := idx t
  blk_ext! [iblk, V, h]

/-- A load of one row of the taps. -/
theorem read_tap (w : ℕ) (hw : w < 31) (h : ∀ a, ![w, 0] a + ![1, 512] a ≤ S31x512.size a) (n : Fin 512) :
    View.ld (iblk m c 3 t) (Rect.unit (s := S31x512) ![w, 0] ![1, 512] h) (ix2 0 n) = m ((c : Thread nD τ).loc main_arg2) (ix2 (⟨w, hw⟩ : Fin 31) n) := by
  refine Eq.trans ?_ (read_k m c t ⟨w, hw⟩ n)
  show iblk m c 3 t _ = _
  blk_ext
  all_goals simp

/-- The block of the convolution's bias is the whole row at every grid point. -/
theorem read_b (n : Fin 512) : iblk m c 4 t (ix2 0 n) = m ((c : Thread nD τ).loc main_arg3) (ix1 n) := by
  obtain ⟨-, -, -, -, h, -⟩ := idx t
  blk_ext! [iblk, V, h]

/-- The block of the norm's gain is the whole row at every grid point. -/
theorem read_lg (n : Fin 512) : iblk m c 5 t (ix2 0 n) = m ((c : Thread nD τ).loc main_arg4) (ix1 n) := by
  obtain ⟨-, -, -, -, -, h, -⟩ := idx t
  blk_ext! [iblk, V, h]

/-- The block of the norm's offset is the whole row at every grid point. -/
theorem read_lb (n : Fin 512) : iblk m c 6 t (ix2 0 n) = m ((c : Thread nD τ).loc main_arg5) (ix1 n) := by
  obtain ⟨-, -, -, -, -, -, h, -⟩ := idx t
  blk_ext! [iblk, V, h]

/-- The gated input a grid point stores is the reference's. -/
theorem gated_eq (n : Fin 512) : (fun r => glu (iblk m c 0 t (ix3 0 r n)) (iblk m c 1 t (ix3 0 r n))) = Ref.gated (m ((c : Thread nD τ).loc main_arg0)) ⟨t.val, ht⟩ n :=
  funext fun r => congrArg₂ glu (read_a m c t ht r n) (read_g m c t ht r n)

end Reads

/-- The first result of a grid point: the reference's rows of sequence t. -/
theorem out_y (c : Dev nD) (t : Fin cfg0.N) (ht : t.val < 32) (r : Fin 64) (n : Fin 512) : (outsAt0 m c t).1 (ix3 0 r n) =
    siluRow (fun n => convAt (fun i => m ((c : Thread nD τ).loc main_arg1) (ix3 (⟨t.val, ht⟩ : Fin 32) i n)) (Ref.gated (m ((c : Thread nD τ).loc main_arg0)) ⟨t.val, ht⟩ n)
      (fun w => m ((c : Thread nD τ).loc main_arg2) (ix2 w n)) (m ((c : Thread nD τ).loc main_arg3) (ix1 n)) r)
      (fun n => m ((c : Thread nD τ).loc main_arg4) (ix1 n)) (fun n => m ((c : Thread nD τ).loc main_arg5) (ix1 n)) n := by
  unfold outsAt0
  frame_out
  have hA : ∀ w : Fin 31, ∀ a, ![2 + w.val, 0] a + ![64, 512] a ≤ S96x512.size a := fun w => Fin.forall_fin_two.mpr ⟨by show 2 + w.val + 64 ≤ 96; omega, Nat.le_refl 512⟩
  have hK : ∀ w : Fin 31, ∀ a, ![w.val, 0] a + ![1, 512] a ≤ S31x512.size a := fun w => Fin.forall_fin_two.mpr ⟨by show w.val + 1 ≤ 31; omega, Nat.le_refl 512⟩
  refine (Block.out_at (fun w => (View.whole cc0_scratch0).readCov (Block.stores (iblk m c 0 t) (iblk m c 1 t) (iblk m c 2 t)) (Rect.unit (s := S96x512) ![2 + w.val, 0] ![64, 512] (hA w)).toLoadRect)
    (fun w => View.ld (iblk m c 3 t) (Rect.unit (s := S31x512) ![w.val, 0] ![1, 512] (hK w))) (iblk m c 4 t) (iblk m c 5 t) (iblk m c 6 t) r n).trans ?_
  refine siluRow_congr (fun n => ?_) (fun n => read_lg m c t n) (fun n => read_lb m c t n) n
  refine congrArg₂ (· + ·) (Finset.sum_congr rfl fun w _ => congrArg₂ (· * ·) ?_ ?_) (read_b m c t n)
  · refine (Block.load_at _ _ _ 64 w.val (2 + w.val) (hA w) rfl r n (by omega)).trans ?_
    rw [gated_eq m c t ht n]
    exact congrArg (fun s => joined s _ _) (funext fun i => read_st m c t ht i n)
  · exact read_tap m c t w.val w.isLt (hK w) n

/-- The second result of a grid point: the last thirty gated rows of sequence t. -/
theorem out_st (c : Dev nD) (t : Fin cfg0.N) (ht : t.val < 32) (r : Fin 30) (n : Fin 512) : (outsAt0 m c t).2 (ix3 0 r n) =
    Ref.gated (m ((c : Thread nD τ).loc main_arg0)) ⟨t.val, ht⟩ n ⟨34 + r.val, by omega⟩ := by
  unfold outsAt0
  frame_out
  rw [Block.pay2_at]
  refine (Block.load_at (iblk m c 0 t) (iblk m c 1 t) (iblk m c 2 t) 30 64 66 inb_S96x512_S30x512_66_0 rfl r n (by omega)).trans ?_
  rw [gated_eq m c t ht n]
  unfold joined
  rw [dif_neg (by simp only; omega)]
  exact congrArg (Ref.gated _ _ n) (Fin.ext (by simp only; omega))

/-- The first result array after the whole grid is the reference's first value at the arguments. -/
theorem out_eq (c : Dev nD) : (dats m 0 c).arrAt 7 cfg0.N = Cert.ConvRefIdeal.Read.val_main_v107 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 7 _ (by decide +kernel) fun t hf y => ?_
  have h7 := (idx t).2.2.2.2.2.2.2.1
  have ht : t.val < 32 := t.isLt
  blk_simp
  rw [after0_7]
  obtain ⟨r, n, rfl⟩ : ∃ (r : Fin 64) (n : Fin 512), y = ix3 0 r n := ⟨y 1, y 2, (eq_ix3 y).trans (congrArg (fun i => ix3 i (y 1) (y 2)) (Subsingleton.elim (α := Fin 1) (y 0) 0))⟩
  have he : ((View.whole main_v3_0).slice (win0_7.rect t)).emb (ix3 0 r n) = ix3 (⟨t.val, ht⟩ : Fin 32) r n := by
    blk_ext [h7]
  rw [out_y m c t ht, he, Ref.v107_at]

/-- The second result array after the whole grid is the reference's second value at the arguments. -/
theorem out_state_eq (c : Dev nD) : (dats m 0 c).arrAt 8 cfg0.N = Cert.ConvRefIdeal.Read.val_main_v108 (F := Ideal)
    (m ((c : Thread nD τ).loc main_arg0)) (m ((c : Thread nD τ).loc main_arg1)) := by
  refine (dats m 0 c).arrAt_eq_of_covers 8 _ (by decide +kernel) fun t hf y => ?_
  have h8 := (idx t).2.2.2.2.2.2.2.2
  have ht : t.val < 32 := t.isLt
  blk_simp
  rw [after0_8]
  obtain ⟨r, n, rfl⟩ : ∃ (r : Fin 30) (n : Fin 512), y = ix3 0 r n := ⟨y 1, y 2, (eq_ix3 y).trans (congrArg (fun i => ix3 i (y 1) (y 2)) (Subsingleton.elim (α := Fin 1) (y 0) 0))⟩
  have he : ((View.whole main_v3_1).slice (win0_8.rect t)).emb (ix3 0 r n) = ix3 (⟨t.val, ht⟩ : Fin 32) r n := by
    blk_ext [h8]
  rw [out_st m c t ht, he, Ref.v108_at]

end Cert.Proof.Conv

end
-- ==== Proof.SampleRow.lean ====
module

public import proofs.«01_k».proof.Proof.AttnRow

@[expose] public section

noncomputable section

namespace Cert.Proof

open Idealize.ShloMosaic

variable {K D : ℕ}

/-- A score without a mask, the query scaled before the product. -/
def scaleFirst (q k : Fin D → EReal) (b : EReal) : EReal := (∑ i, q i * Ideal.ofBits .f32 0x3E000000#32 * k i) + b

/-- A score without a mask, the product scaled. -/
def scaleLast (q k : Fin D → EReal) (b : EReal) : EReal := (∑ i, q i * k i) * Ideal.ofBits .f32 0x3E000000#32 + b

/-- The two scores are equal. -/
theorem scale_eq (q k : Fin D → EReal) (b : EReal) : scaleFirst q k b = scaleLast q k b := by
  have h := scoreK_eq True q k k b fun _ => rfl
  unfold scoreK scoreR at h
  rwa [if_pos trivial, if_pos trivial] at h

/-- A score of real queries, keys and bias is real. -/
theorem scaleFirst_real (q k : Fin D → EReal) (b : EReal) (hq : ∀ i, ∃ r : ℝ, q i = r) (hk : ∀ i, ∃ r : ℝ, k i = r) (hb : ∃ r : ℝ, b = r) :
    ∃ r : ℝ, scaleFirst q k b = r :=
  scale_eq q k b ▸ score_real q k b hq hk hb

/-- With real queries, keys and bias, the softmax-weighted sum that scales first and divides last is the one that scales last and divides first;
    the band has a key. -/
theorem sample_eq (q : Fin D → EReal) (k : Fin K → Fin D → EReal) (b v : Fin K → EReal) (x₀ : Fin K) (hq : ∀ i, ∃ r : ℝ, q i = r)
    (hk : ∀ x i, ∃ r : ℝ, k x i = r) (hb : ∀ x, ∃ r : ℝ, b x = r) :
    attnLast (fun x => scaleFirst q (k x) (b x)) v = attnFirst (fun x => scaleLast q (k x) (b x)) v := by
  have hr := fun x => scaleFirst_real q (k x) (b x) hq (hk x) (hb x)
  refine (attnLast_eq _ v v (fun x => ?_) ⟨x₀, ?_⟩ fun _ => Or.inr rfl).trans (congrArg (attnFirst · v) (funext fun x => scale_eq q (k x) (b x)))
  · obtain ⟨s, hs⟩ := hr x
    exact hs ▸ EReal.coe_ne_top s
  · obtain ⟨s, hs⟩ := hr x₀
    exact hs ▸ EReal.coe_ne_bot s

/-- The same with a real sink among the summed weights. -/
theorem sample_sink_eq (q : Fin D → EReal) (k : Fin K → Fin D → EReal) (b v : Fin K → EReal) (z : EReal) (x₀ : Fin K) (hq : ∀ i, ∃ r : ℝ, q i = r)
    (hk : ∀ x i, ∃ r : ℝ, k x i = r) (hb : ∀ x, ∃ r : ℝ, b x = r) (hz : ∃ r : ℝ, z = r) :
    sinkLast (fun x => scaleFirst q (k x) (b x)) v z = sinkFirst (fun x => scaleLast q (k x) (b x)) v z := by
  have hr := fun x => scaleFirst_real q (k x) (b x) hq (hk x) (hb x)
  obtain ⟨z, rfl⟩ := hz
  refine (sinkLast_eq _ v v z (fun x => ?_) ⟨x₀, ?_⟩ fun _ => Or.inr rfl).trans (congrArg (sinkFirst · v z) (funext fun x => scale_eq q (k x) (b x)))
  · obtain ⟨s, hs⟩ := hr x
    exact hs ▸ EReal.coe_ne_top s
  · obtain ⟨s, hs⟩ := hr x₀
    exact hs ▸ EReal.coe_ne_bot s

end Cert.Proof

end
-- ==== Proof.SampleCBlock.lean ====
module

public import Idealize.ShloMosaic.Lib.Pipeline.ValueKit
public import Idealize.ShloMosaic.Lib.Pointwise
public import proofs.«01_k».proof.Proof.Gen.SampleCIdeal.Value
public import proofs.«01_k».proof.Proof.SampleRow

@[expose] public section

set_option maxRecDepth 16384

noncomputable section

namespace Cert.Proof.SampleC

open Idealize.ShloMosaic Idealize.ShloMosaic.TcCoe Idealize.SL.Sem
open Cert.SampleCIdeal Cert.SampleCIdeal.Gen

/-- What the block computes at query `a`, column `d` of the head that starts at column `o`: the softmax-weighted sum over the band of keys,
    from the scaled queries, the bands of keys and values and the head's bias. -/
def headAt (v4 : FVec Ideal S64x512 .bf16) (v24 v44 : FVec Ideal S576x512 .bf16) (B : Fin 576 → EReal)
    (o : ℕ) (ho : o + 64 ≤ 512) (a d : Fin 64) : EReal :=
  attnLast (fun x => (∑ i : Fin 64, v4 (ix2 a ⟨o + i.val, by omega⟩) * v24 (ix2 x ⟨o + i.val, by omega⟩)) + B x)
    (fun x => v44 (ix2 x ⟨o + d.val, by omega⟩))

section Heads

variable (v4 : FVec Ideal S64x512 .bf16) (v24 v44 : FVec Ideal S576x512 .bf16) (B : Vec Ideal S1x64x576 .f32) (a d : Fin 64)

/-- The store of head 0. -/
theorem head0 : k0_pay5 v44 (k0_pay4 v4 v24 B) (ix3 0 a d) = headAt v4 v24 v44 (fun x => B (ix3 0 a x)) 0 (by decide) a d := by
  pointwise [k0_pay5, k0_pay4]
  simp only [headAt, attnLast, rowMax, Nat.zero_add]

/-- The store of head 1. -/
theorem head1 : k0_pay6 v4 v24 v44 B (ix3 0 a d) = headAt v4 v24 v44 (fun x => B (ix3 0 a x)) 64 (by decide) a d := by
  pointwise [k0_pay6]
  simp only [headAt, attnLast, rowMax, Nat.zero_add]

/-- The store of head 2. -/
theorem head2 : k0_pay8 v44 (k0_pay7 v4 v24 B) (ix3 0 a d) = headAt v4 v24 v44 (fun x => B (ix3 0 a x)) 128 (by decide) a d := by
  pointwise [k0_pay8, k0_pay7]
  simp only [headAt, attnLast, rowMax, Nat.zero_add]

/-- The store of head 3. -/
theorem head3 : k0_pay9 v4 v24 v44 B (ix3 0 a d) = headAt v4 v24 v44 (fun x => B (ix3 0 a x)) 192 (by decide) a d := by
  pointwise [k0_pay9]
  simp only [headAt, attnLast, rowMax, Nat.zero_add]

/-- The store of head 4. -/
theorem head4 : k0_pay11 v44 (k0_pay10 v4 v24) B (ix3 0 a d) = headAt v4 v24 v44 (fun x => B (ix3 0 a x)) 256 (by decide) a d := by
  pointwise [k0_pay11, k0_pay10]
  simp only [headAt, attnLast, rowMax, Nat.zero_add]

/-- The store of head 5. -/
theorem head5 : k0_pay12 v4 v24 v44 B (ix3 0 a d) = headAt v4 v24 v44 (fun x => B (ix3 0 a x)) 320 (by decide) a d := by
  pointwise [k0_pay12]
  simp only [headAt, attnLast, rowMax, Nat.zero_add]

/-- The store of head 6. -/
theorem head6 : k0_pay15 v44 (k0_pay13 v4) (k0_pay14 v24) (constant S64x576 .f32 0x00000000#32) B (ix3 0 a d) = headAt v4 v24 v44 (fun x => B (ix3 0 a x)) 384 (by decide) a d := by
  pointwise [k0_pay15, k0_pay13, k0_pay14]
  simp only [headAt, attnLast, rowMax, Nat.zero_add]

/-- The store of head 7. -/
theorem head7 : k0_pay16 v4 v24 v44 B (ix3 0 a d) = headAt v4 v24 v44 (fun x => B (ix3 0 a x)) 448 (by decide) a d := by
  pointwise [k0_pay16]
  simp only [headAt, attnLast, rowMax, Nat.zero_add]

end Heads

/-- One block's result at query `a`, column `n` of the 512. -/
def blockAt (v4 : FVec Ideal S64x512 .bf16) (v24 v44 : FVec Ideal S576x512 .bf16) (B : Vec Ideal S8x64x576 .f32)
    (a : Fin 64) (n : Fin 512) : EReal :=
  headAt v4 v24 v44 (fun x => B (ix3 (⟨n.val / 64, by omega⟩ : Fin 8) a x)) (n.val / 64 * 64) (by omega) a ⟨n.val % 64, by omega⟩

/-- A head's entry named by its column among the 512. -/
theorem headAt_eq (v4 : FVec Ideal S64x512 .bf16) (v24 v44 : FVec Ideal S576x512 .bf16) (B : Vec Ideal S8x64x576 .f32)
    (b : Fin 576 → EReal) (h : Fin 8) (o : ℕ) (ho : o + 64 ≤ 512) (a a' d : Fin 64) (n : Fin 512) (h1 : o = 64 * h.val) (h2 : n.val = o + d.val)
    (ha : a' = a) (hb : ∀ x, b x = B (ix3 h a x)) : headAt v4 v24 v44 b o ho a d = blockAt v4 v24 v44 B a' n := by
  subst ha
  obtain rfl : b = fun x => B (ix3 h a' x) := funext hb
  have key : ∀ (h' : Fin 8) (o' : ℕ) (ho' : o' + 64 ≤ 512) (d' : Fin 64), h = h' → o = o' → d = d' →
      headAt v4 v24 v44 (fun x => B (ix3 h a' x)) o ho a' d = headAt v4 v24 v44 (fun x => B (ix3 h' a' x)) o' ho' a' d' := by
    rintro h' o' ho' d' rfl rfl rfl
    rfl
  exact key _ _ _ _ (Fin.ext (by show h.val = n.val / 64; omega)) (by omega) (Fin.ext (by show d.val = n.val % 64; omega))

/-- The block that a grid point leaves in the output window, at query `a`, column `n`. -/
theorem out_at (x0 x1 x2 x3 x4 x5 x6 x7 x8 x9 x10 x11 x12 x13 x14 x15 x16 x17 x18 : Vec Ideal S1x64x512 .f32)
    (x19 : Vec Ideal S8x64x576 .f32) (y : S1x64x512.Idx) :
    out0_20 x0 x1 x2 x3 x4 x5 x6 x7 x8 x9 x10 x11 x12 x13 x14 x15 x16 x17 x18 x19 y =
      blockAt (k0_pay17 x0 x1 x2 x3 x4 x5 x6 x7 x8 x9 x10 x11 x12 x13 x14 x15 x16 x17 x18 x19)
        (k0_pay18 x0 x1 x2 x3 x4 x5 x6 x7 x8 x9 x10 x11 x12 x13 x14 x15 x16 x17 x18 x19)
        (k0_pay19 x0 x1 x2 x3 x4 x5 x6 x7 x8 x9 x10 x11 x12 x13 x14 x15 x16 x17 x18 x19) x19 (y 1) (y 2) := by
  unfold out0_20
  canon_tiles x h
  all_goals
    obtain ⟨a, d, rfl⟩ : ∃ (a d : Fin 64), x = ix3 0 a d := ⟨x 1, x 2, by rw [eq_ix3 x]; congr 1; exact Subsingleton.elim _ _⟩
  on_goal 1 => refine (head7 _ _ _ _ a d).trans (headAt_eq _ _ _ _ _ 7 _ _ _ _ _ _ rfl h2 (Fin.ext h1) fun k => ?_)
  on_goal 2 => refine (head6 _ _ _ _ a d).trans (headAt_eq _ _ _ _ _ 6 _ _ _ _ _ _ rfl h2 (Fin.ext h1) fun k => ?_)
  on_goal 3 => refine (head5 _ _ _ _ a d).trans (headAt_eq _ _ _ _ _ 5 _ _ _ _ _ _ rfl h2 (Fin.ext h1) fun k => ?_)
  on_goal 4 => refine (head4 _ _ _ _ a d).trans (headAt_eq _ _ _ _ _ 4 _ _ _ _ _ _ rfl h2 (Fin.ext h1) fun k => ?_)
  on_goal 5 => refine (head3 _ _ _ _ a d).trans (headAt_eq _ _ _ _ _ 3 _ _ _ _ _ _ rfl h2 (Fin.ext h1) fun k => ?_)
  on_goal 6 => refine (head2 _ _ _ _ a d).trans (headAt_eq _ _ _ _ _ 2 _ _ _ _ _ _ rfl h2 (Fin.ext h1) fun k => ?_)
  on_goal 7 => refine (head1 _ _ _ _ a d).trans (headAt_eq _ _ _ _ _ 1 _ _ _ _ _ _ rfl h2 (Fin.ext h1) fun k => ?_)
  on_goal 8 => refine (head0 _ _ _ _ a d).trans (headAt_eq _ _ _ _ _ 0 _ _ _ _ _ _ rfl (h2.trans (Nat.zero_add _).symm) (Fin.ext h1) fun k => ?_)
  all_goals
    show x19 _ = _
    blk_ext
    all_goals simp

end Cert.Proof.SampleC

end
-- ==== Proof.SampleCRef.lean ====
module

public import Idealize.ShloMosaic.Lib.Pipeline.ValueKit
public import Idealize.ShloMosaic.Lib.Pointwise
public import proofs.«01_k».proof.Proof.Gen.SampleCRefIdeal.Read
public import proofs.«01_k».proof.Proof.SampleRow

@[expose] public section

set_option maxRecDepth 16384

noncomputable section

namespace Cert.Proof.SampleC

open Idealize.ShloMosaic Idealize.ShloMosaic.TcCoe Idealize.SL.Sem
open Cert.SampleCRefIdeal

/-- The band of sequence `b` at column `n` of the heads: the 512 rows of the cache `C`, then the 64 rows of the projected array `P`,
    whose heads start at column `o`. -/
def bandAt (P : S32x64x2560.Idx → EReal) (C : S32x512x8x64.Idx → EReal) (o : ℕ) (ho : o ≤ 2048) (b : Fin 32) (x : Fin 576) (n : Fin 512) : EReal :=
  if h : x.val < 512 then C (ix4 b (⟨x.val, h⟩ : Fin 512) (⟨n.val / 64, by omega⟩ : Fin 8) (⟨n.val % 64, by omega⟩ : Fin 64))
  else P (ix3 b (⟨x.val - 512, by omega⟩ : Fin 64) (⟨o + n.val, by omega⟩ : Fin 2560))

/-- The kernel's result for sequence `b` at query `a`, column `n`, from the arguments. -/
def kernelAt (P : S32x64x2560.Idx → EReal) (CK CV : S32x512x8x64.Idx → EReal) (B : S8x64x576.Idx → EReal) (b : Fin 32) (a : Fin 64) (n : Fin 512) : EReal :=
  attnLast (fun x => scaleFirst (fun i : Fin 64 => P (ix3 b a (⟨n.val / 64 * 64 + i.val, by omega⟩ : Fin 2560)))
      (fun i : Fin 64 => bandAt P CK 512 (by decide) b x ⟨n.val / 64 * 64 + i.val, by omega⟩)
      (B (ix3 (⟨n.val / 64, by omega⟩ : Fin 8) a x)))
    (fun x => bandAt P CV 1024 (by decide) b x n)

namespace Ref

open Cert.SampleCRefIdeal.Read

variable (x0 : (⟨S32x64x2560, .f32⟩ : BufTy).Contents (Elt Ideal)) (x1 x2 : (⟨S32x512x8x64, .f32⟩ : BufTy).Contents (Elt Ideal))
  (x3 : (⟨S8x64x576, .f32⟩ : BufTy).Contents (Elt Ideal))

/-- A row of the band, at a head's column. -/
theorem bandAt_head (o : ℕ) (ho : o ≤ 2048) (b : Fin 32) (x : Fin 576) (h : Fin 8) (i : Fin 64) :
    bandAt x0 x1 o ho b x (⟨h.val * 64 + i.val, by omega⟩ : Fin 512) =
      if h' : x.val < 512 then x1 (ix4 b (⟨x.val, h'⟩ : Fin 512) h i)
      else x0 (ix3 b (⟨x.val - 512, by omega⟩ : Fin 64) (⟨o + (h.val * 64 + i.val), by omega⟩ : Fin 2560)) := by
  unfold bandAt
  have e1 : (⟨(h.val * 64 + i.val) / 64, by omega⟩ : Fin 8) = h := Fin.ext (by show (h.val * 64 + i.val) / 64 = h.val; omega)
  have e2 : (⟨(h.val * 64 + i.val) % 64, by omega⟩ : Fin 64) = i := Fin.ext (by show (h.val * 64 + i.val) % 64 = i.val; omega)
  simp only [e1, e2]

/-- The reference's band of keys. -/
theorem v5_at (b : Fin 32) (x : Fin 576) (h : Fin 8) (i : Fin 64) : val_main_v5 (F := Ideal) x0 x1 (ix4 b x h i) =
    bandAt x0 x1 512 (by decide) b x (⟨h.val * 64 + i.val, by omega⟩ : Fin 512) := by
  rw [bandAt_head]
  pointwise [val_main_v5, val_main_v4, val_main_v1]

/-- The reference's band of values. -/
theorem v7_at (b : Fin 32) (x : Fin 576) (h : Fin 8) (i : Fin 64) : val_main_v7 (F := Ideal) x0 x2 (ix4 b x h i) =
    bandAt x0 x2 1024 (by decide) b x (⟨h.val * 64 + i.val, by omega⟩ : Fin 512) := by
  rw [bandAt_head]
  pointwise [val_main_v7, val_main_v6, val_main_v2]

/-- The queries by head. -/
theorem v8_at (b : Fin 32) (a : Fin 64) (h : Fin 8) (i : Fin 64) : val_main_v8 (F := Ideal) x0 (ix4 b a h i) =
    x0 (ix3 b a (⟨h.val * 64 + i.val, by omega⟩ : Fin 2560)) := by
  pointwise [val_main_v8, val_main_v0]

/-- The scores. -/
theorem v14_at (b : Fin 32) (h : Fin 8) (a : Fin 64) (x : Fin 576) : val_main_v14 (F := Ideal) x0 x1 x3 (ix4 b h a x) =
    scaleLast (fun i : Fin 64 => x0 (ix3 b a (⟨h.val * 64 + i.val, by omega⟩ : Fin 2560)))
      (fun i => bandAt x0 x1 512 (by decide) b x (⟨h.val * 64 + i.val, by omega⟩ : Fin 512)) (x3 (ix3 h a x)) := by
  have e : val_main_v14 (F := Ideal) x0 x1 x3 (ix4 b h a x) =
      (∑ i : Fin 64, val_main_v8 (F := Ideal) x0 (ix4 b a h i) * val_main_v5 (F := Ideal) x0 x1 (ix4 b x h i)) * Ideal.ofBits .f32 0x3E000000#32
        + x3 (ix3 h a x) := by
    pointwise [val_main_v14, val_main_v13, val_main_v12, val_main_v11, val_main_v10, val_main_v9, val_main_cst]
  rw [e]
  simp only [v8_at, v5_at]
  rfl

/-- The row maximum, from −∞. -/
theorem v15_at (b : Fin 32) (h : Fin 8) (a : Fin 64) : val_main_v15 (F := Ideal) x0 x1 x3 (ix3 b h a) =
    rowMax fun x => val_main_v14 (F := Ideal) x0 x1 x3 (ix4 b h a x) := by
  unfold val_main_v15
  generalize val_main_v14 (F := Ideal) x0 x1 x3 = y
  refine (Host.reduce_eq_fold_single (α := EReal) (FloatOps.maximumf (F := Ideal) (φ := .f32)) (s := S32x8x64x576) (t := S32x8x64) y _ _ (by decide) _ _).trans ?_
  refine congrArg (fun f => Finset.univ.fold max _ f) (funext fun k => ?_)
  exact congrArg y (funext fun a => Fin.ext (by match a with | ⟨0, _⟩ => rfl | ⟨1, _⟩ => rfl | ⟨2, _⟩ => rfl | ⟨3, _⟩ => rfl))

/-- The weights. -/
theorem v21_at (b : Fin 32) (h : Fin 8) (a : Fin 64) (x : Fin 576) : val_main_v21 (F := Ideal) x0 x1 x3 (ix4 b h a x) =
    Ideal.exp (val_main_v14 (F := Ideal) x0 x1 x3 (ix4 b h a x) - max (Ideal.ofBits .f32 0xFF800000#32) (val_main_v15 (F := Ideal) x0 x1 x3 (ix3 b h a))) := by
  rw [val_main_v21_apply, val_main_v20_apply, val_main_v19_apply, val_main_v18_apply, val_main_v17_apply, val_main_v16_apply, val_main_cst_1_apply]
  have e : idx_main_v18 (idx_main_v19 (ix4 b h a x)) = ix3 b h a := by
    funext k
    match k with | ⟨0, _⟩ => rfl | ⟨1, _⟩ => rfl | ⟨2, _⟩ => rfl
  rw [e]
  rfl

/-- The divided weights. -/
theorem v25_at (b : Fin 32) (h : Fin 8) (a : Fin 64) (x : Fin 576) : val_main_v25 (F := Ideal) x0 x1 x3 (ix4 b h a x) =
    Ideal.div (val_main_v21 (F := Ideal) x0 x1 x3 (ix4 b h a x)) (0 + ∑ y : Fin 576, val_main_v21 (F := Ideal) x0 x1 x3 (ix4 b h a y)) := by
  unfold val_main_v25 val_main_v24 val_main_v23 val_main_v22
  generalize val_main_v21 (F := Ideal) x0 x1 x3 = y
  pointwise [val_main_cst_2]

/-- The reference's result for sequence `b` at query `a`, column `n`. -/
theorem v28_at (b : Fin 32) (a : Fin 64) (n : Fin 512) : val_main_v28 (F := Ideal) x0 x1 x2 x3 (ix3 b a n) =
    attnFirst (fun x => scaleLast (fun i : Fin 64 => x0 (ix3 b a (⟨n.val / 64 * 64 + i.val, by omega⟩ : Fin 2560)))
        (fun i => bandAt x0 x1 512 (by decide) b x (⟨n.val / 64 * 64 + i.val, by omega⟩ : Fin 512)) (x3 (ix3 (⟨n.val / 64, by omega⟩ : Fin 8) a x)))
      (fun x : Fin 576 => bandAt x0 x2 1024 (by decide) b x n) := by
  have e : val_main_v28 (F := Ideal) x0 x1 x2 x3 (ix3 b a n) = ∑ x : Fin 576,
      val_main_v7 (F := Ideal) x0 x2 (ix4 b x (⟨n.val / 64, by omega⟩ : Fin 8) (⟨n.val % 64, by omega⟩ : Fin 64)) *
      val_main_v25 (F := Ideal) x0 x1 x3 (ix4 b (⟨n.val / 64, by omega⟩ : Fin 8) a x) := by
    pointwise [val_main_v28, val_main_v27, val_main_v26]
  have en : (⟨n.val / 64 * 64 + n.val % 64, by omega⟩ : Fin 512) = n := Fin.ext (by show n.val / 64 * 64 + n.val % 64 = n.val; omega)
  rw [e]
  simp only [v25_at, v21_at, v15_at, v14_at, v7_at, en]
  rfl

end Ref

/-- With finite queries, keys and bias, the kernel's result is the reference's. -/
theorem kernelAt_eq (P : S32x64x2560.Idx → EReal) (CK CV : S32x512x8x64.Idx → EReal) (B : S8x64x576.Idx → EReal)
    (hP : ∀ (b : Fin 32) (r : Fin 64) (n : Fin 1024), ∃ x : ℝ, P (ix3 b r (⟨n.val, by omega⟩ : Fin 2560)) = (x : EReal))
    (hK : ∀ (b : Fin 32) (x : Fin 512) (h : Fin 8) (i : Fin 64), ∃ y : ℝ, CK (ix4 b x h i) = (y : EReal))
    (hB : ∀ (h : Fin 8) (a : Fin 64) (x : Fin 576), ∃ y : ℝ, B (ix3 h a x) = (y : EReal)) (b : Fin 32) (a : Fin 64) (n : Fin 512) :
    kernelAt P CK CV B b a n = Read.val_main_v28 (F := Ideal) P CK CV B (ix3 b a n) := by
  rw [Ref.v28_at]
  refine sample_eq _ _ _ _ 0 (fun i => hP b a ⟨n.val / 64 * 64 + i.val, by omega⟩) (fun x i => ?_) fun x => hB _ a x
  unfold bandAt
  split_ifs
  · exact hK _ _ _ _
  · exact hP b _ ⟨512 + (n.val / 64 * 64 + i.val), by omega⟩

end Cert.Proof.SampleC

end
-- ==== Proof.SampleCReads.lean ====
module

public import proofs.«01_k».proof.Proof.SampleCBlock
public import proofs.«01_k».proof.Proof.SampleCRef

@[expose] public section

set_option maxRecDepth 16384
set_option maxHeartbeats 4000000

noncomputable section

namespace Cert.Proof.SampleC

open Idealize.ShloMosaic Idealize.ShloMosaic.TcCoe Idealize.SL.Sem
open Cert.SampleCIdeal Cert.SampleCIdeal.Gen

/-- The scaled queries of a block. -/
theorem pay1_at (x : Vec Ideal S1x64x512 .f32) (a : Fin 64) (n : Fin 512) :
    k0_pay1 x (ix2 a n) = x (ix3 0 a n) * Ideal.ofBits .f32 0x3E000000#32 := by
  pointwise [k0_pay1]

/-- The nine blocks that the kernel lays together, of the keys as of the values: row `x` of the band is row `x % 64` of block `x / 64`. -/
theorem pay2_at (x0 x1 x2 x3 x4 x5 x6 x7 x8 : Vec Ideal S1x64x512 .f32) (K : Fin 576 → EReal) (x : Fin 576) (n : Fin 512)
    (h0 : ∀ r : Fin 64, x0 (ix3 0 r n) = K ⟨0 + r.val, by omega⟩)
    (h1 : ∀ r : Fin 64, x1 (ix3 0 r n) = K ⟨64 + r.val, by omega⟩)
    (h2 : ∀ r : Fin 64, x2 (ix3 0 r n) = K ⟨128 + r.val, by omega⟩)
    (h3 : ∀ r : Fin 64, x3 (ix3 0 r n) = K ⟨192 + r.val, by omega⟩)
    (h4 : ∀ r : Fin 64, x4 (ix3 0 r n) = K ⟨256 + r.val, by omega⟩)
    (h5 : ∀ r : Fin 64, x5 (ix3 0 r n) = K ⟨320 + r.val, by omega⟩)
    (h6 : ∀ r : Fin 64, x6 (ix3 0 r n) = K ⟨384 + r.val, by omega⟩)
    (h7 : ∀ r : Fin 64, x7 (ix3 0 r n) = K ⟨448 + r.val, by omega⟩)
    (h8 : ∀ r : Fin 64, x8 (ix3 0 r n) = K ⟨512 + r.val, by omega⟩) :
    k0_pay2 x0 x1 x2 x3 x4 x5 x6 x7 x8 (ix2 x n) = K x := by
  pointwise [k0_pay2]
  split_ifs
  all_goals
    first
    | refine (h0 _).trans ?_
    | refine (h1 _).trans ?_
    | refine (h2 _).trans ?_
    | refine (h3 _).trans ?_
    | refine (h4 _).trans ?_
    | refine (h5 _).trans ?_
    | refine (h6 _).trans ?_
    | refine (h7 _).trans ?_
    | refine (h8 _).trans ?_
    exact congrArg K (Fin.ext (by simp only [Fin.isValue]; omega))

/-- The values are laid together as the keys are. -/
theorem pay3_eq (x0 x1 x2 x3 x4 x5 x6 x7 x8 : Vec Ideal S1x64x512 .f32) : k0_pay3 x0 x1 x2 x3 x4 x5 x6 x7 x8 = k0_pay2 x0 x1 x2 x3 x4 x5 x6 x7 x8 := rfl

/-- Where the windows lie at grid point `t`, of sequence `t`: the queries and the result at its block, the first eight key and value windows at the
    cache's blocks in turn, the ninth at the new keys' and values' columns, the bias whole. -/
theorem idx : ∀ t : Fin grid0.N, win0_0.index t = ![t.val, 0, 0] ∧
    win0_1.index t = ![t.val, 0, 0] ∧ win0_2.index t = ![t.val, 1, 0] ∧ win0_3.index t = ![t.val, 2, 0] ∧ win0_4.index t = ![t.val, 3, 0] ∧ win0_5.index t = ![t.val, 4, 0] ∧ win0_6.index t = ![t.val, 5, 0] ∧ win0_7.index t = ![t.val, 6, 0] ∧ win0_8.index t = ![t.val, 7, 0] ∧ win0_9.index t = ![t.val, 0, 1] ∧
    win0_10.index t = ![t.val, 0, 0] ∧ win0_11.index t = ![t.val, 1, 0] ∧ win0_12.index t = ![t.val, 2, 0] ∧ win0_13.index t = ![t.val, 3, 0] ∧ win0_14.index t = ![t.val, 4, 0] ∧ win0_15.index t = ![t.val, 5, 0] ∧ win0_16.index t = ![t.val, 6, 0] ∧ win0_17.index t = ![t.val, 7, 0] ∧ win0_18.index t = ![t.val, 0, 2] ∧
    win0_19.index t = ![0, 0, 0] ∧ win0_20.index t = ![t.val, 0, 0] := by
  decide +kernel

/-- A load of a whole block reads the block. -/
theorem ld_at (x : Vec Ideal S1x64x512 .f32) (a : Fin 64) (n : Fin 512) : View.ld x r0_0 (ix3 0 a n) = x (ix3 0 a n) := by
  show x _ = _
  blk_ext
  all_goals simp

section Reads

variable (m : (ℓ : Loc nD τ sig) → Buf (Elt Ideal) ℓ) (c : Dev nD) (t : Fin cfg0.grid.N) (ht : t.val < 32)

/-- The block of queries. -/
theorem read_q (a : Fin 64) (n : Fin 512) : iblk m c 0 t (ix3 0 a n) =
    m ((c : Thread nD τ).loc main_arg0) (ix3 (⟨t.val, by omega⟩ : Fin 32) a (⟨n.val, by omega⟩ : Fin 2560)) := by
  have h := (idx t).1
  blk_ext! [iblk, V, h]

/-- The nine blocks of keys are the rows of the band of keys in turn. -/
theorem read_k (n : Fin 512) (r : Fin 64) :
    iblk m c 1 t (ix3 0 r n) = bandAt (m ((c : Thread nD τ).loc main_arg0)) (m ((c : Thread nD τ).loc main_arg1)) 512 (by decide) ⟨t.val, ht⟩ ⟨0 + r.val, by omega⟩ n ∧
    iblk m c 2 t (ix3 0 r n) = bandAt (m ((c : Thread nD τ).loc main_arg0)) (m ((c : Thread nD τ).loc main_arg1)) 512 (by decide) ⟨t.val, ht⟩ ⟨64 + r.val, by omega⟩ n ∧
    iblk m c 3 t (ix3 0 r n) = bandAt (m ((c : Thread nD τ).loc main_arg0)) (m ((c : Thread nD τ).loc main_arg1)) 512 (by decide) ⟨t.val, ht⟩ ⟨128 + r.val, by omega⟩ n ∧
    iblk m c 4 t (ix3 0 r n) = bandAt (m ((c : Thread nD τ).loc main_arg0)) (m ((c : Thread nD τ).loc main_arg1)) 512 (by decide) ⟨t.val, ht⟩ ⟨192 + r.val, by omega⟩ n ∧
    iblk m c 5 t (ix3 0 r n) = bandAt (m ((c : Thread nD τ).loc main_arg0)) (m ((c : Thread nD τ).loc main_arg1)) 512 (by decide) ⟨t.val, ht⟩ ⟨256 + r.val, by omega⟩ n ∧
    iblk m c 6 t (ix3 0 r n) = bandAt (m ((c : Thread nD τ).loc main_arg0)) (m ((c : Thread nD τ).loc main_arg1)) 512 (by decide) ⟨t.val, ht⟩ ⟨320 + r.val, by omega⟩ n ∧
    iblk m c 7 t (ix3 0 r n) = bandAt (m ((c : Thread nD τ).loc main_arg0)) (m ((c : Thread nD τ).loc main_arg1)) 512 (by decide) ⟨t.val, ht⟩ ⟨384 + r.val, by omega⟩ n ∧
    iblk m c 8 t (ix3 0 r n) = bandAt (m ((c : Thread nD τ).loc main_arg0)) (m ((c : Thread nD τ).loc main_arg1)) 512 (by decide) ⟨t.val, ht⟩ ⟨448 + r.val, by omega⟩ n ∧
    iblk m c 9 t (ix3 0 r n) = bandAt (m ((c : Thread nD τ).loc main_arg0)) (m ((c : Thread nD τ).loc main_arg1)) 512 (by decide) ⟨t.val, ht⟩ ⟨512 + r.val, by omega⟩ n := by
  obtain ⟨-, h0, h1, h2, h3, h4, h5, h6, h7, h8, -⟩ := idx t
  unfold bandAt
  refine ⟨?_, ?_, ?_, ?_, ?_, ?_, ?_, ?_, ?_⟩
  all_goals
    first
    | rw [dif_pos (by simp only [Fin.isValue]; omega)]
    | rw [dif_neg (by simp only [Fin.isValue]; omega)]
  on_goal 9 => blk_ext! [iblk, V, h8]
  on_goal 1 => blk_ext! [iblk, V, h0]
  on_goal 1 => blk_ext! [iblk, V, h1]
  on_goal 1 => blk_ext! [iblk, V, h2]
  on_goal 1 => blk_ext! [iblk, V, h3]
  on_goal 1 => blk_ext! [iblk, V, h4]
  on_goal 1 => blk_ext! [iblk, V, h5]
  on_goal 1 => blk_ext! [iblk, V, h6]
  on_goal 1 => blk_ext! [iblk, V, h7]

/-- The nine blocks of values are the rows of the band of values in turn. -/
theorem read_v (n : Fin 512) (r : Fin 64) :
    iblk m c 10 t (ix3 0 r n) = bandAt (m ((c : Thread nD τ).loc main_arg0)) (m ((c : Thread nD τ).loc main_arg2)) 1024 (by decide) ⟨t.val, ht⟩ ⟨0 + r.val, by omega⟩ n ∧
    iblk m c 11 t (ix3 0 r n) = bandAt (m ((c : Thread nD τ).loc main_arg0)) (m ((c : Thread nD τ).loc main_arg2)) 1024 (by decide) ⟨t.val, ht⟩ ⟨64 + r.val, by omega⟩ n ∧
    iblk m c 12 t (ix3 0 r n) = bandAt (m ((c : Thread nD τ).loc main_arg0)) (m ((c : Thread nD τ).loc main_arg2)) 1024 (by decide) ⟨t.val, ht⟩ ⟨128 + r.val, by omega⟩ n ∧
    iblk m c 13 t (ix3 0 r n) = bandAt (m ((c : Thread nD τ).loc main_arg0)) (m ((c : Thread nD τ).loc main_arg2)) 1024 (by decide) ⟨t.val, ht⟩ ⟨192 + r.val, by omega⟩ n ∧
    iblk m c 14 t (ix3 0 r n) = bandAt (m ((c : Thread nD τ).loc main_arg0)) (m ((c : Thread nD τ).loc main_arg2)) 1024 (by decide) ⟨t.val, ht⟩ ⟨256 + r.val, by omega⟩ n ∧
    iblk m c 15 t (ix3 0 r n) = bandAt (m ((c : Thread nD τ).loc main_arg0)) (m ((c : Thread nD τ).loc main_arg2)) 1024 (by decide) ⟨t.val, ht⟩ ⟨320 + r.val, by omega⟩ n ∧
    iblk m c 16 t (ix3 0 r n) = bandAt (m ((c : Thread nD τ).loc main_arg0)) (m ((c : Thread nD τ).loc main_arg2)) 1024 (by decide) ⟨t.val, ht⟩ ⟨384 + r.val, by omega⟩ n ∧
    iblk m c 17 t (ix3 0 r n) = bandAt (m ((c : Thread nD τ).loc main_arg0)) (m ((c : Thread nD τ).loc main_arg2)) 1024 (by decide) ⟨t.val, ht⟩ ⟨448 + r.val, by omega⟩ n ∧
    iblk m c 18 t (ix3 0 r n) = bandAt (m ((c : Thread nD τ).loc main_arg0)) (m ((c : Thread nD τ).loc main_arg2)) 1024 (by decide) ⟨t.val, ht⟩ ⟨512 + r.val, by omega⟩ n := by
  obtain ⟨-, -, -, -, -, -, -, -, -, -, h0, h1, h2, h3, h4, h5, h6, h7, h8, -⟩ := idx t
  unfold bandAt
  refine ⟨?_, ?_, ?_, ?_, ?_, ?_, ?_, ?_, ?_⟩
  all_goals
    first
    | rw [dif_pos (by simp only [Fin.isValue]; omega)]
    | rw [dif_neg (by simp only [Fin.isValue]; omega)]
  on_goal 9 => blk_ext! [iblk, V, h8]
  on_goal 1 => blk_ext! [iblk, V, h0]
  on_goal 1 => blk_ext! [iblk, V, h1]
  on_goal 1 => blk_ext! [iblk, V, h2]
  on_goal 1 => blk_ext! [iblk, V, h3]
  on_goal 1 => blk_ext! [iblk, V, h4]
  on_goal 1 => blk_ext! [iblk, V, h5]
  on_goal 1 => blk_ext! [iblk, V, h6]
  on_goal 1 => blk_ext! [iblk, V, h7]

/-- The bias. -/
theorem read_b (h : Fin 8) (a : Fin 64) (x : Fin 576) : iblk m c 19 t (ix3 h a x) = m ((c : Thread nD τ).loc main_arg3) (ix3 h a x) := by
  obtain ⟨-, -, -, -, -, -, -, -, -, -, -, -, -, -, -, -, -, -, -, h, -⟩ := idx t
  blk_ext! [iblk, V, h]

end Reads

end Cert.Proof.SampleC

end
-- ==== Proof.SampleCRun.lean ====
module

public import proofs.«01_k».proof.Proof.SampleCReads

@[expose] public section

set_option maxRecDepth 16384

noncomputable section

namespace Cert.Proof.SampleC

open Idealize.ShloMosaic Idealize.ShloMosaic.TcCoe Idealize.SL.Sem
open Cert.SampleCIdeal Cert.SampleCIdeal.Gen

/-- A head's entry from what its scaled queries, its bands and its bias are. -/
theorem headAt_of (v4 : FVec Ideal S64x512 .bf16) (v24 v44 : FVec Ideal S576x512 .bf16) (B : Fin 576 → EReal)
    (o : ℕ) (ho : o + 64 ≤ 512) (a d : Fin 64) (q : Fin 64 → EReal) (k : Fin 576 → Fin 64 → EReal) (v b : Fin 576 → EReal)
    (hq : ∀ i : Fin 64, v4 (ix2 a ⟨o + i.val, by omega⟩) = q i * Ideal.ofBits .f32 0x3E000000#32)
    (hk : ∀ x, ∀ i : Fin 64, v24 (ix2 x ⟨o + i.val, by omega⟩) = k x i) (hv : ∀ x, v44 (ix2 x ⟨o + d.val, by omega⟩) = v x)
    (hb : ∀ x, B x = b x) :
    headAt v4 v24 v44 B o ho a d = attnLast (fun x => scaleFirst q (k x) (b x)) v := by
  unfold headAt
  refine congrArg₂ attnLast (funext fun x => ?_) (funext hv)
  rw [hb]
  simp only [hq, hk]
  rfl

variable (m : (ℓ : Loc nD τ sig) → Buf (Elt Ideal) ℓ)

/-- What grid point `t` writes at query `a`, column `n`, is the kernel's result there for sequence `t`. -/
theorem after_at (c : Dev nD) (t : Fin cfg0.N) (ht : t.val < 32) (a : Fin 64) (n : Fin 512) :
    (dats m 0 c).after 20 t (ix3 0 a n) = kernelAt (m ((c : Thread nD τ).loc main_arg0)) (m ((c : Thread nD τ).loc main_arg1))
      (m ((c : Thread nD τ).loc main_arg2)) (m ((c : Thread nD τ).loc main_arg3)) ⟨t.val, ht⟩ a n := by
  have en : (⟨n.val / 64 * 64 + n.val % 64, by omega⟩ : Fin 512) = n := Fin.ext (by show n.val / 64 * 64 + n.val % 64 = n.val; omega)
  rw [after0_20]
  refine (out_at _ _ _ _ _ _ _ _ _ _ _ _ _ _ _ _ _ _ _ _ (ix3 0 a n)).trans ?_
  refine headAt_of _ _ _ _ _ _ _ _ _ _ _ _ (fun i => ?_) (fun x i => ?_) (fun x => ?_) (fun x => ?_)
  · exact (pay1_at _ a _).trans (congrArg (· * _) ((ld_at _ a _).trans (read_q m c t ht a _)))
  · exact pay2_at _ _ _ _ _ _ _ _ _ (fun x => bandAt _ _ 512 (by decide) _ x _) x _
      (fun r => (ld_at _ r _).trans (read_k m c t ht _ r).1) (fun r => (ld_at _ r _).trans (read_k m c t ht _ r).2.1) (fun r => (ld_at _ r _).trans (read_k m c t ht _ r).2.2.1) (fun r => (ld_at _ r _).trans (read_k m c t ht _ r).2.2.2.1) (fun r => (ld_at _ r _).trans (read_k m c t ht _ r).2.2.2.2.1) (fun r => (ld_at _ r _).trans (read_k m c t ht _ r).2.2.2.2.2.1) (fun r => (ld_at _ r _).trans (read_k m c t ht _ r).2.2.2.2.2.2.1) (fun r => (ld_at _ r _).trans (read_k m c t ht _ r).2.2.2.2.2.2.2.1) (fun r => (ld_at _ r _).trans (read_k m c t ht _ r).2.2.2.2.2.2.2.2)
  · refine (congrFun (pay3_eq _ _ _ _ _ _ _ _ _) _).trans ((pay2_at _ _ _ _ _ _ _ _ _ (fun x => bandAt _ _ 1024 (by decide) _ x _) x _
      (fun r => (ld_at _ r _).trans (read_v m c t ht _ r).1) (fun r => (ld_at _ r _).trans (read_v m c t ht _ r).2.1) (fun r => (ld_at _ r _).trans (read_v m c t ht _ r).2.2.1) (fun r => (ld_at _ r _).trans (read_v m c t ht _ r).2.2.2.1) (fun r => (ld_at _ r _).trans (read_v m c t ht _ r).2.2.2.2.1) (fun r => (ld_at _ r _).trans (read_v m c t ht _ r).2.2.2.2.2.1) (fun r => (ld_at _ r _).trans (read_v m c t ht _ r).2.2.2.2.2.2.1) (fun r => (ld_at _ r _).trans (read_v m c t ht _ r).2.2.2.2.2.2.2.1) (fun r => (ld_at _ r _).trans (read_v m c t ht _ r).2.2.2.2.2.2.2.2)).trans ?_)
    exact congrArg (bandAt _ _ 1024 (by decide) _ x) en
  · exact read_b m c t _ a x

/-- Every block of the result is written. -/
theorem covers : (cfg0.win 20).Covers := by
  decide +kernel

/-- The result array after the whole grid is the reference's value at the arguments. -/
theorem out_eq (c : Dev nD)
    (hP : ∀ (b : Fin 32) (r : Fin 64) (n : Fin 1024), ∃ x : ℝ, m ((c : Thread nD τ).loc main_arg0) (ix3 b r (⟨n.val, by omega⟩ : Fin 2560)) = (x : EReal))
    (hK : ∀ (b : Fin 32) (x : Fin 512) (h : Fin 8) (i : Fin 64), ∃ y : ℝ, m ((c : Thread nD τ).loc main_arg1) (ix4 b x h i) = (y : EReal))
    (hB : ∀ (h : Fin 8) (a : Fin 64) (x : Fin 576), ∃ y : ℝ, m ((c : Thread nD τ).loc main_arg3) (ix3 h a x) = (y : EReal)) :
    (dats m 0 c).arrAt 20 cfg0.N = Cert.SampleCRefIdeal.Read.val_main_v28 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 20 _ covers fun t hf y => ?_
  have ht : t.val < 32 := t.isLt
  obtain ⟨a, n, rfl⟩ : ∃ (a : Fin 64) (n : Fin 512), y = ix3 0 a n := ⟨y 1, y 2, by rw [eq_ix3 y]; congr 1; exact Subsingleton.elim _ _⟩
  have h : win0_20.index t = ![t.val, 0, 0] := (idx t).2.2.2.2.2.2.2.2.2.2.2.2.2.2.2.2.2.2.2.2
  have he : ((View.whole main_v2).slice (win0_20.rect t)).emb (ix3 0 a n) = ix3 (⟨t.val, by omega⟩ : Fin 32) a n := by
    blk_ext [h]
  blk_simp
  rw [after_at m c t ht a n, kernelAt_eq _ _ _ _ hP hK hB]
  exact congrArg _ he.symm

end Cert.Proof.SampleC

end
-- ==== Proof.SampleABlock.lean ====
module

public import Idealize.ShloMosaic.Lib.Pipeline.ValueKit
public import Idealize.ShloMosaic.Lib.Pointwise
public import proofs.«01_k».proof.Proof.Gen.SampleAIdeal.Value
public import proofs.«01_k».proof.Proof.SampleRow

@[expose] public section

set_option maxRecDepth 16384

noncomputable section

namespace Cert.Proof.SampleA

open Idealize.ShloMosaic Idealize.ShloMosaic.TcCoe Idealize.SL.Sem
open Cert.SampleAIdeal Cert.SampleAIdeal.Gen

/-- What the block computes at query `a`, column `d` of a head: the softmax-weighted sum over the band of keys, the head's sink `z` among the weights
    that are summed. The head's queries start at column `o`, its keys and values at column `u`. -/
def headAt (v4 : FVec Ideal S64x512 .bf16) (v12 v20 : FVec Ideal S192x128 .bf16) (B : Fin 192 → EReal) (z : EReal)
    (o u : ℕ) (ho : o + 64 ≤ 512) (hu : u + 64 ≤ 128) (a d : Fin 64) : EReal :=
  sinkLast (fun x => (∑ i : Fin 64, v4 (ix2 a ⟨o + i.val, by omega⟩) * v12 (ix2 x ⟨u + i.val, by omega⟩)) + B x)
    (fun x => v20 (ix2 x ⟨u + d.val, by omega⟩)) z

section Heads

variable (v4 : FVec Ideal S64x512 .bf16) (v12 v20 : FVec Ideal S192x128 .bf16) (B : Vec Ideal S1x64x192 .f32) (z : Vec Ideal S1x1 .f32) (a d : Fin 64)

/-- The store of head 0, from the blocks of queries and keys themselves. -/
theorem head0 (x0 : Vec Ideal S1x64x512 .f32) (x1 x2 x3 : Vec Ideal S1x64x128 .f32) :
    k0_pay7 v20 (k0_pay5 x0 x1 x2 x3 B) (k0_pay6 x0 x1 x2 x3 B) z (ix3 0 a d) =
      headAt (k0_pay2 x0) (k0_pay3 x1 x2 x3) v20 (fun x => B (ix3 0 a x)) (z (ix2 0 0)) 0 0 (by decide) (by decide) a d := by
  unfold k0_pay6 k0_pay5
  generalize k0_pay2 x0 = v4
  generalize k0_pay3 x1 x2 x3 = v12
  pointwise [k0_pay7]
  simp only [headAt, sinkLast, rowMax, Nat.zero_add]

/-- The store of head 1. -/
theorem head1 : k0_pay14 (k0_pay12 v4 v12 B z) (k0_pay13 v4 v12 v20 B z) (ix3 0 a d) =
    headAt v4 v12 v20 (fun x => B (ix3 0 a x)) (z (ix2 0 0)) 64 0 (by decide) (by decide) a d := by
  pointwise [k0_pay14, k0_pay13, k0_pay12, k0_pay11, k0_pay10, k0_pay9, k0_pay8]
  simp only [headAt, sinkLast, rowMax, Nat.zero_add]

/-- The store of head 2. -/
theorem head2 : k0_pay15 v4 v12 v20 B z (ix3 0 a d) =
    headAt v4 v12 v20 (fun x => B (ix3 0 a x)) (z (ix2 0 0)) 128 0 (by decide) (by decide) a d := by
  pointwise [k0_pay15]
  simp only [headAt, sinkLast, rowMax, Nat.zero_add]

/-- The store of head 3. -/
theorem head3 : k0_pay18 v20 (k0_pay16 v4 v12) (k0_pay17 B) z (ix3 0 a d) =
    headAt v4 v12 v20 (fun x => B (ix3 0 a x)) (z (ix2 0 0)) 192 0 (by decide) (by decide) a d := by
  pointwise [k0_pay18, k0_pay17, k0_pay16]
  simp only [headAt, sinkLast, rowMax, Nat.zero_add]

/-- The store of head 4. -/
theorem head4 : k0_pay25 v20 (k0_pay22 v4 v12 B z) (k0_pay23 v4 v12 B z) (k0_pay24 v4 v12 B z) (ix3 0 a d) =
    headAt v4 v12 v20 (fun x => B (ix3 0 a x)) (z (ix2 0 0)) 256 64 (by decide) (by decide) a d := by
  pointwise [k0_pay25, k0_pay24, k0_pay23, k0_pay22, k0_pay21, k0_pay20, k0_pay19]
  simp only [headAt, sinkLast, rowMax, Nat.zero_add]

/-- The store of head 5. -/
theorem head5 : k0_pay26 v4 v12 v20 B z (ix3 0 a d) =
    headAt v4 v12 v20 (fun x => B (ix3 0 a x)) (z (ix2 0 0)) 320 64 (by decide) (by decide) a d := by
  pointwise [k0_pay26]
  simp only [headAt, sinkLast, rowMax, Nat.zero_add]

/-- The store of head 6. -/
theorem head6 : k0_pay29 v20 (k0_pay27 v4) (k0_pay28 v12) (constant S64x192 .f32 0x00000000#32) B z (ix3 0 a d) =
    headAt v4 v12 v20 (fun x => B (ix3 0 a x)) (z (ix2 0 0)) 384 64 (by decide) (by decide) a d := by
  pointwise [k0_pay29, k0_pay28, k0_pay27]
  simp only [headAt, sinkLast, rowMax, Nat.zero_add]

/-- The store of head 7. -/
theorem head7 : k0_pay1 v20 (k0_pay31 z) (k0_pay32 v4 v12 B z) (k0_pay33 v4 v12 B z) (ix3 0 a d) =
    headAt v4 v12 v20 (fun x => B (ix3 0 a x)) (z (ix2 0 0)) 448 64 (by decide) (by decide) a d := by
  pointwise [k0_pay1, k0_pay33, k0_pay32, k0_pay31, k0_pay30]
  simp only [headAt, sinkLast, rowMax, Nat.zero_add]

end Heads

/-- One block's result at query `a`, column `n` of the 512: four heads share one of the two heads of keys and values. -/
def blockAt (v4 : FVec Ideal S64x512 .bf16) (v12 v20 : FVec Ideal S192x128 .bf16) (B : Vec Ideal S8x64x192 .f32) (Z : Vec Ideal S8x1 .f32)
    (a : Fin 64) (n : Fin 512) : EReal :=
  headAt v4 v12 v20 (fun x => B (ix3 (⟨n.val / 64, by omega⟩ : Fin 8) a x)) (Z (ix2 (⟨n.val / 64, by omega⟩ : Fin 8) 0))
    (n.val / 64 * 64) (n.val / 256 * 64) (by omega) (by omega) a ⟨n.val % 64, by omega⟩

/-- A head's entry named by its column among the 512. -/
theorem headAt_eq (v4 : FVec Ideal S64x512 .bf16) (v12 v20 : FVec Ideal S192x128 .bf16) (B : Vec Ideal S8x64x192 .f32) (Z : Vec Ideal S8x1 .f32)
    (b : Fin 192 → EReal) (z : EReal) (h : Fin 8) (o u : ℕ) (ho : o + 64 ≤ 512) (hu : u + 64 ≤ 128) (a a' d : Fin 64) (n : Fin 512) (h1 : o = 64 * h.val)
    (h3 : u = 64 * (h.val / 4)) (h2 : n.val = o + d.val) (ha : a' = a) (hb : ∀ x, b x = B (ix3 h a x)) (hz : z = Z (ix2 h 0)) :
    headAt v4 v12 v20 b z o u ho hu a d = blockAt v4 v12 v20 B Z a' n := by
  subst ha
  subst hz
  obtain rfl : b = fun x => B (ix3 h a' x) := funext hb
  have key : ∀ (h' : Fin 8) (o' u' : ℕ) (ho' : o' + 64 ≤ 512) (hu' : u' + 64 ≤ 128) (d' : Fin 64), h = h' → o = o' → u = u' → d = d' →
      headAt v4 v12 v20 (fun x => B (ix3 h a' x)) (Z (ix2 h 0)) o u ho hu a' d =
        headAt v4 v12 v20 (fun x => B (ix3 h' a' x)) (Z (ix2 h' 0)) o' u' ho' hu' a' d' := by
    rintro h' o' u' ho' hu' d' rfl rfl rfl rfl
    rfl
  exact key _ _ _ _ _ _ (Fin.ext (by show h.val = n.val / 64; omega)) (by omega) (by omega) (Fin.ext (by show d.val = n.val % 64; omega))

/-- The block that a grid point leaves in the output window, at query `a`, column `n`. -/
theorem out_at (x0 : Vec Ideal S1x64x512 .f32) (x1 x2 x3 x4 x5 x6 : Vec Ideal S1x64x128 .f32)
    (x7 : Vec Ideal S8x64x192 .f32) (x8 : Vec Ideal S8x1 .f32) (y : S1x64x512.Idx) :
    out0_9 x0 x1 x2 x3 x4 x5 x6 x7 x8 y =
      blockAt (k0_pay34 x0 x1 x2 x3 x4 x5 x6 x7 x8) (k0_pay35 x0 x1 x2 x3 x4 x5 x6 x7 x8) (k0_pay36 x0 x1 x2 x3 x4 x5 x6 x7 x8) x7 x8 (y 1) (y 2) := by
  unfold out0_9
  canon_tiles x h
  all_goals
    obtain ⟨a, d, rfl⟩ : ∃ (a d : Fin 64), x = ix3 0 a d := ⟨x 1, x 2, by rw [eq_ix3 x]; congr 1; exact Subsingleton.elim _ _⟩
  on_goal 1 => refine (head7 _ _ _ _ _ a d).trans (headAt_eq _ _ _ _ _ _ _ 7 _ _ _ _ _ _ _ _ rfl rfl h2 (Fin.ext h1) (fun k => ?_) ?_)
  on_goal 3 => refine (head6 _ _ _ _ _ a d).trans (headAt_eq _ _ _ _ _ _ _ 6 _ _ _ _ _ _ _ _ rfl rfl h2 (Fin.ext h1) (fun k => ?_) ?_)
  on_goal 5 => refine (head5 _ _ _ _ _ a d).trans (headAt_eq _ _ _ _ _ _ _ 5 _ _ _ _ _ _ _ _ rfl rfl h2 (Fin.ext h1) (fun k => ?_) ?_)
  on_goal 7 => refine (head4 _ _ _ _ _ a d).trans (headAt_eq _ _ _ _ _ _ _ 4 _ _ _ _ _ _ _ _ rfl rfl h2 (Fin.ext h1) (fun k => ?_) ?_)
  on_goal 9 => refine (head3 _ _ _ _ _ a d).trans (headAt_eq _ _ _ _ _ _ _ 3 _ _ _ _ _ _ _ _ rfl rfl h2 (Fin.ext h1) (fun k => ?_) ?_)
  on_goal 11 => refine (head2 _ _ _ _ _ a d).trans (headAt_eq _ _ _ _ _ _ _ 2 _ _ _ _ _ _ _ _ rfl rfl h2 (Fin.ext h1) (fun k => ?_) ?_)
  on_goal 13 => refine (head1 _ _ _ _ _ a d).trans (headAt_eq _ _ _ _ _ _ _ 1 _ _ _ _ _ _ _ _ rfl rfl h2 (Fin.ext h1) (fun k => ?_) ?_)
  on_goal 15 => refine (head0 _ _ _ a d _ _ _ _).trans (headAt_eq _ _ _ _ _ _ _ 0 _ _ _ _ _ _ _ _ rfl rfl (h2.trans (Nat.zero_add _).symm) (Fin.ext h1) (fun k => ?_) ?_)
  all_goals
    first
    | show x7 _ = _
    | show x8 _ = _
    blk_ext
    all_goals simp

end Cert.Proof.SampleA

end
-- ==== Proof.SampleARef.lean ====
module

public import Idealize.ShloMosaic.Lib.Pipeline.ValueKit
public import Idealize.ShloMosaic.Lib.Pointwise
public import proofs.«01_k».proof.Proof.Gen.SampleARefIdeal.Read
public import proofs.«01_k».proof.Proof.SampleRow

@[expose] public section

set_option maxRecDepth 16384

noncomputable section

namespace Cert.Proof.SampleA

open Idealize.ShloMosaic Idealize.ShloMosaic.TcCoe Idealize.SL.Sem
open Cert.SampleARefIdeal

/-- The band of sequence `b` at column `n` of the two heads of keys or values: the 128 rows of the cache `C`, then the 64 rows of the projected
    array `P`, whose two heads start at column `o`. -/
def bandAt (P : S32x64x2560.Idx → EReal) (C : S32x128x2x64.Idx → EReal) (o : ℕ) (ho : o ≤ 2432) (b : Fin 32) (x : Fin 192) (n : Fin 128) : EReal :=
  if h : x.val < 128 then C (ix4 b (⟨x.val, h⟩ : Fin 128) (⟨n.val / 64, by omega⟩ : Fin 2) (⟨n.val % 64, by omega⟩ : Fin 64))
  else P (ix3 b (⟨x.val - 128, by omega⟩ : Fin 64) (⟨o + n.val, by omega⟩ : Fin 2560))

/-- The kernel's result for sequence `b` at query `a`, column `n`, from the arguments: four heads share one of the two heads of keys and values. -/
def kernelAt (P : S32x64x2560.Idx → EReal) (CK CV : S32x128x2x64.Idx → EReal) (B : S8x64x192.Idx → EReal) (Z : S8.Idx → EReal)
    (b : Fin 32) (a : Fin 64) (n : Fin 512) : EReal :=
  sinkLast (fun x => scaleFirst (fun i : Fin 64 => P (ix3 b a (⟨n.val / 64 * 64 + i.val, by omega⟩ : Fin 2560)))
      (fun i : Fin 64 => bandAt P CK 2048 (by decide) b x ⟨n.val / 256 * 64 + i.val, by omega⟩)
      (B (ix3 (⟨n.val / 64, by omega⟩ : Fin 8) a x)))
    (fun x => bandAt P CV 2176 (by decide) b x ⟨n.val / 256 * 64 + n.val % 64, by omega⟩)
    (Z (ix1 (⟨n.val / 64, by omega⟩ : Fin 8)))

namespace Ref

open Cert.SampleARefIdeal.Read

variable (x0 : (⟨S32x64x2560, .f32⟩ : BufTy).Contents (Elt Ideal)) (x1 x2 : (⟨S32x128x2x64, .f32⟩ : BufTy).Contents (Elt Ideal))
  (x3 : (⟨S8x64x192, .f32⟩ : BufTy).Contents (Elt Ideal)) (x4 : (⟨S8, .f32⟩ : BufTy).Contents (Elt Ideal))

/-- A row of the band, at a column of one of the two heads. -/
theorem bandAt_head (o : ℕ) (ho : o ≤ 2432) (b : Fin 32) (x : Fin 192) (g : Fin 2) (i : Fin 64) :
    bandAt x0 x1 o ho b x (⟨g.val * 64 + i.val, by omega⟩ : Fin 128) =
      if h' : x.val < 128 then x1 (ix4 b (⟨x.val, h'⟩ : Fin 128) g i)
      else x0 (ix3 b (⟨x.val - 128, by omega⟩ : Fin 64) (⟨o + (g.val * 64 + i.val), by omega⟩ : Fin 2560)) := by
  unfold bandAt
  have e1 : (⟨(g.val * 64 + i.val) / 64, by omega⟩ : Fin 2) = g := Fin.ext (by show (g.val * 64 + i.val) / 64 = g.val; omega)
  have e2 : (⟨(g.val * 64 + i.val) % 64, by omega⟩ : Fin 64) = i := Fin.ext (by show (g.val * 64 + i.val) % 64 = i.val; omega)
  simp only [e1, e2]

/-- The reference's band of keys, before the heads are repeated. -/
theorem v4_at (b : Fin 32) (x : Fin 192) (g : Fin 2) (i : Fin 64) : val_main_v4 (F := Ideal) x0 x1 (ix4 b x g i) =
    bandAt x0 x1 2048 (by decide) b x (⟨g.val * 64 + i.val, by omega⟩ : Fin 128) := by
  rw [bandAt_head]
  pointwise [val_main_v4, val_main_v3, val_main_v2]

/-- The reference's band of keys: head `h` reads head `h / 4` of the two. -/
theorem v6_at (b : Fin 32) (x : Fin 192) (h : Fin 8) (i : Fin 64) : val_main_v6 (F := Ideal) x0 x1 (ix4 b x h i) =
    bandAt x0 x1 2048 (by decide) b x (⟨h.val / 4 * 64 + i.val, by omega⟩ : Fin 128) := by
  refine Eq.trans ?_ (v4_at x0 x1 b x ⟨h.val / 4, by omega⟩ i)
  unfold val_main_v6 val_main_v5
  generalize val_main_v4 (F := Ideal) x0 x1 = y
  pointwise

/-- The reference's band of values, before the heads are repeated. -/
theorem v9_at (b : Fin 32) (x : Fin 192) (g : Fin 2) (i : Fin 64) : val_main_v9 (F := Ideal) x0 x2 (ix4 b x g i) =
    bandAt x0 x2 2176 (by decide) b x (⟨g.val * 64 + i.val, by omega⟩ : Fin 128) := by
  rw [bandAt_head]
  pointwise [val_main_v9, val_main_v8, val_main_v7]

/-- The reference's band of values: head `h` reads head `h / 4` of the two. -/
theorem v11_at (b : Fin 32) (x : Fin 192) (h : Fin 8) (i : Fin 64) : val_main_v11 (F := Ideal) x0 x2 (ix4 b x h i) =
    bandAt x0 x2 2176 (by decide) b x (⟨h.val / 4 * 64 + i.val, by omega⟩ : Fin 128) := by
  refine Eq.trans ?_ (v9_at x0 x2 b x ⟨h.val / 4, by omega⟩ i)
  unfold val_main_v11 val_main_v10
  generalize val_main_v9 (F := Ideal) x0 x2 = y
  pointwise

/-- The queries by head. -/
theorem v1_at (b : Fin 32) (a : Fin 64) (h : Fin 8) (i : Fin 64) : val_main_v1 (F := Ideal) x0 (ix4 b a h i) =
    x0 (ix3 b a (⟨h.val * 64 + i.val, by omega⟩ : Fin 2560)) := by
  pointwise [val_main_v1, val_main_v0]

/-- The scores. -/
theorem v17_at (b : Fin 32) (h : Fin 8) (a : Fin 64) (x : Fin 192) : val_main_v17 (F := Ideal) x0 x1 x3 (ix4 b h a x) =
    scaleLast (fun i : Fin 64 => x0 (ix3 b a (⟨h.val * 64 + i.val, by omega⟩ : Fin 2560)))
      (fun i => bandAt x0 x1 2048 (by decide) b x (⟨h.val / 4 * 64 + i.val, by omega⟩ : Fin 128)) (x3 (ix3 h a x)) := by
  have e : val_main_v17 (F := Ideal) x0 x1 x3 (ix4 b h a x) =
      (∑ i : Fin 64, val_main_v1 (F := Ideal) x0 (ix4 b a h i) * val_main_v6 (F := Ideal) x0 x1 (ix4 b x h i)) * Ideal.ofBits .f32 0x3E000000#32
        + x3 (ix3 h a x) := by
    pointwise [val_main_v17, val_main_v16, val_main_v15, val_main_v14, val_main_v13, val_main_v12, val_main_cst]
  rw [e]
  simp only [v1_at, v6_at]
  rfl

/-- The row maximum, from −∞. -/
theorem v19_at (b : Fin 32) (h : Fin 8) (a : Fin 64) : val_main_v19 (F := Ideal) x0 x1 x3 (ix3 b h a) =
    rowMax fun x => val_main_v17 (F := Ideal) x0 x1 x3 (ix4 b h a x) := by
  unfold val_main_v19
  generalize val_main_v17 (F := Ideal) x0 x1 x3 = y
  refine (Host.reduce_eq_fold_single (α := EReal) (FloatOps.maximumf (F := Ideal) (φ := .f32)) (s := S32x8x64x192) (t := S32x8x64) y _ _ (by decide) _ _).trans ?_
  refine congrArg (fun f => Finset.univ.fold max _ f) (funext fun k => ?_)
  exact congrArg y (funext fun a => Fin.ext (by match a with | ⟨0, _⟩ => rfl | ⟨1, _⟩ => rfl | ⟨2, _⟩ => rfl | ⟨3, _⟩ => rfl))

/-- The maximum of the row and its sink. -/
theorem v23_at (b : Fin 32) (h : Fin 8) (a : Fin 64) : val_main_v23 (F := Ideal) x0 x1 x3 x4 (ix4 b h a 0) =
    max (rowMax fun x => val_main_v17 (F := Ideal) x0 x1 x3 (ix4 b h a x)) (x4 (ix1 h)) := by
  rw [val_main_v23_apply, val_main_v20_apply, val_main_v22_apply, val_main_v21_apply, val_main_v18_apply]
  have e : idx_main_v20 (ix4 b h a 0) = ix3 b h a := by
    funext k
    match k with | ⟨0, _⟩ => rfl | ⟨1, _⟩ => rfl | ⟨2, _⟩ => rfl
  have e' : idx_main_v18 (idx_main_v21 (idx_main_v22 (ix4 b h a 0))) = ix1 h := by
    funext k
    match k with | ⟨0, _⟩ => rfl
  rw [e, e', v19_at]
  rfl

/-- The weights. -/
theorem v26_at (b : Fin 32) (h : Fin 8) (a : Fin 64) (x : Fin 192) : val_main_v26 (F := Ideal) x0 x1 x3 x4 (ix4 b h a x) =
    Ideal.exp (val_main_v17 (F := Ideal) x0 x1 x3 (ix4 b h a x) - max (rowMax fun x => val_main_v17 (F := Ideal) x0 x1 x3 (ix4 b h a x)) (x4 (ix1 h))) := by
  rw [val_main_v26_apply, val_main_v25_apply, val_main_v24_apply]
  have e : idx_main_v24 (ix4 b h a x) = ix4 b h a 0 := by
    funext k
    match k with | ⟨0, _⟩ => rfl | ⟨1, _⟩ => rfl | ⟨2, _⟩ => rfl | ⟨3, _⟩ => rfl
  rw [e, v23_at]
  rfl

/-- The weight of the sink. -/
theorem v32_at (b : Fin 32) (h : Fin 8) (a : Fin 64) : val_main_v32 (F := Ideal) x0 x1 x3 x4 (ix4 b h a 0) =
    Ideal.exp (x4 (ix1 h) - max (rowMax fun x => val_main_v17 (F := Ideal) x0 x1 x3 (ix4 b h a x)) (x4 (ix1 h))) := by
  rw [val_main_v32_apply, val_main_v31_apply, val_main_v30_apply, val_main_v29_apply, val_main_v18_apply, v23_at]
  have e' : idx_main_v18 (idx_main_v29 (idx_main_v30 (ix4 b h a 0))) = ix1 h := by
    funext k
    match k with | ⟨0, _⟩ => rfl
  rw [e']
  rfl

/-- The weights' sum, the sink's among them. -/
theorem v33_at (b : Fin 32) (h : Fin 8) (a : Fin 64) : val_main_v33 (F := Ideal) x0 x1 x3 x4 (ix4 b h a 0) =
    (0 + ∑ y : Fin 192, val_main_v26 (F := Ideal) x0 x1 x3 x4 (ix4 b h a y)) + val_main_v32 (F := Ideal) x0 x1 x3 x4 (ix4 b h a 0) := by
  unfold val_main_v33 val_main_v28 val_main_v27
  generalize val_main_v32 (F := Ideal) x0 x1 x3 x4 = z
  generalize val_main_v26 (F := Ideal) x0 x1 x3 x4 = y
  pointwise [val_main_cst_1]

/-- The divided weights. -/
theorem v35_at (b : Fin 32) (h : Fin 8) (a : Fin 64) (x : Fin 192) : val_main_v35 (F := Ideal) x0 x1 x3 x4 (ix4 b h a x) =
    Ideal.div (val_main_v26 (F := Ideal) x0 x1 x3 x4 (ix4 b h a x)) (val_main_v33 (F := Ideal) x0 x1 x3 x4 (ix4 b h a 0)) := by
  unfold val_main_v35 val_main_v34
  generalize val_main_v33 (F := Ideal) x0 x1 x3 x4 = z
  generalize val_main_v26 (F := Ideal) x0 x1 x3 x4 = y
  pointwise

/-- The reference's result for sequence `b` at query `a`, column `n`. -/
theorem v38_at (b : Fin 32) (a : Fin 64) (n : Fin 512) : val_main_v38 (F := Ideal) x0 x1 x2 x3 x4 (ix3 b a n) =
    sinkFirst (fun x => scaleLast (fun i : Fin 64 => x0 (ix3 b a (⟨n.val / 64 * 64 + i.val, by omega⟩ : Fin 2560)))
        (fun i => bandAt x0 x1 2048 (by decide) b x (⟨n.val / 256 * 64 + i.val, by omega⟩ : Fin 128)) (x3 (ix3 (⟨n.val / 64, by omega⟩ : Fin 8) a x)))
      (fun x : Fin 192 => bandAt x0 x2 2176 (by decide) b x (⟨n.val / 256 * 64 + n.val % 64, by omega⟩ : Fin 128))
      (x4 (ix1 (⟨n.val / 64, by omega⟩ : Fin 8))) := by
  have e : val_main_v38 (F := Ideal) x0 x1 x2 x3 x4 (ix3 b a n) = ∑ x : Fin 192,
      val_main_v11 (F := Ideal) x0 x2 (ix4 b x (⟨n.val / 64, by omega⟩ : Fin 8) (⟨n.val % 64, by omega⟩ : Fin 64)) *
      val_main_v35 (F := Ideal) x0 x1 x3 x4 (ix4 b (⟨n.val / 64, by omega⟩ : Fin 8) a x) := by
    pointwise [val_main_v38, val_main_v37, val_main_v36]
  have hd : n.val / 64 / 4 = n.val / 256 := by omega
  rw [e]
  simp only [v35_at, v33_at, v32_at, v26_at, v17_at, v11_at, hd]
  rfl

end Ref

/-- With finite queries, keys, bias and sinks, the kernel's result is the reference's. -/
theorem kernelAt_eq (P : S32x64x2560.Idx → EReal) (CK CV : S32x128x2x64.Idx → EReal) (B : S8x64x192.Idx → EReal) (Z : S8.Idx → EReal)
    (hQ : ∀ (b : Fin 32) (r : Fin 64) (n : Fin 512), ∃ x : ℝ, P (ix3 b r (⟨n.val, by omega⟩ : Fin 2560)) = (x : EReal))
    (hN : ∀ (b : Fin 32) (r : Fin 64) (n : Fin 128), ∃ x : ℝ, P (ix3 b r (⟨2048 + n.val, by omega⟩ : Fin 2560)) = (x : EReal))
    (hK : ∀ (b : Fin 32) (x : Fin 128) (g : Fin 2) (i : Fin 64), ∃ y : ℝ, CK (ix4 b x g i) = (y : EReal))
    (hB : ∀ (h : Fin 8) (a : Fin 64) (x : Fin 192), ∃ y : ℝ, B (ix3 h a x) = (y : EReal))
    (hZ : ∀ h : Fin 8, ∃ y : ℝ, Z (ix1 h) = (y : EReal)) (b : Fin 32) (a : Fin 64) (n : Fin 512) :
    kernelAt P CK CV B Z b a n = Read.val_main_v38 (F := Ideal) P CK CV B Z (ix3 b a n) := by
  rw [Ref.v38_at]
  refine sample_sink_eq _ _ _ _ _ 0 (fun i => hQ b a ⟨n.val / 64 * 64 + i.val, by omega⟩) (fun x i => ?_) (fun x => hB _ a x) (hZ _)
  unfold bandAt
  split_ifs
  · exact hK _ _ _ _
  · exact hN b _ ⟨n.val / 256 * 64 + i.val, by omega⟩

end Cert.Proof.SampleA

end
-- ==== Proof.SampleAReads.lean ====
module

public import proofs.«01_k».proof.Proof.SampleABlock
public import proofs.«01_k».proof.Proof.SampleARef

@[expose] public section

set_option maxRecDepth 16384
set_option maxHeartbeats 4000000

noncomputable section

namespace Cert.Proof.SampleA

open Idealize.ShloMosaic Idealize.ShloMosaic.TcCoe Idealize.SL.Sem
open Cert.SampleAIdeal Cert.SampleAIdeal.Gen

/-- The scaled queries of a block. -/
theorem pay2_at (x : Vec Ideal S1x64x512 .f32) (a : Fin 64) (n : Fin 512) :
    k0_pay2 x (ix2 a n) = x (ix3 0 a n) * Ideal.ofBits .f32 0x3E000000#32 := by
  pointwise [k0_pay2]

/-- The three blocks that the kernel lays together, of the keys as of the values: row `x` of the band is row `x % 64` of block `x / 64`. -/
theorem pay3_at (x0 x1 x2 : Vec Ideal S1x64x128 .f32) (K : Fin 192 → EReal) (x : Fin 192) (n : Fin 128)
    (h0 : ∀ r : Fin 64, x0 (ix3 0 r n) = K ⟨0 + r.val, by omega⟩)
    (h1 : ∀ r : Fin 64, x1 (ix3 0 r n) = K ⟨64 + r.val, by omega⟩)
    (h2 : ∀ r : Fin 64, x2 (ix3 0 r n) = K ⟨128 + r.val, by omega⟩) :
    k0_pay3 x0 x1 x2 (ix2 x n) = K x := by
  pointwise [k0_pay3]
  split_ifs
  all_goals
    first
    | refine (h0 _).trans ?_
    | refine (h1 _).trans ?_
    | refine (h2 _).trans ?_
    exact congrArg K (Fin.ext (by simp only [Fin.isValue]; omega))

/-- The values are laid together as the keys are. -/
theorem pay4_eq (x0 x1 x2 : Vec Ideal S1x64x128 .f32) : k0_pay4 x0 x1 x2 = k0_pay3 x0 x1 x2 := rfl

/-- Where the windows lie at grid point `t`, of sequence `t`: the queries and the result at its block, the first two key and value windows at the
    cache's blocks in turn, the third at the new keys' and values' columns, the bias and the sinks whole. -/
theorem idx : ∀ t : Fin grid0.N, win0_0.index t = ![t.val, 0, 0] ∧ win0_1.index t = ![t.val, 0, 0] ∧ win0_2.index t = ![t.val, 1, 0] ∧
    win0_3.index t = ![t.val, 0, 16] ∧ win0_4.index t = ![t.val, 0, 0] ∧ win0_5.index t = ![t.val, 1, 0] ∧ win0_6.index t = ![t.val, 0, 17] ∧
    win0_7.index t = ![0, 0, 0] ∧ win0_8.index t = ![0, 0] ∧ win0_9.index t = ![t.val, 0, 0] := by
  decide +kernel

/-- A load of a whole block of queries reads the block. -/
theorem ld_q (x : Vec Ideal S1x64x512 .f32) (a : Fin 64) (n : Fin 512) : View.ld x r0_0 (ix3 0 a n) = x (ix3 0 a n) := by
  show x _ = _
  blk_ext
  all_goals simp

/-- A load of a whole block of keys or values reads the block. -/
theorem ld_at (x : Vec Ideal S1x64x128 .f32) (a : Fin 64) (n : Fin 128) : View.ld x r0_1 (ix3 0 a n) = x (ix3 0 a n) := by
  show x _ = _
  blk_ext
  all_goals simp

section Reads

variable (m : (ℓ : Loc nD τ sig) → Buf (Elt Ideal) ℓ) (c : Dev nD) (t : Fin cfg0.grid.N) (ht : t.val < 32)

/-- The block of queries. -/
theorem read_q (a : Fin 64) (n : Fin 512) : iblk m c 0 t (ix3 0 a n) =
    m ((c : Thread nD τ).loc main_arg0) (ix3 (⟨t.val, by omega⟩ : Fin 32) a (⟨n.val, by omega⟩ : Fin 2560)) := by
  have h := (idx t).1
  blk_ext! [iblk, V, h]

/-- The three blocks of keys are the rows of the band of keys in turn. -/
theorem read_k (n : Fin 128) (r : Fin 64) :
    iblk m c 1 t (ix3 0 r n) = bandAt (m ((c : Thread nD τ).loc main_arg0)) (m ((c : Thread nD τ).loc main_arg1)) 2048 (by decide) ⟨t.val, ht⟩ ⟨0 + r.val, by omega⟩ n ∧
    iblk m c 2 t (ix3 0 r n) = bandAt (m ((c : Thread nD τ).loc main_arg0)) (m ((c : Thread nD τ).loc main_arg1)) 2048 (by decide) ⟨t.val, ht⟩ ⟨64 + r.val, by omega⟩ n ∧
    iblk m c 3 t (ix3 0 r n) = bandAt (m ((c : Thread nD τ).loc main_arg0)) (m ((c : Thread nD τ).loc main_arg1)) 2048 (by decide) ⟨t.val, ht⟩ ⟨128 + r.val, by omega⟩ n := by
  obtain ⟨-, h0, h1, h2, -⟩ := idx t
  unfold bandAt
  refine ⟨?_, ?_, ?_⟩
  all_goals
    first
    | rw [dif_pos (by simp only [Fin.isValue]; omega)]
    | rw [dif_neg (by simp only [Fin.isValue]; omega)]
  · blk_ext! [iblk, V, h0]
  · blk_ext! [iblk, V, h1]
  · blk_ext! [iblk, V, h2]

/-- The three blocks of values are the rows of the band of values in turn. -/
theorem read_v (n : Fin 128) (r : Fin 64) :
    iblk m c 4 t (ix3 0 r n) = bandAt (m ((c : Thread nD τ).loc main_arg0)) (m ((c : Thread nD τ).loc main_arg2)) 2176 (by decide) ⟨t.val, ht⟩ ⟨0 + r.val, by omega⟩ n ∧
    iblk m c 5 t (ix3 0 r n) = bandAt (m ((c : Thread nD τ).loc main_arg0)) (m ((c : Thread nD τ).loc main_arg2)) 2176 (by decide) ⟨t.val, ht⟩ ⟨64 + r.val, by omega⟩ n ∧
    iblk m c 6 t (ix3 0 r n) = bandAt (m ((c : Thread nD τ).loc main_arg0)) (m ((c : Thread nD τ).loc main_arg2)) 2176 (by decide) ⟨t.val, ht⟩ ⟨128 + r.val, by omega⟩ n := by
  obtain ⟨-, -, -, -, h0, h1, h2, -⟩ := idx t
  unfold bandAt
  refine ⟨?_, ?_, ?_⟩
  all_goals
    first
    | rw [dif_pos (by simp only [Fin.isValue]; omega)]
    | rw [dif_neg (by simp only [Fin.isValue]; omega)]
  · blk_ext! [iblk, V, h0]
  · blk_ext! [iblk, V, h1]
  · blk_ext! [iblk, V, h2]

/-- The bias. -/
theorem read_b (h : Fin 8) (a : Fin 64) (x : Fin 192) : iblk m c 7 t (ix3 h a x) = m ((c : Thread nD τ).loc main_arg3) (ix3 h a x) := by
  obtain ⟨-, -, -, -, -, -, -, h, -⟩ := idx t
  blk_ext! [iblk, V, h]

/-- The sinks. -/
theorem read_s (h : Fin 8) : iblk m c 8 t (ix2 h 0) = m ((c : Thread nD τ).loc main_arg4) (ix1 h) := by
  obtain ⟨-, -, -, -, -, -, -, -, h, -⟩ := idx t
  blk_ext! [iblk, V, h]

end Reads

end Cert.Proof.SampleA

end
-- ==== Proof.SampleARun.lean ====
module

public import proofs.«01_k».proof.Proof.SampleAReads

@[expose] public section

set_option maxRecDepth 16384

noncomputable section

namespace Cert.Proof.SampleA

open Idealize.ShloMosaic Idealize.ShloMosaic.TcCoe Idealize.SL.Sem
open Cert.SampleAIdeal Cert.SampleAIdeal.Gen

/-- A head's entry from what its scaled queries, its bands, its bias and its sink are. -/
theorem headAt_of (v4 : FVec Ideal S64x512 .bf16) (v12 v20 : FVec Ideal S192x128 .bf16) (B : Fin 192 → EReal) (Z z : EReal)
    (o u : ℕ) (ho : o + 64 ≤ 512) (hu : u + 64 ≤ 128) (a d : Fin 64) (q : Fin 64 → EReal) (k : Fin 192 → Fin 64 → EReal) (v b : Fin 192 → EReal)
    (hq : ∀ i : Fin 64, v4 (ix2 a ⟨o + i.val, by omega⟩) = q i * Ideal.ofBits .f32 0x3E000000#32)
    (hk : ∀ x, ∀ i : Fin 64, v12 (ix2 x ⟨u + i.val, by omega⟩) = k x i) (hv : ∀ x, v20 (ix2 x ⟨u + d.val, by omega⟩) = v x)
    (hb : ∀ x, B x = b x) (hz : Z = z) :
    headAt v4 v12 v20 B Z o u ho hu a d = sinkLast (fun x => scaleFirst q (k x) (b x)) v z := by
  subst hz
  unfold headAt
  refine congrArg₂ (fun S w => sinkLast S w Z) (funext fun x => ?_) (funext hv)
  rw [hb]
  simp only [hq, hk]
  rfl

variable (m : (ℓ : Loc nD τ sig) → Buf (Elt Ideal) ℓ)

/-- What grid point `t` writes at query `a`, column `n`, is the kernel's result there for sequence `t`. -/
theorem after_at (c : Dev nD) (t : Fin cfg0.N) (ht : t.val < 32) (a : Fin 64) (n : Fin 512) :
    (dats m 0 c).after 9 t (ix3 0 a n) = kernelAt (m ((c : Thread nD τ).loc main_arg0)) (m ((c : Thread nD τ).loc main_arg1))
      (m ((c : Thread nD τ).loc main_arg2)) (m ((c : Thread nD τ).loc main_arg3)) (m ((c : Thread nD τ).loc main_arg4)) ⟨t.val, ht⟩ a n := by
  rw [after0_9]
  refine (out_at _ _ _ _ _ _ _ _ _ (ix3 0 a n)).trans ?_
  refine headAt_of _ _ _ _ _ _ _ _ _ _ _ _ _ _ _ _ (fun i => ?_) (fun x i => ?_) (fun x => ?_) (fun x => ?_) ?_
  · exact (pay2_at _ a _).trans (congrArg (· * _) ((ld_q _ a _).trans (read_q m c t ht a _)))
  · exact pay3_at _ _ _ (fun x => bandAt _ _ 2048 (by decide) _ x _) x _
      (fun r => (ld_at _ r _).trans (read_k m c t ht _ r).1) (fun r => (ld_at _ r _).trans (read_k m c t ht _ r).2.1) (fun r => (ld_at _ r _).trans (read_k m c t ht _ r).2.2)
  · exact (congrFun (pay4_eq _ _ _) _).trans (pay3_at _ _ _ (fun x => bandAt _ _ 2176 (by decide) _ x _) x _
      (fun r => (ld_at _ r _).trans (read_v m c t ht _ r).1) (fun r => (ld_at _ r _).trans (read_v m c t ht _ r).2.1) (fun r => (ld_at _ r _).trans (read_v m c t ht _ r).2.2))
  · exact read_b m c t _ a x
  · exact read_s m c t _

/-- Every block of the result is written. -/
theorem covers : (cfg0.win 9).Covers := by
  decide +kernel

/-- The result array after the whole grid is the reference's value at the arguments. -/
theorem out_eq (c : Dev nD)
    (hQ : ∀ (b : Fin 32) (r : Fin 64) (n : Fin 512), ∃ x : ℝ, m ((c : Thread nD τ).loc main_arg0) (ix3 b r (⟨n.val, by omega⟩ : Fin 2560)) = (x : EReal))
    (hN : ∀ (b : Fin 32) (r : Fin 64) (n : Fin 128), ∃ x : ℝ, m ((c : Thread nD τ).loc main_arg0) (ix3 b r (⟨2048 + n.val, by omega⟩ : Fin 2560)) = (x : EReal))
    (hK : ∀ (b : Fin 32) (x : Fin 128) (g : Fin 2) (i : Fin 64), ∃ y : ℝ, m ((c : Thread nD τ).loc main_arg1) (ix4 b x g i) = (y : EReal))
    (hB : ∀ (h : Fin 8) (a : Fin 64) (x : Fin 192), ∃ y : ℝ, m ((c : Thread nD τ).loc main_arg3) (ix3 h a x) = (y : EReal))
    (hZ : ∀ h : Fin 8, ∃ y : ℝ, m ((c : Thread nD τ).loc main_arg4) (ix1 h) = (y : EReal)) :
    (dats m 0 c).arrAt 9 cfg0.N = Cert.SampleARefIdeal.Read.val_main_v38 (F := Ideal) (m ((c : Thread nD τ).loc main_arg0))
      (m ((c : Thread nD τ).loc main_arg1)) (m ((c : Thread nD τ).loc main_arg2)) (m ((c : Thread nD τ).loc main_arg3)) (m ((c : Thread nD τ).loc main_arg4)) := by
  refine (dats m 0 c).arrAt_eq_of_covers 9 _ covers fun t hf y => ?_
  have ht : t.val < 32 := t.isLt
  obtain ⟨a, n, rfl⟩ : ∃ (a : Fin 64) (n : Fin 512), y = ix3 0 a n := ⟨y 1, y 2, by rw [eq_ix3 y]; congr 1; exact Subsingleton.elim _ _⟩
  have h : win0_9.index t = ![t.val, 0, 0] := (idx t).2.2.2.2.2.2.2.2.2
  have he : ((View.whole main_v3).slice (win0_9.rect t)).emb (ix3 0 a n) = ix3 (⟨t.val, by omega⟩ : Fin 32) a n := by
    blk_ext [h]
  blk_simp
  rw [after_at m c t ht a n, kernelAt_eq _ _ _ _ _ hQ hN hK hB hZ]
  exact congrArg _ he.symm

end Cert.Proof.SampleA

end
-- ==== Proof.PromptConvRow.lean ====
module

public import proofs.«01_k».proof.Proof.ConvRow

@[expose] public section

noncomputable section

namespace Cert.Proof.PromptConv

open Idealize.ShloMosaic

/-- Row `j` of a channel's rows with 32 rows of zeros before them. -/
def padded (u : ℕ → EReal) (j : ℕ) : EReal := if j < 32 then 0 else u (j - 32)

/-- Row `r` of one channel's convolution with its 31 taps, plus the bias: tap 30 meets row `r` itself, tap 0 the row 30 before it. -/
def convAt (u : ℕ → EReal) (k : Fin 31 → EReal) (b : EReal) (r : ℕ) : EReal := ∑ w : Fin 31, padded u (r + w.val + 2) * k w + b

end Cert.Proof.PromptConv

end
-- ==== Proof.PromptConvBlock.lean ====
module

public import proofs.«01_k».proof.Proof.PromptConvRow
public import proofs.«01_k».proof.Proof.Gen.PromptConvIdeal.Value
public import Idealize.ShloMosaic.Lib.Pipeline.ReadBack

@[expose] public section

set_option maxRecDepth 16384

noncomputable section

namespace Cert.Proof.PromptConv.Block

open Idealize.ShloMosaic Idealize.ShloMosaic.TcCoe Idealize.SL.Sem
open Cert.PromptConvIdeal Cert.PromptConvIdeal.Gen
open Cert.Proof.Conv (glu lnRow siluRow siluRow_congr sum_taps)

/-- The gated input of a block, at a row and column. -/
theorem pay4_at (p q : Vec Ideal S1x512x512 .f32) (r n : Fin 512) : k0_pay4 p q (ix2 r n) = glu (p (ix3 0 r n)) (q (ix3 0 r n)) := by
  pointwise [k0_pay4]
  rfl

/-- The kernel's test for the first block of a sequence. -/
theorem first_iff : ∀ k : Fin 16, Scalar.cmpi .sgt (BitVec.ofNat 32 k.val) 0#32 = if k.val = 0 then 0#1 else 1#1 := by
  decide

/-- The 32 rows before a block: zeros before a sequence's first block, else the gated rows before it. -/
theorem pay3_at (i : grid0.Coords) (p q : Vec Ideal S1x32x512 .f32) (r : Fin 32) (n : Fin 512) :
    k0_pay3 i p q (ix2 r n) = if (i 1).val = 0 then 0 else glu (p (ix3 0 r n)) (q (ix3 0 r n)) := by
  have h := first_iff (i 1)
  unfold k0_pay3
  simp only [h]
  split
  · pointwise []
  · pointwise []
    rfl

/-- The last thirty rows are written out as they are. -/
theorem pay2_at (v : Vec Ideal S30x512 .f32) (r : Fin 30) (n : Fin 512) : k0_pay2 v (ix3 0 r n) = v (ix2 r n) := by
  pointwise [k0_pay2]

/-- The two stores that fill the scratch array: the 32 rows before the block, then the block's 512 gated rows. -/
abbrev stores (i : grid0.Coords) (p q : Vec Ideal S1x512x512 .f32) (p' q' : Vec Ideal S1x32x512 .f32) : List (View.Piece (Elt Ideal) S544x512 .f32) :=
  [⟨Rect.unit ![32, 0] ![512, 512] inb_S544x512_S512x512_32_0, k0_pay4 p q⟩, ⟨Rect.unit ![0, 0] ![32, 512] inb_S544x512_S32x512_0_0, k0_pay3 i p' q'⟩]

section Scratch

variable (i : grid0.Coords) (p q : Vec Ideal S1x512x512 .f32) (p' q' : Vec Ideal S1x32x512 .f32) (u : Fin 512 → ℕ → EReal)
  (hu : ∀ r n : Fin 512, glu (p (ix3 0 r n)) (q (ix3 0 r n)) = u n (512 * (i 1).val + r.val))
  (hu' : (i 1).val ≠ 0 → ∀ (r : Fin 32) (n : Fin 512), glu (p' (ix3 0 r n)) (q' (ix3 0 r n)) = u n (512 * (i 1).val + r.val - 32))

include hu hu'

/-- Row `j` of the filled scratch array is row `512 · block + j` of the sequence with 32 rows of zeros before it. -/
theorem stores_at (y : S544x512.Idx) (n : Fin 512) (h1 : (y 1).val = n.val) :
    View.canon (stores i p q p' q') y = padded (u n) (512 * (i 1).val + (y 0).val) := by
  canon_tiles x h using View.cover_of_tiledBy (stores i p q p' q') ![32, 512] (by sl_kernel_rfl) y
  · obtain ⟨r, m, rfl⟩ : ∃ r m : Fin 512, x = ix2 r m := ⟨x 0, x 1, eq_ix2 x⟩
    obtain rfl : m = n := Fin.ext (by simp at h1 ⊢; omega)
    rw [pay4_at, hu]
    unfold padded
    rw [if_neg (by omega)]
    exact congrArg (u m) (by simp at *; omega)
  · obtain ⟨r, m, rfl⟩ : ∃ (r : Fin 32) (m : Fin 512), x = ix2 r m := ⟨x 0, x 1, eq_ix2 x⟩
    obtain rfl : m = n := Fin.ext (by simp at h1 ⊢; omega)
    rw [pay3_at]
    unfold padded
    by_cases h : (i 1).val = 0
    · rw [if_pos h, if_pos (by simp at *; omega)]
    · rw [if_neg h, if_neg (by omega), hu' h]
      exact congrArg (u m) (by simp at *; omega)

/-- A load of `k` rows of the filled scratch array from row `o` on reads the sequence from there on. -/
theorem load_at (k o : ℕ) (h : ∀ a, ![o, 0] a + ![k, 512] a ≤ S544x512.size a) (r : Fin k) (n : Fin 512) :
    (View.whole cc0_scratch0).readCov (stores i p q p' q') (Rect.unit (s := S544x512) ![o, 0] ![k, 512] h).toLoadRect (ix2 r n) =
      padded (u n) (512 * (i 1).val + (o + r.val)) := by
  rw [View.readCov_eq_canon']
  refine (stores_at i p q p' q' u hu hu' _ n ?_).trans (congrArg (padded (u n)) ?_)
  · show 0 + 1 * n.val = n.val
    omega
  · show 512 * (i 1).val + (o + 1 * r.val) = _
    omega

end Scratch

/-- Sixty-four rows of a block as the kernel computes them: bias first, one tap after the other, then the normalization and the gate. -/
abbrev rows (A : Fin 31 → Vec Ideal S64x512 .f32) (K : Fin 31 → Vec Ideal S1x512 .f32) (b g o : Vec Ideal S1x512 .f32) : Vec Ideal S1x64x512 .f32 :=
  k0_pay11 (k0_pay10 (k0_pay9 (k0_pay8 (k0_pay7 (k0_pay6 (k0_pay5 b (A 0) (K 0)) (A 1) (K 1) (A 2) (K 2) (A 3) (K 3) (A 4) (K 4) (A 5) (K 5) (A 6) (K 6)) (A 7) (K 7) (A 8) (K 8) (A 9) (K 9) (A 10) (K 10) (A 11) (K 11) (A 12) (K 12) (A 13) (K 13)) (A 14) (K 14) (A 15) (K 15) (A 16) (K 16) (A 17) (K 17) (A 18) (K 18) (A 19) (K 19) (A 20) (K 20)) (A 21) (K 21) (A 22) (K 22) (A 23) (K 23) (A 24) (K 24) (A 25) (K 25) (A 26) (K 26)) (A 27) (K 27) (A 28) (K 28) (A 29) (K 29) (A 30) (K 30) g) o

/-- The sum over the 31 taps, normalized and gated. -/
theorem rows_at (A : Fin 31 → Vec Ideal S64x512 .f32) (K : Fin 31 → Vec Ideal S1x512 .f32) (b g o : Vec Ideal S1x512 .f32) (r : Fin 64) (n : Fin 512) :
    rows A K b g o (ix3 0 r n) =
      siluRow (fun n => ∑ w, A w (ix2 r n) * K w (ix2 0 n) + b (ix2 0 n)) (fun n => g (ix2 0 n)) (fun n => o (ix2 0 n)) n := by
  have e : ∀ n : Fin 512, ∑ w, A w (ix2 r n) * K w (ix2 0 n) + b (ix2 0 n) =
      k0_pay9 (k0_pay8 (k0_pay7 (k0_pay6 (k0_pay5 b (A 0) (K 0)) (A 1) (K 1) (A 2) (K 2) (A 3) (K 3) (A 4) (K 4) (A 5) (K 5) (A 6) (K 6)) (A 7) (K 7) (A 8) (K 8) (A 9) (K 9) (A 10) (K 10) (A 11) (K 11) (A 12) (K 12) (A 13) (K 13)) (A 14) (K 14) (A 15) (K 15) (A 16) (K 16) (A 17) (K 17) (A 18) (K 18) (A 19) (K 19) (A 20) (K 20)) (A 21) (K 21) (A 22) (K 22) (A 23) (K 23) (A 24) (K 24) (A 25) (K 25) (A 26) (K 26) (ix2 r n) +
        A 27 (ix2 r n) * K 27 (ix2 0 n) + A 28 (ix2 r n) * K 28 (ix2 0 n) + A 29 (ix2 r n) * K 29 (ix2 0 n) + A 30 (ix2 r n) * K 30 (ix2 0 n) := by
    intro n
    pointwise [k0_pay9, k0_pay8, k0_pay7, k0_pay6, k0_pay5]
    exact sum_taps (fun w => A w (ix2 r n) * K w (ix2 0 n)) (b (ix2 0 n))
  simp only [e]
  pointwise [rows, k0_pay11, k0_pay10]
  rfl

end Cert.Proof.PromptConv.Block

end
-- ==== Proof.PromptConvRef.lean ====
module

public import proofs.«01_k».proof.Proof.PromptConvRow
public import proofs.«01_k».proof.Proof.Gen.PromptConvRefIdeal.Read

@[expose] public section

set_option maxRecDepth 16384

noncomputable section

namespace Cert.Proof.PromptConv.Ref

open Idealize.ShloMosaic Idealize.ShloMosaic.TcCoe Idealize.SL.Sem
open Cert.PromptConvRefIdeal Cert.PromptConvRefIdeal.Gen Cert.PromptConvRefIdeal.Read
open Cert.Proof.Conv (glu siluRow)

variable (p : Vec Ideal S2x8192x2560 .f32) (k : Vec Ideal S31x512 .f32) (b g o : Vec Ideal S512 .f32)

/-- The gated input of one channel, by row; zero past the last row. -/
def gated (s : Fin 2) (n : Fin 512) (r : ℕ) : EReal :=
  if h : r < 8192 then
    glu (p (ix3 s (⟨r, h⟩ : Fin 8192) (⟨1536 + n.val, by omega⟩ : Fin 2560))) (p (ix3 s (⟨r, h⟩ : Fin 8192) (⟨1536 + (512 + n.val), by omega⟩ : Fin 2560)))
  else 0

/-- The gated input at a row that there is. -/
theorem gated_of_lt (s : Fin 2) (n : Fin 512) (r : ℕ) (h : r < 8192) : gated p s n r =
    glu (p (ix3 s (⟨r, h⟩ : Fin 8192) (⟨1536 + n.val, by omega⟩ : Fin 2560))) (p (ix3 s (⟨r, h⟩ : Fin 8192) (⟨1536 + (512 + n.val), by omega⟩ : Fin 2560))) :=
  dif_pos h

/-- The gated input. -/
theorem v10_at (s : Fin 2) (r : Fin 8192) (n : Fin 512) : val_main_v10 (F := Ideal) p (ix3 s r n) = gated p s n r.val := by
  rw [gated_of_lt p s n r.val r.isLt]
  pointwise [val_main_v10, val_main_v9, val_main_v8, val_main_v7, val_main_v6, val_main_v5, val_main_v4, val_main_v3, val_main_v2, val_main_v1, val_main_cst_0, val_main_cst_1]
  rfl

/-- The rows after 30 rows of zeros. -/
theorem v11_at (s : Fin 2) (j : Fin 8222) (n : Fin 512) : val_main_v11 (F := Ideal) p (ix3 s j n) = padded (gated p s n) (j.val + 2) := by
  pointwise [val_main_v11, val_main_v0, val_main_cst]
  unfold padded
  by_cases h : j.val < 30
  · rw [dif_pos h, if_pos (by omega)]
  · rw [dif_neg h]
    refine (v10_at p s _ n).trans (Eq.trans ?_ (if_neg (by omega)).symm)
    exact congrArg (gated p s n) (by simp only; omega)

/-- One of the 31 shifted copies, read at an index: row `r` of the copy shifted by `o` is row `r + o` of the sequence. -/
theorem shift_at (y : Vec Ideal S2x8222x512 .f32) (o : ℕ) (h : Shape.Slices S2x8222x512 ![0, o, 0] S2x8192x512) (i : S1x2x8192x512.Idx)
    (s : Fin 2) (r : Fin 8192) (n : Fin 512) (w k c : ℕ) (hr : r.val + (c + w) < 8222) (hw : w = k) (ho : o = c + k) (h1 : (i 1).val = s.val) (h2 : (i 2).val = r.val) (h3 : (i 3).val = n.val) :
    broadcastInDim S1x2x8192x512 ![1, 2, 3] bcast_S2x8192x512_S1x2x8192x512_1_2_3 (extractStridedSlice S2x8192x512 ![0, o, 0] y h) i =
      y (ix3 s (⟨r.val + (c + w), hr⟩ : Fin 8222) n) := by
  subst hw ho
  idx_vars i
  obtain rfl : i1 = s := Fin.ext h1
  obtain rfl : i2 = r := Fin.ext h2
  obtain rfl : i3 = n := Fin.ext h3
  pointwise []
  exact congrArg (fun j => y (ix3 i1 j i3)) (Fin.ext (Nat.add_comm _ _))

/-- The first sixteen of the 31 shifted copies: row `r` of copy `w` is row `r + w` of the joined sequence. -/
theorem v74_at (w : Fin 16) (s : Fin 2) (r : Fin 8192) (n : Fin 512) : val_main_v74 (F := Ideal) p (ix4 w s r n) =
    val_main_v11 (F := Ideal) p (ix3 s (⟨r.val + (0 + w.val), by omega⟩ : Fin 8222) n) := by
  unfold val_main_v74
  concat_tiles
  all_goals exact shift_at (val_main_v11 (F := Ideal) p) _ _ _ s r n w.val _ 0 _ ‹_› rfl ‹_› ‹_› ‹_›

/-- The other fifteen. -/
theorem v75_at (w : Fin 15) (s : Fin 2) (r : Fin 8192) (n : Fin 512) : val_main_v75 (F := Ideal) p (ix4 w s r n) =
    val_main_v11 (F := Ideal) p (ix3 s (⟨r.val + (16 + w.val), by omega⟩ : Fin 8222) n) := by
  unfold val_main_v75
  concat_tiles
  all_goals exact shift_at (val_main_v11 (F := Ideal) p) _ _ _ s r n w.val _ 16 _ ‹_› rfl ‹_› ‹_› ‹_›

/-- All 31 shifted copies. -/
theorem v76_at (w : Fin 31) (s : Fin 2) (r : Fin 8192) (n : Fin 512) : val_main_v76 (F := Ideal) p (ix4 w s r n) =
    val_main_v11 (F := Ideal) p (ix3 s (⟨r.val + w.val, by omega⟩ : Fin 8222) n) := by
  pointwise [val_main_v76]
  split
  · refine (v74_at p _ s r n).trans (congrArg (fun j => val_main_v11 (F := Ideal) p (ix3 s j n)) (Fin.ext ?_))
    simp
  · refine (v75_at p _ s r n).trans (congrArg (fun j => val_main_v11 (F := Ideal) p (ix3 s j n)) (Fin.ext ?_))
    simp only
    omega

/-- The convolution with its bias. -/
theorem v83_at (s : Fin 2) (r : Fin 8192) (n : Fin 512) : val_main_v83 (F := Ideal) p k b (ix3 s r n) =
    convAt (gated p s n) (fun w => k (ix2 w n)) (b (ix1 n)) r.val := by
  pointwise [val_main_v83, val_main_v82, val_main_v81, val_main_v80, val_main_v79, val_main_v78, val_main_v77, val_main_cst_2]
  simp only [v76_at, v11_at]
  rfl

/-- The convolution, the normalization and the gate. -/
theorem v108_of (s : Fin 2) (r : Fin 8192) (n : Fin 512) : val_main_v108 (F := Ideal) p k b g o (ix3 s r n) =
    siluRow (fun n => val_main_v83 (F := Ideal) p k b (ix3 s r n)) (fun n => g (ix1 n)) (fun n => o (ix1 n)) n := by
  pointwise [val_main_v108, val_main_call0_v5, val_main_call0_v4, val_main_call0_cst_0, val_main_call0_v3, val_main_call0_v2, val_main_call0_cst, val_main_call0_v1, val_main_call0_v0, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_cst_3, val_main_cst_4, val_main_cst_5, val_main_cst_6, val_main_cst_7]
  rfl

/-- The reference's first result. -/
theorem v108_at (s : Fin 2) (r : Fin 8192) (n : Fin 512) : val_main_v108 (F := Ideal) p k b g o (ix3 s r n) =
    siluRow (fun n => convAt (gated p s n) (fun w => k (ix2 w n)) (b (ix1 n)) r.val) (fun n => g (ix1 n)) (fun n => o (ix1 n)) n := by
  rw [v108_of]
  simp only [v83_at]

/-- The reference's second result: the last thirty gated rows. -/
theorem v109_at (s : Fin 2) (r : Fin 30) (n : Fin 512) : val_main_v109 (F := Ideal) p (ix3 s r n) = gated p s n (8162 + r.val) := by
  pointwise [val_main_v109]
  rw [v11_at]
  unfold padded
  rw [if_neg (by simp only; omega)]
  exact congrArg (gated p s n) (by simp only; omega)

end Cert.Proof.PromptConv.Ref

end
-- ==== Proof.PromptConvRun.lean ====
module

public import proofs.«01_k».proof.Proof.PromptConvBlock
public import proofs.«01_k».proof.Proof.PromptConvRef

@[expose] public section

set_option maxRecDepth 16384
set_option maxHeartbeats 4000000

noncomputable section

namespace Cert.Proof.PromptConv

open Idealize.ShloMosaic Idealize.ShloMosaic.TcCoe Idealize.SL.Sem
open Cert.PromptConvIdeal Cert.PromptConvIdeal.Gen
open Cert.Proof.Conv (glu siluRow siluRow_congr)

variable (m : (ℓ : Loc nD τ sig) → Buf (Elt Ideal) ℓ)

/-- Where the windows lie at grid point `t`: block `t % 16` of sequence `t / 16`, the 32 rows before it, everything else whole. -/
theorem idx : ∀ t : Fin grid0.N, win0_0.index t = ![t.val / 16, t.val % 16, 3] ∧ win0_1.index t = ![t.val / 16, t.val % 16, 4] ∧
    win0_2.index t = ![t.val / 16, 16 * (t.val % 16) - 1, 3] ∧ win0_3.index t = ![t.val / 16, 16 * (t.val % 16) - 1, 4] ∧
    win0_4.index t = ![0, 0] ∧ win0_5.index t = ![0, 0] ∧ win0_6.index t = ![0, 0] ∧ win0_7.index t = ![0, 0] ∧
    win0_8.index t = ![t.val / 16, t.val % 16, 0] ∧ win0_9.index t = ![t.val / 16, 0, 0] ∧ (grid0.coords t 1).val = t.val % 16 := by
  decide +kernel

section Reads

variable (c : Dev nD) (t : Fin cfg0.grid.N) (ht : t.val < 32)

/-- The first half of the gated input at grid point `t`: columns 1536 to 2047 of its block. -/
theorem read_a (r n : Fin 512) : iblk m c 0 t (ix3 0 r n) =
    m ((c : Thread nD τ).loc main_arg0) (ix3 (⟨t.val / 16, by omega⟩ : Fin 2) (⟨512 * (t.val % 16) + r.val, by omega⟩ : Fin 8192) (⟨1536 + n.val, by omega⟩ : Fin 2560)) := by
  obtain ⟨h, -⟩ := idx t
  blk_ext! [iblk, V, h]

/-- The second half: columns 2048 to 2559. -/
theorem read_g (r n : Fin 512) : iblk m c 1 t (ix3 0 r n) =
    m ((c : Thread nD τ).loc main_arg0) (ix3 (⟨t.val / 16, by omega⟩ : Fin 2) (⟨512 * (t.val % 16) + r.val, by omega⟩ : Fin 8192) (⟨1536 + (512 + n.val), by omega⟩ : Fin 2560)) := by
  obtain ⟨-, h, -⟩ := idx t
  blk_ext! [iblk, V, h]

/-- The first half of the 32 rows before a block that is not its sequence's first. -/
theorem read_pa (h0 : t.val % 16 ≠ 0) (r : Fin 32) (n : Fin 512) : iblk m c 2 t (ix3 0 r n) =
    m ((c : Thread nD τ).loc main_arg0) (ix3 (⟨t.val / 16, by omega⟩ : Fin 2) (⟨512 * (t.val % 16) + r.val - 32, by omega⟩ : Fin 8192) (⟨1536 + n.val, by omega⟩ : Fin 2560)) := by
  obtain ⟨-, -, h, -⟩ := idx t
  blk_ext! [iblk, V, h]

/-- The second half of these rows. -/
theorem read_pg (h0 : t.val % 16 ≠ 0) (r : Fin 32) (n : Fin 512) : iblk m c 3 t (ix3 0 r n) =
    m ((c : Thread nD τ).loc main_arg0) (ix3 (⟨t.val / 16, by omega⟩ : Fin 2) (⟨512 * (t.val % 16) + r.val - 32, by omega⟩ : Fin 8192) (⟨1536 + (512 + n.val), by omega⟩ : Fin 2560)) := by
  obtain ⟨-, -, -, h, -⟩ := idx t
  blk_ext! [iblk, V, h]

/-- The block of the taps is the whole array at every grid point. -/
theorem read_k (w : Fin 31) (n : Fin 512) : iblk m c 4 t (ix2 w n) = m ((c : Thread nD τ).loc main_arg1) (ix2 w n) := by
  obtain ⟨-, -, -, -, h, -⟩ := idx t
  blk_ext! [iblk, V, h]

/-- A load of one row of the taps. -/
theorem read_tap (w : ℕ) (hw : w < 31) (h : ∀ a, ![w, 0] a + ![1, 512] a ≤ S31x512.size a) (n : Fin 512) :
    View.ld (iblk m c 4 t) (Rect.unit (s := S31x512) ![w, 0] ![1, 512] h) (ix2 0 n) = m ((c : Thread nD τ).loc main_arg1) (ix2 (⟨w, hw⟩ : Fin 31) n) := by
  refine Eq.trans ?_ (read_k m c t ⟨w, hw⟩ n)
  show iblk m c 4 t _ = _
  blk_ext
  all_goals simp

/-- The block of the convolution's bias is the whole row at every grid point. -/
theorem read_b (n : Fin 512) : iblk m c 5 t (ix2 0 n) = m ((c : Thread nD τ).loc main_arg2) (ix1 n) := by
  obtain ⟨-, -, -, -, -, h, -⟩ := idx t
  blk_ext! [iblk, V, h]

/-- The block of the norm's gain is the whole row at every grid point. -/
theorem read_lg (n : Fin 512) : iblk m c 6 t (ix2 0 n) = m ((c : Thread nD τ).loc main_arg3) (ix1 n) := by
  obtain ⟨-, -, -, -, -, -, h, -⟩ := idx t
  blk_ext! [iblk, V, h]

/-- The block of the norm's offset is the whole row at every grid point. -/
theorem read_lb (n : Fin 512) : iblk m c 7 t (ix2 0 n) = m ((c : Thread nD τ).loc main_arg4) (ix1 n) := by
  obtain ⟨-, -, -, -, -, -, -, h, -⟩ := idx t
  blk_ext! [iblk, V, h]

/-- The gated rows of the grid point's sequence. -/
abbrev seq (n : Fin 512) : ℕ → EReal := Ref.gated (m ((c : Thread nD τ).loc main_arg0)) (⟨t.val / 16, by omega⟩ : Fin 2) n

/-- The gated rows a grid point stores are the sequence's. -/
theorem gated_eq (r n : Fin 512) : glu (iblk m c 0 t (ix3 0 r n)) (iblk m c 1 t (ix3 0 r n)) = seq m c t ht n (512 * (grid0.coords t 1).val + r.val) := by
  rw [(idx t).2.2.2.2.2.2.2.2.2.2]
  exact (congrArg₂ glu (read_a m c t ht r n) (read_g m c t ht r n)).trans (Ref.gated_of_lt _ _ _ _ _).symm

/-- So are the 32 rows it stores before them, unless the block is the first. -/
theorem before_eq (h0 : (grid0.coords t 1).val ≠ 0) (r : Fin 32) (n : Fin 512) :
    glu (iblk m c 2 t (ix3 0 r n)) (iblk m c 3 t (ix3 0 r n)) = seq m c t ht n (512 * (grid0.coords t 1).val + r.val - 32) := by
  rw [(idx t).2.2.2.2.2.2.2.2.2.2] at h0 ⊢
  exact (congrArg₂ glu (read_pa m c t ht h0 r n) (read_pg m c t ht h0 r n)).trans (Ref.gated_of_lt _ _ _ _ _).symm

end Reads

/-- Sixty-four of the scratch array's rows from row `o + 2 + w` on. -/
abbrev scr (c : Dev nD) (t : Fin cfg0.N) (o : ℕ) (ho : o + 64 ≤ 512) (w : Fin 31) : Vec Ideal S64x512 .f32 :=
  (View.whole cc0_scratch0).readCov (Block.stores (grid0.coords t) (iblk m c 0 t) (iblk m c 1 t) (iblk m c 2 t) (iblk m c 3 t))
    (Rect.unit (s := S544x512) ![o + 2 + w.val, 0] ![64, 512]
      (Fin.forall_fin_two.mpr ⟨by show o + 2 + w.val + 64 ≤ 544; omega, Nat.le_refl 512⟩)).toLoadRect

/-- One row of the taps. -/
abbrev tap (c : Dev nD) (t : Fin cfg0.N) (w : Fin 31) : Vec Ideal S1x512 .f32 :=
  View.ld (iblk m c 4 t) (Rect.unit (s := S31x512) ![w.val, 0] ![1, 512]
    (Fin.forall_fin_two.mpr ⟨by show w.val + 1 ≤ 31; omega, Nat.le_refl 512⟩))

/-- Sixty-four rows of a grid point's first result, from row `64 · k` on: the reference's rows of its block. -/
theorem rows_at (c : Dev nD) (t : Fin cfg0.N) (ht : t.val < 32) (k : ℕ) (hk : 64 * k + 64 ≤ 512) (x : S1x64x512.Idx) (r n : Fin 512)
    (h1 : r.val = 64 * k + (x 1).val) (h2 : n.val = (x 2).val) :
    Block.rows (scr m c t (64 * k) hk) (tap m c t) (iblk m c 5 t) (iblk m c 6 t) (iblk m c 7 t) x =
      siluRow (fun n => convAt (seq m c t ht n) (fun w => m ((c : Thread nD τ).loc main_arg1) (ix2 w n)) (m ((c : Thread nD τ).loc main_arg2) (ix1 n)) (512 * (t.val % 16) + r.val))
        (fun n => m ((c : Thread nD τ).loc main_arg3) (ix1 n)) (fun n => m ((c : Thread nD τ).loc main_arg4) (ix1 n)) n := by
  obtain ⟨a, n', rfl⟩ : ∃ (a : Fin 64) (n' : Fin 512), x = ix3 0 a n' := ⟨x 1, x 2, (eq_ix3 x).trans (congrArg (fun i => ix3 i (x 1) (x 2)) (Subsingleton.elim (α := Fin 1) (x 0) 0))⟩
  obtain rfl : n = n' := Fin.ext h2
  have h1' : r.val = 64 * k + a.val := h1
  refine (Block.rows_at _ _ _ _ _ a n).trans ?_
  refine siluRow_congr (fun n => ?_) (fun n => read_lg m c t n) (fun n => read_lb m c t n) n
  refine congrArg₂ (· + ·) (Finset.sum_congr rfl fun w _ => congrArg₂ (· * ·) ?_ ?_) (read_b m c t n)
  · refine (Block.load_at _ _ _ _ _ (seq m c t ht) (gated_eq m c t ht) (before_eq m c t ht) 64 _ _ a n).trans (congrArg (padded (seq m c t ht n)) ?_)
    rw [(idx t).2.2.2.2.2.2.2.2.2.2]
    omega
  · exact read_tap m c t w.val w.isLt _ n

/-- The first result of a grid point: the reference's rows of its block. -/
theorem out_y (c : Dev nD) (t : Fin cfg0.N) (ht : t.val < 32) (r n : Fin 512) : (outsAt0 m c t).1 (ix3 0 r n) =
    siluRow (fun n => convAt (seq m c t ht n) (fun w => m ((c : Thread nD τ).loc main_arg1) (ix2 w n)) (m ((c : Thread nD τ).loc main_arg2) (ix1 n)) (512 * (t.val % 16) + r.val))
      (fun n => m ((c : Thread nD τ).loc main_arg3) (ix1 n)) (fun n => m ((c : Thread nD τ).loc main_arg4) (ix1 n)) n := by
  unfold outsAt0
  frame_out
  canon_tiles x h
  · exact rows_at m c t ht 7 (by omega) x r n h1 h2
  · exact rows_at m c t ht 6 (by omega) x r n h1 h2
  · exact rows_at m c t ht 5 (by omega) x r n h1 h2
  · exact rows_at m c t ht 4 (by omega) x r n h1 h2
  · exact rows_at m c t ht 3 (by omega) x r n h1 h2
  · exact rows_at m c t ht 2 (by omega) x r n h1 h2
  · exact rows_at m c t ht 1 (by omega) x r n h1 h2
  · exact rows_at m c t ht 0 (by omega) x r n (h1.trans (Nat.zero_add _).symm) h2

/-- The second result of a sequence's last grid point: the sequence's last thirty gated rows. -/
theorem out_st (c : Dev nD) (t : Fin cfg0.N) (ht : t.val < 32) (hl : t.val % 16 = 15) (r : Fin 30) (n : Fin 512) : (outsAt0 m c t).2 (ix3 0 r n) =
    seq m c t ht n (8162 + r.val) := by
  unfold outsAt0
  frame_out
  rw [Block.pay2_at]
  refine (Block.load_at (grid0.coords t) _ _ _ _ (seq m c t ht) (gated_eq m c t ht) (before_eq m c t ht) 30 514 inb_S544x512_S30x512_514_0 r n).trans ?_
  rw [(idx t).2.2.2.2.2.2.2.2.2.2, hl]
  unfold padded
  rw [if_neg (by omega)]
  exact congrArg (seq m c t ht n) (by omega)

/-- The first result array after the whole grid is the reference's first value at the arguments. -/
theorem out_eq (c : Dev nD) : (dats m 0 c).arrAt 8 cfg0.N = Cert.PromptConvRefIdeal.Read.val_main_v108 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) := by
  refine (dats m 0 c).arrAt_eq_of_covers 8 _ (by decide +kernel) fun t hf y => ?_
  have h8 := (idx t).2.2.2.2.2.2.2.2.1
  have ht : t.val < 32 := t.isLt
  blk_simp
  rw [after0_8]
  obtain ⟨r, n, rfl⟩ : ∃ (r n : Fin 512), y = ix3 0 r n := ⟨y 1, y 2, (eq_ix3 y).trans (congrArg (fun i => ix3 i (y 1) (y 2)) (Subsingleton.elim (α := Fin 1) (y 0) 0))⟩
  have he : ((View.whole main_v3_0).slice (win0_8.rect t)).emb (ix3 0 r n) = ix3 (⟨t.val / 16, by omega⟩ : Fin 2) (⟨512 * (t.val % 16) + r.val, by omega⟩ : Fin 8192) n := by
    blk_ext [h8]
  rw [out_y m c t ht, he, Ref.v108_at]

/-- The second result array after the whole grid is the reference's second value at the arguments. -/
theorem out_state_eq (c : Dev nD) : (dats m 0 c).arrAt 9 cfg0.N = Cert.PromptConvRefIdeal.Read.val_main_v109 (F := Ideal)
    (m ((c : Thread nD τ).loc main_arg0)) := by
  refine (dats m 0 c).arrAt_eq_of_covers 9 _ (by decide +kernel) fun t hf y => ?_
  have h9 := (idx t).2.2.2.2.2.2.2.2.2.1
  have ht : t.val < 32 := t.isLt
  have hl := (flush0_9 t).mp hf
  blk_simp
  rw [after0_9]
  obtain ⟨r, n, rfl⟩ : ∃ (r : Fin 30) (n : Fin 512), y = ix3 0 r n := ⟨y 1, y 2, (eq_ix3 y).trans (congrArg (fun i => ix3 i (y 1) (y 2)) (Subsingleton.elim (α := Fin 1) (y 0) 0))⟩
  have he : ((View.whole main_v3_1).slice (win0_9.rect t)).emb (ix3 0 r n) = ix3 (⟨t.val / 16, by omega⟩ : Fin 2) r n := by
    blk_ext [h9]
  rw [out_st m c t ht hl, he, Ref.v109_at]

end Cert.Proof.PromptConv

end
-- ==== Proof.Finite.lean ====
module

public import Idealize.ShloMosaic.Lib.Pointwise
public import proofs.«01_k».proof.Pre_finite_scores
public import proofs.«01_k».proof.Pre_finite_scores_sink
public import proofs.«01_k».proof.Pre_finite_sample_c
public import proofs.«01_k».proof.Pre_finite_sample_a

@[expose] public section

noncomputable section

namespace Cert.Proof

open Idealize.ShloMosaic

/-- The side conditions of the first precondition. -/
theorem pre_facts : Cert.Pre_finite_scores.Facts where
  slices_S2x8192x2560_S2x8192x1024_0_0_0 := by decide
  bcast_S_S2x8192x1024 := by decide
  bcast_S_S8x64x576 := by decide

/-- The side conditions of the second precondition. -/
theorem pre_sink_facts : Cert.Pre_finite_scores_sink.Facts where
  slices_S2x8192x2560_S2x8192x512_0_0_0 := by decide
  bcast_S_S2x8192x512 := by decide
  slices_S2x8192x2560_S2x8192x128_0_0_2048 := by decide
  bcast_S_S2x8192x128 := by decide
  bcast_S_S8x64x192 := by decide
  bcast_S_S8 := by decide

/-- The side conditions of the third precondition. -/
theorem pre_sample_c_facts : Cert.Pre_finite_sample_c.Facts where
  slices_S32x64x2560_S32x64x1024_0_0_0 := by decide
  bcast_S_S32x64x1024 := by decide
  bcast_S_S32x512x8x64 := by decide
  bcast_S_S8x64x576 := by decide

/-- The side conditions of the fourth precondition. -/
theorem pre_sample_a_facts : Cert.Pre_finite_sample_a.Facts where
  slices_S32x64x2560_S32x64x512_0_0_0 := by decide
  bcast_S_S32x64x512 := by decide
  slices_S32x64x2560_S32x64x128_0_0_2048 := by decide
  bcast_S_S32x64x128 := by decide
  bcast_S_S32x128x2x64 := by decide
  bcast_S_S8x64x192 := by decide
  bcast_S_S8 := by decide

/-- The pattern of +∞ is +∞. -/
theorem ofBits_inf : Ideal.ofBits .f32 0x7F800000#32 = ⊤ := by
  simp [Ideal.ofBits, Ideal.ieee]

/-- A value whose absolute value is compared as less than +∞ is a real number. -/
theorem real_of_abs (x : EReal) (h : BitVec.ofBool (decide (FloatOps.absf (F := Ideal) (φ := .f32) x < Ideal.ofBits .f32 0x7F800000#32)) = 1#1) : ∃ r : ℝ, x = r := by
  rw [ofBits_inf] at h
  have h' : FloatOps.absf (F := Ideal) (φ := .f32) x < (⊤ : EReal) := by
    by_contra hn
    rw [decide_eq_false hn] at h
    exact absurd h (by decide)
  induction x with
  | bot => exact absurd h' (by show ¬ (_ : EReal) < ⊤; simp [FloatOps.absf])
  | top => exact absurd h' (by show ¬ (_ : EReal) < ⊤; simp [FloatOps.absf])
  | coe a => exact ⟨a, rfl⟩

section Scores

variable [Cert.Pre_finite_scores.Facts] (x0 : FVec Ideal Cert.Pre_finite_scores.S2x8192x2560 .f32) (x1 : FVec Ideal Cert.Pre_finite_scores.S8x64x576 .f32)

/-- Under the first precondition the queries and keys are real numbers. -/
theorem finite_p (h : (Cert.Pre_finite_scores.fn (F := Ideal) x0 x1).1 = fun _ => 1#1) (b : Fin 2) (r : Fin 8192) (n : Fin 1024) :
    ∃ x : ℝ, x0 (ix3 b r (⟨n.val, by omega⟩ : Fin 2560)) = (x : EReal) := by
  have e := congrFun h (ix3 b r n)
  revert e
  pointwise [Cert.Pre_finite_scores.fn]
  exact real_of_abs _

/-- Under the first precondition the bias is real. -/
theorem finite_bias (h : (Cert.Pre_finite_scores.fn (F := Ideal) x0 x1).2 = fun _ => 1#1) (b : Fin 8) (a : Fin 64) (n : Fin 576) :
    ∃ x : ℝ, x1 (ix3 b a n) = (x : EReal) := by
  have e := congrFun h (ix3 b a n)
  revert e
  pointwise [Cert.Pre_finite_scores.fn]
  exact real_of_abs _

end Scores

section Sink

variable [Cert.Pre_finite_scores_sink.Facts] (x0 : FVec Ideal Cert.Pre_finite_scores_sink.S2x8192x2560 .f32)
  (x1 : FVec Ideal Cert.Pre_finite_scores_sink.S8x64x192 .f32) (x2 : FVec Ideal Cert.Pre_finite_scores_sink.S8 .f32)

/-- Under the second precondition the queries are real numbers. -/
theorem finite_q (h : (Cert.Pre_finite_scores_sink.fn (F := Ideal) x0 x1 x2).1 = fun _ => 1#1) (b : Fin 2) (r : Fin 8192) (n : Fin 512) :
    ∃ x : ℝ, x0 (ix3 b r (⟨n.val, by omega⟩ : Fin 2560)) = (x : EReal) := by
  have e := congrFun h (ix3 b r n)
  revert e
  pointwise [Cert.Pre_finite_scores_sink.fn]
  exact real_of_abs _

/-- Under the second precondition the keys are real numbers. -/
theorem finite_k (h : (Cert.Pre_finite_scores_sink.fn (F := Ideal) x0 x1 x2).2.1 = fun _ => 1#1) (b : Fin 2) (r : Fin 8192) (n : Fin 128) :
    ∃ x : ℝ, x0 (ix3 b r (⟨2048 + n.val, by omega⟩ : Fin 2560)) = (x : EReal) := by
  have e := congrFun h (ix3 b r n)
  revert e
  pointwise [Cert.Pre_finite_scores_sink.fn]
  exact real_of_abs _

/-- Under the second precondition the bias is real. -/
theorem finite_bias_sink (h : (Cert.Pre_finite_scores_sink.fn (F := Ideal) x0 x1 x2).2.2.1 = fun _ => 1#1) (b : Fin 8) (a : Fin 64) (n : Fin 192) :
    ∃ x : ℝ, x1 (ix3 b a n) = (x : EReal) := by
  have e := congrFun h (ix3 b a n)
  revert e
  pointwise [Cert.Pre_finite_scores_sink.fn]
  exact real_of_abs _

/-- Under the second precondition the sinks are real numbers. -/
theorem finite_sink (h : (Cert.Pre_finite_scores_sink.fn (F := Ideal) x0 x1 x2).2.2.2 = fun _ => 1#1) (b : Fin 8) :
    ∃ x : ℝ, x2 (ix1 b) = (x : EReal) := by
  have e := congrFun h (ix1 b)
  revert e
  pointwise [Cert.Pre_finite_scores_sink.fn]
  exact real_of_abs _

end Sink

section SampleC

variable [Cert.Pre_finite_sample_c.Facts] (x0 : FVec Ideal Cert.Pre_finite_sample_c.S32x64x2560 .f32) (x1 x2 : FVec Ideal Cert.Pre_finite_sample_c.S32x512x8x64 .f32)
  (x3 : FVec Ideal Cert.Pre_finite_sample_c.S8x64x576 .f32)

/-- Under the third precondition the queries and the new keys are real numbers. -/
theorem sample_c_p (h : (Cert.Pre_finite_sample_c.fn (F := Ideal) x0 x1 x2 x3).1 = fun _ => 1#1) (b : Fin 32) (r : Fin 64) (n : Fin 1024) :
    ∃ x : ℝ, x0 (ix3 b r (⟨n.val, by omega⟩ : Fin 2560)) = (x : EReal) := by
  have e := congrFun h (ix3 b r n)
  revert e
  pointwise [Cert.Pre_finite_sample_c.fn]
  exact real_of_abs _

/-- Under the third precondition the cached keys are real numbers. -/
theorem sample_c_keys (h : (Cert.Pre_finite_sample_c.fn (F := Ideal) x0 x1 x2 x3).2.1 = fun _ => 1#1) (b : Fin 32) (r : Fin 512) (g : Fin 8) (i : Fin 64) :
    ∃ x : ℝ, x1 (ix4 b r g i) = (x : EReal) := by
  have e := congrFun h (ix4 b r g i)
  revert e
  pointwise [Cert.Pre_finite_sample_c.fn]
  exact real_of_abs _

/-- Under the third precondition the bias is real. -/
theorem sample_c_bias (h : (Cert.Pre_finite_sample_c.fn (F := Ideal) x0 x1 x2 x3).2.2 = fun _ => 1#1) (b : Fin 8) (a : Fin 64) (n : Fin 576) :
    ∃ x : ℝ, x3 (ix3 b a n) = (x : EReal) := by
  have e := congrFun h (ix3 b a n)
  revert e
  pointwise [Cert.Pre_finite_sample_c.fn]
  exact real_of_abs _

end SampleC

section SampleA

variable [Cert.Pre_finite_sample_a.Facts] (x0 : FVec Ideal Cert.Pre_finite_sample_a.S32x64x2560 .f32) (x1 x2 : FVec Ideal Cert.Pre_finite_sample_a.S32x128x2x64 .f32)
  (x3 : FVec Ideal Cert.Pre_finite_sample_a.S8x64x192 .f32) (x4 : FVec Ideal Cert.Pre_finite_sample_a.S8 .f32)

/-- Under the fourth precondition the queries are real numbers. -/
theorem sample_a_q (h : (Cert.Pre_finite_sample_a.fn (F := Ideal) x0 x1 x2 x3 x4).1 = fun _ => 1#1) (b : Fin 32) (r : Fin 64) (n : Fin 512) :
    ∃ x : ℝ, x0 (ix3 b r (⟨n.val, by omega⟩ : Fin 2560)) = (x : EReal) := by
  have e := congrFun h (ix3 b r n)
  revert e
  pointwise [Cert.Pre_finite_sample_a.fn]
  exact real_of_abs _

/-- Under the fourth precondition the new keys are real numbers. -/
theorem sample_a_new (h : (Cert.Pre_finite_sample_a.fn (F := Ideal) x0 x1 x2 x3 x4).2.1 = fun _ => 1#1) (b : Fin 32) (r : Fin 64) (n : Fin 128) :
    ∃ x : ℝ, x0 (ix3 b r (⟨2048 + n.val, by omega⟩ : Fin 2560)) = (x : EReal) := by
  have e := congrFun h (ix3 b r n)
  revert e
  pointwise [Cert.Pre_finite_sample_a.fn]
  exact real_of_abs _

/-- Under the fourth precondition the cached keys are real numbers. -/
theorem sample_a_keys (h : (Cert.Pre_finite_sample_a.fn (F := Ideal) x0 x1 x2 x3 x4).2.2.1 = fun _ => 1#1) (b : Fin 32) (r : Fin 128) (g : Fin 2) (i : Fin 64) :
    ∃ x : ℝ, x1 (ix4 b r g i) = (x : EReal) := by
  have e := congrFun h (ix4 b r g i)
  revert e
  pointwise [Cert.Pre_finite_sample_a.fn]
  exact real_of_abs _

/-- Under the fourth precondition the bias is real. -/
theorem sample_a_bias (h : (Cert.Pre_finite_sample_a.fn (F := Ideal) x0 x1 x2 x3 x4).2.2.2.1 = fun _ => 1#1) (b : Fin 8) (a : Fin 64) (n : Fin 192) :
    ∃ x : ℝ, x3 (ix3 b a n) = (x : EReal) := by
  have e := congrFun h (ix3 b a n)
  revert e
  pointwise [Cert.Pre_finite_sample_a.fn]
  exact real_of_abs _

/-- Under the fourth precondition the sinks are real numbers. -/
theorem sample_a_sink (h : (Cert.Pre_finite_sample_a.fn (F := Ideal) x0 x1 x2 x3 x4).2.2.2.2 = fun _ => 1#1) (b : Fin 8) :
    ∃ x : ℝ, x4 (ix1 b) = (x : EReal) := by
  have e := congrFun h (ix1 b)
  revert e
  pointwise [Cert.Pre_finite_sample_a.fn]
  exact real_of_abs _

end SampleA

end Cert.Proof

end
-- ==== Proof.lean ====
module

public import proofs.«01_k».proof.Defs
public import proofs.«01_k».proof.Proof.Gen.AttnC
public import proofs.«01_k».proof.Proof.Gen.AttnC.Skeleton
public import proofs.«01_k».proof.Proof.Gen.AttnC.Launch
public import proofs.«01_k».proof.Proof.Gen.AttnC.Points
public import proofs.«01_k».proof.Proof.Gen.AttnC.Frame
public import proofs.«01_k».proof.Proof.Gen.AttnCIdeal
public import proofs.«01_k».proof.Proof.Gen.AttnCIdeal.Skeleton
public import proofs.«01_k».proof.Proof.Gen.AttnCIdeal.Launch
public import proofs.«01_k».proof.Proof.Gen.AttnCIdeal.Points
public import proofs.«01_k».proof.Proof.Gen.AttnCIdeal.Frame
public import proofs.«01_k».proof.Proof.Gen.AttnCRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.PostMid
public import proofs.«01_k».proof.Proof.Gen.PostMid.Skeleton
public import proofs.«01_k».proof.Proof.Gen.PostMid.Launch
public import proofs.«01_k».proof.Proof.Gen.PostMid.Points
public import proofs.«01_k».proof.Proof.Gen.PostMid.Frame
public import proofs.«01_k».proof.Proof.Gen.PostMidIdeal
public import proofs.«01_k».proof.Proof.Gen.PostMidIdeal.Skeleton
public import proofs.«01_k».proof.Proof.Gen.PostMidIdeal.Launch
public import proofs.«01_k».proof.Proof.Gen.PostMidIdeal.Points
public import proofs.«01_k».proof.Proof.Gen.PostMidIdeal.Frame
public import proofs.«01_k».proof.Proof.Gen.PostMidRefIdeal
public import proofs.«01_k».proof.Proof.Gen.PostLast
public import proofs.«01_k».proof.Proof.Gen.PostLast.Skeleton
public import proofs.«01_k».proof.Proof.Gen.PostLast.Launch
public import proofs.«01_k».proof.Proof.Gen.PostLast.Points
public import proofs.«01_k».proof.Proof.Gen.PostLast.Frame
public import proofs.«01_k».proof.Proof.Gen.PostLastIdeal
public import proofs.«01_k».proof.Proof.Gen.PostLastIdeal.Skeleton
public import proofs.«01_k».proof.Proof.Gen.PostLastIdeal.Launch
public import proofs.«01_k».proof.Proof.Gen.PostLastIdeal.Points
public import proofs.«01_k».proof.Proof.Gen.PostLastIdeal.Frame
public import proofs.«01_k».proof.Proof.Gen.PostLastRefIdeal
public import proofs.«01_k».proof.Proof.Gen.AttnCIdeal.Value
public import proofs.«01_k».proof.Proof.Gen.ProjIdeal.Value
public import proofs.«01_k».proof.Proof.Gen.PostMidIdeal.Value
public import proofs.«01_k».proof.Proof.Gen.PostLastIdeal.Value
public import proofs.«01_k».proof.Proof.Gen.AttnCRefIdeal.Run
public import proofs.«01_k».proof.Proof.Gen.AttnCRefIdeal.Read
public import proofs.«01_k».proof.Proof.Gen.ProjRefIdeal.Run
public import proofs.«01_k».proof.Proof.Gen.ProjRefIdeal.Read
public import proofs.«01_k».proof.Proof.Gen.PostMidRefIdeal.Run
public import proofs.«01_k».proof.Proof.Gen.PostMidRefIdeal.Read
public import proofs.«01_k».proof.Proof.Gen.PostLastRefIdeal.Run
public import proofs.«01_k».proof.Proof.Gen.PostLastRefIdeal.Read
public import proofs.«01_k».proof.Proof.Gen.AttnA
public import proofs.«01_k».proof.Proof.Gen.AttnA.Skeleton
public import proofs.«01_k».proof.Proof.Gen.AttnA.Launch
public import proofs.«01_k».proof.Proof.Gen.AttnA.Points
public import proofs.«01_k».proof.Proof.Gen.AttnA.Frame
public import proofs.«01_k».proof.Proof.Gen.AttnAIdeal.Value
public import proofs.«01_k».proof.Proof.Gen.AttnARefIdeal.Run
public import proofs.«01_k».proof.Proof.Gen.AttnARefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.SampleC
public import proofs.«01_k».proof.Proof.Gen.SampleC.Skeleton
public import proofs.«01_k».proof.Proof.Gen.SampleC.Launch
public import proofs.«01_k».proof.Proof.Gen.SampleC.Points
public import proofs.«01_k».proof.Proof.Gen.SampleC.Frame
public import proofs.«01_k».proof.Proof.Gen.SampleCIdeal
public import proofs.«01_k».proof.Proof.Gen.SampleCIdeal.Skeleton
public import proofs.«01_k».proof.Proof.Gen.SampleCIdeal.Launch
public import proofs.«01_k».proof.Proof.Gen.SampleCIdeal.Points
public import proofs.«01_k».proof.Proof.Gen.SampleCIdeal.Frame
public import proofs.«01_k».proof.Proof.Gen.SampleCIdeal.Value
public import proofs.«01_k».proof.Proof.Gen.SampleCRefIdeal
public import proofs.«01_k».proof.Proof.Gen.SampleCRefIdeal.Run
public import proofs.«01_k».proof.Proof.Gen.SampleCRefIdeal.Read
public import proofs.«01_k».proof.Proof.Gen.SampleA
public import proofs.«01_k».proof.Proof.Gen.SampleA.Skeleton
public import proofs.«01_k».proof.Proof.Gen.SampleA.Launch
public import proofs.«01_k».proof.Proof.Gen.SampleA.Points
public import proofs.«01_k».proof.Proof.Gen.SampleA.Frame
public import proofs.«01_k».proof.Proof.Gen.SampleAIdeal
public import proofs.«01_k».proof.Proof.Gen.SampleAIdeal.Skeleton
public import proofs.«01_k».proof.Proof.Gen.SampleAIdeal.Launch
public import proofs.«01_k».proof.Proof.Gen.SampleAIdeal.Points
public import proofs.«01_k».proof.Proof.Gen.SampleAIdeal.Frame
public import proofs.«01_k».proof.Proof.Gen.SampleAIdeal.Value
public import proofs.«01_k».proof.Proof.Gen.SampleARefIdeal
public import proofs.«01_k».proof.Proof.Gen.SampleARefIdeal.Run
public import proofs.«01_k».proof.Proof.Gen.SampleARefIdeal.Read
public import proofs.«01_k».proof.Proof.Gen.PromptConv
public import proofs.«01_k».proof.Proof.Gen.PromptConv.Skeleton
public import proofs.«01_k».proof.Proof.Gen.PromptConv.Launch
public import proofs.«01_k».proof.Proof.Gen.PromptConv.Points
public import proofs.«01_k».proof.Proof.Gen.PromptConv.Frame
public import proofs.«01_k».proof.Proof.Gen.PromptConvIdeal
public import proofs.«01_k».proof.Proof.Gen.PromptConvIdeal.Skeleton
public import proofs.«01_k».proof.Proof.Gen.PromptConvIdeal.Launch
public import proofs.«01_k».proof.Proof.Gen.PromptConvIdeal.Points
public import proofs.«01_k».proof.Proof.Gen.PromptConvIdeal.Frame
public import proofs.«01_k».proof.Proof.Gen.PromptConvIdeal.Value
public import proofs.«01_k».proof.Proof.Gen.PromptConvRefIdeal
public import proofs.«01_k».proof.Proof.Gen.PromptConvRefIdeal.Run
public import proofs.«01_k».proof.Proof.Gen.PromptConvRefIdeal.Read
public import Idealize.ShloMosaic.Adequacy
public import Idealize.ShloMosaic.Init
public import Idealize.ShloMosaic.Lib.Quiescent
public import proofs.«01_k».proof.Proof.ProjValue
public import proofs.«01_k».proof.Proof.PostMidRun
public import proofs.«01_k».proof.Proof.PostLastRun
public import proofs.«01_k».proof.Proof.AttnCRun
public import proofs.«01_k».proof.Proof.AttnARun
public import proofs.«01_k».proof.Proof.ConvRun
public import proofs.«01_k».proof.Proof.SampleCRun
public import proofs.«01_k».proof.Proof.SampleARun
public import proofs.«01_k».proof.Proof.PromptConvRun
public import proofs.«01_k».proof.Proof.Finite

@[expose] public section

noncomputable section

namespace Cert.Proof

open Idealize.ShloMosaic Idealize.SL.Sem

attribute [local instance] pre_facts pre_sink_facts pre_sample_c_facts pre_sample_a_facts

/-! ## AttnC: the long attention (window of nine blocks, eight heads) -/

/-- The reference of AttnC runs from every memory, leaves its arguments unchanged and, having no semaphore, every counter at zero. -/
theorem frame_AttnCRef (m : (ℓ : Loc Cert.AttnCRefIdeal.nD Cert.AttnCRefIdeal.τ Cert.AttnCRefIdeal.sig) → Buf (Elt Ideal) ℓ) (g : Dev Cert.AttnCRefIdeal.nD → PrngReg) :
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1))
      ∧ r.2.sem = fun _ => 0) :=
  (θ_run _ _ _).mono (fun r h => ⟨fun c => (h c).2, sem_eq_zero_of_no_sems rfl _⟩) (Cert.AttnCRefIdeal.Value.run m g)

/-- Kernel and reference of AttnC where queries, keys and bias are real numbers, end with the same result over the extended reals. -/
theorem algebraic_AttnC : Cert.algebraic_AttnCIdeal_AttnCRefIdeal_pre_finite_scores (hPre_finite_scores := pre_facts) := by
  intro m g m' g' hpre hm
  refine ⟨fun c => (Cert.AttnCIdeal.Gen.dats m 0 c).arrAt 20 Cert.AttnCIdeal.cfg0.N, Cert.AttnCIdeal.Value.run_blocks m g, ?_⟩
  refine (θ_run _ _ _).mono (fun r h c => ⟨?_, (h c).2⟩) (Cert.AttnCRefIdeal.Value.run m' g')
  refine (h c).1.trans ?_
  have e := Cert.Proof.AttnC.out_eq m c (finite_p _ _ (hpre c).1) (finite_bias _ _ (hpre c).2)
  refine Eq.trans ?_ e.symm
  show Cert.AttnCRefIdeal.Read.val_main_v65 (F := Ideal) (m' ((c.tc : Thread Cert.AttnCRefIdeal.nD Cert.AttnCRefIdeal.τ).loc Cert.AttnCRefIdeal.main_arg0)) (m' ((c.tc : Thread Cert.AttnCRefIdeal.nD Cert.AttnCRefIdeal.τ).loc Cert.AttnCRefIdeal.main_arg1))
    = Cert.AttnCRefIdeal.Read.val_main_v65 (F := Ideal) (m ((c.tc : Thread Cert.AttnCIdeal.nD Cert.AttnCIdeal.τ).loc Cert.AttnCIdeal.main_arg0)) (m ((c.tc : Thread Cert.AttnCIdeal.nD Cert.AttnCIdeal.τ).loc Cert.AttnCIdeal.main_arg1))
  obtain ⟨h0, h1⟩ := hm c
  rw [h0, h1]

/-! ## AttnA: the short attention (window of three blocks, with a sink) -/

/-- The reference of AttnA runs from every memory, leaves its arguments unchanged and, having no semaphore, every counter at zero. -/
theorem frame_AttnARef (m : (ℓ : Loc Cert.AttnARefIdeal.nD Cert.AttnARefIdeal.τ Cert.AttnARefIdeal.sig) → Buf (Elt Ideal) ℓ) (g : Dev Cert.AttnARefIdeal.nD → PrngReg) :
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2))
      ∧ r.2.sem = fun _ => 0) :=
  (θ_run _ _ _).mono (fun r h => ⟨fun c => (h c).2, sem_eq_zero_of_no_sems rfl _⟩) (Cert.AttnARefIdeal.Value.run m g)

/-- Kernel and reference of AttnA where queries, keys, bias and sinks are real numbers, end with the same result over the extended reals. -/
theorem algebraic_AttnA : Cert.algebraic_AttnAIdeal_AttnARefIdeal_pre_finite_scores_sink (hPre_finite_scores_sink := pre_sink_facts) := by
  intro m g m' g' hpre hm
  refine ⟨fun c => (Cert.AttnAIdeal.Gen.dats m 0 c).arrAt 9 Cert.AttnAIdeal.cfg0.N, Cert.AttnAIdeal.Value.run_blocks m g, ?_⟩
  refine (θ_run _ _ _).mono (fun r h c => ⟨?_, (h c).2⟩) (Cert.AttnARefIdeal.Value.run m' g')
  refine (h c).1.trans ?_
  have e := Cert.Proof.AttnA.out_eq m c (finite_q _ _ _ (hpre c).1) (finite_k _ _ _ (hpre c).2.1) (finite_bias_sink _ _ _ (hpre c).2.2.1) (finite_sink _ _ _ (hpre c).2.2.2)
  refine Eq.trans ?_ e.symm
  show Cert.AttnARefIdeal.Read.val_main_v63 (F := Ideal) (m' ((c.tc : Thread Cert.AttnARefIdeal.nD Cert.AttnARefIdeal.τ).loc Cert.AttnARefIdeal.main_arg0)) (m' ((c.tc : Thread Cert.AttnARefIdeal.nD Cert.AttnARefIdeal.τ).loc Cert.AttnARefIdeal.main_arg1)) (m' ((c.tc : Thread Cert.AttnARefIdeal.nD Cert.AttnARefIdeal.τ).loc Cert.AttnARefIdeal.main_arg2))
    = Cert.AttnARefIdeal.Read.val_main_v63 (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))
  obtain ⟨h0, h1, h2⟩ := hm c
  rw [h0, h1, h2]

/-! ## Proj: the RMS-normalised input projection -/

/-- The reference of Proj runs from every memory, leaves its arguments unchanged and, having no semaphore, every counter at zero. -/
theorem frame_ProjRef (m : (ℓ : Loc Cert.ProjRefIdeal.nD Cert.ProjRefIdeal.τ Cert.ProjRefIdeal.sig) → Buf (Elt Ideal) ℓ) (g : Dev Cert.ProjRefIdeal.nD → PrngReg) :
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0) :=
  (θ_run _ _ _).mono (fun r h => ⟨fun c => (h c).2, sem_eq_zero_of_no_sems rfl _⟩) (Cert.ProjRefIdeal.Value.run m g)

/-- Kernel and reference of Proj end with the same result over the extended reals. -/
theorem algebraic_Proj : Cert.algebraic_ProjIdeal_ProjRefIdeal := by
  intro m g m' g' _ hm
  refine ⟨fun c => (Cert.ProjIdeal.Gen.dats m 0 c).arrAt 3 Cert.ProjIdeal.cfg0.N, Cert.ProjIdeal.Value.run_blocks m g, ?_⟩
  refine (θ_run _ _ _).mono (fun r h c => ⟨?_, (h c).2⟩) (Cert.ProjRefIdeal.Value.run m' g')
  refine (h c).1.trans ?_
  have e := Cert.Proof.Proj.out_eq m c
  refine Eq.trans ?_ e.symm
  show Cert.ProjRefIdeal.Read.val_main_v13 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
    = Cert.ProjRefIdeal.Read.val_main_v13 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))
  obtain ⟨h0, h1, h2⟩ := hm c
  rw [h0, h1, h2]

/-! ## PostMid: the output projection and gated MLP of a middle layer -/

/-- The reference of PostMid runs from every memory, leaves its arguments unchanged and, having no semaphore, every counter at zero. -/
theorem frame_PostMidRef (m : (ℓ : Loc Cert.PostMidRefIdeal.nD Cert.PostMidRefIdeal.τ Cert.PostMidRefIdeal.sig) → Buf (Elt Ideal) ℓ) (g : Dev Cert.PostMidRefIdeal.nD → PrngReg) :
    θ_run (Cert.PostMidRefIdeal.defs (F := Ideal)) (onTc (τ := Cert.PostMidRefIdeal.τ) (Cert.PostMidRefIdeal.main (F := Ideal))) ⟨m, fun _ => 0, g⟩ (fun r => (∀ c : Dev Cert.PostMidRefIdeal.nD,
      r.2.mem ((c.tc : Thread Cert.PostMidRefIdeal.nD Cert.PostMidRefIdeal.τ).loc Cert.PostMidRefIdeal.main_arg0) = m ((c.tc : Thread Cert.PostMidRefIdeal.nD Cert.PostMidRefIdeal.τ).loc Cert.PostMidRefIdeal.main_arg0)
      ∧ r.2.mem ((c.tc : Thread Cert.PostMidRefIdeal.nD Cert.PostMidRefIdeal.τ).loc Cert.PostMidRefIdeal.main_arg1) = m ((c.tc : Thread Cert.PostMidRefIdeal.nD Cert.PostMidRefIdeal.τ).loc Cert.PostMidRefIdeal.main_arg1)
      ∧ r.2.mem ((c.tc : Thread Cert.PostMidRefIdeal.nD Cert.PostMidRefIdeal.τ).loc Cert.PostMidRefIdeal.main_arg2) = m ((c.tc : Thread Cert.PostMidRefIdeal.nD Cert.PostMidRefIdeal.τ).loc Cert.PostMidRefIdeal.main_arg2)
      ∧ r.2.mem ((c.tc : Thread Cert.PostMidRefIdeal.nD Cert.PostMidRefIdeal.τ).loc Cert.PostMidRefIdeal.main_arg3) = m ((c.tc : Thread Cert.PostMidRefIdeal.nD Cert.PostMidRefIdeal.τ).loc Cert.PostMidRefIdeal.main_arg3)
      ∧ r.2.mem ((c.tc : Thread Cert.PostMidRefIdeal.nD Cert.PostMidRefIdeal.τ).loc Cert.PostMidRefIdeal.main_arg4) = m ((c.tc : Thread Cert.PostMidRefIdeal.nD Cert.PostMidRefIdeal.τ).loc Cert.PostMidRefIdeal.main_arg4)
      ∧ r.2.mem ((c.tc : Thread Cert.PostMidRefIdeal.nD Cert.PostMidRefIdeal.τ).loc Cert.PostMidRefIdeal.main_arg5) = m ((c.tc : Thread Cert.PostMidRefIdeal.nD Cert.PostMidRefIdeal.τ).loc Cert.PostMidRefIdeal.main_arg5)
      ∧ r.2.mem ((c.tc : Thread Cert.PostMidRefIdeal.nD Cert.PostMidRefIdeal.τ).loc Cert.PostMidRefIdeal.main_arg6) = m ((c.tc : Thread Cert.PostMidRefIdeal.nD Cert.PostMidRefIdeal.τ).loc Cert.PostMidRefIdeal.main_arg6)
      ∧ r.2.mem ((c.tc : Thread Cert.PostMidRefIdeal.nD Cert.PostMidRefIdeal.τ).loc Cert.PostMidRefIdeal.main_arg7) = m ((c.tc : Thread Cert.PostMidRefIdeal.nD Cert.PostMidRefIdeal.τ).loc Cert.PostMidRefIdeal.main_arg7)
      ∧ r.2.mem ((c.tc : Thread Cert.PostMidRefIdeal.nD Cert.PostMidRefIdeal.τ).loc Cert.PostMidRefIdeal.main_arg8) = m ((c.tc : Thread Cert.PostMidRefIdeal.nD Cert.PostMidRefIdeal.τ).loc Cert.PostMidRefIdeal.main_arg8))
      ∧ r.2.sem = fun _ => 0) :=
  (θ_run _ _ _).mono (fun r h => ⟨fun c => (h c).2, sem_eq_zero_of_no_sems rfl _⟩) (Cert.PostMidRefIdeal.Value.run m g)

/-- Kernel and reference of PostMid end with the same result over the extended reals. -/
theorem algebraic_PostMid : Cert.algebraic_PostMidIdeal_PostMidRefIdeal := by
  intro m g m' g' _ hm
  refine ⟨fun c => (Cert.PostMidIdeal.Gen.dats m 0 c).arrAt 9 Cert.PostMidIdeal.cfg0.N, Cert.PostMidIdeal.Value.run_blocks m g, ?_⟩
  refine (θ_run _ _ _).mono (fun r h c => ⟨?_, (h c).2⟩) (Cert.PostMidRefIdeal.Value.run m' g')
  refine (h c).1.trans ?_
  have e := Cert.Proof.PostMid.out_eq m c
  refine Eq.trans ?_ e.symm
  show Cert.PostMidRefIdeal.Read.val_main_v21 (F := Ideal) (m' ((c.tc : Thread Cert.PostMidRefIdeal.nD Cert.PostMidRefIdeal.τ).loc Cert.PostMidRefIdeal.main_arg0)) (m' ((c.tc : Thread Cert.PostMidRefIdeal.nD Cert.PostMidRefIdeal.τ).loc Cert.PostMidRefIdeal.main_arg1)) (m' ((c.tc : Thread Cert.PostMidRefIdeal.nD Cert.PostMidRefIdeal.τ).loc Cert.PostMidRefIdeal.main_arg2)) (m' ((c.tc : Thread Cert.PostMidRefIdeal.nD Cert.PostMidRefIdeal.τ).loc Cert.PostMidRefIdeal.main_arg3)) (m' ((c.tc : Thread Cert.PostMidRefIdeal.nD Cert.PostMidRefIdeal.τ).loc Cert.PostMidRefIdeal.main_arg4)) (m' ((c.tc : Thread Cert.PostMidRefIdeal.nD Cert.PostMidRefIdeal.τ).loc Cert.PostMidRefIdeal.main_arg5)) (m' ((c.tc : Thread Cert.PostMidRefIdeal.nD Cert.PostMidRefIdeal.τ).loc Cert.PostMidRefIdeal.main_arg6)) (m' ((c.tc : Thread Cert.PostMidRefIdeal.nD Cert.PostMidRefIdeal.τ).loc Cert.PostMidRefIdeal.main_arg7))
    = Cert.PostMidRefIdeal.Read.val_main_v21 (F := Ideal) (m ((c.tc : Thread Cert.PostMidIdeal.nD Cert.PostMidIdeal.τ).loc Cert.PostMidIdeal.main_arg0)) (m ((c.tc : Thread Cert.PostMidIdeal.nD Cert.PostMidIdeal.τ).loc Cert.PostMidIdeal.main_arg1)) (m ((c.tc : Thread Cert.PostMidIdeal.nD Cert.PostMidIdeal.τ).loc Cert.PostMidIdeal.main_arg2)) (m ((c.tc : Thread Cert.PostMidIdeal.nD Cert.PostMidIdeal.τ).loc Cert.PostMidIdeal.main_arg3)) (m ((c.tc : Thread Cert.PostMidIdeal.nD Cert.PostMidIdeal.τ).loc Cert.PostMidIdeal.main_arg4)) (m ((c.tc : Thread Cert.PostMidIdeal.nD Cert.PostMidIdeal.τ).loc Cert.PostMidIdeal.main_arg5)) (m ((c.tc : Thread Cert.PostMidIdeal.nD Cert.PostMidIdeal.τ).loc Cert.PostMidIdeal.main_arg6)) (m ((c.tc : Thread Cert.PostMidIdeal.nD Cert.PostMidIdeal.τ).loc Cert.PostMidIdeal.main_arg7))
  obtain ⟨h0, h1, h2, h3, h4, h5, h6, h7, h8⟩ := hm c
  rw [h0, h1, h2, h3, h4, h5, h6, h7]

/-! ## PostLast: the output projection, gated MLP and final normalisation of the last layer -/

/-- The reference of PostLast runs from every memory, leaves its arguments unchanged and, having no semaphore, every counter at zero. -/
theorem frame_PostLastRef (m : (ℓ : Loc Cert.PostLastRefIdeal.nD Cert.PostLastRefIdeal.τ Cert.PostLastRefIdeal.sig) → Buf (Elt Ideal) ℓ) (g : Dev Cert.PostLastRefIdeal.nD → PrngReg) :
    θ_run (Cert.PostLastRefIdeal.defs (F := Ideal)) (onTc (τ := Cert.PostLastRefIdeal.τ) (Cert.PostLastRefIdeal.main (F := Ideal))) ⟨m, fun _ => 0, g⟩ (fun r => (∀ c : Dev Cert.PostLastRefIdeal.nD,
      r.2.mem ((c.tc : Thread Cert.PostLastRefIdeal.nD Cert.PostLastRefIdeal.τ).loc Cert.PostLastRefIdeal.main_arg0) = m ((c.tc : Thread Cert.PostLastRefIdeal.nD Cert.PostLastRefIdeal.τ).loc Cert.PostLastRefIdeal.main_arg0)
      ∧ r.2.mem ((c.tc : Thread Cert.PostLastRefIdeal.nD Cert.PostLastRefIdeal.τ).loc Cert.PostLastRefIdeal.main_arg1) = m ((c.tc : Thread Cert.PostLastRefIdeal.nD Cert.PostLastRefIdeal.τ).loc Cert.PostLastRefIdeal.main_arg1)
      ∧ r.2.mem ((c.tc : Thread Cert.PostLastRefIdeal.nD Cert.PostLastRefIdeal.τ).loc Cert.PostLastRefIdeal.main_arg2) = m ((c.tc : Thread Cert.PostLastRefIdeal.nD Cert.PostLastRefIdeal.τ).loc Cert.PostLastRefIdeal.main_arg2)
      ∧ r.2.mem ((c.tc : Thread Cert.PostLastRefIdeal.nD Cert.PostLastRefIdeal.τ).loc Cert.PostLastRefIdeal.main_arg3) = m ((c.tc : Thread Cert.PostLastRefIdeal.nD Cert.PostLastRefIdeal.τ).loc Cert.PostLastRefIdeal.main_arg3)
      ∧ r.2.mem ((c.tc : Thread Cert.PostLastRefIdeal.nD Cert.PostLastRefIdeal.τ).loc Cert.PostLastRefIdeal.main_arg4) = m ((c.tc : Thread Cert.PostLastRefIdeal.nD Cert.PostLastRefIdeal.τ).loc Cert.PostLastRefIdeal.main_arg4)
      ∧ r.2.mem ((c.tc : Thread Cert.PostLastRefIdeal.nD Cert.PostLastRefIdeal.τ).loc Cert.PostLastRefIdeal.main_arg5) = m ((c.tc : Thread Cert.PostLastRefIdeal.nD Cert.PostLastRefIdeal.τ).loc Cert.PostLastRefIdeal.main_arg5)
      ∧ r.2.mem ((c.tc : Thread Cert.PostLastRefIdeal.nD Cert.PostLastRefIdeal.τ).loc Cert.PostLastRefIdeal.main_arg6) = m ((c.tc : Thread Cert.PostLastRefIdeal.nD Cert.PostLastRefIdeal.τ).loc Cert.PostLastRefIdeal.main_arg6)
      ∧ r.2.mem ((c.tc : Thread Cert.PostLastRefIdeal.nD Cert.PostLastRefIdeal.τ).loc Cert.PostLastRefIdeal.main_arg7) = m ((c.tc : Thread Cert.PostLastRefIdeal.nD Cert.PostLastRefIdeal.τ).loc Cert.PostLastRefIdeal.main_arg7)
      ∧ r.2.mem ((c.tc : Thread Cert.PostLastRefIdeal.nD Cert.PostLastRefIdeal.τ).loc Cert.PostLastRefIdeal.main_arg8) = m ((c.tc : Thread Cert.PostLastRefIdeal.nD Cert.PostLastRefIdeal.τ).loc Cert.PostLastRefIdeal.main_arg8))
      ∧ r.2.sem = fun _ => 0) :=
  (θ_run _ _ _).mono (fun r h => ⟨fun c => (h c).2, sem_eq_zero_of_no_sems rfl _⟩) (Cert.PostLastRefIdeal.Value.run m g)

/-- Kernel and reference of PostLast end with the same result over the extended reals. -/
theorem algebraic_PostLast : Cert.algebraic_PostLastIdeal_PostLastRefIdeal := by
  intro m g m' g' _ hm
  refine ⟨fun c => (Cert.PostLastIdeal.Gen.dats m 0 c).arrAt 9 Cert.PostLastIdeal.cfg0.N, Cert.PostLastIdeal.Value.run_blocks m g, ?_⟩
  refine (θ_run _ _ _).mono (fun r h c => ⟨?_, (h c).2⟩) (Cert.PostLastRefIdeal.Value.run m' g')
  refine (h c).1.trans ?_
  have e := Cert.Proof.PostLast.out_eq m c
  refine Eq.trans ?_ e.symm
  show Cert.PostLastRefIdeal.Read.val_main_v34 (F := Ideal) (m' ((c.tc : Thread Cert.PostLastRefIdeal.nD Cert.PostLastRefIdeal.τ).loc Cert.PostLastRefIdeal.main_arg0)) (m' ((c.tc : Thread Cert.PostLastRefIdeal.nD Cert.PostLastRefIdeal.τ).loc Cert.PostLastRefIdeal.main_arg1)) (m' ((c.tc : Thread Cert.PostLastRefIdeal.nD Cert.PostLastRefIdeal.τ).loc Cert.PostLastRefIdeal.main_arg2)) (m' ((c.tc : Thread Cert.PostLastRefIdeal.nD Cert.PostLastRefIdeal.τ).loc Cert.PostLastRefIdeal.main_arg3)) (m' ((c.tc : Thread Cert.PostLastRefIdeal.nD Cert.PostLastRefIdeal.τ).loc Cert.PostLastRefIdeal.main_arg4)) (m' ((c.tc : Thread Cert.PostLastRefIdeal.nD Cert.PostLastRefIdeal.τ).loc Cert.PostLastRefIdeal.main_arg5)) (m' ((c.tc : Thread Cert.PostLastRefIdeal.nD Cert.PostLastRefIdeal.τ).loc Cert.PostLastRefIdeal.main_arg6)) (m' ((c.tc : Thread Cert.PostLastRefIdeal.nD Cert.PostLastRefIdeal.τ).loc Cert.PostLastRefIdeal.main_arg7)) (m' ((c.tc : Thread Cert.PostLastRefIdeal.nD Cert.PostLastRefIdeal.τ).loc Cert.PostLastRefIdeal.main_arg8))
    = Cert.PostLastRefIdeal.Read.val_main_v34 (F := Ideal) (m ((c.tc : Thread Cert.PostLastIdeal.nD Cert.PostLastIdeal.τ).loc Cert.PostLastIdeal.main_arg0)) (m ((c.tc : Thread Cert.PostLastIdeal.nD Cert.PostLastIdeal.τ).loc Cert.PostLastIdeal.main_arg1)) (m ((c.tc : Thread Cert.PostLastIdeal.nD Cert.PostLastIdeal.τ).loc Cert.PostLastIdeal.main_arg2)) (m ((c.tc : Thread Cert.PostLastIdeal.nD Cert.PostLastIdeal.τ).loc Cert.PostLastIdeal.main_arg3)) (m ((c.tc : Thread Cert.PostLastIdeal.nD Cert.PostLastIdeal.τ).loc Cert.PostLastIdeal.main_arg4)) (m ((c.tc : Thread Cert.PostLastIdeal.nD Cert.PostLastIdeal.τ).loc Cert.PostLastIdeal.main_arg5)) (m ((c.tc : Thread Cert.PostLastIdeal.nD Cert.PostLastIdeal.τ).loc Cert.PostLastIdeal.main_arg6)) (m ((c.tc : Thread Cert.PostLastIdeal.nD Cert.PostLastIdeal.τ).loc Cert.PostLastIdeal.main_arg7)) (m ((c.tc : Thread Cert.PostLastIdeal.nD Cert.PostLastIdeal.τ).loc Cert.PostLastIdeal.main_arg8))
  obtain ⟨h0, h1, h2, h3, h4, h5, h6, h7, h8⟩ := hm c
  rw [h0, h1, h2, h3, h4, h5, h6, h7, h8]

/-! ## Conv: the convolution module of the sample, with its new state -/

/-- The reference of Conv runs from every memory, leaves its arguments unchanged and, having no semaphore, every counter at zero. -/
theorem frame_ConvRef (m : (ℓ : Loc Cert.ConvRefIdeal.nD Cert.ConvRefIdeal.τ Cert.ConvRefIdeal.sig) → Buf (Elt Ideal) ℓ) (g : Dev Cert.ConvRefIdeal.nD → PrngReg) :
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0) :=
  (θ_run _ _ _).mono (fun r h => ⟨fun c => (h c).2.2, sem_eq_zero_of_no_sems rfl _⟩) (Cert.ConvRefIdeal.Value.run m g)

/-- Kernel and reference of Conv end with the same results over the extended reals. -/
theorem algebraic_Conv : Cert.algebraic_ConvIdeal_ConvRefIdeal := by
  intro m g m' g' _ hm
  refine ⟨fun c => (Cert.ConvIdeal.Gen.dats m 0 c).arrAt 7 Cert.ConvIdeal.cfg0.N, fun c => (Cert.ConvIdeal.Gen.dats m 0 c).arrAt 8 Cert.ConvIdeal.cfg0.N, Cert.ConvIdeal.Value.run_blocks m g, ?_⟩
  refine (θ_run _ _ _).mono (fun r h c => ⟨?_, ?_, (h c).2.2⟩) (Cert.ConvRefIdeal.Value.run m' g')
  · refine (h c).1.trans (Eq.trans ?_ (Cert.Proof.Conv.out_eq m c).symm)
    show Cert.ConvRefIdeal.Read.val_main_v107 (F := Ideal) (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2)) (m' ((c.tc : Thread Cert.ConvRefIdeal.nD Cert.ConvRefIdeal.τ).loc Cert.ConvRefIdeal.main_arg3)) (m' ((c.tc : Thread Cert.ConvRefIdeal.nD Cert.ConvRefIdeal.τ).loc Cert.ConvRefIdeal.main_arg4)) (m' ((c.tc : Thread Cert.ConvRefIdeal.nD Cert.ConvRefIdeal.τ).loc Cert.ConvRefIdeal.main_arg5))
    = Cert.ConvRefIdeal.Read.val_main_v107 (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))
    obtain ⟨h0, h1, h2, h3, h4, h5⟩ := hm c
    rw [h0, h1, h2, h3, h4, h5]
  · refine (h c).2.1.trans (Eq.trans ?_ (Cert.Proof.Conv.out_state_eq m c).symm)
    show Cert.ConvRefIdeal.Read.val_main_v108 (F := Ideal) (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1))
    = Cert.ConvRefIdeal.Read.val_main_v108 (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1))
    obtain ⟨h0, h1, h2, h3, h4, h5⟩ := hm c
    rw [h0, h1]

/-! ## SampleC: the long attention of the sample (a cache of eight blocks and the own block) -/

/-- The reference of SampleC runs from every memory, leaves its arguments unchanged and, having no semaphore, every counter at zero. -/
theorem frame_SampleCRef (m : (ℓ : Loc Cert.SampleCRefIdeal.nD Cert.SampleCRefIdeal.τ Cert.SampleCRefIdeal.sig) → Buf (Elt Ideal) ℓ) (g : Dev Cert.SampleCRefIdeal.nD → PrngReg) :
    θ_run (Cert.SampleCRefIdeal.defs (F := Ideal)) (onTc (τ := Cert.SampleCRefIdeal.τ) (Cert.SampleCRefIdeal.main (F := Ideal))) ⟨m, fun _ => 0, g⟩ (fun r => (∀ c : Dev Cert.SampleCRefIdeal.nD,
      r.2.mem ((c.tc : Thread Cert.SampleCRefIdeal.nD Cert.SampleCRefIdeal.τ).loc Cert.SampleCRefIdeal.main_arg0) = m ((c.tc : Thread Cert.SampleCRefIdeal.nD Cert.SampleCRefIdeal.τ).loc Cert.SampleCRefIdeal.main_arg0)
      ∧ r.2.mem ((c.tc : Thread Cert.SampleCRefIdeal.nD Cert.SampleCRefIdeal.τ).loc Cert.SampleCRefIdeal.main_arg1) = m ((c.tc : Thread Cert.SampleCRefIdeal.nD Cert.SampleCRefIdeal.τ).loc Cert.SampleCRefIdeal.main_arg1)
      ∧ r.2.mem ((c.tc : Thread Cert.SampleCRefIdeal.nD Cert.SampleCRefIdeal.τ).loc Cert.SampleCRefIdeal.main_arg2) = m ((c.tc : Thread Cert.SampleCRefIdeal.nD Cert.SampleCRefIdeal.τ).loc Cert.SampleCRefIdeal.main_arg2)
      ∧ r.2.mem ((c.tc : Thread Cert.SampleCRefIdeal.nD Cert.SampleCRefIdeal.τ).loc Cert.SampleCRefIdeal.main_arg3) = m ((c.tc : Thread Cert.SampleCRefIdeal.nD Cert.SampleCRefIdeal.τ).loc Cert.SampleCRefIdeal.main_arg3))
      ∧ r.2.sem = fun _ => 0) :=
  (θ_run _ _ _).mono (fun r h => ⟨fun c => (h c).2, sem_eq_zero_of_no_sems rfl _⟩) (Cert.SampleCRefIdeal.Value.run m g)

/-- Kernel and reference of SampleC where queries, keys and bias are real numbers, end with the same result over the extended reals. -/
theorem algebraic_SampleC : Cert.algebraic_SampleCIdeal_SampleCRefIdeal_pre_finite_sample_c (hPre_finite_sample_c := pre_sample_c_facts) := by
  intro m g m' g' hpre hm
  refine ⟨fun c => (Cert.SampleCIdeal.Gen.dats m 0 c).arrAt 20 Cert.SampleCIdeal.cfg0.N, Cert.SampleCIdeal.Value.run_blocks m g, ?_⟩
  refine (θ_run _ _ _).mono (fun r h c => ⟨?_, (h c).2⟩) (Cert.SampleCRefIdeal.Value.run m' g')
  refine (h c).1.trans ?_
  have e := Cert.Proof.SampleC.out_eq m c (sample_c_p _ _ _ _ (hpre c).1) (sample_c_keys _ _ _ _ (hpre c).2.1) (sample_c_bias _ _ _ _ (hpre c).2.2)
  refine Eq.trans ?_ e.symm
  show Cert.SampleCRefIdeal.Read.val_main_v28 (F := Ideal) (m' ((c.tc : Thread Cert.SampleCRefIdeal.nD Cert.SampleCRefIdeal.τ).loc Cert.SampleCRefIdeal.main_arg0)) (m' ((c.tc : Thread Cert.SampleCRefIdeal.nD Cert.SampleCRefIdeal.τ).loc Cert.SampleCRefIdeal.main_arg1)) (m' ((c.tc : Thread Cert.SampleCRefIdeal.nD Cert.SampleCRefIdeal.τ).loc Cert.SampleCRefIdeal.main_arg2)) (m' ((c.tc : Thread Cert.SampleCRefIdeal.nD Cert.SampleCRefIdeal.τ).loc Cert.SampleCRefIdeal.main_arg3))
    = Cert.SampleCRefIdeal.Read.val_main_v28 (F := Ideal) (m ((c.tc : Thread Cert.SampleCIdeal.nD Cert.SampleCIdeal.τ).loc Cert.SampleCIdeal.main_arg0)) (m ((c.tc : Thread Cert.SampleCIdeal.nD Cert.SampleCIdeal.τ).loc Cert.SampleCIdeal.main_arg1)) (m ((c.tc : Thread Cert.SampleCIdeal.nD Cert.SampleCIdeal.τ).loc Cert.SampleCIdeal.main_arg2)) (m ((c.tc : Thread Cert.SampleCIdeal.nD Cert.SampleCIdeal.τ).loc Cert.SampleCIdeal.main_arg3))
  obtain ⟨h0, h1, h2, h3⟩ := hm c
  rw [h0, h1, h2, h3]

/-! ## SampleA: the short attention of the sample (a cache of two blocks and the own block, with a sink) -/

/-- The reference of SampleA runs from every memory, leaves its arguments unchanged and, having no semaphore, every counter at zero. -/
theorem frame_SampleARef (m : (ℓ : Loc Cert.SampleARefIdeal.nD Cert.SampleARefIdeal.τ Cert.SampleARefIdeal.sig) → Buf (Elt Ideal) ℓ) (g : Dev Cert.SampleARefIdeal.nD → PrngReg) :
    θ_run (Cert.SampleARefIdeal.defs (F := Ideal)) (onTc (τ := Cert.SampleARefIdeal.τ) (Cert.SampleARefIdeal.main (F := Ideal))) ⟨m, fun _ => 0, g⟩ (fun r => (∀ c : Dev Cert.SampleARefIdeal.nD,
      r.2.mem ((c.tc : Thread Cert.SampleARefIdeal.nD Cert.SampleARefIdeal.τ).loc Cert.SampleARefIdeal.main_arg0) = m ((c.tc : Thread Cert.SampleARefIdeal.nD Cert.SampleARefIdeal.τ).loc Cert.SampleARefIdeal.main_arg0)
      ∧ r.2.mem ((c.tc : Thread Cert.SampleARefIdeal.nD Cert.SampleARefIdeal.τ).loc Cert.SampleARefIdeal.main_arg1) = m ((c.tc : Thread Cert.SampleARefIdeal.nD Cert.SampleARefIdeal.τ).loc Cert.SampleARefIdeal.main_arg1)
      ∧ r.2.mem ((c.tc : Thread Cert.SampleARefIdeal.nD Cert.SampleARefIdeal.τ).loc Cert.SampleARefIdeal.main_arg2) = m ((c.tc : Thread Cert.SampleARefIdeal.nD Cert.SampleARefIdeal.τ).loc Cert.SampleARefIdeal.main_arg2)
      ∧ r.2.mem ((c.tc : Thread Cert.SampleARefIdeal.nD Cert.SampleARefIdeal.τ).loc Cert.SampleARefIdeal.main_arg3) = m ((c.tc : Thread Cert.SampleARefIdeal.nD Cert.SampleARefIdeal.τ).loc Cert.SampleARefIdeal.main_arg3)
      ∧ r.2.mem ((c.tc : Thread Cert.SampleARefIdeal.nD Cert.SampleARefIdeal.τ).loc Cert.SampleARefIdeal.main_arg4) = m ((c.tc : Thread Cert.SampleARefIdeal.nD Cert.SampleARefIdeal.τ).loc Cert.SampleARefIdeal.main_arg4))
      ∧ r.2.sem = fun _ => 0) :=
  (θ_run _ _ _).mono (fun r h => ⟨fun c => (h c).2, sem_eq_zero_of_no_sems rfl _⟩) (Cert.SampleARefIdeal.Value.run m g)

/-- Kernel and reference of SampleA where queries, keys, bias and sinks are real numbers, end with the same result over the extended reals. -/
theorem algebraic_SampleA : Cert.algebraic_SampleAIdeal_SampleARefIdeal_pre_finite_sample_a (hPre_finite_sample_a := pre_sample_a_facts) := by
  intro m g m' g' hpre hm
  refine ⟨fun c => (Cert.SampleAIdeal.Gen.dats m 0 c).arrAt 9 Cert.SampleAIdeal.cfg0.N, Cert.SampleAIdeal.Value.run_blocks m g, ?_⟩
  refine (θ_run _ _ _).mono (fun r h c => ⟨?_, (h c).2⟩) (Cert.SampleARefIdeal.Value.run m' g')
  refine (h c).1.trans ?_
  have e := Cert.Proof.SampleA.out_eq m c (sample_a_q _ _ _ _ _ (hpre c).1) (sample_a_new _ _ _ _ _ (hpre c).2.1) (sample_a_keys _ _ _ _ _ (hpre c).2.2.1) (sample_a_bias _ _ _ _ _ (hpre c).2.2.2.1) (sample_a_sink _ _ _ _ _ (hpre c).2.2.2.2)
  refine Eq.trans ?_ e.symm
  show Cert.SampleARefIdeal.Read.val_main_v38 (F := Ideal) (m' ((c.tc : Thread Cert.SampleARefIdeal.nD Cert.SampleARefIdeal.τ).loc Cert.SampleARefIdeal.main_arg0)) (m' ((c.tc : Thread Cert.SampleARefIdeal.nD Cert.SampleARefIdeal.τ).loc Cert.SampleARefIdeal.main_arg1)) (m' ((c.tc : Thread Cert.SampleARefIdeal.nD Cert.SampleARefIdeal.τ).loc Cert.SampleARefIdeal.main_arg2)) (m' ((c.tc : Thread Cert.SampleARefIdeal.nD Cert.SampleARefIdeal.τ).loc Cert.SampleARefIdeal.main_arg3)) (m' ((c.tc : Thread Cert.SampleARefIdeal.nD Cert.SampleARefIdeal.τ).loc Cert.SampleARefIdeal.main_arg4))
    = Cert.SampleARefIdeal.Read.val_main_v38 (F := Ideal) (m ((c.tc : Thread Cert.SampleAIdeal.nD Cert.SampleAIdeal.τ).loc Cert.SampleAIdeal.main_arg0)) (m ((c.tc : Thread Cert.SampleAIdeal.nD Cert.SampleAIdeal.τ).loc Cert.SampleAIdeal.main_arg1)) (m ((c.tc : Thread Cert.SampleAIdeal.nD Cert.SampleAIdeal.τ).loc Cert.SampleAIdeal.main_arg2)) (m ((c.tc : Thread Cert.SampleAIdeal.nD Cert.SampleAIdeal.τ).loc Cert.SampleAIdeal.main_arg3)) (m ((c.tc : Thread Cert.SampleAIdeal.nD Cert.SampleAIdeal.τ).loc Cert.SampleAIdeal.main_arg4))
  obtain ⟨h0, h1, h2, h3, h4⟩ := hm c
  rw [h0, h1, h2, h3, h4]

/-! ## PromptConv: the convolution module of the prompt, with its last rows -/

/-- The reference of PromptConv runs from every memory, leaves its arguments unchanged and, having no semaphore, every counter at zero. -/
theorem frame_PromptConvRef (m : (ℓ : Loc Cert.PromptConvRefIdeal.nD Cert.PromptConvRefIdeal.τ Cert.PromptConvRefIdeal.sig) → Buf (Elt Ideal) ℓ) (g : Dev Cert.PromptConvRefIdeal.nD → PrngReg) :
    θ_run (Cert.PromptConvRefIdeal.defs (F := Ideal)) (onTc (τ := Cert.PromptConvRefIdeal.τ) (Cert.PromptConvRefIdeal.main (F := Ideal))) ⟨m, fun _ => 0, g⟩ (fun r => (∀ c : Dev Cert.PromptConvRefIdeal.nD,
      r.2.mem ((c.tc : Thread Cert.PromptConvRefIdeal.nD Cert.PromptConvRefIdeal.τ).loc Cert.PromptConvRefIdeal.main_arg0) = m ((c.tc : Thread Cert.PromptConvRefIdeal.nD Cert.PromptConvRefIdeal.τ).loc Cert.PromptConvRefIdeal.main_arg0)
      ∧ r.2.mem ((c.tc : Thread Cert.PromptConvRefIdeal.nD Cert.PromptConvRefIdeal.τ).loc Cert.PromptConvRefIdeal.main_arg1) = m ((c.tc : Thread Cert.PromptConvRefIdeal.nD Cert.PromptConvRefIdeal.τ).loc Cert.PromptConvRefIdeal.main_arg1)
      ∧ r.2.mem ((c.tc : Thread Cert.PromptConvRefIdeal.nD Cert.PromptConvRefIdeal.τ).loc Cert.PromptConvRefIdeal.main_arg2) = m ((c.tc : Thread Cert.PromptConvRefIdeal.nD Cert.PromptConvRefIdeal.τ).loc Cert.PromptConvRefIdeal.main_arg2)
      ∧ r.2.mem ((c.tc : Thread Cert.PromptConvRefIdeal.nD Cert.PromptConvRefIdeal.τ).loc Cert.PromptConvRefIdeal.main_arg3) = m ((c.tc : Thread Cert.PromptConvRefIdeal.nD Cert.PromptConvRefIdeal.τ).loc Cert.PromptConvRefIdeal.main_arg3)
      ∧ r.2.mem ((c.tc : Thread Cert.PromptConvRefIdeal.nD Cert.PromptConvRefIdeal.τ).loc Cert.PromptConvRefIdeal.main_arg4) = m ((c.tc : Thread Cert.PromptConvRefIdeal.nD Cert.PromptConvRefIdeal.τ).loc Cert.PromptConvRefIdeal.main_arg4))
      ∧ r.2.sem = fun _ => 0) :=
  (θ_run _ _ _).mono (fun r h => ⟨fun c => (h c).2.2, sem_eq_zero_of_no_sems rfl _⟩) (Cert.PromptConvRefIdeal.Value.run m g)

/-- Kernel and reference of PromptConv end with the same results over the extended reals. -/
theorem algebraic_PromptConv : Cert.algebraic_PromptConvIdeal_PromptConvRefIdeal := by
  intro m g m' g' _ hm
  refine ⟨fun c => (Cert.PromptConvIdeal.Gen.dats m 0 c).arrAt 8 Cert.PromptConvIdeal.cfg0.N, fun c => (Cert.PromptConvIdeal.Gen.dats m 0 c).arrAt 9 Cert.PromptConvIdeal.cfg0.N, Cert.PromptConvIdeal.Value.run_blocks m g, ?_⟩
  refine (θ_run _ _ _).mono (fun r h c => ⟨?_, ?_, (h c).2.2⟩) (Cert.PromptConvRefIdeal.Value.run m' g')
  · refine (h c).1.trans (Eq.trans ?_ (Cert.Proof.PromptConv.out_eq m c).symm)
    show Cert.PromptConvRefIdeal.Read.val_main_v108 (F := Ideal) (m' ((c.tc : Thread Cert.PromptConvRefIdeal.nD Cert.PromptConvRefIdeal.τ).loc Cert.PromptConvRefIdeal.main_arg0)) (m' ((c.tc : Thread Cert.PromptConvRefIdeal.nD Cert.PromptConvRefIdeal.τ).loc Cert.PromptConvRefIdeal.main_arg1)) (m' ((c.tc : Thread Cert.PromptConvRefIdeal.nD Cert.PromptConvRefIdeal.τ).loc Cert.PromptConvRefIdeal.main_arg2)) (m' ((c.tc : Thread Cert.PromptConvRefIdeal.nD Cert.PromptConvRefIdeal.τ).loc Cert.PromptConvRefIdeal.main_arg3)) (m' ((c.tc : Thread Cert.PromptConvRefIdeal.nD Cert.PromptConvRefIdeal.τ).loc Cert.PromptConvRefIdeal.main_arg4))
    = Cert.PromptConvRefIdeal.Read.val_main_v108 (F := Ideal) (m ((c.tc : Thread Cert.PromptConvIdeal.nD Cert.PromptConvIdeal.τ).loc Cert.PromptConvIdeal.main_arg0)) (m ((c.tc : Thread Cert.PromptConvIdeal.nD Cert.PromptConvIdeal.τ).loc Cert.PromptConvIdeal.main_arg1)) (m ((c.tc : Thread Cert.PromptConvIdeal.nD Cert.PromptConvIdeal.τ).loc Cert.PromptConvIdeal.main_arg2)) (m ((c.tc : Thread Cert.PromptConvIdeal.nD Cert.PromptConvIdeal.τ).loc Cert.PromptConvIdeal.main_arg3)) (m ((c.tc : Thread Cert.PromptConvIdeal.nD Cert.PromptConvIdeal.τ).loc Cert.PromptConvIdeal.main_arg4))
    obtain ⟨h0, h1, h2, h3, h4⟩ := hm c
    rw [h0, h1, h2, h3, h4]
  · refine (h c).2.1.trans (Eq.trans ?_ (Cert.Proof.PromptConv.out_state_eq m c).symm)
    show Cert.PromptConvRefIdeal.Read.val_main_v109 (F := Ideal) (m' ((c.tc : Thread Cert.PromptConvRefIdeal.nD Cert.PromptConvRefIdeal.τ).loc Cert.PromptConvRefIdeal.main_arg0))
    = Cert.PromptConvRefIdeal.Read.val_main_v109 (F := Ideal) (m ((c.tc : Thread Cert.PromptConvIdeal.nD Cert.PromptConvIdeal.τ).loc Cert.PromptConvIdeal.main_arg0))
    obtain ⟨h0, h1, h2, h3, h4⟩ := hm c
    rw [h0]

/-- The whole claim: the side conditions, the frames, then for each kernel what its idealization preserves and its value. -/
theorem claim : Cert.Claim :=
  ⟨Cert.AttnC.Gen.facts,
   Cert.AttnCIdeal.Gen.facts,
   Cert.AttnCRefIdeal.Gen.facts,
   Cert.AttnA.Gen.facts,
   Cert.AttnAIdeal.Gen.facts,
   Cert.AttnARefIdeal.Gen.facts,
   Cert.Proj.Gen.facts,
   Cert.ProjIdeal.Gen.facts,
   Cert.ProjRefIdeal.Gen.facts,
   Cert.PostMid.Gen.facts,
   Cert.PostMidIdeal.Gen.facts,
   Cert.PostMidRefIdeal.Gen.facts,
   Cert.PostLast.Gen.facts,
   Cert.PostLastIdeal.Gen.facts,
   Cert.PostLastRefIdeal.Gen.facts,
   Cert.Conv.Gen.facts,
   Cert.ConvIdeal.Gen.facts,
   Cert.ConvRefIdeal.Gen.facts,
   Cert.SampleC.Gen.facts,
   Cert.SampleCIdeal.Gen.facts,
   Cert.SampleCRefIdeal.Gen.facts,
   Cert.SampleA.Gen.facts,
   Cert.SampleAIdeal.Gen.facts,
   Cert.SampleARefIdeal.Gen.facts,
   Cert.PromptConv.Gen.facts,
   Cert.PromptConvIdeal.Gen.facts,
   Cert.PromptConvRefIdeal.Gen.facts,
   pre_facts,
   pre_sink_facts,
   pre_sample_c_facts,
   pre_sample_a_facts,
   fun m g _ => Cert.AttnC.Gen.frame m g,
   fun m g _ => Cert.AttnCIdeal.Gen.frame m g,
   fun m g _ => Cert.AttnCIdeal.Gen.frame m g,
   fun m g _ => frame_AttnCRef m g,
   fun m g _ => frame_AttnCRef m g,
   fun m g _ => Cert.AttnA.Gen.frame m g,
   fun m g _ => Cert.AttnAIdeal.Gen.frame m g,
   fun m g _ => Cert.AttnAIdeal.Gen.frame m g,
   fun m g _ => frame_AttnARef m g,
   fun m g _ => frame_AttnARef m g,
   fun m g _ => Cert.Proj.Gen.frame m g,
   fun m g _ => Cert.ProjIdeal.Gen.frame m g,
   fun m g _ => frame_ProjRef m g,
   fun m g _ => Cert.PostMid.Gen.frame m g,
   fun m g _ => Cert.PostMidIdeal.Gen.frame m g,
   fun m g _ => frame_PostMidRef m g,
   fun m g _ => Cert.PostLast.Gen.frame m g,
   fun m g _ => Cert.PostLastIdeal.Gen.frame m g,
   fun m g _ => frame_PostLastRef m g,
   fun m g _ => Cert.Conv.Gen.frame m g,
   fun m g _ => Cert.ConvIdeal.Gen.frame m g,
   fun m g _ => frame_ConvRef m g,
   fun m g _ => Cert.SampleC.Gen.frame m g,
   fun m g _ => Cert.SampleCIdeal.Gen.frame m g,
   fun m g _ => Cert.SampleCIdeal.Gen.frame m g,
   fun m g _ => frame_SampleCRef m g,
   fun m g _ => frame_SampleCRef m g,
   fun m g _ => Cert.SampleA.Gen.frame m g,
   fun m g _ => Cert.SampleAIdeal.Gen.frame m g,
   fun m g _ => Cert.SampleAIdeal.Gen.frame m g,
   fun m g _ => frame_SampleARef m g,
   fun m g _ => frame_SampleARef m g,
   fun m g _ => Cert.PromptConv.Gen.frame m g,
   fun m g _ => Cert.PromptConvIdeal.Gen.frame m g,
   fun m g _ => frame_PromptConvRef m g,
   IdealRules.named_const.statement _ _ .f32 0xF149F2CA#32 ⊥ rfl,
   algebraic_AttnC,
   IdealRules.named_const.statement _ _ .f32 0xF149F2CA#32 ⊥ rfl,
   algebraic_AttnA,
   trivial,
   algebraic_Proj,
   trivial,
   algebraic_PostMid,
   trivial,
   algebraic_PostLast,
   trivial,
   algebraic_Conv,
   trivial,
   algebraic_SampleC,
   trivial,
   algebraic_SampleA,
   trivial,
   algebraic_PromptConv⟩

end Cert.Proof

end
